-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v76) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v26_0)) (v1 : (c : Dev Cert.Kernel3Ideal.nD) → Buf (Elt Ideal) ((c.tc : Thread Cert.Kernel3Ideal.nD Cert.Kernel3Ideal.τ).loc Cert.Kernel3Ideal.main_v26_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v26_0) = v0 c
          ∧ r.2.mem ((c.tc : Thread Cert.Kernel3Ideal.nD Cert.Kernel3Ideal.τ).loc Cert.Kernel3Ideal.main_v26_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v75) = v0 c
          ∧ r.2.mem ((c.tc : Thread Cert.Reference3Ideal.nD Cert.Reference3Ideal.τ).loc Cert.Reference3Ideal.main_v97) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v26) = v0 c
          ∧ r.2.mem ((c.tc : Thread Cert.Reference4Ideal.nD Cert.Reference4Ideal.τ).loc Cert.Reference4Ideal.main_v48) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v20) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v10)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v34) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S2x16384x4x128 : Shape := ⟨4, ![2, 16384, 4, 128]⟩
abbrev S2x16384x2x128 : Shape := ⟨4, ![2, 16384, 2, 128]⟩
abbrev S2x256x2x128 : Shape := ⟨4, ![2, 256, 2, 128]⟩
abbrev S_ : Shape := ⟨0, ![]⟩

class Facts : Prop where
  bcast_S_S2x16384x4x128 : S_.BroadcastsInDim S2x16384x4x128 (![] : Fin 0 → Fin S2x16384x4x128.rank)
  reducesTo_S2x16384x4x128_S_d0_1_2_3 : S2x16384x4x128.ReducesTo [0, 1, 2, 3] S_
  h_S_ : 0 < S_.numel
  bcast_S_S2x16384x2x128 : S_.BroadcastsInDim S2x16384x2x128 (![] : Fin 0 → Fin S2x16384x2x128.rank)
  reducesTo_S2x16384x2x128_S_d0_1_2_3 : S2x16384x2x128.ReducesTo [0, 1, 2, 3] S_
  bcast_S_S2x256x2x128 : S_.BroadcastsInDim S2x256x2x128 (![] : Fin 0 → Fin S2x256x2x128.rank)
  reducesTo_S2x256x2x128_S_d0_1_2_3 : S2x256x2x128.ReducesTo [0, 1, 2, 3] S_

variable [Facts]

def fn {F : FTy → Type} [FloatOps F] (main_arg0 : FVec F S2x16384x4x128 .f32) (main_arg1 : FVec F S2x16384x2x128 .f32) (main_arg2 : FVec F S2x16384x2x128 .f32) (main_arg3 : FVec F S2x256x2x128 .f32) (main_arg4 : FVec F S2x256x2x128 .f32) : IVec S_ 1 :=
  let main_v0 : FVec F S2x16384x4x128 .f32 := Host.absf main_arg0
  let main_cst : FVec F S_ .f32 := constant S_ .f32 0x7F800000#32
  let main_v1 : FVec F S2x16384x4x128 .f32 := broadcastInDim S2x16384x4x128 ![] bcast_S_S2x16384x4x128 main_cst
  let main_v2 : IVec S2x16384x4x128 1 := cmpf .olt main_v0 main_v1
  let main_c : IVec S_ 1 := constantI S_ 1 1#1
  let main_v3 : IVec S_ 1 := (fun x v => Host.reduce IntOp.andi x v reducesTo_S2x16384x4x128_S_d0_1_2_3 h_S_) main_v2 main_c
  let main_v4 : FVec F S2x16384x2x128 .f32 := Host.absf main_arg1
  let main_cst_0 : FVec F S_ .f32 := constant S_ .f32 0x7F800000#32
  let main_v5 : FVec F S2x16384x2x128 .f32 := broadcastInDim S2x16384x2x128 ![] bcast_S_S2x16384x2x128 main_cst_0
  let main_v6 : IVec S2x16384x2x128 1 := cmpf .olt main_v4 main_v5
  let main_c_1 : IVec S_ 1 := constantI S_ 1 1#1
  let main_v7 : IVec S_ 1 := (fun x v => Host.reduce IntOp.andi x v reducesTo_S2x16384x2x128_S_d0_1_2_3 h_S_) main_v6 main_c_1
  let main_v8 : IVec S_ 1 := andi main_v3 main_v7
  let main_v9 : FVec F S2x256x2x128 .f32 := Host.absf main_arg3
  let main_cst_2 : FVec F S_ .f32 := constant S_ .f32 0x7F800000#32
  let main_v10 : FVec F S2x256x2x128 .f32 := broadcastInDim S2x256x2x128 ![] bcast_S_S2x256x2x128 main_cst_2
  let main_v11 : IVec S2x256x2x128 1 := cmpf .olt main_v9 main_v10
  let main_c_3 : IVec S_ 1 := constantI S_ 1 1#1
  let main_v12 : IVec S_ 1 := (fun x v => Host.reduce IntOp.andi x v reducesTo_S2x256x2x128_S_d0_1_2_3 h_S_) main_v11 main_c_3
  let main_v13 : IVec S_ 1 := andi main_v8 main_v12
  main_v13
-- ==== Kernel.lean ====
abbrev S2x16384x4x128 : Shape := ⟨4, ![2, 16384, 4, 128]⟩
abbrev S2x16384x2x128 : Shape := ⟨4, ![2, 16384, 2, 128]⟩
abbrev S2x256x2x128 : Shape := ⟨4, ![2, 256, 2, 128]⟩
abbrev S_ : Shape := ⟨0, ![]⟩
abbrev S2x4x128x16384 : Shape := ⟨4, ![2, 4, 128, 16384]⟩
abbrev S2x2x16384x128 : Shape := ⟨4, ![2, 2, 16384, 128]⟩
abbrev S2x2x256x128 : Shape := ⟨4, ![2, 2, 256, 128]⟩
abbrev S2x2x32x512x128 : Shape := ⟨5, ![2, 2, 32, 512, 128]⟩
abbrev S2x2x32x128x512 : Shape := ⟨5, ![2, 2, 32, 128, 512]⟩
abbrev S2x2x32x16x512 : Shape := ⟨5, ![2, 2, 32, 16, 512]⟩
abbrev S2x2x32x144x512 : Shape := ⟨5, ![2, 2, 32, 144, 512]⟩
abbrev S2x2x1x256x128 : Shape := ⟨5, ![2, 2, 1, 256, 128]⟩
abbrev S2x2x1x128x256 : Shape := ⟨5, ![2, 2, 1, 128, 256]⟩
abbrev S2x2x1x16x256 : Shape := ⟨5, ![2, 2, 1, 16, 256]⟩
abbrev S2x2x1x144x256 : Shape := ⟨5, ![2, 2, 1, 144, 256]⟩
abbrev S2x16384x512 : Shape := ⟨3, ![2, 16384, 512]⟩
abbrev S1x2x128x2048 : Shape := ⟨4, ![1, 2, 128, 2048]⟩
abbrev S1x1x256x128 : Shape := ⟨4, ![1, 1, 256, 128]⟩
abbrev S1x1x1x144x256 : Shape := ⟨5, ![1, 1, 1, 144, 256]⟩
abbrev S1x1x16384x128 : Shape := ⟨4, ![1, 1, 16384, 128]⟩
abbrev S1x1x32x144x512 : Shape := ⟨5, ![1, 1, 32, 144, 512]⟩
abbrev S1x2048x256 : Shape := ⟨3, ![1, 2048, 256]⟩
abbrev S256x4096 : Shape := ⟨2, ![256, 4096]⟩
abbrev S512x4096 : Shape := ⟨2, ![512, 4096]⟩
abbrev S144x4096 : Shape := ⟨2, ![144, 4096]⟩
abbrev S1x1x128x2048 : Shape := ⟨4, ![1, 1, 128, 2048]⟩
abbrev S128x2048 : Shape := ⟨2, ![128, 2048]⟩
abbrev S128x4096 : Shape := ⟨2, ![128, 4096]⟩
abbrev S1x4096 : Shape := ⟨2, ![1, 4096]⟩
abbrev S256x128 : Shape := ⟨2, ![256, 128]⟩
abbrev S4096 : Shape := ⟨1, ![4096]⟩
abbrev S1x1x512x128 : Shape := ⟨4, ![1, 1, 512, 128]⟩
abbrev S512x128 : Shape := ⟨2, ![512, 128]⟩
abbrev S144x256 : Shape := ⟨2, ![144, 256]⟩
abbrev S1x1x1x144x512 : Shape := ⟨5, ![1, 1, 1, 144, 512]⟩
abbrev S144x512 : Shape := ⟨2, ![144, 512]⟩
abbrev S4096x128 : Shape := ⟨2, ![4096, 128]⟩
abbrev S2048x128 : Shape := ⟨2, ![2048, 128]⟩
abbrev S1x2048x128 : Shape := ⟨3, ![1, 2048, 128]⟩

abbrev nBuf : Space → Nat
  | .hbm => 35
  | .vmem => 19
  | .smem => 0
  | _ => 0

abbrev bufTy : (tb : Table) → Fin (tcTables nBuf tb) → BufTy
  | .hbm, ⟨0, _⟩ => ⟨S2x16384x4x128, .f32⟩
  | .hbm, ⟨1, _⟩ => ⟨S2x16384x2x128, .f32⟩
  | .hbm, ⟨2, _⟩ => ⟨S2x16384x2x128, .f32⟩
  | .hbm, ⟨3, _⟩ => ⟨S2x256x2x128, .f32⟩
  | .hbm, ⟨4, _⟩ => ⟨S2x256x2x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S2x16384x4x128, .f32⟩
  | .hbm, ⟨13, _⟩ => ⟨S2x16384x4x128, .f32⟩
  | .hbm, ⟨14, _⟩ => ⟨S2x4x128x16384, .f32⟩
  | .hbm, ⟨15, _⟩ => ⟨S2x4x128x16384, .bf16⟩
  | .hbm, ⟨16, _⟩ => ⟨S2x2x16384x128, .f32⟩
  | .hbm, ⟨17, _⟩ => ⟨S2x2x16384x128, .bf16⟩
  | .hbm, ⟨18, _⟩ => ⟨S2x2x256x128, .f32⟩
  | .hbm, ⟨19, _⟩ => ⟨S2x2x256x128, .bf16⟩
  | .hbm, ⟨20, _⟩ => ⟨S2x2x16384x128, .f32⟩
  | .hbm, ⟨21, _⟩ => ⟨S2x2x32x512x128, .f32⟩
  | .hbm, ⟨22, _⟩ => ⟨S2x2x32x128x512, .f32⟩
  | .hbm, ⟨23, _⟩ => ⟨S2x2x32x128x512, .bf16⟩
  | .hbm, ⟨24, _⟩ => ⟨S_, .bf16⟩
  | .hbm, ⟨25, _⟩ => ⟨S2x2x32x16x512, .bf16⟩
  | .hbm, ⟨26, _⟩ => ⟨S2x2x32x144x512, .bf16⟩
  | .hbm, ⟨27, _⟩ => ⟨S2x2x256x128, .f32⟩
  | .hbm, ⟨28, _⟩ => ⟨S2x2x1x256x128, .f32⟩
  | .hbm, ⟨29, _⟩ => ⟨S2x2x1x128x256, .f32⟩
  | .hbm, ⟨30, _⟩ => ⟨S2x2x1x128x256, .bf16⟩
  | .hbm, ⟨31, _⟩ => ⟨S_, .bf16⟩
  | .hbm, ⟨32, _⟩ => ⟨S2x2x1x16x256, .bf16⟩
  | .hbm, ⟨33, _⟩ => ⟨S2x2x1x144x256, .bf16⟩
  | .hbm, ⟨34, _⟩ => ⟨S2x16384x512, .bf16⟩
  | .local _ .vmem, ⟨0, _⟩ => ⟨S1x2x128x2048, .bf16⟩
  | .local _ .vmem, ⟨1, _⟩ => ⟨S1x2x128x2048, .bf16⟩
  | .local _ .vmem, ⟨2, _⟩ => ⟨S1x1x256x128, .bf16⟩
  | .local _ .vmem, ⟨3, _⟩ => ⟨S1x1x256x128, .bf16⟩
  | .local _ .vmem, ⟨4, _⟩ => ⟨S1x1x1x144x256, .bf16⟩
  | .local _ .vmem, ⟨5, _⟩ => ⟨S1x1x1x144x256, .bf16⟩
  | .local _ .vmem, ⟨6, _⟩ => ⟨S1x1x16384x128, .bf16⟩
  | .local _ .vmem, ⟨7, _⟩ => ⟨S1x1x16384x128, .bf16⟩
  | .local _ .vmem, ⟨8, _⟩ => ⟨S1x1x32x144x512, .bf16⟩
  | .local _ .vmem, ⟨9, _⟩ => ⟨S1x1x32x144x512, .bf16⟩
  | .local _ .vmem, ⟨10, _⟩ => ⟨S1x2048x256, .bf16⟩
  | .local _ .vmem, ⟨11, _⟩ => ⟨S1x2048x256, .bf16⟩
  | .local _ .vmem, ⟨12, _⟩ => ⟨S256x4096, .f32⟩
  | .local _ .vmem, ⟨13, _⟩ => ⟨S256x4096, .bf16⟩
  | .local _ .vmem, ⟨14, _⟩ => ⟨S512x4096, .f32⟩
  | .local _ .vmem, ⟨15, _⟩ => ⟨S512x4096, .f32⟩
  | .local _ .vmem, ⟨16, _⟩ => ⟨S512x4096, .bf16⟩
  | .local _ .vmem, ⟨17, _⟩ => ⟨S512x4096, .bf16⟩
  | .local _ .vmem, ⟨18, _⟩ => ⟨S144x4096, .f32⟩
  | _, _ => ⟨S2x16384x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 2, 8], ![false, false, false]⟩

def k0_mult1 : BitVec 32 :=
  let c0_i32 : BitVec 32 := 0#32
  c0_i32
def k0_mult2 : BitVec 32 :=
  let c512_i32 : BitVec 32 := 512#32
  c512_i32
@[reducible] def k0_t1_loop : Scf.Loop 32 :=
  let c0_i32_51 : BitVec 32 := 0#32
  let c15_i32 : BitVec 32 := 15#32
  let v71 : BitVec 32 := Scalar.addi c0_i32_51 c15_i32
  let c1_i32 : BitVec 32 := 1#32
  ⟨c0_i32_51, v71, c1_i32⟩
def k0_mult3 (k0_t1 : Fin k0_t1_loop.trips) : BitVec 32 :=
  let c1_i32_86 : BitVec 32 := 1#32
  let c0_i32_51 : BitVec 32 := 0#32
  let c1_i32 : BitVec 32 := 1#32
  let arg16 : BitVec 32 := Scf.iv c0_i32_51 c1_i32 k0_t1
  let c2_i32 : BitVec 32 := 2#32
  let v122 : BitVec 32 := Scalar.muli arg16 c2_i32
  let v123 : BitVec 32 := Scalar.addi c1_i32_86 v122
  let c0_i32_87 : BitVec 32 := 0#32
  let v124 : BitVec 32 := Scalar.addi v123 c0_i32_87
  let c1_i32_88 : BitVec 32 := 1#32
  let v125 : BitVec 32 := Scalar.addi v124 c1_i32_88
  let c512_i32_89 : BitVec 32 := 512#32
  let v126 : BitVec 32 := Scalar.muli v125 c512_i32_89
  v126
def k0_off1 (k0_t1 : Fin k0_t1_loop.trips) (c0_i32_87 : BitVec 32) : Fin 4 → Nat :=
  let c0_90 : Index := 0#32
  let c0_91 : Index := 0#32
  let c1_i32_86 : BitVec 32 := 1#32
  let c0_i32_51 : BitVec 32 := 0#32
  let c1_i32 : BitVec 32 := 1#32
  let arg16 : BitVec 32 := Scf.iv c0_i32_51 c1_i32 k0_t1
  let c2_i32 : BitVec 32 := 2#32
  let v122 : BitVec 32 := Scalar.muli arg16 c2_i32
  let v123 : BitVec 32 := Scalar.addi c1_i32_86 v122
  let v124 : BitVec 32 := Scalar.addi v123 c0_i32_87
  let c1_i32_88 : BitVec 32 := 1#32
  let v125 : BitVec 32 := Scalar.addi v124 c1_i32_88
  let c512_i32_89 : BitVec 32 := 512#32
  let v126 : BitVec 32 := Scalar.muli v125 c512_i32_89
  let v127 : BitVec 32 := v126
  let v128 : Index := Scalar.indexCast v127
  let c0_92 : Index := 0#32
  ![0, 0, v128.toNat, 0]
def k0_off2 (k0_t1 : Fin k0_t1_loop.trips) (c0_i32_87 : BitVec 32) : Fin 5 → Nat :=
  let c0_104 : Index := 0#32
  let c0_105 : Index := 0#32
  let c1_i32_86 : BitVec 32 := 1#32
  let c0_i32_51 : BitVec 32 := 0#32
  let c1_i32 : BitVec 32 := 1#32
  let arg16 : BitVec 32 := Scf.iv c0_i32_51 c1_i32 k0_t1
  let c2_i32 : BitVec 32 := 2#32
  let v122 : BitVec 32 := Scalar.muli arg16 c2_i32
  let v123 : BitVec 32 := Scalar.addi c1_i32_86 v122
  let v124 : BitVec 32 := Scalar.addi v123 c0_i32_87
  let c1_i32_101 : BitVec 32 := 1#32
  let v148 : BitVec 32 := Scalar.subi v124 c1_i32_101
  let c1_i32_102 : BitVec 32 := 1#32
  let v149 : BitVec 32 := Scalar.muli v148 c1_i32_102
  let c0_i32_103 : BitVec 32 := 0#32
  let v150 : BitVec 32 := Scalar.addi v149 c0_i32_103
  let v151 : Index := Scalar.indexCast v150
  let c0_106 : Index := 0#32
  let c0_107 : Index := 0#32
  ![0, 0, v151.toNat, 0, 0]
def k0_mult4 (k0_t1 : Fin k0_t1_loop.trips) : BitVec 32 :=
  let c1_i32_116 : BitVec 32 := 1#32
  let c0_i32_51 : BitVec 32 := 0#32
  let c1_i32 : BitVec 32 := 1#32
  let arg16 : BitVec 32 := Scf.iv c0_i32_51 c1_i32 k0_t1
  let c2_i32_115 : BitVec 32 := 2#32
  let v163 : BitVec 32 := Scalar.muli arg16 c2_i32_115
  let v164 : BitVec 32 := Scalar.addi c1_i32_116 v163
  let c1_i32_117 : BitVec 32 := 1#32
  let v165 : BitVec 32 := Scalar.addi v164 c1_i32_117
  let c1_i32_118 : BitVec 32 := 1#32
  let v166 : BitVec 32 := Scalar.addi v165 c1_i32_118
  let c512_i32_119 : BitVec 32 := 512#32
  let v167 : BitVec 32 := Scalar.muli v166 c512_i32_119
  v167
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x1x144x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x32x144x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S2x16384x4x128 : Shape := ⟨4, ![2, 16384, 4, 128]⟩
abbrev S2x16384x2x128 : Shape := ⟨4, ![2, 16384, 2, 128]⟩
abbrev S2x256x2x128 : Shape := ⟨4, ![2, 256, 2, 128]⟩
abbrev S2x16384x2x2x128 : Shape := ⟨5, ![2, 16384, 2, 2, 128]⟩
abbrev S2x16640x2x128 : Shape := ⟨4, ![2, 16640, 2, 128]⟩
abbrev S2x2x16640x16384x2 : Shape := ⟨5, ![2, 2, 16640, 16384, 2]⟩
abbrev S2x2x2x16384x16640 : Shape := ⟨5, ![2, 2, 2, 16384, 16640]⟩
abbrev S_ : Shape := ⟨0, ![]⟩
abbrev S2x2x2x16384 : Shape := ⟨4, ![2, 2, 2, 16384]⟩
abbrev S2x2x2x16384x1 : Shape := ⟨5, ![2, 2, 2, 16384, 1]⟩
abbrev S2x2x128x2x16384 : Shape := ⟨5, ![2, 2, 128, 2, 16384]⟩
abbrev S2x16384x512 : Shape := ⟨3, ![2, 16384, 512]⟩

abbrev nBuf : Space → Nat
  | .hbm => 32
  | .vmem => 0
  | .smem => 0
  | _ => 0

abbrev bufTy : (tb : Table) → Fin (tcTables nBuf tb) → BufTy
  | .hbm, ⟨0, _⟩ => ⟨S2x16384x4x128, .f32⟩
  | .hbm, ⟨1, _⟩ => ⟨S2x16384x2x128, .f32⟩
  | .hbm, ⟨2, _⟩ => ⟨S2x16384x2x128, .f32⟩
  | .hbm, ⟨3, _⟩ => ⟨S2x256x2x128, .f32⟩
  | .hbm, ⟨4, _⟩ => ⟨S2x256x2x128, .f32⟩
  | .hbm, ⟨5, _⟩ => ⟨S2x16384x2x2x128, .f32⟩
  | .hbm, ⟨6, _⟩ => ⟨S2x16640x2x128, .f32⟩
  | .hbm, ⟨7, _⟩ => ⟨S2x16640x2x128, .f32⟩
  | .hbm, ⟨8, _⟩ => ⟨S2x2x16640x16384x2, .f32⟩
  | .hbm, ⟨9, _⟩ => ⟨S2x2x2x16384x16640, .f32⟩
  | .hbm, ⟨10, _⟩ => ⟨S_, .f32⟩
  | .hbm, ⟨11, _⟩ => ⟨S_, .f32⟩
  | .hbm, ⟨12, _⟩ => ⟨S2x2x2x16384x16640, .f32⟩
  | .hbm, ⟨13, _⟩ => ⟨S2x2x2x16384x16640, .f32⟩
  | .hbm, ⟨14, _⟩ => ⟨S_, .f32⟩
  | .hbm, ⟨15, _⟩ => ⟨S2x2x2x16384, .f32⟩
  | .hbm, ⟨16, _⟩ => ⟨S_, .f32⟩
  | .hbm, ⟨17, _⟩ => ⟨S2x2x2x16384, .f32⟩
  | .hbm, ⟨18, _⟩ => ⟨S2x2x2x16384, .f32⟩
  | .hbm, ⟨19, _⟩ => ⟨S2x2x2x16384x1, .f32⟩
  | .hbm, ⟨20, _⟩ => ⟨S2x2x2x16384x16640, .f32⟩
  | .hbm, ⟨21, _⟩ => ⟨S2x2x2x16384x16640, .f32⟩
  | .hbm, ⟨22, _⟩ => ⟨S2x2x2x16384x16640, .f32⟩
  | .hbm, ⟨23, _⟩ => ⟨S_, .f32⟩
  | .hbm, ⟨24, _⟩ => ⟨S2x2x2x16384, .f32⟩
  | .hbm, ⟨25, _⟩ => ⟨S2x2x2x16384x1, .f32⟩
  | .hbm, ⟨26, _⟩ => ⟨S2x2x2x16384x16640, .f32⟩
  | .hbm, ⟨27, _⟩ => ⟨S2x2x2x16384x16640, .f32⟩
  | .hbm, ⟨28, _⟩ => ⟨S2x2x128x2x16384, .f32⟩
  | .hbm, ⟨29, _⟩ => ⟨S2x16384x2x2x128, .f32⟩
  | .hbm, ⟨30, _⟩ => ⟨S2x16384x512, .f32⟩
  | .hbm, ⟨31, _⟩ => ⟨S2x16384x512, .bf16⟩
  | _, _ => ⟨S2x16384x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel2.lean ====
abbrev S2x16384x1024 : Shape := ⟨3, ![2, 16384, 1024]⟩
abbrev S2x6144 : Shape := ⟨2, ![2, 6144]⟩
abbrev S4x1024 : Shape := ⟨2, ![4, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S6x6144 : Shape := ⟨2, ![6, 6144]⟩
abbrev S8x6144 : Shape := ⟨2, ![8, 6144]⟩
abbrev S8x6x1024 : Shape := ⟨3, ![8, 6, 1024]⟩
abbrev S1x5632 : Shape := ⟨2, ![1, 5632]⟩
abbrev S1x16x1024 : Shape := ⟨3, ![1, 16, 1024]⟩
abbrev S1x1024x1024 : Shape := ⟨3, ![1, 1024, 1024]⟩
abbrev S1x6x1024 : Shape := ⟨3, ![1, 6, 1024]⟩
abbrev S1056x1024 : Shape := ⟨2, ![1056, 1024]⟩
abbrev S1056x256 : Shape := ⟨2, ![1056, 256]⟩
abbrev S1024x2816 : Shape := ⟨2, ![1024, 2816]⟩
abbrev S1024x1024 : Shape := ⟨2, ![1024, 1024]⟩
abbrev S16x1024 : Shape := ⟨2, ![16, 1024]⟩
abbrev S1x1024 : Shape := ⟨2, ![1, 1024]⟩
abbrev S16 : Shape := ⟨1, ![16]⟩
abbrev S16x1 : Shape := ⟨2, ![16, 1]⟩
abbrev S1x1x1024 : Shape := ⟨3, ![1, 1, 1024]⟩
abbrev S1024 : Shape := ⟨1, ![1024]⟩
abbrev S1024x1 : Shape := ⟨2, ![1024, 1]⟩
abbrev S1024x256 : Shape := ⟨2, ![1024, 256]⟩
abbrev S3x256 : Shape := ⟨2, ![3, 256]⟩
abbrev S1x256 : Shape := ⟨2, ![1, 256]⟩

abbrev nBuf : Space → Nat
  | .hbm => 17
  | .vmem => 27
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x6144, .f32⟩
  | .hbm, ⟨3, _⟩ => ⟨S4x1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S_, .f32⟩
  | .hbm, ⟨9, _⟩ => ⟨S6x6144, .f32⟩
  | .hbm, ⟨10, _⟩ => ⟨S8x6144, .f32⟩
  | .hbm, ⟨11, _⟩ => ⟨S8x6x1024, .f32⟩
  | .hbm, ⟨12, _⟩ => ⟨S2x16384x1024, .bf16⟩
  | .hbm, ⟨13, _⟩ => ⟨S1024x5632, .bf16⟩
  | .hbm, ⟨14, _⟩ => ⟨S1x5632, .f32⟩
  | .hbm, ⟨15, _⟩ => ⟨S2816x1024, .bf16⟩
  | .hbm, ⟨16, _⟩ => ⟨S2x16384x1024, .f32⟩
  | .local _ .vmem, ⟨0, _⟩ => ⟨S1x16x1024, .f32⟩
  | .local _ .vmem, ⟨1, _⟩ => ⟨S1x16x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x16x1024, .bf16⟩
  | .local _ .vmem, ⟨7, _⟩ => ⟨S1x16x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x16x1024, .bf16⟩
  | .local _ .vmem, ⟨11, _⟩ => ⟨S1x16x1024, .bf16⟩
  | .local _ .vmem, ⟨12, _⟩ => ⟨S1x6x1024, .f32⟩
  | .local _ .vmem, ⟨13, _⟩ => ⟨S1x6x1024, .f32⟩
  | .local _ .vmem, ⟨14, _⟩ => ⟨S4x1024, .f32⟩
  | .local _ .vmem, ⟨15, _⟩ => ⟨S1024x5632, .bf16⟩
  | .local _ .vmem, ⟨16, _⟩ => ⟨S3x5632, .f32⟩
  | .local _ .vmem, ⟨17, _⟩ => ⟨S1x5632, .f32⟩
  | .local _ .vmem, ⟨18, _⟩ => ⟨S2816x1024, .bf16⟩
  | .local _ .vmem, ⟨19, _⟩ => ⟨S1x1024x1024, .f32⟩
  | .local _ .vmem, ⟨20, _⟩ => ⟨S1x1024x1024, .f32⟩
  | .local _ .vmem, ⟨21, _⟩ => ⟨S1056x1024, .bf16⟩
  | .local _ .vmem, ⟨22, _⟩ => ⟨S1056x256, .f32⟩
  | .local _ .vmem, ⟨23, _⟩ => ⟨S1056x256, .f32⟩
  | .local _ .vmem, ⟨24, _⟩ => ⟨S1056x256, .f32⟩
  | .local _ .vmem, ⟨25, _⟩ => ⟨S1056x256, .f32⟩
  | .local _ .vmem, ⟨26, _⟩ => ⟨S1024x2816, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![2, 16], ![false, false]⟩

def k0_mult1 : BitVec 32 :=
  let c0_i32_57 : BitVec 32 := 0#32
  c0_i32_57
def k0_mult2 : BitVec 32 :=
  let c2816_i32 : BitVec 32 := 2816#32
  c2816_i32
def k0_mult3 : BitVec 32 :=
  let c0_i32_70 : BitVec 32 := 0#32
  let c0_i32_66 : BitVec 32 := 0#32
  let c10_i32 : BitVec 32 := 10#32
  let v122 : BitVec 32 := Scalar.muli c0_i32_66 c10_i32
  let c0_i32_67 : BitVec 32 := 0#32
  let v123 : BitVec 32 := Scalar.addi v122 c0_i32_67
  let c1_i32 : BitVec 32 := 1#32
  let v124 : BitVec 32 := Scalar.addi v123 c1_i32
  let c256_i32 : BitVec 32 := 256#32
  let v126 : BitVec 32 := Scalar.muli v124 c256_i32
  let v127 : BitVec 32 := Scalar.addi c0_i32_70 v126
  v127
def k0_off1 (c0_i32_70 : BitVec 32) (c0_i32_67 : BitVec 32) : Fin 2 → Nat :=
  let c0_71 : Index := 0#32
  let c0_i32_66 : BitVec 32 := 0#32
  let c10_i32 : BitVec 32 := 10#32
  let v122 : BitVec 32 := Scalar.muli c0_i32_66 c10_i32
  let v123 : BitVec 32 := Scalar.addi v122 c0_i32_67
  let c1_i32 : BitVec 32 := 1#32
  let v124 : BitVec 32 := Scalar.addi v123 c1_i32
  let c256_i32 : BitVec 32 := 256#32
  let v126 : BitVec 32 := Scalar.muli v124 c256_i32
  let v127 : BitVec 32 := Scalar.addi c0_i32_70 v126
  let v128 : BitVec 32 := v127
  let v129 : Index := Scalar.indexCast v128
  ![0, v129.toNat]
def k0_mult4 : BitVec 32 :=
  let c2816_i32_76 : BitVec 32 := 2816#32
  let c0_i32_66 : BitVec 32 := 0#32
  let c10_i32 : BitVec 32 := 10#32
  let v122 : BitVec 32 := Scalar.muli c0_i32_66 c10_i32
  let c0_i32_67 : BitVec 32 := 0#32
  let v123 : BitVec 32 := Scalar.addi v122 c0_i32_67
  let c1_i32 : BitVec 32 := 1#32
  let v124 : BitVec 32 := Scalar.addi v123 c1_i32
  let c256_i32_75 : BitVec 32 := 256#32
  let v136 : BitVec 32 := Scalar.muli v124 c256_i32_75
  let v137 : BitVec 32 := Scalar.addi c2816_i32_76 v136
  v137
def k0_mult5 : BitVec 32 :=
  let c0_i32_82 : BitVec 32 := 0#32
  let c0_i32_66 : BitVec 32 := 0#32
  let c10_i32 : BitVec 32 := 10#32
  let v122 : BitVec 32 := Scalar.muli c0_i32_66 c10_i32
  let c0_i32_67 : BitVec 32 := 0#32
  let v123 : BitVec 32 := Scalar.addi v122 c0_i32_67
  let c256_i32_81 : BitVec 32 := 256#32
  let v146 : BitVec 32 := Scalar.muli v123 c256_i32_81
  let v147 : BitVec 32 := Scalar.addi c0_i32_82 v146
  v147
def k0_off2 (c0_i32_82 : BitVec 32) (c0_i32_67 : BitVec 32) : Fin 2 → Nat :=
  let c0_83 : Index := 0#32
  let c0_i32_66 : BitVec 32 := 0#32
  let c10_i32 : BitVec 32 := 10#32
  let v122 : BitVec 32 := Scalar.muli c0_i32_66 c10_i32
  let v123 : BitVec 32 := Scalar.addi v122 c0_i32_67
  let c256_i32_81 : BitVec 32 := 256#32
  let v146 : BitVec 32 := Scalar.muli v123 c256_i32_81
  let v147 : BitVec 32 := Scalar.addi c0_i32_82 v146
  let v148 : BitVec 32 := v147
  let v149 : Index := Scalar.indexCast v148
  ![0, v149.toNat]
def k0_mult6 : BitVec 32 :=
  let c0_i32_88 : BitVec 32 := 0#32
  let c0_i32_66 : BitVec 32 := 0#32
  let c10_i32 : BitVec 32 := 10#32
  let v122 : BitVec 32 := Scalar.muli c0_i32_66 c10_i32
  let c0_i32_67 : BitVec 32 := 0#32
  let v123 : BitVec 32 := Scalar.addi v122 c0_i32_67
  let c256_i32_87 : BitVec 32 := 256#32
  let v168 : BitVec 32 := Scalar.muli v123 c256_i32_87
  let v169 : BitVec 32 := Scalar.addi c0_i32_88 v168
  v169
def k0_off3 (c0_i32_88 : BitVec 32) (c0_i32_67 : BitVec 32) : Fin 2 → Nat :=
  let c0_89 : Index := 0#32
  let c0_i32_66 : BitVec 32 := 0#32
  let c10_i32 : BitVec 32 := 10#32
  let v122 : BitVec 32 := Scalar.muli c0_i32_66 c10_i32
  let v123 : BitVec 32 := Scalar.addi v122 c0_i32_67
  let c256_i32_87 : BitVec 32 := 256#32
  let v168 : BitVec 32 := Scalar.muli v123 c256_i32_87
  let v169 : BitVec 32 := Scalar.addi c0_i32_88 v168
  let v170 : BitVec 32 := v169
  let v171 : Index := Scalar.indexCast v170
  ![0, v171.toNat]
def k0_mult7 : BitVec 32 :=
  let c2816_i32_91 : BitVec 32 := 2816#32
  let c0_i32_66 : BitVec 32 := 0#32
  let c10_i32 : BitVec 32 := 10#32
  let v122 : BitVec 32 := Scalar.muli c0_i32_66 c10_i32
  let c0_i32_67 : BitVec 32 := 0#32
  let v123 : BitVec 32 := Scalar.addi v122 c0_i32_67
  let c256_i32_90 : BitVec 32 := 256#32
  let v176 : BitVec 32 := Scalar.muli v123 c256_i32_90
  let v177 : BitVec 32 := Scalar.addi c2816_i32_91 v176
  v177
def k0_mult8 : BitVec 32 :=
  let c2816_i32_98 : BitVec 32 := 2816#32
  let c0_i32_66 : BitVec 32 := 0#32
  let c10_i32 : BitVec 32 := 10#32
  let v122 : BitVec 32 := Scalar.muli c0_i32_66 c10_i32
  let c0_i32_67 : BitVec 32 := 0#32
  let v123 : BitVec 32 := Scalar.addi v122 c0_i32_67
  let c256_i32_97 : BitVec 32 := 256#32
  let v198 : BitVec 32 := Scalar.muli v123 c256_i32_97
  let v199 : BitVec 32 := Scalar.addi c2816_i32_98 v198
  v199
def k0_mult9 : BitVec 32 :=
  let c0_i32_103 : BitVec 32 := 0#32
  let c0_i32_66 : BitVec 32 := 0#32
  let c10_i32 : BitVec 32 := 10#32
  let v122 : BitVec 32 := Scalar.muli c0_i32_66 c10_i32
  let c0_i32_67 : BitVec 32 := 0#32
  let v123 : BitVec 32 := Scalar.addi v122 c0_i32_67
  let c256_i32_102 : BitVec 32 := 256#32
  let v214 : BitVec 32 := Scalar.muli v123 c256_i32_102
  let v215 : BitVec 32 := Scalar.addi c0_i32_103 v214
  v215
def k0_off4 (c0_i32_67 : BitVec 32) : Fin 2 → Nat :=
  let c0_104 : Index := 0#32
  let c0_i32_103 : BitVec 32 := 0#32
  let c0_i32_66 : BitVec 32 := 0#32
  let c10_i32 : BitVec 32 := 10#32
  let v122 : BitVec 32 := Scalar.muli c0_i32_66 c10_i32
  let v123 : BitVec 32 := Scalar.addi v122 c0_i32_67
  let c256_i32_102 : BitVec 32 := 256#32
  let v214 : BitVec 32 := Scalar.muli v123 c256_i32_102
  let v215 : BitVec 32 := Scalar.addi c0_i32_103 v214
  let v216 : BitVec 32 := v215
  let v217 : Index := Scalar.indexCast v216
  ![0, v217.toNat]
def k0_mult10 : BitVec 32 :=
  let c0_i32_111 : BitVec 32 := 0#32
  let c0_i32_66 : BitVec 32 := 0#32
  let c10_i32_105 : BitVec 32 := 10#32
  let v221 : BitVec 32 := Scalar.muli c0_i32_66 c10_i32_105
  let c1_i32_106 : BitVec 32 := 1#32
  let v222 : BitVec 32 := Scalar.addi v221 c1_i32_106
  let c1_i32_107 : BitVec 32 := 1#32
  let v223 : BitVec 32 := Scalar.addi v222 c1_i32_107
  let c256_i32_110 : BitVec 32 := 256#32
  let v225 : BitVec 32 := Scalar.muli v223 c256_i32_110
  let v226 : BitVec 32 := Scalar.addi c0_i32_111 v225
  v226
def k0_mult11 : BitVec 32 :=
  let c2816_i32_117 : BitVec 32 := 2816#32
  let c0_i32_66 : BitVec 32 := 0#32
  let c10_i32_105 : BitVec 32 := 10#32
  let v221 : BitVec 32 := Scalar.muli c0_i32_66 c10_i32_105
  let c1_i32_106 : BitVec 32 := 1#32
  let v222 : BitVec 32 := Scalar.addi v221 c1_i32_106
  let c1_i32_107 : BitVec 32 := 1#32
  let v223 : BitVec 32 := Scalar.addi v222 c1_i32_107
  let c256_i32_116 : BitVec 32 := 256#32
  let v235 : BitVec 32 := Scalar.muli v223 c256_i32_116
  let v236 : BitVec 32 := Scalar.addi c2816_i32_117 v235
  v236
def k0_mult12 : BitVec 32 :=
  let c0_i32_123 : BitVec 32 := 0#32
  let c0_i32_66 : BitVec 32 := 0#32
  let c10_i32_105 : BitVec 32 := 10#32
  let v221 : BitVec 32 := Scalar.muli c0_i32_66 c10_i32_105
  let c1_i32_106 : BitVec 32 := 1#32
  let v222 : BitVec 32 := Scalar.addi v221 c1_i32_106
  let c256_i32_122 : BitVec 32 := 256#32
  let v245 : BitVec 32 := Scalar.muli v222 c256_i32_122
  let v246 : BitVec 32 := Scalar.addi c0_i32_123 v245
  v246
def k0_mult13 : BitVec 32 :=
  let c0_i32_130 : BitVec 32 := 0#32
  let c0_i32_66 : BitVec 32 := 0#32
  let c10_i32_105 : BitVec 32 := 10#32
  let v221 : BitVec 32 := Scalar.muli c0_i32_66 c10_i32_105
  let c1_i32_106 : BitVec 32 := 1#32
  let v222 : BitVec 32 := Scalar.addi v221 c1_i32_106
  let c256_i32_129 : BitVec 32 := 256#32
  let v267 : BitVec 32 := Scalar.muli v222 c256_i32_129
  let v268 : BitVec 32 := Scalar.addi c0_i32_130 v267
  v268
def k0_mult14 : BitVec 32 :=
  let c2816_i32_133 : BitVec 32 := 2816#32
  let c0_i32_66 : BitVec 32 := 0#32
  let c10_i32_105 : BitVec 32 := 10#32
  let v221 : BitVec 32 := Scalar.muli c0_i32_66 c10_i32_105
  let c1_i32_106 : BitVec 32 := 1#32
  let v222 : BitVec 32 := Scalar.addi v221 c1_i32_106
  let c256_i32_132 : BitVec 32 := 256#32
  let v275 : BitVec 32 := Scalar.muli v222 c256_i32_132
  let v276 : BitVec 32 := Scalar.addi c2816_i32_133 v275
  v276
def k0_mult15 : BitVec 32 :=
  let c2816_i32_140 : BitVec 32 := 2816#32
  let c0_i32_66 : BitVec 32 := 0#32
  let c10_i32_105 : BitVec 32 := 10#32
  let v221 : BitVec 32 := Scalar.muli c0_i32_66 c10_i32_105
  let c1_i32_106 : BitVec 32 := 1#32
  let v222 : BitVec 32 := Scalar.addi v221 c1_i32_106
  let c256_i32_139 : BitVec 32 := 256#32
  let v297 : BitVec 32 := Scalar.muli v222 c256_i32_139
  let v298 : BitVec 32 := Scalar.addi c2816_i32_140 v297
  v298
def k0_mult16 : BitVec 32 :=
  let c0_i32_145 : BitVec 32 := 0#32
  let c0_i32_66 : BitVec 32 := 0#32
  let c10_i32_105 : BitVec 32 := 10#32
  let v221 : BitVec 32 := Scalar.muli c0_i32_66 c10_i32_105
  let c1_i32_106 : BitVec 32 := 1#32
  let v222 : BitVec 32 := Scalar.addi v221 c1_i32_106
  let c256_i32_144 : BitVec 32 := 256#32
  let v313 : BitVec 32 := Scalar.muli v222 c256_i32_144
  let v314 : BitVec 32 := Scalar.addi c0_i32_145 v313
  v314
def k0_mult17 : BitVec 32 :=
  let c0_i32_152 : BitVec 32 := 0#32
  let c0_i32_66 : BitVec 32 := 0#32
  let c10_i32_147 : BitVec 32 := 10#32
  let v320 : BitVec 32 := Scalar.muli c0_i32_66 c10_i32_147
  let c2_i32 : BitVec 32 := 2#32
  let v321 : BitVec 32 := Scalar.addi v320 c2_i32
  let c1_i32_148 : BitVec 32 := 1#32
  let v322 : BitVec 32 := Scalar.addi v321 c1_i32_148
  let c256_i32_151 : BitVec 32 := 256#32
  let v324 : BitVec 32 := Scalar.muli v322 c256_i32_151
  let v325 : BitVec 32 := Scalar.addi c0_i32_152 v324
  v325
def k0_mult18 : BitVec 32 :=
  let c2816_i32_158 : BitVec 32 := 2816#32
  let c0_i32_66 : BitVec 32 := 0#32
  let c10_i32_147 : BitVec 32 := 10#32
  let v320 : BitVec 32 := Scalar.muli c0_i32_66 c10_i32_147
  let c2_i32 : BitVec 32 := 2#32
  let v321 : BitVec 32 := Scalar.addi v320 c2_i32
  let c1_i32_148 : BitVec 32 := 1#32
  let v322 : BitVec 32 := Scalar.addi v321 c1_i32_148
  let c256_i32_157 : BitVec 32 := 256#32
  let v334 : BitVec 32 := Scalar.muli v322 c256_i32_157
  let v335 : BitVec 32 := Scalar.addi c2816_i32_158 v334
  v335
def k0_mult19 : BitVec 32 :=
  let c0_i32_164 : BitVec 32 := 0#32
  let c0_i32_66 : BitVec 32 := 0#32
  let c10_i32_147 : BitVec 32 := 10#32
  let v320 : BitVec 32 := Scalar.muli c0_i32_66 c10_i32_147
  let c2_i32 : BitVec 32 := 2#32
  let v321 : BitVec 32 := Scalar.addi v320 c2_i32
  let c256_i32_163 : BitVec 32 := 256#32
  let v344 : BitVec 32 := Scalar.muli v321 c256_i32_163
  let v345 : BitVec 32 := Scalar.addi c0_i32_164 v344
  v345
def k0_mult20 : BitVec 32 :=
  let c0_i32_171 : BitVec 32 := 0#32
  let c0_i32_66 : BitVec 32 := 0#32
  let c10_i32_147 : BitVec 32 := 10#32
  let v320 : BitVec 32 := Scalar.muli c0_i32_66 c10_i32_147
  let c2_i32 : BitVec 32 := 2#32
  let v321 : BitVec 32 := Scalar.addi v320 c2_i32
  let c256_i32_170 : BitVec 32 := 256#32
  let v366 : BitVec 32 := Scalar.muli v321 c256_i32_170
  let v367 : BitVec 32 := Scalar.addi c0_i32_171 v366
  v367
def k0_mult21 : BitVec 32 :=
  let c2816_i32_174 : BitVec 32 := 2816#32
  let c0_i32_66 : BitVec 32 := 0#32
  let c10_i32_147 : BitVec 32 := 10#32
  let v320 : BitVec 32 := Scalar.muli c0_i32_66 c10_i32_147
  let c2_i32 : BitVec 32 := 2#32
  let v321 : BitVec 32 := Scalar.addi v320 c2_i32
  let c256_i32_173 : BitVec 32 := 256#32
  let v374 : BitVec 32 := Scalar.muli v321 c256_i32_173
  let v375 : BitVec 32 := Scalar.addi c2816_i32_174 v374
  v375
def k0_mult22 : BitVec 32 :=
  let c2816_i32_181 : BitVec 32 := 2816#32
  let c0_i32_66 : BitVec 32 := 0#32
  let c10_i32_147 : BitVec 32 := 10#32
  let v320 : BitVec 32 := Scalar.muli c0_i32_66 c10_i32_147
  let c2_i32 : BitVec 32 := 2#32
  let v321 : BitVec 32 := Scalar.addi v320 c2_i32
  let c256_i32_180 : BitVec 32 := 256#32
  let v396 : BitVec 32 := Scalar.muli v321 c256_i32_180
  let v397 : BitVec 32 := Scalar.addi c2816_i32_181 v396
  v397
def k0_mult23 : BitVec 32 :=
  let c0_i32_186 : BitVec 32 := 0#32
  let c0_i32_66 : BitVec 32 := 0#32
  let c10_i32_147 : BitVec 32 := 10#32
  let v320 : BitVec 32 := Scalar.muli c0_i32_66 c10_i32_147
  let c2_i32 : BitVec 32 := 2#32
  let v321 : BitVec 32 := Scalar.addi v320 c2_i32
  let c256_i32_185 : BitVec 32 := 256#32
  let v412 : BitVec 32 := Scalar.muli v321 c256_i32_185
  let v413 : BitVec 32 := Scalar.addi c0_i32_186 v412
  v413
def k0_mult24 : BitVec 32 :=
  let c0_i32_193 : BitVec 32 := 0#32
  let c0_i32_66 : BitVec 32 := 0#32
  let c10_i32_188 : BitVec 32 := 10#32
  let v419 : BitVec 32 := Scalar.muli c0_i32_66 c10_i32_188
  let c3_i32 : BitVec 32 := 3#32
  let v420 : BitVec 32 := Scalar.addi v419 c3_i32
  let c1_i32_189 : BitVec 32 := 1#32
  let v421 : BitVec 32 := Scalar.addi v420 c1_i32_189
  let c256_i32_192 : BitVec 32 := 256#32
  let v423 : BitVec 32 := Scalar.muli v421 c256_i32_192
  let v424 : BitVec 32 := Scalar.addi c0_i32_193 v423
  v424
def k0_mult25 : BitVec 32 :=
  let c2816_i32_199 : BitVec 32 := 2816#32
  let c0_i32_66 : BitVec 32 := 0#32
  let c10_i32_188 : BitVec 32 := 10#32
  let v419 : BitVec 32 := Scalar.muli c0_i32_66 c10_i32_188
  let c3_i32 : BitVec 32 := 3#32
  let v420 : BitVec 32 := Scalar.addi v419 c3_i32
  let c1_i32_189 : BitVec 32 := 1#32
  let v421 : BitVec 32 := Scalar.addi v420 c1_i32_189
  let c256_i32_198 : BitVec 32 := 256#32
  let v433 : BitVec 32 := Scalar.muli v421 c256_i32_198
  let v434 : BitVec 32 := Scalar.addi c2816_i32_199 v433
  v434
def k0_mult26 : BitVec 32 :=
  let c0_i32_205 : BitVec 32 := 0#32
  let c0_i32_66 : BitVec 32 := 0#32
  let c10_i32_188 : BitVec 32 := 10#32
  let v419 : BitVec 32 := Scalar.muli c0_i32_66 c10_i32_188
  let c3_i32 : BitVec 32 := 3#32
  let v420 : BitVec 32 := Scalar.addi v419 c3_i32
  let c256_i32_204 : BitVec 32 := 256#32
  let v443 : BitVec 32 := Scalar.muli v420 c256_i32_204
  let v444 : BitVec 32 := Scalar.addi c0_i32_205 v443
  v444
def k0_mult27 : BitVec 32 :=
  let c0_i32_212 : BitVec 32 := 0#32
  let c0_i32_66 : BitVec 32 := 0#32
  let c10_i32_188 : BitVec 32 := 10#32
  let v419 : BitVec 32 := Scalar.muli c0_i32_66 c10_i32_188
  let c3_i32 : BitVec 32 := 3#32
  let v420 : BitVec 32 := Scalar.addi v419 c3_i32
  let c256_i32_211 : BitVec 32 := 256#32
  let v465 : BitVec 32 := Scalar.muli v420 c256_i32_211
  let v466 : BitVec 32 := Scalar.addi c0_i32_212 v465
  v466
def k0_mult28 : BitVec 32 :=
  let c2816_i32_215 : BitVec 32 := 2816#32
  let c0_i32_66 : BitVec 32 := 0#32
  let c10_i32_188 : BitVec 32 := 10#32
  let v419 : BitVec 32 := Scalar.muli c0_i32_66 c10_i32_188
  let c3_i32 : BitVec 32 := 3#32
  let v420 : BitVec 32 := Scalar.addi v419 c3_i32
  let c256_i32_214 : BitVec 32 := 256#32
  let v473 : BitVec 32 := Scalar.muli v420 c256_i32_214
  let v474 : BitVec 32 := Scalar.addi c2816_i32_215 v473
  v474
def k0_mult29 : BitVec 32 :=
  let c2816_i32_222 : BitVec 32 := 2816#32
  let c0_i32_66 : BitVec 32 := 0#32
  let c10_i32_188 : BitVec 32 := 10#32
  let v419 : BitVec 32 := Scalar.muli c0_i32_66 c10_i32_188
  let c3_i32 : BitVec 32 := 3#32
  let v420 : BitVec 32 := Scalar.addi v419 c3_i32
  let c256_i32_221 : BitVec 32 := 256#32
  let v495 : BitVec 32 := Scalar.muli v420 c256_i32_221
  let v496 : BitVec 32 := Scalar.addi c2816_i32_222 v495
  v496
def k0_mult30 : BitVec 32 :=
  let c0_i32_227 : BitVec 32 := 0#32
  let c0_i32_66 : BitVec 32 := 0#32
  let c10_i32_188 : BitVec 32 := 10#32
  let v419 : BitVec 32 := Scalar.muli c0_i32_66 c10_i32_188
  let c3_i32 : BitVec 32 := 3#32
  let v420 : BitVec 32 := Scalar.addi v419 c3_i32
  let c256_i32_226 : BitVec 32 := 256#32
  let v511 : BitVec 32 := Scalar.muli v420 c256_i32_226
  let v512 : BitVec 32 := Scalar.addi c0_i32_227 v511
  v512
def k0_mult31 : BitVec 32 :=
  let c0_i32_234 : BitVec 32 := 0#32
  let c0_i32_66 : BitVec 32 := 0#32
  let c10_i32_229 : BitVec 32 := 10#32
  let v518 : BitVec 32 := Scalar.muli c0_i32_66 c10_i32_229
  let c4_i32 : BitVec 32 := 4#32
  let v519 : BitVec 32 := Scalar.addi v518 c4_i32
  let c1_i32_230 : BitVec 32 := 1#32
  let v520 : BitVec 32 := Scalar.addi v519 c1_i32_230
  let c256_i32_233 : BitVec 32 := 256#32
  let v522 : BitVec 32 := Scalar.muli v520 c256_i32_233
  let v523 : BitVec 32 := Scalar.addi c0_i32_234 v522
  v523
def k0_mult32 : BitVec 32 :=
  let c2816_i32_240 : BitVec 32 := 2816#32
  let c0_i32_66 : BitVec 32 := 0#32
  let c10_i32_229 : BitVec 32 := 10#32
  let v518 : BitVec 32 := Scalar.muli c0_i32_66 c10_i32_229
  let c4_i32 : BitVec 32 := 4#32
  let v519 : BitVec 32 := Scalar.addi v518 c4_i32
  let c1_i32_230 : BitVec 32 := 1#32
  let v520 : BitVec 32 := Scalar.addi v519 c1_i32_230
  let c256_i32_239 : BitVec 32 := 256#32
  let v532 : BitVec 32 := Scalar.muli v520 c256_i32_239
  let v533 : BitVec 32 := Scalar.addi c2816_i32_240 v532
  v533
def k0_mult33 : BitVec 32 :=
  let c0_i32_246 : BitVec 32 := 0#32
  let c0_i32_66 : BitVec 32 := 0#32
  let c10_i32_229 : BitVec 32 := 10#32
  let v518 : BitVec 32 := Scalar.muli c0_i32_66 c10_i32_229
  let c4_i32 : BitVec 32 := 4#32
  let v519 : BitVec 32 := Scalar.addi v518 c4_i32
  let c256_i32_245 : BitVec 32 := 256#32
  let v542 : BitVec 32 := Scalar.muli v519 c256_i32_245
  let v543 : BitVec 32 := Scalar.addi c0_i32_246 v542
  v543
def k0_mult34 : BitVec 32 :=
  let c0_i32_253 : BitVec 32 := 0#32
  let c0_i32_66 : BitVec 32 := 0#32
  let c10_i32_229 : BitVec 32 := 10#32
  let v518 : BitVec 32 := Scalar.muli c0_i32_66 c10_i32_229
  let c4_i32 : BitVec 32 := 4#32
  let v519 : BitVec 32 := Scalar.addi v518 c4_i32
  let c256_i32_252 : BitVec 32 := 256#32
  let v564 : BitVec 32 := Scalar.muli v519 c256_i32_252
  let v565 : BitVec 32 := Scalar.addi c0_i32_253 v564
  v565
def k0_mult35 : BitVec 32 :=
  let c2816_i32_256 : BitVec 32 := 2816#32
  let c0_i32_66 : BitVec 32 := 0#32
  let c10_i32_229 : BitVec 32 := 10#32
  let v518 : BitVec 32 := Scalar.muli c0_i32_66 c10_i32_229
  let c4_i32 : BitVec 32 := 4#32
  let v519 : BitVec 32 := Scalar.addi v518 c4_i32
  let c256_i32_255 : BitVec 32 := 256#32
  let v572 : BitVec 32 := Scalar.muli v519 c256_i32_255
  let v573 : BitVec 32 := Scalar.addi c2816_i32_256 v572
  v573
def k0_mult36 : BitVec 32 :=
  let c2816_i32_263 : BitVec 32 := 2816#32
  let c0_i32_66 : BitVec 32 := 0#32
  let c10_i32_229 : BitVec 32 := 10#32
  let v518 : BitVec 32 := Scalar.muli c0_i32_66 c10_i32_229
  let c4_i32 : BitVec 32 := 4#32
  let v519 : BitVec 32 := Scalar.addi v518 c4_i32
  let c256_i32_262 : BitVec 32 := 256#32
  let v594 : BitVec 32 := Scalar.muli v519 c256_i32_262
  let v595 : BitVec 32 := Scalar.addi c2816_i32_263 v594
  v595
def k0_mult37 : BitVec 32 :=
  let c0_i32_268 : BitVec 32 := 0#32
  let c0_i32_66 : BitVec 32 := 0#32
  let c10_i32_229 : BitVec 32 := 10#32
  let v518 : BitVec 32 := Scalar.muli c0_i32_66 c10_i32_229
  let c4_i32 : BitVec 32 := 4#32
  let v519 : BitVec 32 := Scalar.addi v518 c4_i32
  let c256_i32_267 : BitVec 32 := 256#32
  let v610 : BitVec 32 := Scalar.muli v519 c256_i32_267
  let v611 : BitVec 32 := Scalar.addi c0_i32_268 v610
  v611
def k0_mult38 : BitVec 32 :=
  let c0_i32_275 : BitVec 32 := 0#32
  let c0_i32_66 : BitVec 32 := 0#32
  let c10_i32_270 : BitVec 32 := 10#32
  let v617 : BitVec 32 := Scalar.muli c0_i32_66 c10_i32_270
  let c5_i32 : BitVec 32 := 5#32
  let v618 : BitVec 32 := Scalar.addi v617 c5_i32
  let c1_i32_271 : BitVec 32 := 1#32
  let v619 : BitVec 32 := Scalar.addi v618 c1_i32_271
  let c256_i32_274 : BitVec 32 := 256#32
  let v621 : BitVec 32 := Scalar.muli v619 c256_i32_274
  let v622 : BitVec 32 := Scalar.addi c0_i32_275 v621
  v622
def k0_mult39 : BitVec 32 :=
  let c2816_i32_281 : BitVec 32 := 2816#32
  let c0_i32_66 : BitVec 32 := 0#32
  let c10_i32_270 : BitVec 32 := 10#32
  let v617 : BitVec 32 := Scalar.muli c0_i32_66 c10_i32_270
  let c5_i32 : BitVec 32 := 5#32
  let v618 : BitVec 32 := Scalar.addi v617 c5_i32
  let c1_i32_271 : BitVec 32 := 1#32
  let v619 : BitVec 32 := Scalar.addi v618 c1_i32_271
  let c256_i32_280 : BitVec 32 := 256#32
  let v631 : BitVec 32 := Scalar.muli v619 c256_i32_280
  let v632 : BitVec 32 := Scalar.addi c2816_i32_281 v631
  v632
def k0_mult40 : BitVec 32 :=
  let c0_i32_287 : BitVec 32 := 0#32
  let c0_i32_66 : BitVec 32 := 0#32
  let c10_i32_270 : BitVec 32 := 10#32
  let v617 : BitVec 32 := Scalar.muli c0_i32_66 c10_i32_270
  let c5_i32 : BitVec 32 := 5#32
  let v618 : BitVec 32 := Scalar.addi v617 c5_i32
  let c256_i32_286 : BitVec 32 := 256#32
  let v641 : BitVec 32 := Scalar.muli v618 c256_i32_286
  let v642 : BitVec 32 := Scalar.addi c0_i32_287 v641
  v642
def k0_mult41 : BitVec 32 :=
  let c0_i32_294 : BitVec 32 := 0#32
  let c0_i32_66 : BitVec 32 := 0#32
  let c10_i32_270 : BitVec 32 := 10#32
  let v617 : BitVec 32 := Scalar.muli c0_i32_66 c10_i32_270
  let c5_i32 : BitVec 32 := 5#32
  let v618 : BitVec 32 := Scalar.addi v617 c5_i32
  let c256_i32_293 : BitVec 32 := 256#32
  let v663 : BitVec 32 := Scalar.muli v618 c256_i32_293
  let v664 : BitVec 32 := Scalar.addi c0_i32_294 v663
  v664
def k0_mult42 : BitVec 32 :=
  let c2816_i32_297 : BitVec 32 := 2816#32
  let c0_i32_66 : BitVec 32 := 0#32
  let c10_i32_270 : BitVec 32 := 10#32
  let v617 : BitVec 32 := Scalar.muli c0_i32_66 c10_i32_270
  let c5_i32 : BitVec 32 := 5#32
  let v618 : BitVec 32 := Scalar.addi v617 c5_i32
  let c256_i32_296 : BitVec 32 := 256#32
  let v671 : BitVec 32 := Scalar.muli v618 c256_i32_296
  let v672 : BitVec 32 := Scalar.addi c2816_i32_297 v671
  v672
def k0_mult43 : BitVec 32 :=
  let c2816_i32_304 : BitVec 32 := 2816#32
  let c0_i32_66 : BitVec 32 := 0#32
  let c10_i32_270 : BitVec 32 := 10#32
  let v617 : BitVec 32 := Scalar.muli c0_i32_66 c10_i32_270
  let c5_i32 : BitVec 32 := 5#32
  let v618 : BitVec 32 := Scalar.addi v617 c5_i32
  let c256_i32_303 : BitVec 32 := 256#32
  let v693 : BitVec 32 := Scalar.muli v618 c256_i32_303
  let v694 : BitVec 32 := Scalar.addi c2816_i32_304 v693
  v694
def k0_mult44 : BitVec 32 :=
  let c0_i32_309 : BitVec 32 := 0#32
  let c0_i32_66 : BitVec 32 := 0#32
  let c10_i32_270 : BitVec 32 := 10#32
  let v617 : BitVec 32 := Scalar.muli c0_i32_66 c10_i32_270
  let c5_i32 : BitVec 32 := 5#32
  let v618 : BitVec 32 := Scalar.addi v617 c5_i32
  let c256_i32_308 : BitVec 32 := 256#32
  let v709 : BitVec 32 := Scalar.muli v618 c256_i32_308
  let v710 : BitVec 32 := Scalar.addi c0_i32_309 v709
  v710
def k0_mult45 : BitVec 32 :=
  let c0_i32_316 : BitVec 32 := 0#32
  let c0_i32_66 : BitVec 32 := 0#32
  let c10_i32_311 : BitVec 32 := 10#32
  let v716 : BitVec 32 := Scalar.muli c0_i32_66 c10_i32_311
  let c6_i32 : BitVec 32 := 6#32
  let v717 : BitVec 32 := Scalar.addi v716 c6_i32
  let c1_i32_312 : BitVec 32 := 1#32
  let v718 : BitVec 32 := Scalar.addi v717 c1_i32_312
  let c256_i32_315 : BitVec 32 := 256#32
  let v720 : BitVec 32 := Scalar.muli v718 c256_i32_315
  let v721 : BitVec 32 := Scalar.addi c0_i32_316 v720
  v721
def k0_mult46 : BitVec 32 :=
  let c2816_i32_322 : BitVec 32 := 2816#32
  let c0_i32_66 : BitVec 32 := 0#32
  let c10_i32_311 : BitVec 32 := 10#32
  let v716 : BitVec 32 := Scalar.muli c0_i32_66 c10_i32_311
  let c6_i32 : BitVec 32 := 6#32
  let v717 : BitVec 32 := Scalar.addi v716 c6_i32
  let c1_i32_312 : BitVec 32 := 1#32
  let v718 : BitVec 32 := Scalar.addi v717 c1_i32_312
  let c256_i32_321 : BitVec 32 := 256#32
  let v730 : BitVec 32 := Scalar.muli v718 c256_i32_321
  let v731 : BitVec 32 := Scalar.addi c2816_i32_322 v730
  v731
def k0_mult47 : BitVec 32 :=
  let c0_i32_328 : BitVec 32 := 0#32
  let c0_i32_66 : BitVec 32 := 0#32
  let c10_i32_311 : BitVec 32 := 10#32
  let v716 : BitVec 32 := Scalar.muli c0_i32_66 c10_i32_311
  let c6_i32 : BitVec 32 := 6#32
  let v717 : BitVec 32 := Scalar.addi v716 c6_i32
  let c256_i32_327 : BitVec 32 := 256#32
  let v740 : BitVec 32 := Scalar.muli v717 c256_i32_327
  let v741 : BitVec 32 := Scalar.addi c0_i32_328 v740
  v741
def k0_mult48 : BitVec 32 :=
  let c0_i32_335 : BitVec 32 := 0#32
  let c0_i32_66 : BitVec 32 := 0#32
  let c10_i32_311 : BitVec 32 := 10#32
  let v716 : BitVec 32 := Scalar.muli c0_i32_66 c10_i32_311
  let c6_i32 : BitVec 32 := 6#32
  let v717 : BitVec 32 := Scalar.addi v716 c6_i32
  let c256_i32_334 : BitVec 32 := 256#32
  let v762 : BitVec 32 := Scalar.muli v717 c256_i32_334
  let v763 : BitVec 32 := Scalar.addi c0_i32_335 v762
  v763
def k0_mult49 : BitVec 32 :=
  let c2816_i32_338 : BitVec 32 := 2816#32
  let c0_i32_66 : BitVec 32 := 0#32
  let c10_i32_311 : BitVec 32 := 10#32
  let v716 : BitVec 32 := Scalar.muli c0_i32_66 c10_i32_311
  let c6_i32 : BitVec 32 := 6#32
  let v717 : BitVec 32 := Scalar.addi v716 c6_i32
  let c256_i32_337 : BitVec 32 := 256#32
  let v770 : BitVec 32 := Scalar.muli v717 c256_i32_337
  let v771 : BitVec 32 := Scalar.addi c2816_i32_338 v770
  v771
def k0_mult50 : BitVec 32 :=
  let c2816_i32_345 : BitVec 32 := 2816#32
  let c0_i32_66 : BitVec 32 := 0#32
  let c10_i32_311 : BitVec 32 := 10#32
  let v716 : BitVec 32 := Scalar.muli c0_i32_66 c10_i32_311
  let c6_i32 : BitVec 32 := 6#32
  let v717 : BitVec 32 := Scalar.addi v716 c6_i32
  let c256_i32_344 : BitVec 32 := 256#32
  let v792 : BitVec 32 := Scalar.muli v717 c256_i32_344
  let v793 : BitVec 32 := Scalar.addi c2816_i32_345 v792
  v793
def k0_mult51 : BitVec 32 :=
  let c0_i32_350 : BitVec 32 := 0#32
  let c0_i32_66 : BitVec 32 := 0#32
  let c10_i32_311 : BitVec 32 := 10#32
  let v716 : BitVec 32 := Scalar.muli c0_i32_66 c10_i32_311
  let c6_i32 : BitVec 32 := 6#32
  let v717 : BitVec 32 := Scalar.addi v716 c6_i32
  let c256_i32_349 : BitVec 32 := 256#32
  let v808 : BitVec 32 := Scalar.muli v717 c256_i32_349
  let v809 : BitVec 32 := Scalar.addi c0_i32_350 v808
  v809
def k0_mult52 : BitVec 32 :=
  let c0_i32_357 : BitVec 32 := 0#32
  let c0_i32_66 : BitVec 32 := 0#32
  let c10_i32_352 : BitVec 32 := 10#32
  let v815 : BitVec 32 := Scalar.muli c0_i32_66 c10_i32_352
  let c7_i32 : BitVec 32 := 7#32
  let v816 : BitVec 32 := Scalar.addi v815 c7_i32
  let c1_i32_353 : BitVec 32 := 1#32
  let v817 : BitVec 32 := Scalar.addi v816 c1_i32_353
  let c256_i32_356 : BitVec 32 := 256#32
  let v819 : BitVec 32 := Scalar.muli v817 c256_i32_356
  let v820 : BitVec 32 := Scalar.addi c0_i32_357 v819
  v820
def k0_mult53 : BitVec 32 :=
  let c2816_i32_363 : BitVec 32 := 2816#32
  let c0_i32_66 : BitVec 32 := 0#32
  let c10_i32_352 : BitVec 32 := 10#32
  let v815 : BitVec 32 := Scalar.muli c0_i32_66 c10_i32_352
  let c7_i32 : BitVec 32 := 7#32
  let v816 : BitVec 32 := Scalar.addi v815 c7_i32
  let c1_i32_353 : BitVec 32 := 1#32
  let v817 : BitVec 32 := Scalar.addi v816 c1_i32_353
  let c256_i32_362 : BitVec 32 := 256#32
  let v829 : BitVec 32 := Scalar.muli v817 c256_i32_362
  let v830 : BitVec 32 := Scalar.addi c2816_i32_363 v829
  v830
def k0_mult54 : BitVec 32 :=
  let c0_i32_369 : BitVec 32 := 0#32
  let c0_i32_66 : BitVec 32 := 0#32
  let c10_i32_352 : BitVec 32 := 10#32
  let v815 : BitVec 32 := Scalar.muli c0_i32_66 c10_i32_352
  let c7_i32 : BitVec 32 := 7#32
  let v816 : BitVec 32 := Scalar.addi v815 c7_i32
  let c256_i32_368 : BitVec 32 := 256#32
  let v839 : BitVec 32 := Scalar.muli v816 c256_i32_368
  let v840 : BitVec 32 := Scalar.addi c0_i32_369 v839
  v840
def k0_mult55 : BitVec 32 :=
  let c0_i32_376 : BitVec 32 := 0#32
  let c0_i32_66 : BitVec 32 := 0#32
  let c10_i32_352 : BitVec 32 := 10#32
  let v815 : BitVec 32 := Scalar.muli c0_i32_66 c10_i32_352
  let c7_i32 : BitVec 32 := 7#32
  let v816 : BitVec 32 := Scalar.addi v815 c7_i32
  let c256_i32_375 : BitVec 32 := 256#32
  let v861 : BitVec 32 := Scalar.muli v816 c256_i32_375
  let v862 : BitVec 32 := Scalar.addi c0_i32_376 v861
  v862
def k0_mult56 : BitVec 32 :=
  let c2816_i32_379 : BitVec 32 := 2816#32
  let c0_i32_66 : BitVec 32 := 0#32
  let c10_i32_352 : BitVec 32 := 10#32
  let v815 : BitVec 32 := Scalar.muli c0_i32_66 c10_i32_352
  let c7_i32 : BitVec 32 := 7#32
  let v816 : BitVec 32 := Scalar.addi v815 c7_i32
  let c256_i32_378 : BitVec 32 := 256#32
  let v869 : BitVec 32 := Scalar.muli v816 c256_i32_378
  let v870 : BitVec 32 := Scalar.addi c2816_i32_379 v869
  v870
def k0_mult57 : BitVec 32 :=
  let c2816_i32_386 : BitVec 32 := 2816#32
  let c0_i32_66 : BitVec 32 := 0#32
  let c10_i32_352 : BitVec 32 := 10#32
  let v815 : BitVec 32 := Scalar.muli c0_i32_66 c10_i32_352
  let c7_i32 : BitVec 32 := 7#32
  let v816 : BitVec 32 := Scalar.addi v815 c7_i32
  let c256_i32_385 : BitVec 32 := 256#32
  let v891 : BitVec 32 := Scalar.muli v816 c256_i32_385
  let v892 : BitVec 32 := Scalar.addi c2816_i32_386 v891
  v892
def k0_mult58 : BitVec 32 :=
  let c0_i32_391 : BitVec 32 := 0#32
  let c0_i32_66 : BitVec 32 := 0#32
  let c10_i32_352 : BitVec 32 := 10#32
  let v815 : BitVec 32 := Scalar.muli c0_i32_66 c10_i32_352
  let c7_i32 : BitVec 32 := 7#32
  let v816 : BitVec 32 := Scalar.addi v815 c7_i32
  let c256_i32_390 : BitVec 32 := 256#32
  let v907 : BitVec 32 := Scalar.muli v816 c256_i32_390
  let v908 : BitVec 32 := Scalar.addi c0_i32_391 v907
  v908
def k0_mult59 : BitVec 32 :=
  let c0_i32_398 : BitVec 32 := 0#32
  let c0_i32_66 : BitVec 32 := 0#32
  let c10_i32_393 : BitVec 32 := 10#32
  let v914 : BitVec 32 := Scalar.muli c0_i32_66 c10_i32_393
  let c8_i32 : BitVec 32 := 8#32
  let v915 : BitVec 32 := Scalar.addi v914 c8_i32
  let c1_i32_394 : BitVec 32 := 1#32
  let v916 : BitVec 32 := Scalar.addi v915 c1_i32_394
  let c256_i32_397 : BitVec 32 := 256#32
  let v918 : BitVec 32 := Scalar.muli v916 c256_i32_397
  let v919 : BitVec 32 := Scalar.addi c0_i32_398 v918
  v919
def k0_mult60 : BitVec 32 :=
  let c2816_i32_404 : BitVec 32 := 2816#32
  let c0_i32_66 : BitVec 32 := 0#32
  let c10_i32_393 : BitVec 32 := 10#32
  let v914 : BitVec 32 := Scalar.muli c0_i32_66 c10_i32_393
  let c8_i32 : BitVec 32 := 8#32
  let v915 : BitVec 32 := Scalar.addi v914 c8_i32
  let c1_i32_394 : BitVec 32 := 1#32
  let v916 : BitVec 32 := Scalar.addi v915 c1_i32_394
  let c256_i32_403 : BitVec 32 := 256#32
  let v928 : BitVec 32 := Scalar.muli v916 c256_i32_403
  let v929 : BitVec 32 := Scalar.addi c2816_i32_404 v928
  v929
def k0_mult61 : BitVec 32 :=
  let c0_i32_410 : BitVec 32 := 0#32
  let c0_i32_66 : BitVec 32 := 0#32
  let c10_i32_393 : BitVec 32 := 10#32
  let v914 : BitVec 32 := Scalar.muli c0_i32_66 c10_i32_393
  let c8_i32 : BitVec 32 := 8#32
  let v915 : BitVec 32 := Scalar.addi v914 c8_i32
  let c256_i32_409 : BitVec 32 := 256#32
  let v938 : BitVec 32 := Scalar.muli v915 c256_i32_409
  let v939 : BitVec 32 := Scalar.addi c0_i32_410 v938
  v939
def k0_mult62 : BitVec 32 :=
  let c0_i32_417 : BitVec 32 := 0#32
  let c0_i32_66 : BitVec 32 := 0#32
  let c10_i32_393 : BitVec 32 := 10#32
  let v914 : BitVec 32 := Scalar.muli c0_i32_66 c10_i32_393
  let c8_i32 : BitVec 32 := 8#32
  let v915 : BitVec 32 := Scalar.addi v914 c8_i32
  let c256_i32_416 : BitVec 32 := 256#32
  let v960 : BitVec 32 := Scalar.muli v915 c256_i32_416
  let v961 : BitVec 32 := Scalar.addi c0_i32_417 v960
  v961
def k0_mult63 : BitVec 32 :=
  let c2816_i32_420 : BitVec 32 := 2816#32
  let c0_i32_66 : BitVec 32 := 0#32
  let c10_i32_393 : BitVec 32 := 10#32
  let v914 : BitVec 32 := Scalar.muli c0_i32_66 c10_i32_393
  let c8_i32 : BitVec 32 := 8#32
  let v915 : BitVec 32 := Scalar.addi v914 c8_i32
  let c256_i32_419 : BitVec 32 := 256#32
  let v968 : BitVec 32 := Scalar.muli v915 c256_i32_419
  let v969 : BitVec 32 := Scalar.addi c2816_i32_420 v968
  v969
def k0_mult64 : BitVec 32 :=
  let c2816_i32_427 : BitVec 32 := 2816#32
  let c0_i32_66 : BitVec 32 := 0#32
  let c10_i32_393 : BitVec 32 := 10#32
  let v914 : BitVec 32 := Scalar.muli c0_i32_66 c10_i32_393
  let c8_i32 : BitVec 32 := 8#32
  let v915 : BitVec 32 := Scalar.addi v914 c8_i32
  let c256_i32_426 : BitVec 32 := 256#32
  let v990 : BitVec 32 := Scalar.muli v915 c256_i32_426
  let v991 : BitVec 32 := Scalar.addi c2816_i32_427 v990
  v991
def k0_mult65 : BitVec 32 :=
  let c0_i32_432 : BitVec 32 := 0#32
  let c0_i32_66 : BitVec 32 := 0#32
  let c10_i32_393 : BitVec 32 := 10#32
  let v914 : BitVec 32 := Scalar.muli c0_i32_66 c10_i32_393
  let c8_i32 : BitVec 32 := 8#32
  let v915 : BitVec 32 := Scalar.addi v914 c8_i32
  let c256_i32_431 : BitVec 32 := 256#32
  let v1006 : BitVec 32 := Scalar.muli v915 c256_i32_431
  let v1007 : BitVec 32 := Scalar.addi c0_i32_432 v1006
  v1007
def k0_mult66 : BitVec 32 :=
  let c0_i32_439 : BitVec 32 := 0#32
  let c0_i32_66 : BitVec 32 := 0#32
  let c10_i32_434 : BitVec 32 := 10#32
  let v1013 : BitVec 32 := Scalar.muli c0_i32_66 c10_i32_434
  let c9_i32 : BitVec 32 := 9#32
  let v1014 : BitVec 32 := Scalar.addi v1013 c9_i32
  let c1_i32_435 : BitVec 32 := 1#32
  let v1015 : BitVec 32 := Scalar.addi v1014 c1_i32_435
  let c256_i32_438 : BitVec 32 := 256#32
  let v1017 : BitVec 32 := Scalar.muli v1015 c256_i32_438
  let v1018 : BitVec 32 := Scalar.addi c0_i32_439 v1017
  v1018
def k0_mult67 : BitVec 32 :=
  let c2816_i32_445 : BitVec 32 := 2816#32
  let c0_i32_66 : BitVec 32 := 0#32
  let c10_i32_434 : BitVec 32 := 10#32
  let v1013 : BitVec 32 := Scalar.muli c0_i32_66 c10_i32_434
  let c9_i32 : BitVec 32 := 9#32
  let v1014 : BitVec 32 := Scalar.addi v1013 c9_i32
  let c1_i32_435 : BitVec 32 := 1#32
  let v1015 : BitVec 32 := Scalar.addi v1014 c1_i32_435
  let c256_i32_444 : BitVec 32 := 256#32
  let v1027 : BitVec 32 := Scalar.muli v1015 c256_i32_444
  let v1028 : BitVec 32 := Scalar.addi c2816_i32_445 v1027
  v1028
def k0_mult68 : BitVec 32 :=
  let c0_i32_451 : BitVec 32 := 0#32
  let c0_i32_66 : BitVec 32 := 0#32
  let c10_i32_434 : BitVec 32 := 10#32
  let v1013 : BitVec 32 := Scalar.muli c0_i32_66 c10_i32_434
  let c9_i32 : BitVec 32 := 9#32
  let v1014 : BitVec 32 := Scalar.addi v1013 c9_i32
  let c256_i32_450 : BitVec 32 := 256#32
  let v1037 : BitVec 32 := Scalar.muli v1014 c256_i32_450
  let v1038 : BitVec 32 := Scalar.addi c0_i32_451 v1037
  v1038
def k0_mult69 : BitVec 32 :=
  let c0_i32_458 : BitVec 32 := 0#32
  let c0_i32_66 : BitVec 32 := 0#32
  let c10_i32_434 : BitVec 32 := 10#32
  let v1013 : BitVec 32 := Scalar.muli c0_i32_66 c10_i32_434
  let c9_i32 : BitVec 32 := 9#32
  let v1014 : BitVec 32 := Scalar.addi v1013 c9_i32
  let c256_i32_457 : BitVec 32 := 256#32
  let v1059 : BitVec 32 := Scalar.muli v1014 c256_i32_457
  let v1060 : BitVec 32 := Scalar.addi c0_i32_458 v1059
  v1060
def k0_mult70 : BitVec 32 :=
  let c2816_i32_461 : BitVec 32 := 2816#32
  let c0_i32_66 : BitVec 32 := 0#32
  let c10_i32_434 : BitVec 32 := 10#32
  let v1013 : BitVec 32 := Scalar.muli c0_i32_66 c10_i32_434
  let c9_i32 : BitVec 32 := 9#32
  let v1014 : BitVec 32 := Scalar.addi v1013 c9_i32
  let c256_i32_460 : BitVec 32 := 256#32
  let v1067 : BitVec 32 := Scalar.muli v1014 c256_i32_460
  let v1068 : BitVec 32 := Scalar.addi c2816_i32_461 v1067
  v1068
def k0_mult71 : BitVec 32 :=
  let c2816_i32_468 : BitVec 32 := 2816#32
  let c0_i32_66 : BitVec 32 := 0#32
  let c10_i32_434 : BitVec 32 := 10#32
  let v1013 : BitVec 32 := Scalar.muli c0_i32_66 c10_i32_434
  let c9_i32 : BitVec 32 := 9#32
  let v1014 : BitVec 32 := Scalar.addi v1013 c9_i32
  let c256_i32_467 : BitVec 32 := 256#32
  let v1089 : BitVec 32 := Scalar.muli v1014 c256_i32_467
  let v1090 : BitVec 32 := Scalar.addi c2816_i32_468 v1089
  v1090
def k0_mult72 : BitVec 32 :=
  let c0_i32_473 : BitVec 32 := 0#32
  let c0_i32_66 : BitVec 32 := 0#32
  let c10_i32_434 : BitVec 32 := 10#32
  let v1013 : BitVec 32 := Scalar.muli c0_i32_66 c10_i32_434
  let c9_i32 : BitVec 32 := 9#32
  let v1014 : BitVec 32 := Scalar.addi v1013 c9_i32
  let c256_i32_472 : BitVec 32 := 256#32
  let v1105 : BitVec 32 := Scalar.muli v1014 c256_i32_472
  let v1106 : BitVec 32 := Scalar.addi c0_i32_473 v1105
  v1106
def k0_mult73 : BitVec 32 :=
  let c2560_i32 : BitVec 32 := 2560#32
  c2560_i32
def k0_mult74 : BitVec 32 :=
  let c2560_i32_481 : BitVec 32 := 2560#32
  c2560_i32_481
def k0_mult75 : BitVec 32 :=
  let c5376_i32 : BitVec 32 := 5376#32
  c5376_i32
def k0_mult76 : BitVec 32 :=
  let c5376_i32_488 : BitVec 32 := 5376#32
  c5376_i32_488
def k0_mult77 : BitVec 32 :=
  let c2560_i32_492 : BitVec 32 := 2560#32
  c2560_i32_492
def cc0_transform_0 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x5632 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S2x16384x1024 : Shape := ⟨3, ![2, 16384, 1024]⟩
abbrev S2x6144 : Shape := ⟨2, ![2, 6144]⟩
abbrev S4x1024 : Shape := ⟨2, ![4, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S2x1x6144 : Shape := ⟨3, ![2, 1, 6144]⟩
abbrev S2x1x1024 : Shape := ⟨3, ![2, 1, 1024]⟩
abbrev S1x1024 : Shape := ⟨2, ![1, 1024]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x5632 : Shape := ⟨3, ![2, 16384, 5632]⟩
abbrev S2x16386x5632 : Shape := ⟨3, ![2, 16386, 5632]⟩
abbrev S1x5632 : Shape := ⟨2, ![1, 5632]⟩
abbrev S1x1x5632 : Shape := ⟨3, ![1, 1, 5632]⟩
abbrev S2x16384x2816 : Shape := ⟨3, ![2, 16384, 2816]⟩

abbrev nBuf : Space → Nat
  | .hbm => 102
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x6144, .f32⟩
  | .hbm, ⟨3, _⟩ => ⟨S4x1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S2x1x6144, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S2x16384x1024, .f32⟩
  | .hbm, ⟨16, _⟩ => ⟨S1x1024, .f32⟩
  | .hbm, ⟨17, _⟩ => ⟨S1024, .f32⟩
  | .hbm, ⟨18, _⟩ => ⟨S2x16384x1024, .f32⟩
  | .hbm, ⟨19, _⟩ => ⟨S_, .f32⟩
  | .hbm, ⟨20, _⟩ => ⟨S2x16384, .f32⟩
  | .hbm, ⟨21, _⟩ => ⟨S2x16384x1, .f32⟩
  | .hbm, ⟨22, _⟩ => ⟨S_, .f32⟩
  | .hbm, ⟨23, _⟩ => ⟨S2x16384x1, .f32⟩
  | .hbm, ⟨24, _⟩ => ⟨S2x16384x1, .f32⟩
  | .hbm, ⟨25, _⟩ => ⟨S_, .f32⟩
  | .hbm, ⟨26, _⟩ => ⟨S2x16384x1, .f32⟩
  | .hbm, ⟨27, _⟩ => ⟨S2x16384x1, .f32⟩
  | .hbm, ⟨28, _⟩ => ⟨S2x16384x1, .f32⟩
  | .hbm, ⟨29, _⟩ => ⟨S2x16384x1024, .f32⟩
  | .hbm, ⟨30, _⟩ => ⟨S2x16384x1024, .f32⟩
  | .hbm, ⟨31, _⟩ => ⟨S1x1x1024, .f32⟩
  | .hbm, ⟨32, _⟩ => ⟨S2x16384x1024, .f32⟩
  | .hbm, ⟨33, _⟩ => ⟨S2x16384x1024, .f32⟩
  | .hbm, ⟨34, _⟩ => ⟨S_, .f32⟩
  | .hbm, ⟨35, _⟩ => ⟨S2x1x1024, .f32⟩
  | .hbm, ⟨36, _⟩ => ⟨S2x1x1024, .f32⟩
  | .hbm, ⟨37, _⟩ => ⟨S2x16384x1024, .f32⟩
  | .hbm, ⟨38, _⟩ => ⟨S2x16384x1024, .f32⟩
  | .hbm, ⟨39, _⟩ => ⟨S2x16384x1024, .f32⟩
  | .hbm, ⟨40, _⟩ => ⟨S2x16384x1024, .f32⟩
  | .hbm, ⟨41, _⟩ => ⟨S2x16384x5632, .f32⟩
  | .hbm, ⟨42, _⟩ => ⟨S_, .i32⟩
  | .hbm, ⟨43, _⟩ => ⟨S_, .f32⟩
  | .hbm, ⟨44, _⟩ => ⟨S2x16386x5632, .f32⟩
  | .hbm, ⟨45, _⟩ => ⟨S2x16384x5632, .f32⟩
  | .hbm, ⟨46, _⟩ => ⟨S1x5632, .f32⟩
  | .hbm, ⟨47, _⟩ => ⟨S5632, .f32⟩
  | .hbm, ⟨48, _⟩ => ⟨S1x1x5632, .f32⟩
  | .hbm, ⟨49, _⟩ => ⟨S2x16384x5632, .f32⟩
  | .hbm, ⟨50, _⟩ => ⟨S2x16384x5632, .f32⟩
  | .hbm, ⟨51, _⟩ => ⟨S2x16384x5632, .f32⟩
  | .hbm, ⟨52, _⟩ => ⟨S1x5632, .f32⟩
  | .hbm, ⟨53, _⟩ => ⟨S5632, .f32⟩
  | .hbm, ⟨54, _⟩ => ⟨S1x1x5632, .f32⟩
  | .hbm, ⟨55, _⟩ => ⟨S2x16384x5632, .f32⟩
  | .hbm, ⟨56, _⟩ => ⟨S2x16384x5632, .f32⟩
  | .hbm, ⟨57, _⟩ => ⟨S2x16384x5632, .f32⟩
  | .hbm, ⟨58, _⟩ => ⟨S2x16384x5632, .f32⟩
  | .hbm, ⟨59, _⟩ => ⟨S1x5632, .f32⟩
  | .hbm, ⟨60, _⟩ => ⟨S5632, .f32⟩
  | .hbm, ⟨61, _⟩ => ⟨S1x1x5632, .f32⟩
  | .hbm, ⟨62, _⟩ => ⟨S2x16384x5632, .f32⟩
  | .hbm, ⟨63, _⟩ => ⟨S2x16384x5632, .f32⟩
  | .hbm, ⟨64, _⟩ => ⟨S2x16384x5632, .f32⟩
  | .hbm, ⟨65, _⟩ => ⟨S1x1x5632, .f32⟩
  | .hbm, ⟨66, _⟩ => ⟨S2x16384x5632, .f32⟩
  | .hbm, ⟨67, _⟩ => ⟨S2x16384x5632, .f32⟩
  | .hbm, ⟨68, _⟩ => ⟨S2x16384x2816, .f32⟩
  | .hbm, ⟨69, _⟩ => ⟨S2x16384x2816, .f32⟩
  | .hbm, ⟨70, _⟩ => ⟨S2x16384x2816, .f32⟩
  | .hbm, ⟨71, _⟩ => ⟨S2x16384x2816, .f32⟩
  | .hbm, ⟨72, _⟩ => ⟨S_, .f32⟩
  | .hbm, ⟨73, _⟩ => ⟨S2x16384x2816, .f32⟩
  | .hbm, ⟨74, _⟩ => ⟨S2x16384x2816, .f32⟩
  | .hbm, ⟨75, _⟩ => ⟨S_, .f32⟩
  | .hbm, ⟨76, _⟩ => ⟨S2x16384x2816, .f32⟩
  | .hbm, ⟨77, _⟩ => ⟨S2x16384x2816, .f32⟩
  | .hbm, ⟨78, _⟩ => ⟨S2x16384x2816, .f32⟩
  | .hbm, ⟨79, _⟩ => ⟨S2x16384x2816, .f32⟩
  | .hbm, ⟨80, _⟩ => ⟨S2x16384x1024, .f32⟩
  | .hbm, ⟨81, _⟩ => ⟨S1x1024, .f32⟩
  | .hbm, ⟨82, _⟩ => ⟨S1024, .f32⟩
  | .hbm, ⟨83, _⟩ => ⟨S2x16384x1024, .f32⟩
  | .hbm, ⟨84, _⟩ => ⟨S_, .f32⟩
  | .hbm, ⟨85, _⟩ => ⟨S2x16384, .f32⟩
  | .hbm, ⟨86, _⟩ => ⟨S2x16384x1, .f32⟩
  | .hbm, ⟨87, _⟩ => ⟨S_, .f32⟩
  | .hbm, ⟨88, _⟩ => ⟨S2x16384x1, .f32⟩
  | .hbm, ⟨89, _⟩ => ⟨S2x16384x1, .f32⟩
  | .hbm, ⟨90, _⟩ => ⟨S_, .f32⟩
  | .hbm, ⟨91, _⟩ => ⟨S2x16384x1, .f32⟩
  | .hbm, ⟨92, _⟩ => ⟨S2x16384x1, .f32⟩
  | .hbm, ⟨93, _⟩ => ⟨S2x16384x1, .f32⟩
  | .hbm, ⟨94, _⟩ => ⟨S2x16384x1024, .f32⟩
  | .hbm, ⟨95, _⟩ => ⟨S2x16384x1024, .f32⟩
  | .hbm, ⟨96, _⟩ => ⟨S1x1x1024, .f32⟩
  | .hbm, ⟨97, _⟩ => ⟨S2x16384x1024, .f32⟩
  | .hbm, ⟨98, _⟩ => ⟨S2x16384x1024, .f32⟩
  | .hbm, ⟨99, _⟩ => ⟨S2x16384x1024, .f32⟩
  | .hbm, ⟨100, _⟩ => ⟨S2x16384x1024, .f32⟩
  | .hbm, ⟨101, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c : Ref sig .tc := ⟨.hbm, 42, rfl⟩
abbrev main_call0_v0 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_call1_v0 : Ref sig .tc := ⟨.hbm, 70, rfl⟩
abbrev main_call1_v1 : Ref sig .tc := ⟨.hbm, 71, rfl⟩
abbrev main_call1_cst : Ref sig .tc := ⟨.hbm, 72, rfl⟩
abbrev main_call1_v2 : Ref sig .tc := ⟨.hbm, 73, rfl⟩
abbrev main_call1_v3 : Ref sig .tc := ⟨.hbm, 74, rfl⟩
abbrev main_call1_cst_0 : Ref sig .tc := ⟨.hbm, 75, rfl⟩
abbrev main_call1_v4 : Ref sig .tc := ⟨.hbm, 76, rfl⟩
abbrev main_call1_v5 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_3 : Ref sig .tc := ⟨.hbm, 84, rfl⟩
abbrev main_v62 : Ref sig .tc := ⟨.hbm, 85, rfl⟩
abbrev main_v63 : Ref sig .tc := ⟨.hbm, 86, rfl⟩
abbrev main_cst_4 : Ref sig .tc := ⟨.hbm, 87, rfl⟩
abbrev main_v64 : Ref sig .tc := ⟨.hbm, 88, rfl⟩
abbrev main_v65 : Ref sig .tc := ⟨.hbm, 89, rfl⟩
abbrev main_cst_5 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩

abbrev nD : Nat := 1
abbrev τ : Topo := Topo.v7x

variable {F : FTy → Type} [FloatOps F]
-- ==== Kernel3.lean ====
abbrev S2x16384x1024 : Shape := ⟨3, ![2, 16384, 1024]⟩
abbrev S2x2x6144 : Shape := ⟨3, ![2, 2, 6144]⟩
abbrev S2x4x1024 : Shape := ⟨3, ![2, 4, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1x2x6144 : Shape := ⟨3, ![1, 2, 6144]⟩
abbrev S2x6144 : Shape := ⟨2, ![2, 6144]⟩
abbrev S_ : Shape := ⟨0, ![]⟩
abbrev S6x6144 : Shape := ⟨2, ![6, 6144]⟩
abbrev S8x6144 : Shape := ⟨2, ![8, 6144]⟩
abbrev S8x6x1024 : Shape := ⟨3, ![8, 6, 1024]⟩
abbrev S1x4x1024 : Shape := ⟨3, ![1, 4, 1024]⟩
abbrev S4x1024 : Shape := ⟨2, ![4, 1024]⟩
abbrev S1x1024x5632 : Shape := ⟨3, ![1, 1024, 5632]⟩
abbrev S1024x5632 : Shape := ⟨2, ![1024, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x2816x1024 : Shape := ⟨3, ![1, 2816, 1024]⟩
abbrev S2816x1024 : Shape := ⟨2, ![2816, 1024]⟩
abbrev S1x16x1024 : Shape := ⟨3, ![1, 16, 1024]⟩
abbrev S1x1024x1024 : Shape := ⟨3, ![1, 1024, 1024]⟩
abbrev S1x6x1024 : Shape := ⟨3, ![1, 6, 1024]⟩
abbrev S1056x1024 : Shape := ⟨2, ![1056, 1024]⟩
abbrev S1056x256 : Shape := ⟨2, ![1056, 256]⟩
abbrev S1024x2816 : Shape := ⟨2, ![1024, 2816]⟩
abbrev S1024x1024 : Shape := ⟨2, ![1024, 1024]⟩
abbrev S16x1024 : Shape := ⟨2, ![16, 1024]⟩
abbrev S1024x256 : Shape := ⟨2, ![1024, 256]⟩
abbrev S3x256 : Shape := ⟨2, ![3, 256]⟩
abbrev S1x256 : Shape := ⟨2, ![1, 256]⟩
abbrev S1x1x1024 : Shape := ⟨3, ![1, 1, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 38
  | .vmem => 28
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x2x6144, .f32⟩
  | .hbm, ⟨3, _⟩ => ⟨S2x4x1024, .f32⟩
  | .hbm, ⟨4, _⟩ => ⟨S2x1024x5632, .f32⟩
  | .hbm, ⟨5, _⟩ => ⟨S2x3x5632, .f32⟩
  | .hbm, ⟨6, _⟩ => ⟨S2x5632, .f32⟩
  | .hbm, ⟨7, _⟩ => ⟨S2x2816x1024, .f32⟩
  | .hbm, ⟨8, _⟩ => ⟨S1x2x6144, .f32⟩
  | .hbm, ⟨9, _⟩ => ⟨S2x6144, .f32⟩
  | .hbm, ⟨10, _⟩ => ⟨S_, .f32⟩
  | .hbm, ⟨11, _⟩ => ⟨S6x6144, .f32⟩
  | .hbm, ⟨12, _⟩ => ⟨S8x6144, .f32⟩
  | .hbm, ⟨13, _⟩ => ⟨S8x6x1024, .f32⟩
  | .hbm, ⟨14, _⟩ => ⟨S1x4x1024, .f32⟩
  | .hbm, ⟨15, _⟩ => ⟨S4x1024, .f32⟩
  | .hbm, ⟨16, _⟩ => ⟨S1x1024x5632, .f32⟩
  | .hbm, ⟨17, _⟩ => ⟨S1024x5632, .f32⟩
  | .hbm, ⟨18, _⟩ => ⟨S1x3x5632, .f32⟩
  | .hbm, ⟨19, _⟩ => ⟨S3x5632, .f32⟩
  | .hbm, ⟨20, _⟩ => ⟨S1x5632, .f32⟩
  | .hbm, ⟨21, _⟩ => ⟨S5632, .f32⟩
  | .hbm, ⟨22, _⟩ => ⟨S1x2816x1024, .f32⟩
  | .hbm, ⟨23, _⟩ => ⟨S2816x1024, .f32⟩
  | .hbm, ⟨24, _⟩ => ⟨S2x16384x1024, .bf16⟩
  | .hbm, ⟨25, _⟩ => ⟨S1x2x6144, .f32⟩
  | .hbm, ⟨26, _⟩ => ⟨S2x6144, .f32⟩
  | .hbm, ⟨27, _⟩ => ⟨S_, .f32⟩
  | .hbm, ⟨28, _⟩ => ⟨S6x6144, .f32⟩
  | .hbm, ⟨29, _⟩ => ⟨S8x6144, .f32⟩
  | .hbm, ⟨30, _⟩ => ⟨S8x6x1024, .f32⟩
  | .hbm, ⟨31, _⟩ => ⟨S1x4x1024, .f32⟩
  | .hbm, ⟨32, _⟩ => ⟨S4x1024, .f32⟩
  | .hbm, ⟨33, _⟩ => ⟨S1024x5632, .bf16⟩
  | .hbm, ⟨34, _⟩ => ⟨S1x5632, .f32⟩
  | .hbm, ⟨35, _⟩ => ⟨S2816x1024, .bf16⟩
  | .hbm, ⟨36, _⟩ => ⟨S2x16384x1024, .f32⟩
  | .hbm, ⟨37, _⟩ => ⟨S2x16384x1024, .bf16⟩
  | .local _ .vmem, ⟨0, _⟩ => ⟨S1x16x1024, .bf16⟩
  | .local _ .vmem, ⟨1, _⟩ => ⟨S1x16x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x16x1024, .bf16⟩
  | .local _ .vmem, ⟨5, _⟩ => ⟨S1x16x1024, .bf16⟩
  | .local _ .vmem, ⟨6, _⟩ => ⟨S1x1024x1024, .f32⟩
  | .local _ .vmem, ⟨7, _⟩ => ⟨S1x1024x1024, .f32⟩
  | .local _ .vmem, ⟨8, _⟩ => ⟨S1x6x1024, .f32⟩
  | .local _ .vmem, ⟨9, _⟩ => ⟨S1x6x1024, .f32⟩
  | .local _ .vmem, ⟨10, _⟩ => ⟨S4x1024, .f32⟩
  | .local _ .vmem, ⟨11, _⟩ => ⟨S1024x5632, .bf16⟩
  | .local _ .vmem, ⟨12, _⟩ => ⟨S3x5632, .f32⟩
  | .local _ .vmem, ⟨13, _⟩ => ⟨S1x5632, .f32⟩
  | .local _ .vmem, ⟨14, _⟩ => ⟨S2816x1024, .bf16⟩
  | .local _ .vmem, ⟨15, _⟩ => ⟨S1x6x1024, .f32⟩
  | .local _ .vmem, ⟨16, _⟩ => ⟨S1x6x1024, .f32⟩
  | .local _ .vmem, ⟨17, _⟩ => ⟨S4x1024, .f32⟩
  | .local _ .vmem, ⟨18, _⟩ => ⟨S1x1024x1024, .f32⟩
  | .local _ .vmem, ⟨19, _⟩ => ⟨S1x1024x1024, .f32⟩
  | .local _ .vmem, ⟨20, _⟩ => ⟨S1x1024x1024, .bf16⟩
  | .local _ .vmem, ⟨21, _⟩ => ⟨S1x1024x1024, .bf16⟩
  | .local _ .vmem, ⟨22, _⟩ => ⟨S1056x1024, .bf16⟩
  | .local _ .vmem, ⟨23, _⟩ => ⟨S1056x256, .f32⟩
  | .local _ .vmem, ⟨24, _⟩ => ⟨S1056x256, .f32⟩
  | .local _ .vmem, ⟨25, _⟩ => ⟨S1056x256, .f32⟩
  | .local _ .vmem, ⟨26, _⟩ => ⟨S1056x256, .f32⟩
  | .local _ .vmem, ⟨27, _⟩ => ⟨S1024x2816, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26_0 : Ref sig .tc := ⟨.hbm, 36, rfl⟩
abbrev main_v26_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![2, 16], ![false, false]⟩

def k0_mult1 : BitVec 32 :=
  let c0_i32_18 : BitVec 32 := 0#32
  c0_i32_18
def k0_mult2 : BitVec 32 :=
  let c2816_i32 : BitVec 32 := 2816#32
  c2816_i32
def k0_mult3 : BitVec 32 :=
  let c0_i32_31 : BitVec 32 := 0#32
  let c0_i32_27 : BitVec 32 := 0#32
  let c10_i32 : BitVec 32 := 10#32
  let v40 : BitVec 32 := Scalar.muli c0_i32_27 c10_i32
  let c0_i32_28 : BitVec 32 := 0#32
  let v41 : BitVec 32 := Scalar.addi v40 c0_i32_28
  let c1_i32 : BitVec 32 := 1#32
  let v42 : BitVec 32 := Scalar.addi v41 c1_i32
  let c256_i32 : BitVec 32 := 256#32
  let v44 : BitVec 32 := Scalar.muli v42 c256_i32
  let v45 : BitVec 32 := Scalar.addi c0_i32_31 v44
  v45
def k0_off1 (c0_i32_31 : BitVec 32) (c0_i32_28 : BitVec 32) : Fin 2 → Nat :=
  let c0_32 : Index := 0#32
  let c0_i32_27 : BitVec 32 := 0#32
  let c10_i32 : BitVec 32 := 10#32
  let v40 : BitVec 32 := Scalar.muli c0_i32_27 c10_i32
  let v41 : BitVec 32 := Scalar.addi v40 c0_i32_28
  let c1_i32 : BitVec 32 := 1#32
  let v42 : BitVec 32 := Scalar.addi v41 c1_i32
  let c256_i32 : BitVec 32 := 256#32
  let v44 : BitVec 32 := Scalar.muli v42 c256_i32
  let v45 : BitVec 32 := Scalar.addi c0_i32_31 v44
  let v46 : BitVec 32 := v45
  let v47 : Index := Scalar.indexCast v46
  ![0, v47.toNat]
def k0_mult4 : BitVec 32 :=
  let c2816_i32_37 : BitVec 32 := 2816#32
  let c0_i32_27 : BitVec 32 := 0#32
  let c10_i32 : BitVec 32 := 10#32
  let v40 : BitVec 32 := Scalar.muli c0_i32_27 c10_i32
  let c0_i32_28 : BitVec 32 := 0#32
  let v41 : BitVec 32 := Scalar.addi v40 c0_i32_28
  let c1_i32 : BitVec 32 := 1#32
  let v42 : BitVec 32 := Scalar.addi v41 c1_i32
  let c256_i32_36 : BitVec 32 := 256#32
  let v54 : BitVec 32 := Scalar.muli v42 c256_i32_36
  let v55 : BitVec 32 := Scalar.addi c2816_i32_37 v54
  v55
def k0_mult5 : BitVec 32 :=
  let c0_i32_43 : BitVec 32 := 0#32
  let c0_i32_27 : BitVec 32 := 0#32
  let c10_i32 : BitVec 32 := 10#32
  let v40 : BitVec 32 := Scalar.muli c0_i32_27 c10_i32
  let c0_i32_28 : BitVec 32 := 0#32
  let v41 : BitVec 32 := Scalar.addi v40 c0_i32_28
  let c256_i32_42 : BitVec 32 := 256#32
  let v64 : BitVec 32 := Scalar.muli v41 c256_i32_42
  let v65 : BitVec 32 := Scalar.addi c0_i32_43 v64
  v65
def k0_off2 (c0_i32_43 : BitVec 32) (c0_i32_28 : BitVec 32) : Fin 2 → Nat :=
  let c0_44 : Index := 0#32
  let c0_i32_27 : BitVec 32 := 0#32
  let c10_i32 : BitVec 32 := 10#32
  let v40 : BitVec 32 := Scalar.muli c0_i32_27 c10_i32
  let v41 : BitVec 32 := Scalar.addi v40 c0_i32_28
  let c256_i32_42 : BitVec 32 := 256#32
  let v64 : BitVec 32 := Scalar.muli v41 c256_i32_42
  let v65 : BitVec 32 := Scalar.addi c0_i32_43 v64
  let v66 : BitVec 32 := v65
  let v67 : Index := Scalar.indexCast v66
  ![0, v67.toNat]
def k0_mult6 : BitVec 32 :=
  let c0_i32_49 : BitVec 32 := 0#32
  let c0_i32_27 : BitVec 32 := 0#32
  let c10_i32 : BitVec 32 := 10#32
  let v40 : BitVec 32 := Scalar.muli c0_i32_27 c10_i32
  let c0_i32_28 : BitVec 32 := 0#32
  let v41 : BitVec 32 := Scalar.addi v40 c0_i32_28
  let c256_i32_48 : BitVec 32 := 256#32
  let v87 : BitVec 32 := Scalar.muli v41 c256_i32_48
  let v88 : BitVec 32 := Scalar.addi c0_i32_49 v87
  v88
def k0_off3 (c0_i32_49 : BitVec 32) (c0_i32_28 : BitVec 32) : Fin 2 → Nat :=
  let c0_50 : Index := 0#32
  let c0_i32_27 : BitVec 32 := 0#32
  let c10_i32 : BitVec 32 := 10#32
  let v40 : BitVec 32 := Scalar.muli c0_i32_27 c10_i32
  let v41 : BitVec 32 := Scalar.addi v40 c0_i32_28
  let c256_i32_48 : BitVec 32 := 256#32
  let v87 : BitVec 32 := Scalar.muli v41 c256_i32_48
  let v88 : BitVec 32 := Scalar.addi c0_i32_49 v87
  let v89 : BitVec 32 := v88
  let v90 : Index := Scalar.indexCast v89
  ![0, v90.toNat]
def k0_mult7 : BitVec 32 :=
  let c2816_i32_52 : BitVec 32 := 2816#32
  let c0_i32_27 : BitVec 32 := 0#32
  let c10_i32 : BitVec 32 := 10#32
  let v40 : BitVec 32 := Scalar.muli c0_i32_27 c10_i32
  let c0_i32_28 : BitVec 32 := 0#32
  let v41 : BitVec 32 := Scalar.addi v40 c0_i32_28
  let c256_i32_51 : BitVec 32 := 256#32
  let v95 : BitVec 32 := Scalar.muli v41 c256_i32_51
  let v96 : BitVec 32 := Scalar.addi c2816_i32_52 v95
  v96
def k0_mult8 : BitVec 32 :=
  let c2816_i32_59 : BitVec 32 := 2816#32
  let c0_i32_27 : BitVec 32 := 0#32
  let c10_i32 : BitVec 32 := 10#32
  let v40 : BitVec 32 := Scalar.muli c0_i32_27 c10_i32
  let c0_i32_28 : BitVec 32 := 0#32
  let v41 : BitVec 32 := Scalar.addi v40 c0_i32_28
  let c256_i32_58 : BitVec 32 := 256#32
  let v118 : BitVec 32 := Scalar.muli v41 c256_i32_58
  let v119 : BitVec 32 := Scalar.addi c2816_i32_59 v118
  v119
def k0_mult9 : BitVec 32 :=
  let c0_i32_64 : BitVec 32 := 0#32
  let c0_i32_27 : BitVec 32 := 0#32
  let c10_i32 : BitVec 32 := 10#32
  let v40 : BitVec 32 := Scalar.muli c0_i32_27 c10_i32
  let c0_i32_28 : BitVec 32 := 0#32
  let v41 : BitVec 32 := Scalar.addi v40 c0_i32_28
  let c256_i32_63 : BitVec 32 := 256#32
  let v134 : BitVec 32 := Scalar.muli v41 c256_i32_63
  let v135 : BitVec 32 := Scalar.addi c0_i32_64 v134
  v135
def k0_off4 (c0_i32_28 : BitVec 32) : Fin 2 → Nat :=
  let c0_65 : Index := 0#32
  let c0_i32_64 : BitVec 32 := 0#32
  let c0_i32_27 : BitVec 32 := 0#32
  let c10_i32 : BitVec 32 := 10#32
  let v40 : BitVec 32 := Scalar.muli c0_i32_27 c10_i32
  let v41 : BitVec 32 := Scalar.addi v40 c0_i32_28
  let c256_i32_63 : BitVec 32 := 256#32
  let v134 : BitVec 32 := Scalar.muli v41 c256_i32_63
  let v135 : BitVec 32 := Scalar.addi c0_i32_64 v134
  let v136 : BitVec 32 := v135
  let v137 : Index := Scalar.indexCast v136
  ![0, v137.toNat]
def k0_mult10 : BitVec 32 :=
  let c0_i32_72 : BitVec 32 := 0#32
  let c0_i32_27 : BitVec 32 := 0#32
  let c10_i32_66 : BitVec 32 := 10#32
  let v141 : BitVec 32 := Scalar.muli c0_i32_27 c10_i32_66
  let c1_i32_67 : BitVec 32 := 1#32
  let v142 : BitVec 32 := Scalar.addi v141 c1_i32_67
  let c1_i32_68 : BitVec 32 := 1#32
  let v143 : BitVec 32 := Scalar.addi v142 c1_i32_68
  let c256_i32_71 : BitVec 32 := 256#32
  let v145 : BitVec 32 := Scalar.muli v143 c256_i32_71
  let v146 : BitVec 32 := Scalar.addi c0_i32_72 v145
  v146
def k0_mult11 : BitVec 32 :=
  let c2816_i32_78 : BitVec 32 := 2816#32
  let c0_i32_27 : BitVec 32 := 0#32
  let c10_i32_66 : BitVec 32 := 10#32
  let v141 : BitVec 32 := Scalar.muli c0_i32_27 c10_i32_66
  let c1_i32_67 : BitVec 32 := 1#32
  let v142 : BitVec 32 := Scalar.addi v141 c1_i32_67
  let c1_i32_68 : BitVec 32 := 1#32
  let v143 : BitVec 32 := Scalar.addi v142 c1_i32_68
  let c256_i32_77 : BitVec 32 := 256#32
  let v155 : BitVec 32 := Scalar.muli v143 c256_i32_77
  let v156 : BitVec 32 := Scalar.addi c2816_i32_78 v155
  v156
def k0_mult12 : BitVec 32 :=
  let c0_i32_84 : BitVec 32 := 0#32
  let c0_i32_27 : BitVec 32 := 0#32
  let c10_i32_66 : BitVec 32 := 10#32
  let v141 : BitVec 32 := Scalar.muli c0_i32_27 c10_i32_66
  let c1_i32_67 : BitVec 32 := 1#32
  let v142 : BitVec 32 := Scalar.addi v141 c1_i32_67
  let c256_i32_83 : BitVec 32 := 256#32
  let v165 : BitVec 32 := Scalar.muli v142 c256_i32_83
  let v166 : BitVec 32 := Scalar.addi c0_i32_84 v165
  v166
def k0_mult13 : BitVec 32 :=
  let c0_i32_91 : BitVec 32 := 0#32
  let c0_i32_27 : BitVec 32 := 0#32
  let c10_i32_66 : BitVec 32 := 10#32
  let v141 : BitVec 32 := Scalar.muli c0_i32_27 c10_i32_66
  let c1_i32_67 : BitVec 32 := 1#32
  let v142 : BitVec 32 := Scalar.addi v141 c1_i32_67
  let c256_i32_90 : BitVec 32 := 256#32
  let v188 : BitVec 32 := Scalar.muli v142 c256_i32_90
  let v189 : BitVec 32 := Scalar.addi c0_i32_91 v188
  v189
def k0_mult14 : BitVec 32 :=
  let c2816_i32_94 : BitVec 32 := 2816#32
  let c0_i32_27 : BitVec 32 := 0#32
  let c10_i32_66 : BitVec 32 := 10#32
  let v141 : BitVec 32 := Scalar.muli c0_i32_27 c10_i32_66
  let c1_i32_67 : BitVec 32 := 1#32
  let v142 : BitVec 32 := Scalar.addi v141 c1_i32_67
  let c256_i32_93 : BitVec 32 := 256#32
  let v196 : BitVec 32 := Scalar.muli v142 c256_i32_93
  let v197 : BitVec 32 := Scalar.addi c2816_i32_94 v196
  v197
def k0_mult15 : BitVec 32 :=
  let c2816_i32_101 : BitVec 32 := 2816#32
  let c0_i32_27 : BitVec 32 := 0#32
  let c10_i32_66 : BitVec 32 := 10#32
  let v141 : BitVec 32 := Scalar.muli c0_i32_27 c10_i32_66
  let c1_i32_67 : BitVec 32 := 1#32
  let v142 : BitVec 32 := Scalar.addi v141 c1_i32_67
  let c256_i32_100 : BitVec 32 := 256#32
  let v219 : BitVec 32 := Scalar.muli v142 c256_i32_100
  let v220 : BitVec 32 := Scalar.addi c2816_i32_101 v219
  v220
def k0_mult16 : BitVec 32 :=
  let c0_i32_106 : BitVec 32 := 0#32
  let c0_i32_27 : BitVec 32 := 0#32
  let c10_i32_66 : BitVec 32 := 10#32
  let v141 : BitVec 32 := Scalar.muli c0_i32_27 c10_i32_66
  let c1_i32_67 : BitVec 32 := 1#32
  let v142 : BitVec 32 := Scalar.addi v141 c1_i32_67
  let c256_i32_105 : BitVec 32 := 256#32
  let v235 : BitVec 32 := Scalar.muli v142 c256_i32_105
  let v236 : BitVec 32 := Scalar.addi c0_i32_106 v235
  v236
def k0_mult17 : BitVec 32 :=
  let c0_i32_113 : BitVec 32 := 0#32
  let c0_i32_27 : BitVec 32 := 0#32
  let c10_i32_108 : BitVec 32 := 10#32
  let v242 : BitVec 32 := Scalar.muli c0_i32_27 c10_i32_108
  let c2_i32 : BitVec 32 := 2#32
  let v243 : BitVec 32 := Scalar.addi v242 c2_i32
  let c1_i32_109 : BitVec 32 := 1#32
  let v244 : BitVec 32 := Scalar.addi v243 c1_i32_109
  let c256_i32_112 : BitVec 32 := 256#32
  let v246 : BitVec 32 := Scalar.muli v244 c256_i32_112
  let v247 : BitVec 32 := Scalar.addi c0_i32_113 v246
  v247
def k0_mult18 : BitVec 32 :=
  let c2816_i32_119 : BitVec 32 := 2816#32
  let c0_i32_27 : BitVec 32 := 0#32
  let c10_i32_108 : BitVec 32 := 10#32
  let v242 : BitVec 32 := Scalar.muli c0_i32_27 c10_i32_108
  let c2_i32 : BitVec 32 := 2#32
  let v243 : BitVec 32 := Scalar.addi v242 c2_i32
  let c1_i32_109 : BitVec 32 := 1#32
  let v244 : BitVec 32 := Scalar.addi v243 c1_i32_109
  let c256_i32_118 : BitVec 32 := 256#32
  let v256 : BitVec 32 := Scalar.muli v244 c256_i32_118
  let v257 : BitVec 32 := Scalar.addi c2816_i32_119 v256
  v257
def k0_mult19 : BitVec 32 :=
  let c0_i32_125 : BitVec 32 := 0#32
  let c0_i32_27 : BitVec 32 := 0#32
  let c10_i32_108 : BitVec 32 := 10#32
  let v242 : BitVec 32 := Scalar.muli c0_i32_27 c10_i32_108
  let c2_i32 : BitVec 32 := 2#32
  let v243 : BitVec 32 := Scalar.addi v242 c2_i32
  let c256_i32_124 : BitVec 32 := 256#32
  let v266 : BitVec 32 := Scalar.muli v243 c256_i32_124
  let v267 : BitVec 32 := Scalar.addi c0_i32_125 v266
  v267
def k0_mult20 : BitVec 32 :=
  let c0_i32_132 : BitVec 32 := 0#32
  let c0_i32_27 : BitVec 32 := 0#32
  let c10_i32_108 : BitVec 32 := 10#32
  let v242 : BitVec 32 := Scalar.muli c0_i32_27 c10_i32_108
  let c2_i32 : BitVec 32 := 2#32
  let v243 : BitVec 32 := Scalar.addi v242 c2_i32
  let c256_i32_131 : BitVec 32 := 256#32
  let v289 : BitVec 32 := Scalar.muli v243 c256_i32_131
  let v290 : BitVec 32 := Scalar.addi c0_i32_132 v289
  v290
def k0_mult21 : BitVec 32 :=
  let c2816_i32_135 : BitVec 32 := 2816#32
  let c0_i32_27 : BitVec 32 := 0#32
  let c10_i32_108 : BitVec 32 := 10#32
  let v242 : BitVec 32 := Scalar.muli c0_i32_27 c10_i32_108
  let c2_i32 : BitVec 32 := 2#32
  let v243 : BitVec 32 := Scalar.addi v242 c2_i32
  let c256_i32_134 : BitVec 32 := 256#32
  let v297 : BitVec 32 := Scalar.muli v243 c256_i32_134
  let v298 : BitVec 32 := Scalar.addi c2816_i32_135 v297
  v298
def k0_mult22 : BitVec 32 :=
  let c2816_i32_142 : BitVec 32 := 2816#32
  let c0_i32_27 : BitVec 32 := 0#32
  let c10_i32_108 : BitVec 32 := 10#32
  let v242 : BitVec 32 := Scalar.muli c0_i32_27 c10_i32_108
  let c2_i32 : BitVec 32 := 2#32
  let v243 : BitVec 32 := Scalar.addi v242 c2_i32
  let c256_i32_141 : BitVec 32 := 256#32
  let v320 : BitVec 32 := Scalar.muli v243 c256_i32_141
  let v321 : BitVec 32 := Scalar.addi c2816_i32_142 v320
  v321
def k0_mult23 : BitVec 32 :=
  let c0_i32_147 : BitVec 32 := 0#32
  let c0_i32_27 : BitVec 32 := 0#32
  let c10_i32_108 : BitVec 32 := 10#32
  let v242 : BitVec 32 := Scalar.muli c0_i32_27 c10_i32_108
  let c2_i32 : BitVec 32 := 2#32
  let v243 : BitVec 32 := Scalar.addi v242 c2_i32
  let c256_i32_146 : BitVec 32 := 256#32
  let v336 : BitVec 32 := Scalar.muli v243 c256_i32_146
  let v337 : BitVec 32 := Scalar.addi c0_i32_147 v336
  v337
def k0_mult24 : BitVec 32 :=
  let c0_i32_154 : BitVec 32 := 0#32
  let c0_i32_27 : BitVec 32 := 0#32
  let c10_i32_149 : BitVec 32 := 10#32
  let v343 : BitVec 32 := Scalar.muli c0_i32_27 c10_i32_149
  let c3_i32 : BitVec 32 := 3#32
  let v344 : BitVec 32 := Scalar.addi v343 c3_i32
  let c1_i32_150 : BitVec 32 := 1#32
  let v345 : BitVec 32 := Scalar.addi v344 c1_i32_150
  let c256_i32_153 : BitVec 32 := 256#32
  let v347 : BitVec 32 := Scalar.muli v345 c256_i32_153
  let v348 : BitVec 32 := Scalar.addi c0_i32_154 v347
  v348
def k0_mult25 : BitVec 32 :=
  let c2816_i32_160 : BitVec 32 := 2816#32
  let c0_i32_27 : BitVec 32 := 0#32
  let c10_i32_149 : BitVec 32 := 10#32
  let v343 : BitVec 32 := Scalar.muli c0_i32_27 c10_i32_149
  let c3_i32 : BitVec 32 := 3#32
  let v344 : BitVec 32 := Scalar.addi v343 c3_i32
  let c1_i32_150 : BitVec 32 := 1#32
  let v345 : BitVec 32 := Scalar.addi v344 c1_i32_150
  let c256_i32_159 : BitVec 32 := 256#32
  let v357 : BitVec 32 := Scalar.muli v345 c256_i32_159
  let v358 : BitVec 32 := Scalar.addi c2816_i32_160 v357
  v358
def k0_mult26 : BitVec 32 :=
  let c0_i32_166 : BitVec 32 := 0#32
  let c0_i32_27 : BitVec 32 := 0#32
  let c10_i32_149 : BitVec 32 := 10#32
  let v343 : BitVec 32 := Scalar.muli c0_i32_27 c10_i32_149
  let c3_i32 : BitVec 32 := 3#32
  let v344 : BitVec 32 := Scalar.addi v343 c3_i32
  let c256_i32_165 : BitVec 32 := 256#32
  let v367 : BitVec 32 := Scalar.muli v344 c256_i32_165
  let v368 : BitVec 32 := Scalar.addi c0_i32_166 v367
  v368
def k0_mult27 : BitVec 32 :=
  let c0_i32_173 : BitVec 32 := 0#32
  let c0_i32_27 : BitVec 32 := 0#32
  let c10_i32_149 : BitVec 32 := 10#32
  let v343 : BitVec 32 := Scalar.muli c0_i32_27 c10_i32_149
  let c3_i32 : BitVec 32 := 3#32
  let v344 : BitVec 32 := Scalar.addi v343 c3_i32
  let c256_i32_172 : BitVec 32 := 256#32
  let v390 : BitVec 32 := Scalar.muli v344 c256_i32_172
  let v391 : BitVec 32 := Scalar.addi c0_i32_173 v390
  v391
def k0_mult28 : BitVec 32 :=
  let c2816_i32_176 : BitVec 32 := 2816#32
  let c0_i32_27 : BitVec 32 := 0#32
  let c10_i32_149 : BitVec 32 := 10#32
  let v343 : BitVec 32 := Scalar.muli c0_i32_27 c10_i32_149
  let c3_i32 : BitVec 32 := 3#32
  let v344 : BitVec 32 := Scalar.addi v343 c3_i32
  let c256_i32_175 : BitVec 32 := 256#32
  let v398 : BitVec 32 := Scalar.muli v344 c256_i32_175
  let v399 : BitVec 32 := Scalar.addi c2816_i32_176 v398
  v399
def k0_mult29 : BitVec 32 :=
  let c2816_i32_183 : BitVec 32 := 2816#32
  let c0_i32_27 : BitVec 32 := 0#32
  let c10_i32_149 : BitVec 32 := 10#32
  let v343 : BitVec 32 := Scalar.muli c0_i32_27 c10_i32_149
  let c3_i32 : BitVec 32 := 3#32
  let v344 : BitVec 32 := Scalar.addi v343 c3_i32
  let c256_i32_182 : BitVec 32 := 256#32
  let v421 : BitVec 32 := Scalar.muli v344 c256_i32_182
  let v422 : BitVec 32 := Scalar.addi c2816_i32_183 v421
  v422
def k0_mult30 : BitVec 32 :=
  let c0_i32_188 : BitVec 32 := 0#32
  let c0_i32_27 : BitVec 32 := 0#32
  let c10_i32_149 : BitVec 32 := 10#32
  let v343 : BitVec 32 := Scalar.muli c0_i32_27 c10_i32_149
  let c3_i32 : BitVec 32 := 3#32
  let v344 : BitVec 32 := Scalar.addi v343 c3_i32
  let c256_i32_187 : BitVec 32 := 256#32
  let v437 : BitVec 32 := Scalar.muli v344 c256_i32_187
  let v438 : BitVec 32 := Scalar.addi c0_i32_188 v437
  v438
def k0_mult31 : BitVec 32 :=
  let c0_i32_195 : BitVec 32 := 0#32
  let c0_i32_27 : BitVec 32 := 0#32
  let c10_i32_190 : BitVec 32 := 10#32
  let v444 : BitVec 32 := Scalar.muli c0_i32_27 c10_i32_190
  let c4_i32 : BitVec 32 := 4#32
  let v445 : BitVec 32 := Scalar.addi v444 c4_i32
  let c1_i32_191 : BitVec 32 := 1#32
  let v446 : BitVec 32 := Scalar.addi v445 c1_i32_191
  let c256_i32_194 : BitVec 32 := 256#32
  let v448 : BitVec 32 := Scalar.muli v446 c256_i32_194
  let v449 : BitVec 32 := Scalar.addi c0_i32_195 v448
  v449
def k0_mult32 : BitVec 32 :=
  let c2816_i32_201 : BitVec 32 := 2816#32
  let c0_i32_27 : BitVec 32 := 0#32
  let c10_i32_190 : BitVec 32 := 10#32
  let v444 : BitVec 32 := Scalar.muli c0_i32_27 c10_i32_190
  let c4_i32 : BitVec 32 := 4#32
  let v445 : BitVec 32 := Scalar.addi v444 c4_i32
  let c1_i32_191 : BitVec 32 := 1#32
  let v446 : BitVec 32 := Scalar.addi v445 c1_i32_191
  let c256_i32_200 : BitVec 32 := 256#32
  let v458 : BitVec 32 := Scalar.muli v446 c256_i32_200
  let v459 : BitVec 32 := Scalar.addi c2816_i32_201 v458
  v459
def k0_mult33 : BitVec 32 :=
  let c0_i32_207 : BitVec 32 := 0#32
  let c0_i32_27 : BitVec 32 := 0#32
  let c10_i32_190 : BitVec 32 := 10#32
  let v444 : BitVec 32 := Scalar.muli c0_i32_27 c10_i32_190
  let c4_i32 : BitVec 32 := 4#32
  let v445 : BitVec 32 := Scalar.addi v444 c4_i32
  let c256_i32_206 : BitVec 32 := 256#32
  let v468 : BitVec 32 := Scalar.muli v445 c256_i32_206
  let v469 : BitVec 32 := Scalar.addi c0_i32_207 v468
  v469
def k0_mult34 : BitVec 32 :=
  let c0_i32_214 : BitVec 32 := 0#32
  let c0_i32_27 : BitVec 32 := 0#32
  let c10_i32_190 : BitVec 32 := 10#32
  let v444 : BitVec 32 := Scalar.muli c0_i32_27 c10_i32_190
  let c4_i32 : BitVec 32 := 4#32
  let v445 : BitVec 32 := Scalar.addi v444 c4_i32
  let c256_i32_213 : BitVec 32 := 256#32
  let v491 : BitVec 32 := Scalar.muli v445 c256_i32_213
  let v492 : BitVec 32 := Scalar.addi c0_i32_214 v491
  v492
def k0_mult35 : BitVec 32 :=
  let c2816_i32_217 : BitVec 32 := 2816#32
  let c0_i32_27 : BitVec 32 := 0#32
  let c10_i32_190 : BitVec 32 := 10#32
  let v444 : BitVec 32 := Scalar.muli c0_i32_27 c10_i32_190
  let c4_i32 : BitVec 32 := 4#32
  let v445 : BitVec 32 := Scalar.addi v444 c4_i32
  let c256_i32_216 : BitVec 32 := 256#32
  let v499 : BitVec 32 := Scalar.muli v445 c256_i32_216
  let v500 : BitVec 32 := Scalar.addi c2816_i32_217 v499
  v500
def k0_mult36 : BitVec 32 :=
  let c2816_i32_224 : BitVec 32 := 2816#32
  let c0_i32_27 : BitVec 32 := 0#32
  let c10_i32_190 : BitVec 32 := 10#32
  let v444 : BitVec 32 := Scalar.muli c0_i32_27 c10_i32_190
  let c4_i32 : BitVec 32 := 4#32
  let v445 : BitVec 32 := Scalar.addi v444 c4_i32
  let c256_i32_223 : BitVec 32 := 256#32
  let v522 : BitVec 32 := Scalar.muli v445 c256_i32_223
  let v523 : BitVec 32 := Scalar.addi c2816_i32_224 v522
  v523
def k0_mult37 : BitVec 32 :=
  let c0_i32_229 : BitVec 32 := 0#32
  let c0_i32_27 : BitVec 32 := 0#32
  let c10_i32_190 : BitVec 32 := 10#32
  let v444 : BitVec 32 := Scalar.muli c0_i32_27 c10_i32_190
  let c4_i32 : BitVec 32 := 4#32
  let v445 : BitVec 32 := Scalar.addi v444 c4_i32
  let c256_i32_228 : BitVec 32 := 256#32
  let v538 : BitVec 32 := Scalar.muli v445 c256_i32_228
  let v539 : BitVec 32 := Scalar.addi c0_i32_229 v538
  v539
def k0_mult38 : BitVec 32 :=
  let c0_i32_236 : BitVec 32 := 0#32
  let c0_i32_27 : BitVec 32 := 0#32
  let c10_i32_231 : BitVec 32 := 10#32
  let v545 : BitVec 32 := Scalar.muli c0_i32_27 c10_i32_231
  let c5_i32 : BitVec 32 := 5#32
  let v546 : BitVec 32 := Scalar.addi v545 c5_i32
  let c1_i32_232 : BitVec 32 := 1#32
  let v547 : BitVec 32 := Scalar.addi v546 c1_i32_232
  let c256_i32_235 : BitVec 32 := 256#32
  let v549 : BitVec 32 := Scalar.muli v547 c256_i32_235
  let v550 : BitVec 32 := Scalar.addi c0_i32_236 v549
  v550
def k0_mult39 : BitVec 32 :=
  let c2816_i32_242 : BitVec 32 := 2816#32
  let c0_i32_27 : BitVec 32 := 0#32
  let c10_i32_231 : BitVec 32 := 10#32
  let v545 : BitVec 32 := Scalar.muli c0_i32_27 c10_i32_231
  let c5_i32 : BitVec 32 := 5#32
  let v546 : BitVec 32 := Scalar.addi v545 c5_i32
  let c1_i32_232 : BitVec 32 := 1#32
  let v547 : BitVec 32 := Scalar.addi v546 c1_i32_232
  let c256_i32_241 : BitVec 32 := 256#32
  let v559 : BitVec 32 := Scalar.muli v547 c256_i32_241
  let v560 : BitVec 32 := Scalar.addi c2816_i32_242 v559
  v560
def k0_mult40 : BitVec 32 :=
  let c0_i32_248 : BitVec 32 := 0#32
  let c0_i32_27 : BitVec 32 := 0#32
  let c10_i32_231 : BitVec 32 := 10#32
  let v545 : BitVec 32 := Scalar.muli c0_i32_27 c10_i32_231
  let c5_i32 : BitVec 32 := 5#32
  let v546 : BitVec 32 := Scalar.addi v545 c5_i32
  let c256_i32_247 : BitVec 32 := 256#32
  let v569 : BitVec 32 := Scalar.muli v546 c256_i32_247
  let v570 : BitVec 32 := Scalar.addi c0_i32_248 v569
  v570
def k0_mult41 : BitVec 32 :=
  let c0_i32_255 : BitVec 32 := 0#32
  let c0_i32_27 : BitVec 32 := 0#32
  let c10_i32_231 : BitVec 32 := 10#32
  let v545 : BitVec 32 := Scalar.muli c0_i32_27 c10_i32_231
  let c5_i32 : BitVec 32 := 5#32
  let v546 : BitVec 32 := Scalar.addi v545 c5_i32
  let c256_i32_254 : BitVec 32 := 256#32
  let v592 : BitVec 32 := Scalar.muli v546 c256_i32_254
  let v593 : BitVec 32 := Scalar.addi c0_i32_255 v592
  v593
def k0_mult42 : BitVec 32 :=
  let c2816_i32_258 : BitVec 32 := 2816#32
  let c0_i32_27 : BitVec 32 := 0#32
  let c10_i32_231 : BitVec 32 := 10#32
  let v545 : BitVec 32 := Scalar.muli c0_i32_27 c10_i32_231
  let c5_i32 : BitVec 32 := 5#32
  let v546 : BitVec 32 := Scalar.addi v545 c5_i32
  let c256_i32_257 : BitVec 32 := 256#32
  let v600 : BitVec 32 := Scalar.muli v546 c256_i32_257
  let v601 : BitVec 32 := Scalar.addi c2816_i32_258 v600
  v601
def k0_mult43 : BitVec 32 :=
  let c2816_i32_265 : BitVec 32 := 2816#32
  let c0_i32_27 : BitVec 32 := 0#32
  let c10_i32_231 : BitVec 32 := 10#32
  let v545 : BitVec 32 := Scalar.muli c0_i32_27 c10_i32_231
  let c5_i32 : BitVec 32 := 5#32
  let v546 : BitVec 32 := Scalar.addi v545 c5_i32
  let c256_i32_264 : BitVec 32 := 256#32
  let v623 : BitVec 32 := Scalar.muli v546 c256_i32_264
  let v624 : BitVec 32 := Scalar.addi c2816_i32_265 v623
  v624
def k0_mult44 : BitVec 32 :=
  let c0_i32_270 : BitVec 32 := 0#32
  let c0_i32_27 : BitVec 32 := 0#32
  let c10_i32_231 : BitVec 32 := 10#32
  let v545 : BitVec 32 := Scalar.muli c0_i32_27 c10_i32_231
  let c5_i32 : BitVec 32 := 5#32
  let v546 : BitVec 32 := Scalar.addi v545 c5_i32
  let c256_i32_269 : BitVec 32 := 256#32
  let v639 : BitVec 32 := Scalar.muli v546 c256_i32_269
  let v640 : BitVec 32 := Scalar.addi c0_i32_270 v639
  v640
def k0_mult45 : BitVec 32 :=
  let c0_i32_277 : BitVec 32 := 0#32
  let c0_i32_27 : BitVec 32 := 0#32
  let c10_i32_272 : BitVec 32 := 10#32
  let v646 : BitVec 32 := Scalar.muli c0_i32_27 c10_i32_272
  let c6_i32 : BitVec 32 := 6#32
  let v647 : BitVec 32 := Scalar.addi v646 c6_i32
  let c1_i32_273 : BitVec 32 := 1#32
  let v648 : BitVec 32 := Scalar.addi v647 c1_i32_273
  let c256_i32_276 : BitVec 32 := 256#32
  let v650 : BitVec 32 := Scalar.muli v648 c256_i32_276
  let v651 : BitVec 32 := Scalar.addi c0_i32_277 v650
  v651
def k0_mult46 : BitVec 32 :=
  let c2816_i32_283 : BitVec 32 := 2816#32
  let c0_i32_27 : BitVec 32 := 0#32
  let c10_i32_272 : BitVec 32 := 10#32
  let v646 : BitVec 32 := Scalar.muli c0_i32_27 c10_i32_272
  let c6_i32 : BitVec 32 := 6#32
  let v647 : BitVec 32 := Scalar.addi v646 c6_i32
  let c1_i32_273 : BitVec 32 := 1#32
  let v648 : BitVec 32 := Scalar.addi v647 c1_i32_273
  let c256_i32_282 : BitVec 32 := 256#32
  let v660 : BitVec 32 := Scalar.muli v648 c256_i32_282
  let v661 : BitVec 32 := Scalar.addi c2816_i32_283 v660
  v661
def k0_mult47 : BitVec 32 :=
  let c0_i32_289 : BitVec 32 := 0#32
  let c0_i32_27 : BitVec 32 := 0#32
  let c10_i32_272 : BitVec 32 := 10#32
  let v646 : BitVec 32 := Scalar.muli c0_i32_27 c10_i32_272
  let c6_i32 : BitVec 32 := 6#32
  let v647 : BitVec 32 := Scalar.addi v646 c6_i32
  let c256_i32_288 : BitVec 32 := 256#32
  let v670 : BitVec 32 := Scalar.muli v647 c256_i32_288
  let v671 : BitVec 32 := Scalar.addi c0_i32_289 v670
  v671
def k0_mult48 : BitVec 32 :=
  let c0_i32_296 : BitVec 32 := 0#32
  let c0_i32_27 : BitVec 32 := 0#32
  let c10_i32_272 : BitVec 32 := 10#32
  let v646 : BitVec 32 := Scalar.muli c0_i32_27 c10_i32_272
  let c6_i32 : BitVec 32 := 6#32
  let v647 : BitVec 32 := Scalar.addi v646 c6_i32
  let c256_i32_295 : BitVec 32 := 256#32
  let v693 : BitVec 32 := Scalar.muli v647 c256_i32_295
  let v694 : BitVec 32 := Scalar.addi c0_i32_296 v693
  v694
def k0_mult49 : BitVec 32 :=
  let c2816_i32_299 : BitVec 32 := 2816#32
  let c0_i32_27 : BitVec 32 := 0#32
  let c10_i32_272 : BitVec 32 := 10#32
  let v646 : BitVec 32 := Scalar.muli c0_i32_27 c10_i32_272
  let c6_i32 : BitVec 32 := 6#32
  let v647 : BitVec 32 := Scalar.addi v646 c6_i32
  let c256_i32_298 : BitVec 32 := 256#32
  let v701 : BitVec 32 := Scalar.muli v647 c256_i32_298
  let v702 : BitVec 32 := Scalar.addi c2816_i32_299 v701
  v702
def k0_mult50 : BitVec 32 :=
  let c2816_i32_306 : BitVec 32 := 2816#32
  let c0_i32_27 : BitVec 32 := 0#32
  let c10_i32_272 : BitVec 32 := 10#32
  let v646 : BitVec 32 := Scalar.muli c0_i32_27 c10_i32_272
  let c6_i32 : BitVec 32 := 6#32
  let v647 : BitVec 32 := Scalar.addi v646 c6_i32
  let c256_i32_305 : BitVec 32 := 256#32
  let v724 : BitVec 32 := Scalar.muli v647 c256_i32_305
  let v725 : BitVec 32 := Scalar.addi c2816_i32_306 v724
  v725
def k0_mult51 : BitVec 32 :=
  let c0_i32_311 : BitVec 32 := 0#32
  let c0_i32_27 : BitVec 32 := 0#32
  let c10_i32_272 : BitVec 32 := 10#32
  let v646 : BitVec 32 := Scalar.muli c0_i32_27 c10_i32_272
  let c6_i32 : BitVec 32 := 6#32
  let v647 : BitVec 32 := Scalar.addi v646 c6_i32
  let c256_i32_310 : BitVec 32 := 256#32
  let v740 : BitVec 32 := Scalar.muli v647 c256_i32_310
  let v741 : BitVec 32 := Scalar.addi c0_i32_311 v740
  v741
def k0_mult52 : BitVec 32 :=
  let c0_i32_318 : BitVec 32 := 0#32
  let c0_i32_27 : BitVec 32 := 0#32
  let c10_i32_313 : BitVec 32 := 10#32
  let v747 : BitVec 32 := Scalar.muli c0_i32_27 c10_i32_313
  let c7_i32 : BitVec 32 := 7#32
  let v748 : BitVec 32 := Scalar.addi v747 c7_i32
  let c1_i32_314 : BitVec 32 := 1#32
  let v749 : BitVec 32 := Scalar.addi v748 c1_i32_314
  let c256_i32_317 : BitVec 32 := 256#32
  let v751 : BitVec 32 := Scalar.muli v749 c256_i32_317
  let v752 : BitVec 32 := Scalar.addi c0_i32_318 v751
  v752
def k0_mult53 : BitVec 32 :=
  let c2816_i32_324 : BitVec 32 := 2816#32
  let c0_i32_27 : BitVec 32 := 0#32
  let c10_i32_313 : BitVec 32 := 10#32
  let v747 : BitVec 32 := Scalar.muli c0_i32_27 c10_i32_313
  let c7_i32 : BitVec 32 := 7#32
  let v748 : BitVec 32 := Scalar.addi v747 c7_i32
  let c1_i32_314 : BitVec 32 := 1#32
  let v749 : BitVec 32 := Scalar.addi v748 c1_i32_314
  let c256_i32_323 : BitVec 32 := 256#32
  let v761 : BitVec 32 := Scalar.muli v749 c256_i32_323
  let v762 : BitVec 32 := Scalar.addi c2816_i32_324 v761
  v762
def k0_mult54 : BitVec 32 :=
  let c0_i32_330 : BitVec 32 := 0#32
  let c0_i32_27 : BitVec 32 := 0#32
  let c10_i32_313 : BitVec 32 := 10#32
  let v747 : BitVec 32 := Scalar.muli c0_i32_27 c10_i32_313
  let c7_i32 : BitVec 32 := 7#32
  let v748 : BitVec 32 := Scalar.addi v747 c7_i32
  let c256_i32_329 : BitVec 32 := 256#32
  let v771 : BitVec 32 := Scalar.muli v748 c256_i32_329
  let v772 : BitVec 32 := Scalar.addi c0_i32_330 v771
  v772
def k0_mult55 : BitVec 32 :=
  let c0_i32_337 : BitVec 32 := 0#32
  let c0_i32_27 : BitVec 32 := 0#32
  let c10_i32_313 : BitVec 32 := 10#32
  let v747 : BitVec 32 := Scalar.muli c0_i32_27 c10_i32_313
  let c7_i32 : BitVec 32 := 7#32
  let v748 : BitVec 32 := Scalar.addi v747 c7_i32
  let c256_i32_336 : BitVec 32 := 256#32
  let v794 : BitVec 32 := Scalar.muli v748 c256_i32_336
  let v795 : BitVec 32 := Scalar.addi c0_i32_337 v794
  v795
def k0_mult56 : BitVec 32 :=
  let c2816_i32_340 : BitVec 32 := 2816#32
  let c0_i32_27 : BitVec 32 := 0#32
  let c10_i32_313 : BitVec 32 := 10#32
  let v747 : BitVec 32 := Scalar.muli c0_i32_27 c10_i32_313
  let c7_i32 : BitVec 32 := 7#32
  let v748 : BitVec 32 := Scalar.addi v747 c7_i32
  let c256_i32_339 : BitVec 32 := 256#32
  let v802 : BitVec 32 := Scalar.muli v748 c256_i32_339
  let v803 : BitVec 32 := Scalar.addi c2816_i32_340 v802
  v803
def k0_mult57 : BitVec 32 :=
  let c2816_i32_347 : BitVec 32 := 2816#32
  let c0_i32_27 : BitVec 32 := 0#32
  let c10_i32_313 : BitVec 32 := 10#32
  let v747 : BitVec 32 := Scalar.muli c0_i32_27 c10_i32_313
  let c7_i32 : BitVec 32 := 7#32
  let v748 : BitVec 32 := Scalar.addi v747 c7_i32
  let c256_i32_346 : BitVec 32 := 256#32
  let v825 : BitVec 32 := Scalar.muli v748 c256_i32_346
  let v826 : BitVec 32 := Scalar.addi c2816_i32_347 v825
  v826
def k0_mult58 : BitVec 32 :=
  let c0_i32_352 : BitVec 32 := 0#32
  let c0_i32_27 : BitVec 32 := 0#32
  let c10_i32_313 : BitVec 32 := 10#32
  let v747 : BitVec 32 := Scalar.muli c0_i32_27 c10_i32_313
  let c7_i32 : BitVec 32 := 7#32
  let v748 : BitVec 32 := Scalar.addi v747 c7_i32
  let c256_i32_351 : BitVec 32 := 256#32
  let v841 : BitVec 32 := Scalar.muli v748 c256_i32_351
  let v842 : BitVec 32 := Scalar.addi c0_i32_352 v841
  v842
def k0_mult59 : BitVec 32 :=
  let c0_i32_359 : BitVec 32 := 0#32
  let c0_i32_27 : BitVec 32 := 0#32
  let c10_i32_354 : BitVec 32 := 10#32
  let v848 : BitVec 32 := Scalar.muli c0_i32_27 c10_i32_354
  let c8_i32 : BitVec 32 := 8#32
  let v849 : BitVec 32 := Scalar.addi v848 c8_i32
  let c1_i32_355 : BitVec 32 := 1#32
  let v850 : BitVec 32 := Scalar.addi v849 c1_i32_355
  let c256_i32_358 : BitVec 32 := 256#32
  let v852 : BitVec 32 := Scalar.muli v850 c256_i32_358
  let v853 : BitVec 32 := Scalar.addi c0_i32_359 v852
  v853
def k0_mult60 : BitVec 32 :=
  let c2816_i32_365 : BitVec 32 := 2816#32
  let c0_i32_27 : BitVec 32 := 0#32
  let c10_i32_354 : BitVec 32 := 10#32
  let v848 : BitVec 32 := Scalar.muli c0_i32_27 c10_i32_354
  let c8_i32 : BitVec 32 := 8#32
  let v849 : BitVec 32 := Scalar.addi v848 c8_i32
  let c1_i32_355 : BitVec 32 := 1#32
  let v850 : BitVec 32 := Scalar.addi v849 c1_i32_355
  let c256_i32_364 : BitVec 32 := 256#32
  let v862 : BitVec 32 := Scalar.muli v850 c256_i32_364
  let v863 : BitVec 32 := Scalar.addi c2816_i32_365 v862
  v863
def k0_mult61 : BitVec 32 :=
  let c0_i32_371 : BitVec 32 := 0#32
  let c0_i32_27 : BitVec 32 := 0#32
  let c10_i32_354 : BitVec 32 := 10#32
  let v848 : BitVec 32 := Scalar.muli c0_i32_27 c10_i32_354
  let c8_i32 : BitVec 32 := 8#32
  let v849 : BitVec 32 := Scalar.addi v848 c8_i32
  let c256_i32_370 : BitVec 32 := 256#32
  let v872 : BitVec 32 := Scalar.muli v849 c256_i32_370
  let v873 : BitVec 32 := Scalar.addi c0_i32_371 v872
  v873
def k0_mult62 : BitVec 32 :=
  let c0_i32_378 : BitVec 32 := 0#32
  let c0_i32_27 : BitVec 32 := 0#32
  let c10_i32_354 : BitVec 32 := 10#32
  let v848 : BitVec 32 := Scalar.muli c0_i32_27 c10_i32_354
  let c8_i32 : BitVec 32 := 8#32
  let v849 : BitVec 32 := Scalar.addi v848 c8_i32
  let c256_i32_377 : BitVec 32 := 256#32
  let v895 : BitVec 32 := Scalar.muli v849 c256_i32_377
  let v896 : BitVec 32 := Scalar.addi c0_i32_378 v895
  v896
def k0_mult63 : BitVec 32 :=
  let c2816_i32_381 : BitVec 32 := 2816#32
  let c0_i32_27 : BitVec 32 := 0#32
  let c10_i32_354 : BitVec 32 := 10#32
  let v848 : BitVec 32 := Scalar.muli c0_i32_27 c10_i32_354
  let c8_i32 : BitVec 32 := 8#32
  let v849 : BitVec 32 := Scalar.addi v848 c8_i32
  let c256_i32_380 : BitVec 32 := 256#32
  let v903 : BitVec 32 := Scalar.muli v849 c256_i32_380
  let v904 : BitVec 32 := Scalar.addi c2816_i32_381 v903
  v904
def k0_mult64 : BitVec 32 :=
  let c2816_i32_388 : BitVec 32 := 2816#32
  let c0_i32_27 : BitVec 32 := 0#32
  let c10_i32_354 : BitVec 32 := 10#32
  let v848 : BitVec 32 := Scalar.muli c0_i32_27 c10_i32_354
  let c8_i32 : BitVec 32 := 8#32
  let v849 : BitVec 32 := Scalar.addi v848 c8_i32
  let c256_i32_387 : BitVec 32 := 256#32
  let v926 : BitVec 32 := Scalar.muli v849 c256_i32_387
  let v927 : BitVec 32 := Scalar.addi c2816_i32_388 v926
  v927
def k0_mult65 : BitVec 32 :=
  let c0_i32_393 : BitVec 32 := 0#32
  let c0_i32_27 : BitVec 32 := 0#32
  let c10_i32_354 : BitVec 32 := 10#32
  let v848 : BitVec 32 := Scalar.muli c0_i32_27 c10_i32_354
  let c8_i32 : BitVec 32 := 8#32
  let v849 : BitVec 32 := Scalar.addi v848 c8_i32
  let c256_i32_392 : BitVec 32 := 256#32
  let v942 : BitVec 32 := Scalar.muli v849 c256_i32_392
  let v943 : BitVec 32 := Scalar.addi c0_i32_393 v942
  v943
def k0_mult66 : BitVec 32 :=
  let c0_i32_400 : BitVec 32 := 0#32
  let c0_i32_27 : BitVec 32 := 0#32
  let c10_i32_395 : BitVec 32 := 10#32
  let v949 : BitVec 32 := Scalar.muli c0_i32_27 c10_i32_395
  let c9_i32 : BitVec 32 := 9#32
  let v950 : BitVec 32 := Scalar.addi v949 c9_i32
  let c1_i32_396 : BitVec 32 := 1#32
  let v951 : BitVec 32 := Scalar.addi v950 c1_i32_396
  let c256_i32_399 : BitVec 32 := 256#32
  let v953 : BitVec 32 := Scalar.muli v951 c256_i32_399
  let v954 : BitVec 32 := Scalar.addi c0_i32_400 v953
  v954
def k0_mult67 : BitVec 32 :=
  let c2816_i32_406 : BitVec 32 := 2816#32
  let c0_i32_27 : BitVec 32 := 0#32
  let c10_i32_395 : BitVec 32 := 10#32
  let v949 : BitVec 32 := Scalar.muli c0_i32_27 c10_i32_395
  let c9_i32 : BitVec 32 := 9#32
  let v950 : BitVec 32 := Scalar.addi v949 c9_i32
  let c1_i32_396 : BitVec 32 := 1#32
  let v951 : BitVec 32 := Scalar.addi v950 c1_i32_396
  let c256_i32_405 : BitVec 32 := 256#32
  let v963 : BitVec 32 := Scalar.muli v951 c256_i32_405
  let v964 : BitVec 32 := Scalar.addi c2816_i32_406 v963
  v964
def k0_mult68 : BitVec 32 :=
  let c0_i32_412 : BitVec 32 := 0#32
  let c0_i32_27 : BitVec 32 := 0#32
  let c10_i32_395 : BitVec 32 := 10#32
  let v949 : BitVec 32 := Scalar.muli c0_i32_27 c10_i32_395
  let c9_i32 : BitVec 32 := 9#32
  let v950 : BitVec 32 := Scalar.addi v949 c9_i32
  let c256_i32_411 : BitVec 32 := 256#32
  let v973 : BitVec 32 := Scalar.muli v950 c256_i32_411
  let v974 : BitVec 32 := Scalar.addi c0_i32_412 v973
  v974
def k0_mult69 : BitVec 32 :=
  let c0_i32_419 : BitVec 32 := 0#32
  let c0_i32_27 : BitVec 32 := 0#32
  let c10_i32_395 : BitVec 32 := 10#32
  let v949 : BitVec 32 := Scalar.muli c0_i32_27 c10_i32_395
  let c9_i32 : BitVec 32 := 9#32
  let v950 : BitVec 32 := Scalar.addi v949 c9_i32
  let c256_i32_418 : BitVec 32 := 256#32
  let v996 : BitVec 32 := Scalar.muli v950 c256_i32_418
  let v997 : BitVec 32 := Scalar.addi c0_i32_419 v996
  v997
def k0_mult70 : BitVec 32 :=
  let c2816_i32_422 : BitVec 32 := 2816#32
  let c0_i32_27 : BitVec 32 := 0#32
  let c10_i32_395 : BitVec 32 := 10#32
  let v949 : BitVec 32 := Scalar.muli c0_i32_27 c10_i32_395
  let c9_i32 : BitVec 32 := 9#32
  let v950 : BitVec 32 := Scalar.addi v949 c9_i32
  let c256_i32_421 : BitVec 32 := 256#32
  let v1004 : BitVec 32 := Scalar.muli v950 c256_i32_421
  let v1005 : BitVec 32 := Scalar.addi c2816_i32_422 v1004
  v1005
def k0_mult71 : BitVec 32 :=
  let c2816_i32_429 : BitVec 32 := 2816#32
  let c0_i32_27 : BitVec 32 := 0#32
  let c10_i32_395 : BitVec 32 := 10#32
  let v949 : BitVec 32 := Scalar.muli c0_i32_27 c10_i32_395
  let c9_i32 : BitVec 32 := 9#32
  let v950 : BitVec 32 := Scalar.addi v949 c9_i32
  let c256_i32_428 : BitVec 32 := 256#32
  let v1027 : BitVec 32 := Scalar.muli v950 c256_i32_428
  let v1028 : BitVec 32 := Scalar.addi c2816_i32_429 v1027
  v1028
def k0_mult72 : BitVec 32 :=
  let c0_i32_434 : BitVec 32 := 0#32
  let c0_i32_27 : BitVec 32 := 0#32
  let c10_i32_395 : BitVec 32 := 10#32
  let v949 : BitVec 32 := Scalar.muli c0_i32_27 c10_i32_395
  let c9_i32 : BitVec 32 := 9#32
  let v950 : BitVec 32 := Scalar.addi v949 c9_i32
  let c256_i32_433 : BitVec 32 := 256#32
  let v1043 : BitVec 32 := Scalar.muli v950 c256_i32_433
  let v1044 : BitVec 32 := Scalar.addi c0_i32_434 v1043
  v1044
def k0_mult73 : BitVec 32 :=
  let c2560_i32 : BitVec 32 := 2560#32
  c2560_i32
def k0_mult74 : BitVec 32 :=
  let c2560_i32_442 : BitVec 32 := 2560#32
  c2560_i32_442
def k0_mult75 : BitVec 32 :=
  let c5376_i32 : BitVec 32 := 5376#32
  c5376_i32
def k0_mult76 : BitVec 32 :=
  let c5376_i32_449 : BitVec 32 := 5376#32
  c5376_i32_449
def k0_mult77 : BitVec 32 :=
  let c2560_i32_453 : BitVec 32 := 2560#32
  c2560_i32_453
def cc0_transform_0 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x6x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S4x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference3Ideal.lean ====
abbrev S2x16384x1024 : Shape := ⟨3, ![2, 16384, 1024]⟩
abbrev S2x2x6144 : Shape := ⟨3, ![2, 2, 6144]⟩
abbrev S2x4x1024 : Shape := ⟨3, ![2, 4, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1x2x6144 : Shape := ⟨3, ![1, 2, 6144]⟩
abbrev S2x6144 : Shape := ⟨2, ![2, 6144]⟩
abbrev S2x1x6144 : Shape := ⟨3, ![2, 1, 6144]⟩
abbrev S2x1x1024 : Shape := ⟨3, ![2, 1, 1024]⟩
abbrev S1x1024x5632 : Shape := ⟨3, ![1, 1024, 5632]⟩
abbrev S1024x5632 : Shape := ⟨2, ![1024, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x2816x1024 : Shape := ⟨3, ![1, 2816, 1024]⟩
abbrev S2816x1024 : Shape := ⟨2, ![2816, 1024]⟩
abbrev S2x16384x5632 : Shape := ⟨3, ![2, 16384, 5632]⟩
abbrev S_ : Shape := ⟨0, ![]⟩
abbrev S2x16386x5632 : Shape := ⟨3, ![2, 16386, 5632]⟩
abbrev S1x1x5632 : Shape := ⟨3, ![1, 1, 5632]⟩
abbrev S2x16384x2816 : Shape := ⟨3, ![2, 16384, 2816]⟩
abbrev S1x1x1024 : Shape := ⟨3, ![1, 1, 1024]⟩
abbrev S1024 : Shape := ⟨1, ![1024]⟩
abbrev S2x16384 : Shape := ⟨2, ![2, 16384]⟩
abbrev S2x16384x1 : Shape := ⟨3, ![2, 16384, 1]⟩

abbrev nBuf : Space → Nat
  | .hbm => 123
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x2x6144, .f32⟩
  | .hbm, ⟨3, _⟩ => ⟨S2x4x1024, .f32⟩
  | .hbm, ⟨4, _⟩ => ⟨S2x1024x5632, .f32⟩
  | .hbm, ⟨5, _⟩ => ⟨S2x3x5632, .f32⟩
  | .hbm, ⟨6, _⟩ => ⟨S2x5632, .f32⟩
  | .hbm, ⟨7, _⟩ => ⟨S2x2816x1024, .f32⟩
  | .hbm, ⟨8, _⟩ => ⟨S1x2x6144, .f32⟩
  | .hbm, ⟨9, _⟩ => ⟨S2x6144, .f32⟩
  | .hbm, ⟨10, _⟩ => ⟨S2x1x6144, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .hbm, ⟨17, _⟩ => ⟨S1x2x6144, .f32⟩
  | .hbm, ⟨18, _⟩ => ⟨S2x6144, .f32⟩
  | .hbm, ⟨19, _⟩ => ⟨S2x1x6144, .f32⟩
  | .hbm, ⟨20, _⟩ => ⟨S2x1x1024, .f32⟩
  | .hbm, ⟨21, _⟩ => ⟨S2x1x1024, .f32⟩
  | .hbm, ⟨22, _⟩ => ⟨S2x1x1024, .f32⟩
  | .hbm, ⟨23, _⟩ => ⟨S2x1x1024, .f32⟩
  | .hbm, ⟨24, _⟩ => ⟨S2x1x1024, .f32⟩
  | .hbm, ⟨25, _⟩ => ⟨S2x1x1024, .f32⟩
  | .hbm, ⟨26, _⟩ => ⟨S2x16384x1024, .bf16⟩
  | .hbm, ⟨27, _⟩ => ⟨S2x16384x1024, .f32⟩
  | .hbm, ⟨28, _⟩ => ⟨S1x1024x5632, .f32⟩
  | .hbm, ⟨29, _⟩ => ⟨S1024x5632, .f32⟩
  | .hbm, ⟨30, _⟩ => ⟨S1x3x5632, .f32⟩
  | .hbm, ⟨31, _⟩ => ⟨S3x5632, .f32⟩
  | .hbm, ⟨32, _⟩ => ⟨S1x5632, .f32⟩
  | .hbm, ⟨33, _⟩ => ⟨S5632, .f32⟩
  | .hbm, ⟨34, _⟩ => ⟨S1x2816x1024, .f32⟩
  | .hbm, ⟨35, _⟩ => ⟨S2816x1024, .f32⟩
  | .hbm, ⟨36, _⟩ => ⟨S2x16384x5632, .f32⟩
  | .hbm, ⟨37, _⟩ => ⟨S_, .i32⟩
  | .hbm, ⟨38, _⟩ => ⟨S_, .f32⟩
  | .hbm, ⟨39, _⟩ => ⟨S2x16386x5632, .f32⟩
  | .hbm, ⟨40, _⟩ => ⟨S2x16384x5632, .f32⟩
  | .hbm, ⟨41, _⟩ => ⟨S1x5632, .f32⟩
  | .hbm, ⟨42, _⟩ => ⟨S5632, .f32⟩
  | .hbm, ⟨43, _⟩ => ⟨S1x1x5632, .f32⟩
  | .hbm, ⟨44, _⟩ => ⟨S2x16384x5632, .f32⟩
  | .hbm, ⟨45, _⟩ => ⟨S2x16384x5632, .f32⟩
  | .hbm, ⟨46, _⟩ => ⟨S2x16384x5632, .f32⟩
  | .hbm, ⟨47, _⟩ => ⟨S1x5632, .f32⟩
  | .hbm, ⟨48, _⟩ => ⟨S5632, .f32⟩
  | .hbm, ⟨49, _⟩ => ⟨S1x1x5632, .f32⟩
  | .hbm, ⟨50, _⟩ => ⟨S2x16384x5632, .f32⟩
  | .hbm, ⟨51, _⟩ => ⟨S2x16384x5632, .f32⟩
  | .hbm, ⟨52, _⟩ => ⟨S2x16384x5632, .f32⟩
  | .hbm, ⟨53, _⟩ => ⟨S2x16384x5632, .f32⟩
  | .hbm, ⟨54, _⟩ => ⟨S1x5632, .f32⟩
  | .hbm, ⟨55, _⟩ => ⟨S5632, .f32⟩
  | .hbm, ⟨56, _⟩ => ⟨S1x1x5632, .f32⟩
  | .hbm, ⟨57, _⟩ => ⟨S2x16384x5632, .f32⟩
  | .hbm, ⟨58, _⟩ => ⟨S2x16384x5632, .f32⟩
  | .hbm, ⟨59, _⟩ => ⟨S2x16384x5632, .f32⟩
  | .hbm, ⟨60, _⟩ => ⟨S1x1x5632, .f32⟩
  | .hbm, ⟨61, _⟩ => ⟨S2x16384x5632, .f32⟩
  | .hbm, ⟨62, _⟩ => ⟨S2x16384x5632, .f32⟩
  | .hbm, ⟨63, _⟩ => ⟨S2x16384x2816, .f32⟩
  | .hbm, ⟨64, _⟩ => ⟨S2x16384x2816, .f32⟩
  | .hbm, ⟨65, _⟩ => ⟨S2x16384x2816, .f32⟩
  | .hbm, ⟨66, _⟩ => ⟨S2x16384x2816, .f32⟩
  | .hbm, ⟨67, _⟩ => ⟨S_, .f32⟩
  | .hbm, ⟨68, _⟩ => ⟨S2x16384x2816, .f32⟩
  | .hbm, ⟨69, _⟩ => ⟨S2x16384x2816, .f32⟩
  | .hbm, ⟨70, _⟩ => ⟨S_, .f32⟩
  | .hbm, ⟨71, _⟩ => ⟨S2x16384x2816, .f32⟩
  | .hbm, ⟨72, _⟩ => ⟨S2x16384x2816, .f32⟩
  | .hbm, ⟨73, _⟩ => ⟨S2x16384x2816, .f32⟩
  | .hbm, ⟨74, _⟩ => ⟨S2x16384x2816, .f32⟩
  | .hbm, ⟨75, _⟩ => ⟨S2x16384x1024, .f32⟩
  | .hbm, ⟨76, _⟩ => ⟨S1x1x1024, .f32⟩
  | .hbm, ⟨77, _⟩ => ⟨S1024, .f32⟩
  | .hbm, ⟨78, _⟩ => ⟨S2x16384x1024, .f32⟩
  | .hbm, ⟨79, _⟩ => ⟨S_, .f32⟩
  | .hbm, ⟨80, _⟩ => ⟨S2x16384, .f32⟩
  | .hbm, ⟨81, _⟩ => ⟨S2x16384x1, .f32⟩
  | .hbm, ⟨82, _⟩ => ⟨S_, .f32⟩
  | .hbm, ⟨83, _⟩ => ⟨S2x16384x1, .f32⟩
  | .hbm, ⟨84, _⟩ => ⟨S2x16384x1, .f32⟩
  | .hbm, ⟨85, _⟩ => ⟨S_, .f32⟩
  | .hbm, ⟨86, _⟩ => ⟨S2x16384x1, .f32⟩
  | .hbm, ⟨87, _⟩ => ⟨S2x16384x1, .f32⟩
  | .hbm, ⟨88, _⟩ => ⟨S2x16384x1, .f32⟩
  | .hbm, ⟨89, _⟩ => ⟨S2x16384x1024, .f32⟩
  | .hbm, ⟨90, _⟩ => ⟨S2x16384x1024, .f32⟩
  | .hbm, ⟨91, _⟩ => ⟨S1x1x1024, .f32⟩
  | .hbm, ⟨92, _⟩ => ⟨S2x16384x1024, .f32⟩
  | .hbm, ⟨93, _⟩ => ⟨S2x16384x1024, .f32⟩
  | .hbm, ⟨94, _⟩ => ⟨S2x16384x1024, .f32⟩
  | .hbm, ⟨95, _⟩ => ⟨S2x16384x1024, .f32⟩
  | .hbm, ⟨96, _⟩ => ⟨S2x16384x1024, .f32⟩
  | .hbm, ⟨97, _⟩ => ⟨S1x1x1024, .f32⟩
  | .hbm, ⟨98, _⟩ => ⟨S1024, .f32⟩
  | .hbm, ⟨99, _⟩ => ⟨S2x16384x1024, .f32⟩
  | .hbm, ⟨100, _⟩ => ⟨S_, .f32⟩
  | .hbm, ⟨101, _⟩ => ⟨S2x16384, .f32⟩
  | .hbm, ⟨102, _⟩ => ⟨S2x16384x1, .f32⟩
  | .hbm, ⟨103, _⟩ => ⟨S_, .f32⟩
  | .hbm, ⟨104, _⟩ => ⟨S2x16384x1, .f32⟩
  | .hbm, ⟨105, _⟩ => ⟨S2x16384x1, .f32⟩
  | .hbm, ⟨106, _⟩ => ⟨S_, .f32⟩
  | .hbm, ⟨107, _⟩ => ⟨S2x16384x1, .f32⟩
  | .hbm, ⟨108, _⟩ => ⟨S2x16384x1, .f32⟩
  | .hbm, ⟨109, _⟩ => ⟨S2x16384x1, .f32⟩
  | .hbm, ⟨110, _⟩ => ⟨S2x16384x1024, .f32⟩
  | .hbm, ⟨111, _⟩ => ⟨S2x16384x1024, .f32⟩
  | .hbm, ⟨112, _⟩ => ⟨S1x1x1024, .f32⟩
  | .hbm, ⟨113, _⟩ => ⟨S2x16384x1024, .f32⟩
  | .hbm, ⟨114, _⟩ => ⟨S2x16384x1024, .f32⟩
  | .hbm, ⟨115, _⟩ => ⟨S_, .f32⟩
  | .hbm, ⟨116, _⟩ => ⟨S2x1x1024, .f32⟩
  | .hbm, ⟨117, _⟩ => ⟨S2x1x1024, .f32⟩
  | .hbm, ⟨118, _⟩ => ⟨S2x16384x1024, .f32⟩
  | .hbm, ⟨119, _⟩ => ⟨S2x16384x1024, .f32⟩
  | .hbm, ⟨120, _⟩ => ⟨S2x16384x1024, .f32⟩
  | .hbm, ⟨121, _⟩ => ⟨S2x16384x1024, .f32⟩
  | .hbm, ⟨122, _⟩ => ⟨S2x16384x1024, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c : Ref sig .tc := ⟨.hbm, 37, rfl⟩
abbrev main_call0_v0 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_call1_v0 : Ref sig .tc := ⟨.hbm, 65, rfl⟩
abbrev main_call1_v1 : Ref sig .tc := ⟨.hbm, 66, rfl⟩
abbrev main_call1_cst : Ref sig .tc := ⟨.hbm, 67, rfl⟩
abbrev main_call1_v2 : Ref sig .tc := ⟨.hbm, 68, rfl⟩
abbrev main_call1_v3 : Ref sig .tc := ⟨.hbm, 69, rfl⟩
abbrev main_call1_cst_0 : Ref sig .tc := ⟨.hbm, 70, rfl⟩
abbrev main_call1_v4 : Ref sig .tc := ⟨.hbm, 71, rfl⟩
abbrev main_call1_v5 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst : Ref sig .tc := ⟨.hbm, 79, rfl⟩
abbrev main_v61 : Ref sig .tc := ⟨.hbm, 80, rfl⟩
abbrev main_v62 : Ref sig .tc := ⟨.hbm, 81, rfl⟩
abbrev main_cst_0 : Ref sig .tc := ⟨.hbm, 82, rfl⟩
abbrev main_v63 : Ref sig .tc := ⟨.hbm, 83, rfl⟩
abbrev main_v64 : Ref sig .tc := ⟨.hbm, 84, rfl⟩
abbrev main_cst_1 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_2 : Ref sig .tc := ⟨.hbm, 100, rfl⟩
abbrev main_v79 : Ref sig .tc := ⟨.hbm, 101, rfl⟩
abbrev main_v80 : Ref sig .tc := ⟨.hbm, 102, rfl⟩
abbrev main_cst_3 : Ref sig .tc := ⟨.hbm, 103, rfl⟩
abbrev main_v81 : Ref sig .tc := ⟨.hbm, 104, rfl⟩
abbrev main_v82 : Ref sig .tc := ⟨.hbm, 105, rfl⟩
abbrev main_cst_4 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_cst_5 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩

abbrev nD : Nat := 1
abbrev τ : Topo := Topo.v7x

variable {F : FTy → Type} [FloatOps F]
-- ==== Kernel4.lean ====
abbrev S2x16384x512 : Shape := ⟨3, ![2, 16384, 512]⟩
abbrev S2x16384x1024 : Shape := ⟨3, ![2, 16384, 1024]⟩
abbrev S2x6144 : Shape := ⟨2, ![2, 6144]⟩
abbrev S4x1024 : Shape := ⟨2, ![4, 1024]⟩
abbrev S1024x1024 : Shape := ⟨2, ![1024, 1024]⟩
abbrev S_ : Shape := ⟨0, ![]⟩
abbrev S6x6144 : Shape := ⟨2, ![6, 6144]⟩
abbrev S8x6144 : Shape := ⟨2, ![8, 6144]⟩
abbrev S8x6x1024 : Shape := ⟨3, ![8, 6, 1024]⟩
abbrev S1x2048x512 : Shape := ⟨3, ![1, 2048, 512]⟩
abbrev S1x2048x1024 : Shape := ⟨3, ![1, 2048, 1024]⟩
abbrev S1x6x1024 : Shape := ⟨3, ![1, 6, 1024]⟩
abbrev S1x128x512 : Shape := ⟨3, ![1, 128, 512]⟩
abbrev S128x512 : Shape := ⟨2, ![128, 512]⟩
abbrev S512x1024 : Shape := ⟨2, ![512, 1024]⟩
abbrev S128x1024 : Shape := ⟨2, ![128, 1024]⟩
abbrev S1x128x1024 : Shape := ⟨3, ![1, 128, 1024]⟩
abbrev S1x1x1024 : Shape := ⟨3, ![1, 1, 1024]⟩
abbrev S1x1024 : Shape := ⟨2, ![1, 1024]⟩
abbrev S128 : Shape := ⟨1, ![128]⟩
abbrev S128x1 : Shape := ⟨2, ![128, 1]⟩

abbrev nBuf : Space → Nat
  | .hbm => 15
  | .vmem => 14
  | .smem => 0
  | _ => 0

abbrev bufTy : (tb : Table) → Fin (tcTables nBuf tb) → BufTy
  | .hbm, ⟨0, _⟩ => ⟨S2x16384x512, .f32⟩
  | .hbm, ⟨1, _⟩ => ⟨S2x16384x512, .f32⟩
  | .hbm, ⟨2, _⟩ => ⟨S2x16384x1024, .f32⟩
  | .hbm, ⟨3, _⟩ => ⟨S2x6144, .f32⟩
  | .hbm, ⟨4, _⟩ => ⟨S4x1024, .f32⟩
  | .hbm, ⟨5, _⟩ => ⟨S1024x1024, .f32⟩
  | .hbm, ⟨6, _⟩ => ⟨S2x16384x512, .bf16⟩
  | .hbm, ⟨7, _⟩ => ⟨S2x16384x512, .bf16⟩
  | .hbm, ⟨8, _⟩ => ⟨S1024x1024, .bf16⟩
  | .hbm, ⟨9, _⟩ => ⟨S_, .f32⟩
  | .hbm, ⟨10, _⟩ => ⟨S6x6144, .f32⟩
  | .hbm, ⟨11, _⟩ => ⟨S8x6144, .f32⟩
  | .hbm, ⟨12, _⟩ => ⟨S8x6x1024, .f32⟩
  | .hbm, ⟨13, _⟩ => ⟨S2x16384x1024, .f32⟩
  | .hbm, ⟨14, _⟩ => ⟨S2x16384x1024, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x1024, .bf16⟩
  | .local _ .vmem, ⟨5, _⟩ => ⟨S1x2048x1024, .f32⟩
  | .local _ .vmem, ⟨6, _⟩ => ⟨S1x2048x1024, .f32⟩
  | .local _ .vmem, ⟨7, _⟩ => ⟨S1x6x1024, .f32⟩
  | .local _ .vmem, ⟨8, _⟩ => ⟨S1x6x1024, .f32⟩
  | .local _ .vmem, ⟨9, _⟩ => ⟨S4x1024, .f32⟩
  | .local _ .vmem, ⟨10, _⟩ => ⟨S1x2048x1024, .f32⟩
  | .local _ .vmem, ⟨11, _⟩ => ⟨S1x2048x1024, .f32⟩
  | .local _ .vmem, ⟨12, _⟩ => ⟨S1x2048x1024, .bf16⟩
  | .local _ .vmem, ⟨13, _⟩ => ⟨S1x2048x1024, .bf16⟩
  | _, _ => ⟨S2x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2048x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S2x16384x512 : Shape := ⟨3, ![2, 16384, 512]⟩
abbrev S2x16384x1024 : Shape := ⟨3, ![2, 16384, 1024]⟩
abbrev S2x6144 : Shape := ⟨2, ![2, 6144]⟩
abbrev S4x1024 : Shape := ⟨2, ![4, 1024]⟩
abbrev S1024x1024 : Shape := ⟨2, ![1024, 1024]⟩
abbrev S2x1x6144 : Shape := ⟨3, ![2, 1, 6144]⟩
abbrev S2x1x1024 : Shape := ⟨3, ![2, 1, 1024]⟩
abbrev S1x1024 : Shape := ⟨2, ![1, 1024]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S2x16384x512, .f32⟩
  | .hbm, ⟨1, _⟩ => ⟨S2x16384x512, .f32⟩
  | .hbm, ⟨2, _⟩ => ⟨S2x16384x1024, .f32⟩
  | .hbm, ⟨3, _⟩ => ⟨S2x6144, .f32⟩
  | .hbm, ⟨4, _⟩ => ⟨S4x1024, .f32⟩
  | .hbm, ⟨5, _⟩ => ⟨S1024x1024, .f32⟩
  | .hbm, ⟨6, _⟩ => ⟨S2x1x6144, .f32⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x16384x1024, .f32⟩
  | .hbm, ⟨14, _⟩ => ⟨S2x16384x1024, .f32⟩
  | .hbm, ⟨15, _⟩ => ⟨S1x1024, .f32⟩
  | .hbm, ⟨16, _⟩ => ⟨S1024, .f32⟩
  | .hbm, ⟨17, _⟩ => ⟨S2x16384x1024, .f32⟩
  | .hbm, ⟨18, _⟩ => ⟨S_, .f32⟩
  | .hbm, ⟨19, _⟩ => ⟨S2x16384, .f32⟩
  | .hbm, ⟨20, _⟩ => ⟨S2x16384x1, .f32⟩
  | .hbm, ⟨21, _⟩ => ⟨S_, .f32⟩
  | .hbm, ⟨22, _⟩ => ⟨S2x16384x1, .f32⟩
  | .hbm, ⟨23, _⟩ => ⟨S2x16384x1, .f32⟩
  | .hbm, ⟨24, _⟩ => ⟨S_, .f32⟩
  | .hbm, ⟨25, _⟩ => ⟨S2x16384x1, .f32⟩
  | .hbm, ⟨26, _⟩ => ⟨S2x16384x1, .f32⟩
  | .hbm, ⟨27, _⟩ => ⟨S2x16384x1, .f32⟩
  | .hbm, ⟨28, _⟩ => ⟨S2x16384x1024, .f32⟩
  | .hbm, ⟨29, _⟩ => ⟨S2x16384x1024, .f32⟩
  | .hbm, ⟨30, _⟩ => ⟨S1x1x1024, .f32⟩
  | .hbm, ⟨31, _⟩ => ⟨S2x16384x1024, .f32⟩
  | .hbm, ⟨32, _⟩ => ⟨S2x16384x1024, .f32⟩
  | .hbm, ⟨33, _⟩ => ⟨S2x16384x1024, .f32⟩
  | .hbm, ⟨34, _⟩ => ⟨S2x16384x1024, .f32⟩
  | .hbm, ⟨35, _⟩ => ⟨S2x16384x1024, .f32⟩
  | .hbm, ⟨36, _⟩ => ⟨S1x1024, .f32⟩
  | .hbm, ⟨37, _⟩ => ⟨S1024, .f32⟩
  | .hbm, ⟨38, _⟩ => ⟨S2x16384x1024, .f32⟩
  | .hbm, ⟨39, _⟩ => ⟨S_, .f32⟩
  | .hbm, ⟨40, _⟩ => ⟨S2x16384, .f32⟩
  | .hbm, ⟨41, _⟩ => ⟨S2x16384x1, .f32⟩
  | .hbm, ⟨42, _⟩ => ⟨S_, .f32⟩
  | .hbm, ⟨43, _⟩ => ⟨S2x16384x1, .f32⟩
  | .hbm, ⟨44, _⟩ => ⟨S2x16384x1, .f32⟩
  | .hbm, ⟨45, _⟩ => ⟨S_, .f32⟩
  | .hbm, ⟨46, _⟩ => ⟨S2x16384x1, .f32⟩
  | .hbm, ⟨47, _⟩ => ⟨S2x16384x1, .f32⟩
  | .hbm, ⟨48, _⟩ => ⟨S2x16384x1, .f32⟩
  | .hbm, ⟨49, _⟩ => ⟨S2x16384x1024, .f32⟩
  | .hbm, ⟨50, _⟩ => ⟨S2x16384x1024, .f32⟩
  | .hbm, ⟨51, _⟩ => ⟨S1x1x1024, .f32⟩
  | .hbm, ⟨52, _⟩ => ⟨S2x16384x1024, .f32⟩
  | .hbm, ⟨53, _⟩ => ⟨S2x16384x1024, .f32⟩
  | .hbm, ⟨54, _⟩ => ⟨S_, .f32⟩
  | .hbm, ⟨55, _⟩ => ⟨S2x1x1024, .f32⟩
  | .hbm, ⟨56, _⟩ => ⟨S2x1x1024, .f32⟩
  | .hbm, ⟨57, _⟩ => ⟨S2x16384x1024, .f32⟩
  | .hbm, ⟨58, _⟩ => ⟨S2x16384x1024, .f32⟩
  | .hbm, ⟨59, _⟩ => ⟨S2x16384x1024, .f32⟩
  | .hbm, ⟨60, _⟩ => ⟨S2x16384x1024, .f32⟩
  | .hbm, ⟨61, _⟩ => ⟨S2x16384x1024, .bf16⟩
  | _, _ => ⟨S2x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩

abbrev nD : Nat := 1
abbrev τ : Topo := Topo.v7x

variable {F : FTy → Type} [FloatOps F]
-- ==== Kernel5.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S2x8x6144 : Shape := ⟨3, ![2, 8, 6144]⟩

abbrev nBuf : Space → Nat
  | .hbm => 40
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x6144, .f32⟩
  | .hbm, ⟨13, _⟩ => ⟨S1024x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | .hbm, ⟨20, _⟩ => ⟨S8x1024, .f32⟩
  | .hbm, ⟨21, _⟩ => ⟨S8x1024, .f32⟩
  | .hbm, ⟨22, _⟩ => ⟨S_, .f32⟩
  | .hbm, ⟨23, _⟩ => ⟨S8x1024, .f32⟩
  | .hbm, ⟨24, _⟩ => ⟨S8x1024, .f32⟩
  | .hbm, ⟨25, _⟩ => ⟨S_, .f32⟩
  | .hbm, ⟨26, _⟩ => ⟨S8x1024, .f32⟩
  | .hbm, ⟨27, _⟩ => ⟨S8x1024, .f32⟩
  | .hbm, ⟨28, _⟩ => ⟨S8x1024, .f32⟩
  | .hbm, ⟨29, _⟩ => ⟨S1x1024x6144, .f32⟩
  | .hbm, ⟨30, _⟩ => ⟨S1024x6144, .f32⟩
  | .hbm, ⟨31, _⟩ => ⟨S8x6144, .f32⟩
  | .hbm, ⟨32, _⟩ => ⟨S1x6144, .f32⟩
  | .hbm, ⟨33, _⟩ => ⟨S6144, .f32⟩
  | .hbm, ⟨34, _⟩ => ⟨S1x6144, .f32⟩
  | .hbm, ⟨35, _⟩ => ⟨S8x6144, .f32⟩
  | .hbm, ⟨36, _⟩ => ⟨S8x6144, .f32⟩
  | .hbm, ⟨37, _⟩ => ⟨S1x8x6144, .f32⟩
  | .hbm, ⟨38, _⟩ => ⟨S1x8x6144, .f32⟩
  | .hbm, ⟨39, _⟩ => ⟨S2x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Kernel6.lean ====
abbrev S2x128x131072 : Shape := ⟨3, ![2, 128, 131072]⟩
abbrev S128x128 : Shape := ⟨2, ![128, 128]⟩
abbrev S1024x1024 : Shape := ⟨2, ![1024, 1024]⟩
abbrev S2x6144 : Shape := ⟨2, ![2, 6144]⟩
abbrev S4x1024 : Shape := ⟨2, ![4, 1024]⟩
abbrev S_ : Shape := ⟨0, ![]⟩
abbrev S6x6144 : Shape := ⟨2, ![6, 6144]⟩
abbrev S8x6144 : Shape := ⟨2, ![8, 6144]⟩
abbrev S8x6x1024 : Shape := ⟨3, ![8, 6, 1024]⟩
abbrev S2x128x128x1024 : Shape := ⟨4, ![2, 128, 128, 1024]⟩
abbrev S1x16x128x1024 : Shape := ⟨4, ![1, 16, 128, 1024]⟩
abbrev S1x6x1024 : Shape := ⟨3, ![1, 6, 1024]⟩
abbrev S1x128x16384 : Shape := ⟨3, ![1, 128, 16384]⟩
abbrev S1x1x128x1024 : Shape := ⟨4, ![1, 1, 128, 1024]⟩
abbrev S128x1024 : Shape := ⟨2, ![128, 1024]⟩
abbrev S256x1024 : Shape := ⟨2, ![256, 1024]⟩
abbrev S1x1x1024 : Shape := ⟨3, ![1, 1, 1024]⟩
abbrev S1x1024 : Shape := ⟨2, ![1, 1024]⟩
abbrev S128 : Shape := ⟨1, ![128]⟩
abbrev S128x1 : Shape := ⟨2, ![128, 1]⟩
abbrev S1x128x1024 : Shape := ⟨3, ![1, 128, 1024]⟩

abbrev nBuf : Space → Nat
  | .hbm => 19
  | .vmem => 12
  | .smem => 0
  | _ => 0

abbrev bufTy : (tb : Table) → Fin (tcTables nBuf tb) → BufTy
  | .hbm, ⟨0, _⟩ => ⟨S2x128x131072, .f32⟩
  | .hbm, ⟨1, _⟩ => ⟨S2x128x131072, .f32⟩
  | .hbm, ⟨2, _⟩ => ⟨S128x128, .f32⟩
  | .hbm, ⟨3, _⟩ => ⟨S128x128, .f32⟩
  | .hbm, ⟨4, _⟩ => ⟨S1024x1024, .f32⟩
  | .hbm, ⟨5, _⟩ => ⟨S2x6144, .f32⟩
  | .hbm, ⟨6, _⟩ => ⟨S4x1024, .f32⟩
  | .hbm, ⟨7, _⟩ => ⟨S2x128x131072, .bf16⟩
  | .hbm, ⟨8, _⟩ => ⟨S2x128x131072, .bf16⟩
  | .hbm, ⟨9, _⟩ => ⟨S128x128, .bf16⟩
  | .hbm, ⟨10, _⟩ => ⟨S128x128, .bf16⟩
  | .hbm, ⟨11, _⟩ => ⟨S1024x1024, .bf16⟩
  | .hbm, ⟨12, _⟩ => ⟨S_, .f32⟩
  | .hbm, ⟨13, _⟩ => ⟨S6x6144, .f32⟩
  | .hbm, ⟨14, _⟩ => ⟨S8x6144, .f32⟩
  | .hbm, ⟨15, _⟩ => ⟨S8x6x1024, .f32⟩
  | .hbm, ⟨16, _⟩ => ⟨S2x128x128x1024, .bf16⟩
  | .hbm, ⟨17, _⟩ => ⟨S2x128x128x1024, .bf16⟩
  | .hbm, ⟨18, _⟩ => ⟨S2x128x131072, .bf16⟩
  | .local _ .vmem, ⟨0, _⟩ => ⟨S1x16x128x1024, .bf16⟩
  | .local _ .vmem, ⟨1, _⟩ => ⟨S1x16x128x1024, .bf16⟩
  | .local _ .vmem, ⟨2, _⟩ => ⟨S1x16x128x1024, .bf16⟩
  | .local _ .vmem, ⟨3, _⟩ => ⟨S1x16x128x1024, .bf16⟩
  | .local _ .vmem, ⟨4, _⟩ => ⟨S128x128, .bf16⟩
  | .local _ .vmem, ⟨5, _⟩ => ⟨S128x128, .bf16⟩
  | .local _ .vmem, ⟨6, _⟩ => ⟨S1024x1024, .bf16⟩
  | .local _ .vmem, ⟨7, _⟩ => ⟨S1x6x1024, .f32⟩
  | .local _ .vmem, ⟨8, _⟩ => ⟨S1x6x1024, .f32⟩
  | .local _ .vmem, ⟨9, _⟩ => ⟨S4x1024, .f32⟩
  | .local _ .vmem, ⟨10, _⟩ => ⟨S1x128x16384, .bf16⟩
  | .local _ .vmem, ⟨11, _⟩ => ⟨S1x128x16384, .bf16⟩
  | _, _ => ⟨S2x128x131072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x16x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x16384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference6Ideal.lean ====
abbrev S2x128x131072 : Shape := ⟨3, ![2, 128, 131072]⟩
abbrev S128x128 : Shape := ⟨2, ![128, 128]⟩
abbrev S1024x1024 : Shape := ⟨2, ![1024, 1024]⟩
abbrev S2x6144 : Shape := ⟨2, ![2, 6144]⟩
abbrev S4x1024 : Shape := ⟨2, ![4, 1024]⟩
abbrev S2x1x6144 : Shape := ⟨3, ![2, 1, 6144]⟩
abbrev S2x1x1024 : Shape := ⟨3, ![2, 1, 1024]⟩
abbrev S2x128x128x1024 : Shape := ⟨4, ![2, 128, 128, 1024]⟩
abbrev S2x128x1024x128 : Shape := ⟨4, ![2, 128, 1024, 128]⟩
abbrev S2x16384x1024 : Shape := ⟨3, ![2, 16384, 1024]⟩
abbrev S1x1024 : Shape := ⟨2, ![1, 1024]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S2x128x131072, .f32⟩
  | .hbm, ⟨1, _⟩ => ⟨S2x128x131072, .f32⟩
  | .hbm, ⟨2, _⟩ => ⟨S128x128, .f32⟩
  | .hbm, ⟨3, _⟩ => ⟨S128x128, .f32⟩
  | .hbm, ⟨4, _⟩ => ⟨S1024x1024, .f32⟩
  | .hbm, ⟨5, _⟩ => ⟨S2x6144, .f32⟩
  | .hbm, ⟨6, _⟩ => ⟨S4x1024, .f32⟩
  | .hbm, ⟨7, _⟩ => ⟨S2x1x6144, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S2x128x128x1024, .f32⟩
  | .hbm, ⟨15, _⟩ => ⟨S2x128x128x1024, .f32⟩
  | .hbm, ⟨16, _⟩ => ⟨S2x128x1024x128, .f32⟩
  | .hbm, ⟨17, _⟩ => ⟨S2x128x128x1024, .f32⟩
  | .hbm, ⟨18, _⟩ => ⟨S2x128x1024x128, .f32⟩
  | .hbm, ⟨19, _⟩ => ⟨S2x128x128x1024, .f32⟩
  | .hbm, ⟨20, _⟩ => ⟨S2x128x128x1024, .f32⟩
  | .hbm, ⟨21, _⟩ => ⟨S2x16384x1024, .f32⟩
  | .hbm, ⟨22, _⟩ => ⟨S2x16384x1024, .f32⟩
  | .hbm, ⟨23, _⟩ => ⟨S1x1024, .f32⟩
  | .hbm, ⟨24, _⟩ => ⟨S1024, .f32⟩
  | .hbm, ⟨25, _⟩ => ⟨S2x16384x1024, .f32⟩
  | .hbm, ⟨26, _⟩ => ⟨S_, .f32⟩
  | .hbm, ⟨27, _⟩ => ⟨S2x16384, .f32⟩
  | .hbm, ⟨28, _⟩ => ⟨S2x16384x1, .f32⟩
  | .hbm, ⟨29, _⟩ => ⟨S_, .f32⟩
  | .hbm, ⟨30, _⟩ => ⟨S2x16384x1, .f32⟩
  | .hbm, ⟨31, _⟩ => ⟨S2x16384x1, .f32⟩
  | .hbm, ⟨32, _⟩ => ⟨S_, .f32⟩
  | .hbm, ⟨33, _⟩ => ⟨S2x16384x1, .f32⟩
  | .hbm, ⟨34, _⟩ => ⟨S2x16384x1, .f32⟩
  | .hbm, ⟨35, _⟩ => ⟨S2x16384x1, .f32⟩
  | .hbm, ⟨36, _⟩ => ⟨S2x16384x1024, .f32⟩
  | .hbm, ⟨37, _⟩ => ⟨S2x16384x1024, .f32⟩
  | .hbm, ⟨38, _⟩ => ⟨S1x1x1024, .f32⟩
  | .hbm, ⟨39, _⟩ => ⟨S2x16384x1024, .f32⟩
  | .hbm, ⟨40, _⟩ => ⟨S2x16384x1024, .f32⟩
  | .hbm, ⟨41, _⟩ => ⟨S2x16384x1024, .f32⟩
  | .hbm, ⟨42, _⟩ => ⟨S2x16384x1024, .f32⟩
  | .hbm, ⟨43, _⟩ => ⟨S2x16384x1024, .bf16⟩
  | .hbm, ⟨44, _⟩ => ⟨S2x128x131072, .bf16⟩
  | _, _ => ⟨S2x128x131072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Proof.KernelIdeal.Values.lean ====
/- What the attention kernel of `KernelIdeal` computes at one grid point, as plain recursions over the key tiles:
   the scores of a tile, the running maximum, the rescaling factor, the weights and the accumulator. -/
module

public import proofs.«01_k».proof.Proof.Gen.KernelIdeal.Skeleton
public import proofs.«01_k».proof.Proof.Gen.KernelIdeal.Points
public import Idealize.ShloMosaic.Lib.Pipeline.FrameBody
public import Idealize.ShloMosaic.Lib.VecWindow

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (x0 : Vec F S1x2x128x2048 .bf16) (x1 : Vec F S1x1x256x128 .bf16) (x2 : Vec F S1x1x1x144x256 .bf16)
  (x3 : Vec F S1x1x16384x128 .bf16) (x4 : Vec F S1x1x32x144x512 .bf16)

theorem kt_inb (j : ℕ) : ∀ a, (![0, 0, 512 * (j % 32), 0] : Fin 4 → ℕ) a + S1x1x512x128.size a ≤ S1x1x16384x128.size a := by
  intro a
  have := Nat.mod_lt j (show 0 < 32 by decide)
  match a with
  | ⟨0, _⟩ => exact Nat.le_refl _
  | ⟨1, _⟩ => exact Nat.le_refl _
  | ⟨2, _⟩ => show 512 * (j % 32) + 512 ≤ 16384; omega
  | ⟨3, _⟩ => exact Nat.le_refl _

theorem vt_inb (j : ℕ) : ∀ a, (![0, 0, j % 32, 0, 0] : Fin 5 → ℕ) a + S1x1x1x144x512.size a ≤ S1x1x32x144x512.size a := by
  intro a
  have := Nat.mod_lt j (show 0 < 32 by decide)
  match a with
  | ⟨0, _⟩ => exact Nat.le_refl _
  | ⟨1, _⟩ => exact Nat.le_refl _
  | ⟨2, _⟩ => show j % 32 + 1 ≤ 32; omega
  | ⟨3, _⟩ => exact Nat.le_refl _
  | ⟨4, _⟩ => exact Nat.le_refl _

/-- Key tile `j`: rows `512 j` to `512 j + 511` of the keys. -/
def kt (j : ℕ) : Vec F S1x1x512x128 .bf16 := View.ld x3 (Rect.unit (s := S1x1x16384x128) ![0, 0, 512 * (j % 32), 0] S1x1x512x128.size (kt_inb j))

/-- Value tile `j`. -/
def vt (j : ℕ) : Vec F S1x1x1x144x512 .bf16 := View.ld x4 (Rect.unit (s := S1x1x32x144x512) ![0, 0, j % 32, 0, 0] S1x1x1x144x512.size (vt_inb j))

/-- The two heads' query blocks. -/
def q0 : Vec F S1x1x128x2048 .bf16 := View.ld x0 (Rect.unit (s := S1x2x128x2048) ![0, 0, 0, 0] S1x1x128x2048.size inb_S1x2x128x2048_S1x1x128x2048_0_0_0_0)
def q1 : Vec F S1x1x128x2048 .bf16 := View.ld x0 (Rect.unit (s := S1x2x128x2048) ![0, 1, 0, 0] S1x1x128x2048.size inb_S1x2x128x2048_S1x1x128x2048_0_1_0_0)

/-- The queries, the two heads side by side. -/
def qq : FVec F S128x4096 .bf16 := k0_pay20 (q0 x0) (q1 x0)

/-- The scores of key tile `j`, their column maxima, and the running maximum before tile `j`. -/
def sS (j : ℕ) : FVec F S512x4096 .f32 := k0_pay7 (qq x0) (kt x3 j)
def mX (j : ℕ) : FVec F S1x4096 .f32 := k0_pay8 (qq x0) (kt x3 j)
def mM : ℕ → FVec F S1x4096 .f32
  | 0 => k0_pay28 k0_pay22 (k0_pay25 (q0 x0) (q1 x0) x1)
  | j + 1 => k0_pay9 (mM j) (mX x0 x3 j)

/-- The weights of tile `j` and the factor the accumulator is rescaled by there. -/
def pP (j : ℕ) : FVec F S512x4096 .bf16 := k0_pay10 (mM x0 x1 x3 j) (mX x0 x3 j) (sS x0 x3 j)
def aL (j : ℕ) : FVec F S1x4096 .f32 := k0_pay11 (mM x0 x1 x3 j) (mX x0 x3 j)

/-- The accumulator before tile `j`: rows 0 to 127 the weighted values, row 128 the weights' sum. -/
def aA : ℕ → FVec F S144x4096 .f32
  | 0 => k0_pay38 (k0_pay30 k0_pay22 (k0_pay25 (q0 x0) (q1 x0) x1)) (k0_pay37 x2)
      (k0_pay29 k0_pay22 (k0_pay25 (q0 x0) (q1 x0) x1) (k0_pay24 (q0 x0) (q1 x0) x1)) k0_pay21
  | j + 1 => k0_pay13 (aL x0 x1 x3 j) (k0_pay12 (vt x4 j)) (pP x0 x1 x3 j) (aA j)

/-- The block the body stores: the quotient, each head in its half of the columns. -/
def outPieces : List (View.Piece (Elt F) S1x2048x256 .bf16) :=
  [⟨Rect.unit (s := S1x2048x256) ![0, 0, 128] S1x2048x128.size inb_S1x2048x256_S1x2048x128_0_0_128, k0_pay5 (aA x0 x1 x2 x3 x4 32)⟩,
   ⟨Rect.unit (s := S1x2048x256) ![0, 0, 0] S1x2048x128.size inb_S1x2048x256_S1x2048x128_0_0_0, k0_pay4 (aA x0 x1 x2 x3 x4 32)⟩]

def outVal : Vec F S1x2048x256 .bf16 := View.canon (outPieces x0 x1 x2 x3 x4)

end Cert.KernelIdeal.Att

end
-- ==== Proof.Softmax.lean ====
/- One column of the attention over the extended reals: the running maximum with the rescaled accumulator gives, after
   the last tile, the softmax's weighted sum. -/
module

public import Idealize.ShloMosaic.Lib.Pointwise
public import Idealize.ShloMosaic.Lib.IdealHost

@[expose] public section

noncomputable section

namespace Softmax

open Idealize.ShloMosaic

/-! ## Sums and maxima of extended reals -/

/-- A nonnegative real factor goes into a sum. -/
theorem mul_sum {ι : Type} (c : ℝ) (hc : 0 ≤ c) (s : Finset ι) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- The sum of reals is real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A maximum of reals from `⊥` on is `⊥` or real. -/
theorem fold_max {ι : Type} (s : Finset ι) (f : ι → ℝ) :
    s.fold max (⊥ : EReal) (fun i => (f i : EReal)) = ⊥ ∨ ∃ r : ℝ, s.fold max (⊥ : EReal) (fun i => (f i : EReal)) = r := by
  classical
  induction s using Finset.induction_on with
  | empty => left; simp
  | insert a s ha ih =>
    right
    rw [Finset.fold_insert ha]
    rcases ih with h | ⟨r, h⟩
    · exact ⟨f a, by rw [h]; simp⟩
    · exact ⟨max (f a) r, by rw [h]; exact (EReal.coe_strictMono.monotone.map_max).symm⟩

/-- The maximum of a real and such a maximum is real. -/
theorem max_fold {ι : Type} (s : Finset ι) (m : ℝ) (f : ι → ℝ) :
    ∃ r : ℝ, max (m : EReal) (s.fold max (⊥ : EReal) (fun i => (f i : EReal))) = r := by
  rcases fold_max s f with h | ⟨r, h⟩
  · exact ⟨m, by rw [h]; simp⟩
  · exact ⟨max m r, by rw [h]; exact (EReal.coe_strictMono.monotone.map_max).symm⟩

/-- The maximum of a nonempty family of reals is real. -/
theorem fold_max_real {ι : Type} [Fintype ι] [Nonempty ι] (f : ι → ℝ) :
    ∃ r : ℝ, Finset.univ.fold max (⊥ : EReal) (fun i => (f i : EReal)) = r := by
  rcases fold_max Finset.univ f with h | h
  · exfalso
    have hle : (f (Classical.arbitrary ι) : EReal) ≤ Finset.univ.fold max (⊥ : EReal) (fun i => (f i : EReal)) :=
      (Finset.le_fold_max _).2 (Or.inr ⟨_, Finset.mem_univ _, le_rfl⟩)
    rw [h, le_bot_iff] at hle
    exact EReal.coe_ne_bot _ hle
  · exact h

/-! ## The quotient -/

/-- Weights scaled by a positive `α`: the quotient of the weighted sum by the weights' sum is the sum under the
    normalised weights. -/
theorem quotient {n : ℕ} (hn : 0 < n) (α : ℝ) (hα : 0 < α) (E : ℕ → ℝ) (hE : ∀ j, 0 < E j) (v : ℕ → EReal) :
    Ideal.div (∑ j ∈ Finset.range n, v j * ((α * E j : ℝ) : EReal)) (∑ j ∈ Finset.range n, 1 * ((α * E j : ℝ) : EReal))
      = ∑ j ∈ Finset.range n, v j * ((E j / ∑ i ∈ Finset.range n, E i : ℝ) : EReal) := by
  have hS : 0 < ∑ i ∈ Finset.range n, E i := Finset.sum_pos (fun i _ => hE i) ⟨0, Finset.mem_range.2 hn⟩
  have h1 : (∑ j ∈ Finset.range n, 1 * ((α * E j : ℝ) : EReal)) = ((α * ∑ i ∈ Finset.range n, E i : ℝ) : EReal) := by
    rw [Finset.mul_sum, coe_sum]
    exact Finset.sum_congr rfl fun j _ => one_mul _
  rw [h1, Ideal.div_coe (mul_pos hα hS).ne', mul_comm, mul_sum _ (by positivity)]
  refine Finset.sum_congr rfl fun j _ => ?_
  rw [mul_left_comm, ← EReal.coe_mul]
  congr 2
  field_simp

/-! ## The running maximum and the rescaled accumulator -/

/-- Two to a real power. -/
def two (x : ℝ) : ℝ := Real.rpow 2 x
theorem two_pos (x : ℝ) : 0 < two x := Real.rpow_pos_of_pos (by norm_num) x
theorem two_add (x y : ℝ) : two (x + y) = two x * two y := Real.rpow_add (by norm_num) x y
theorem exp2_sub (x y : ℝ) : Ideal.exp2 ((x : EReal) - (y : EReal)) = ((two (-y) * two x : ℝ) : EReal) := by
  rw [← EReal.coe_sub, Ideal.exp2_coe, ← two_add, show x - y = -y + x by ring]
  rfl

/-- The running maxima are real, all of them (`T` tiles of `B` after a first one of `C`). -/
theorem maxima (C B T : ℕ) (neg : ℝ) (σ : ℕ → ℝ) (M : ℕ → EReal)
    (h0 : M 0 = max (neg : EReal) (Finset.univ.fold max ⊥ fun x : Fin C => ((σ x.val : ℝ) : EReal)))
    (hs : ∀ t < T, M (t + 1) = max (M t) (Finset.univ.fold max ⊥ fun x : Fin B => ((σ (C + B * t + x.val) : ℝ) : EReal))) :
    ∀ t ≤ T, ∃ μ : ℝ, M t = μ := by
  intro t
  induction t with
  | zero => intro _; rw [h0]; exact max_fold Finset.univ neg fun x : Fin C => σ x.val
  | succ t ih =>
    intro ht
    obtain ⟨μ, hμ⟩ := ih (by omega)
    rw [hs t (by omega), hμ]
    exact max_fold Finset.univ μ fun x : Fin B => σ (C + B * t + x.val)

/-- Before tile `t` the accumulator holds the weighted sum over the keys seen, with the weights `2 ^ (σ j - μ t)`. -/
theorem accumulator (C B T : ℕ) (neg : ℝ) (σ μ : ℕ → ℝ) (v : ℕ → EReal) (M A : ℕ → EReal)
    (hM : ∀ t ≤ T, M t = μ t)
    (a0 : A 0 = Ideal.exp2 ((neg : EReal) - M 0) * 0 + ∑ x : Fin C, v x.val * Ideal.exp2 (((σ x.val : ℝ) : EReal) - M 0))
    (a1 : ∀ t < T, A (t + 1) = Ideal.exp2 (M t - M (t + 1)) * A t
      + ∑ x : Fin B, v (C + B * t + x.val) * Ideal.exp2 (((σ (C + B * t + x.val) : ℝ) : EReal) - M (t + 1))) :
    ∀ t ≤ T, A t = ∑ j ∈ Finset.range (C + B * t), v j * ((two (-μ t) * two (σ j) : ℝ) : EReal) := by
  intro t
  induction t with
  | zero =>
    intro _
    rw [a0, mul_zero, zero_add, hM 0 (by omega), Nat.mul_zero, Nat.add_zero,
      ← Fin.sum_univ_eq_sum_range (fun j => v j * ((two (-μ 0) * two (σ j) : ℝ) : EReal))]
    exact Finset.sum_congr rfl fun x _ => by rw [exp2_sub]
  | succ t ih =>
    intro ht
    rw [a1 t (by omega), ih (by omega), hM t (by omega), hM (t + 1) ht, Nat.mul_succ, ← Nat.add_assoc,
      Finset.sum_range_add _ (C + B * t) B, exp2_sub, mul_sum _ (mul_pos (two_pos _) (two_pos _)).le,
      ← Fin.sum_univ_eq_sum_range (fun x => v (C + B * t + x) * ((two (-μ (t + 1)) * two (σ (C + B * t + x)) : ℝ) : EReal))]
    refine congrArg₂ (· + ·) (Finset.sum_congr rfl fun j _ => ?_) (Finset.sum_congr rfl fun x _ => by rw [exp2_sub])
    rw [mul_left_comm, ← EReal.coe_mul]
    congr 2
    have h : two (μ t) * two (-μ t) = 1 := by rw [← two_add]; simp [two]
    calc two (-μ (t + 1)) * two (μ t) * (two (-μ t) * two (σ j))
        = two (-μ (t + 1)) * (two (μ t) * two (-μ t)) * two (σ j) := by ring
      _ = two (-μ (t + 1)) * two (σ j) := by rw [h, mul_one]

/-- The whole column: the accumulator's row over the weights' row is the sum under the normalised weights `2 ^ σ j`. -/
theorem column (C B T : ℕ) (hC : 0 < C) (neg : ℝ) (σ : ℕ → ℝ) (v : ℕ → EReal) (M A L : ℕ → EReal)
    (h0 : M 0 = max (neg : EReal) (Finset.univ.fold max ⊥ fun x : Fin C => ((σ x.val : ℝ) : EReal)))
    (hs : ∀ t < T, M (t + 1) = max (M t) (Finset.univ.fold max ⊥ fun x : Fin B => ((σ (C + B * t + x.val) : ℝ) : EReal)))
    (a0 : A 0 = Ideal.exp2 ((neg : EReal) - M 0) * 0 + ∑ x : Fin C, v x.val * Ideal.exp2 (((σ x.val : ℝ) : EReal) - M 0))
    (a1 : ∀ t < T, A (t + 1) = Ideal.exp2 (M t - M (t + 1)) * A t
      + ∑ x : Fin B, v (C + B * t + x.val) * Ideal.exp2 (((σ (C + B * t + x.val) : ℝ) : EReal) - M (t + 1)))
    (l0 : L 0 = Ideal.exp2 ((neg : EReal) - M 0) * 0 + ∑ x : Fin C, 1 * Ideal.exp2 (((σ x.val : ℝ) : EReal) - M 0))
    (l1 : ∀ t < T, L (t + 1) = Ideal.exp2 (M t - M (t + 1)) * L t
      + ∑ x : Fin B, 1 * Ideal.exp2 (((σ (C + B * t + x.val) : ℝ) : EReal) - M (t + 1))) :
    Ideal.div (A T) (L T) = ∑ j ∈ Finset.range (C + B * T), v j
      * ((two (σ j) / ∑ i ∈ Finset.range (C + B * T), two (σ i) : ℝ) : EReal) := by
  choose! μ hμ using maxima C B T neg σ M h0 hs
  rw [accumulator C B T neg σ μ v M A hμ a0 a1 T le_rfl, accumulator C B T neg σ μ (fun _ => 1) M L hμ l0 l1 T le_rfl]
  exact quotient (by omega) _ (two_pos _) _ (fun j => two_pos _) v

/-- The reference's column: the weights `exp (τ j - max τ)` normalised. -/
theorem weights (n : ℕ) (hn : 0 < n) (τ : ℕ → ℝ) (j : ℕ) :
    Ideal.div (Ideal.exp (((τ j : ℝ) : EReal) - max ⊥ (Finset.univ.fold max ⊥ fun x : Fin n => ((τ x.val : ℝ) : EReal))))
      (∑ x : Fin n, Ideal.exp (((τ x.val : ℝ) : EReal) - max ⊥ (Finset.univ.fold max ⊥ fun x : Fin n => ((τ x.val : ℝ) : EReal))))
      = ((Real.exp (τ j) / ∑ i ∈ Finset.range n, Real.exp (τ i) : ℝ) : EReal) := by
  haveI : Nonempty (Fin n) := ⟨⟨0, hn⟩⟩
  obtain ⟨m, hm⟩ := fold_max_real fun x : Fin n => τ x.val
  have hS : 0 < ∑ i ∈ Finset.range n, Real.exp (τ i) := Finset.sum_pos (fun i _ => Real.exp_pos _) ⟨0, Finset.mem_range.2 hn⟩
  have he : ∀ x : ℝ, Ideal.exp ((x : EReal) - (m : EReal)) = ((Real.exp (-m) * Real.exp x : ℝ) : EReal) := fun x => by
    rw [← EReal.coe_sub, Ideal.exp_coe, ← Real.exp_add, show x - m = -m + x by ring]
  rw [hm, show max (⊥ : EReal) (m : EReal) = m from max_eq_right bot_le, he]
  simp only [he]
  rw [← coe_sum, Fin.sum_univ_eq_sum_range (fun i => Real.exp (-m) * Real.exp (τ i)), ← Finset.mul_sum,
    Ideal.div_coe (mul_pos (Real.exp_pos _) hS).ne', ← EReal.coe_mul]
  congr 1
  have := Real.exp_pos (-m)
  field_simp

end Softmax

end
-- ==== Proof.KernelIdeal.Entries.lean ====
/- The attention kernel's block at an index, over the extended reals: one column of it is the softmax's weighted sum of
   the values that the block's inputs hold. -/
module

public import proofs.«01_k».proof.Proof.KernelIdeal.Values
public import proofs.«01_k».proof.Proof.Softmax

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.ShloMosaic.Pointwise

variable (x0 : Vec Ideal S1x2x128x2048 .bf16) (x1 : Vec Ideal S1x1x256x128 .bf16) (x2 : Vec Ideal S1x1x1x144x256 .bf16)
  (x3 : Vec Ideal S1x1x16384x128 .bf16) (x4 : Vec Ideal S1x1x32x144x512 .bf16)

theorem ofBits_neg_inf : Ideal.ofBits .f32 0xFF800000#32 = ⊥ := by
  simp [Ideal.ofBits, Ideal.ieee]

/-- The mask's large negative number is real. -/
theorem ofBits_neg_big : ∃ r : ℝ, Ideal.ofBits .f32 0xF149F2CA#32 = r := by
  refine ⟨-(13234890 * 2 ^ 76), ?_⟩
  simp [Ideal.ofBits, Ideal.ieee]

theorem kt_apply (j : ℕ) (hj : j < 32) (r : Fin 512) (d : Fin 128) :
    kt x3 j (ix4 0 0 r d) = x3 (ix4 0 0 ⟨512 * j + r.val, by omega⟩ d) := by
  refine congrArg x3 (funext fun a => ?_)
  match a with
  | ⟨0, _⟩ => rfl
  | ⟨1, _⟩ => rfl
  | ⟨2, _⟩ => exact Fin.ext (by show 512 * (j % 32) + 1 * r.val = 512 * j + r.val; rw [Nat.mod_eq_of_lt hj, one_mul])
  | ⟨3, _⟩ => exact Fin.ext (by show 0 + 1 * d.val = d.val; omega)

theorem vt_apply (j : ℕ) (hj : j < 32) (d : Fin 144) (r : Fin 512) :
    vt x4 j (ix5 0 0 0 d r) = x4 (ix5 0 0 ⟨j, hj⟩ d r) := by
  refine congrArg x4 (funext fun a => ?_)
  match a with
  | ⟨0, _⟩ => rfl
  | ⟨1, _⟩ => rfl
  | ⟨2, _⟩ => exact Fin.ext (by show j % 32 + 1 * 0 = j; rw [Nat.mod_eq_of_lt hj]; omega)
  | ⟨3, _⟩ => exact Fin.ext (by show 0 + 1 * d.val = d.val; omega)
  | ⟨4, _⟩ => exact Fin.ext (by show 0 + 1 * r.val = r.val; omega)

/-- The query entry a column of the scores is taken with: the head `c / 2048`, row `c % 2048`. -/
def qcol (c : Fin 4096) (d : Fin 128) : EReal :=
  x0 (ix4 0 ⟨c.val / 2048, by omega⟩ d ⟨c.val % 2048, by omega⟩)

theorem qq_apply (d : Fin 128) (c : Fin 4096) : qq x0 (ix2 d c) = qcol x0 c d := by
  unfold qq qcol
  pointwise [k0_pay20]
  split
  · rename_i h
    refine congrArg x0 (funext fun a => ?_)
    match a with
    | ⟨0, _⟩ => rfl
    | ⟨1, _⟩ => exact Fin.ext (by show 0 + 1 * 0 = c.val / 2048; omega)
    | ⟨2, _⟩ => exact Fin.ext (by show 0 + 1 * d.val = d.val; omega)
    | ⟨3, _⟩ => exact Fin.ext (by show 0 + 1 * c.val = c.val % 2048; omega)
  · rename_i h
    refine congrArg x0 (funext fun a => ?_)
    match a with
    | ⟨0, _⟩ => rfl
    | ⟨1, _⟩ => exact Fin.ext (by show 1 + 1 * 0 = c.val / 2048; omega)
    | ⟨2, _⟩ => exact Fin.ext (by show 0 + 1 * d.val = d.val; omega)
    | ⟨3, _⟩ => exact Fin.ext (by show 0 + 1 * (c.val - 2048) = c.val % 2048; omega)

/-- The score of a context key and of a latent key in column `c`. -/
def scC (c : Fin 4096) (r : Fin 256) : EReal := ∑ d : Fin 128, x1 (ix4 0 0 r d) * qcol x0 c d
def scL (c : Fin 4096) (r : Fin 16384) : EReal := ∑ d : Fin 128, x3 (ix4 0 0 r d) * qcol x0 c d

theorem sS_apply (j : ℕ) (hj : j < 32) (r : Fin 512) (c : Fin 4096) :
    sS x0 x3 j (ix2 r c) = scL x0 x3 c ⟨512 * j + r.val, by omega⟩ := by
  unfold sS scL
  pointwise [k0_pay7, k0_pay6]
  exact Finset.sum_congr rfl fun d _ => by rw [kt_apply x3 j hj, qq_apply]

theorem mX_apply (j : ℕ) (hj : j < 32) (c : Fin 4096) :
    mX x0 x3 j (ix2 0 c) = Finset.univ.fold max ⊥ fun r : Fin 512 => scL x0 x3 c ⟨512 * j + r.val, by omega⟩ := by
  unfold mX
  pointwise [k0_pay8, k0_pay6]
  rw [ofBits_neg_inf]
  refine congrArg (fun f => Finset.univ.fold max ⊥ f) (funext fun r => ?_)
  unfold scL
  exact Finset.sum_congr rfl fun d _ => by rw [kt_apply x3 j hj, qq_apply]

theorem pay24_apply (r : Fin 256) (c : Fin 4096) : k0_pay24 (q0 x0) (q1 x0) x1 (ix2 r c) = scC x0 x1 c r := by
  have h := fun d => qq_apply x0 d c
  unfold qq at h
  unfold scC
  pointwise [k0_pay24, k0_pay23]
  exact Finset.sum_congr rfl fun d _ => by rw [h]

theorem pay25_apply (c : Fin 4096) :
    k0_pay25 (q0 x0) (q1 x0) x1 (ix2 0 c) = Finset.univ.fold max ⊥ fun r : Fin 256 => scC x0 x1 c r := by
  have h := fun r => pay24_apply x0 x1 r c
  pointwise [k0_pay24] at h
  pointwise [k0_pay25]
  rw [ofBits_neg_inf]
  exact congrArg (fun f => Finset.univ.fold max ⊥ f) (funext fun r => h r)

/-- The mask's large negative number. -/
def negBig : EReal := Ideal.ofBits .f32 0xF149F2CA#32

theorem pay28_apply (m : FVec Ideal S1x4096 .f32) (c : Fin 4096) : k0_pay28 (k0_pay22 (F := Ideal)) m (ix2 0 c) = max negBig (m (ix2 0 c)) := by
  unfold negBig
  pointwise [k0_pay28, k0_pay22]

theorem mM_zero (c : Fin 4096) :
    mM x0 x1 x3 0 (ix2 0 c) = max negBig (Finset.univ.fold max ⊥ fun r : Fin 256 => scC x0 x1 c r) := by
  rw [mM, pay28_apply, pay25_apply]

theorem mM_step (j : ℕ) (hj : j < 32) (c : Fin 4096) :
    mM x0 x1 x3 (j + 1) (ix2 0 c) = max (mM x0 x1 x3 j (ix2 0 c))
      (Finset.univ.fold max ⊥ fun r : Fin 512 => scL x0 x3 c ⟨512 * j + r.val, by omega⟩) := by
  rw [← mX_apply x0 x3 j hj, mM]
  generalize mM x0 x1 x3 j = m
  generalize mX x0 x3 j = m'
  pointwise [k0_pay9]

/-- The accumulator after the context's keys, and after a tile, from what they are computed from. -/
theorem first_apply (m : FVec Ideal S1x4096 .f32) (s : FVec Ideal S256x4096 .f32) (v : Vec Ideal S1x1x1x144x256 .bf16) (r : Fin 144) (c : Fin 4096) :
    k0_pay38 (k0_pay30 k0_pay22 m) (k0_pay37 v) (k0_pay29 k0_pay22 m s) (k0_pay21 (F := Ideal)) (ix2 r c)
      = Ideal.exp2 (negBig - max negBig (m (ix2 0 c))) * 0
        + ∑ x : Fin 256, v (ix5 0 0 0 r x) * Ideal.exp2 (s (ix2 x c) - max negBig (m (ix2 0 c))) := by
  unfold negBig
  pointwise [k0_pay38, k0_pay30, k0_pay37, k0_pay29, k0_pay28, k0_pay22, k0_pay21]
  simp only [FloatOps.exp2]

theorem tile_apply (m m' : FVec Ideal S1x4096 .f32) (s : FVec Ideal S512x4096 .f32) (v : Vec Ideal S1x1x1x144x512 .bf16)
    (a : FVec Ideal S144x4096 .f32) (r : Fin 144) (c : Fin 4096) :
    k0_pay13 (k0_pay11 m m') (k0_pay12 v) (k0_pay10 m m' s) a (ix2 r c)
      = Ideal.exp2 (m (ix2 0 c) - max (m (ix2 0 c)) (m' (ix2 0 c))) * a (ix2 r c)
        + ∑ x : Fin 512, v (ix5 0 0 0 r x) * Ideal.exp2 (s (ix2 x c) - max (m (ix2 0 c)) (m' (ix2 0 c))) := by
  pointwise [k0_pay13, k0_pay11, k0_pay12, k0_pay10, k0_pay9]
  simp only [FloatOps.exp2]

theorem aA_zero (r : Fin 144) (c : Fin 4096) :
    aA x0 x1 x2 x3 x4 0 (ix2 r c) = Ideal.exp2 (negBig - mM x0 x1 x3 0 (ix2 0 c)) * 0
      + ∑ x : Fin 256, x2 (ix5 0 0 0 r x) * Ideal.exp2 (scC x0 x1 c x - mM x0 x1 x3 0 (ix2 0 c)) := by
  rw [mM_zero, ← pay25_apply, aA]
  rw [first_apply]
  simp only [pay24_apply]

theorem aA_step (j : ℕ) (hj : j < 32) (r : Fin 144) (c : Fin 4096) :
    aA x0 x1 x2 x3 x4 (j + 1) (ix2 r c) = Ideal.exp2 (mM x0 x1 x3 j (ix2 0 c) - mM x0 x1 x3 (j + 1) (ix2 0 c)) * aA x0 x1 x2 x3 x4 j (ix2 r c)
      + ∑ x : Fin 512, x4 (ix5 0 0 ⟨j, hj⟩ r x) * Ideal.exp2 (scL x0 x3 c ⟨512 * j + x.val, by omega⟩ - mM x0 x1 x3 (j + 1) (ix2 0 c)) := by
  rw [mM_step x0 x1 x3 j hj, ← mX_apply x0 x3 j hj, aA, aL, pP]
  exact (tile_apply _ _ _ _ _ r c).trans (congrArg (_ + ·) (Finset.sum_congr rfl fun x _ => by rw [vt_apply x4 j hj, sS_apply x0 x3 j hj]))

end Cert.KernelIdeal.Att

end
-- ==== Proof.KernelIdeal.Column.lean ====
/- The block the attention kernel stores, at an index: the softmax's weighted sum of the values in the block's inputs. -/
module

public import proofs.«01_k».proof.Proof.KernelIdeal.Entries

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.ShloMosaic.Pointwise
open Softmax (two)

variable (x0 : Vec Ideal S1x2x128x2048 .bf16) (x1 : Vec Ideal S1x1x256x128 .bf16) (x2 : Vec Ideal S1x1x1x144x256 .bf16)
  (x3 : Vec Ideal S1x1x16384x128 .bf16) (x4 : Vec Ideal S1x1x32x144x512 .bf16)

/-- Column `c` with the scores `σ` (context keys first), row `d` of the values `v`, and rows 128 on all ones. -/
theorem quot_apply (c : Fin 4096) (d : Fin 128) (σ : ℕ → ℝ) (v : ℕ → EReal)
    (hC : ∀ r : Fin 256, scC x0 x1 c r = ((σ r.val : ℝ) : EReal))
    (hL : ∀ r : Fin 16384, scL x0 x3 c r = ((σ (256 + r.val) : ℝ) : EReal))
    (hvC : ∀ r : Fin 256, x2 (ix5 0 0 0 ⟨d.val, by omega⟩ r) = v r.val)
    (hvL : ∀ (j : Fin 32) (r : Fin 512), x4 (ix5 0 0 j ⟨d.val, by omega⟩ r) = v (256 + (512 * j.val + r.val)))
    (h1C : ∀ r : Fin 256, x2 (ix5 0 0 0 128 r) = 1)
    (h1L : ∀ (j : Fin 32) (r : Fin 512), x4 (ix5 0 0 j 128 r) = 1) :
    Ideal.div (aA x0 x1 x2 x3 x4 32 (ix2 ⟨d.val, by omega⟩ c)) (aA x0 x1 x2 x3 x4 32 (ix2 128 c))
      = ∑ j ∈ Finset.range 16640, v j * ((two (σ j) / ∑ i ∈ Finset.range 16640, two (σ i) : ℝ) : EReal) := by
  obtain ⟨neg, hneg⟩ := ofBits_neg_big
  have hn : negBig = (neg : EReal) := hneg
  refine Softmax.column 256 512 32 (by decide) neg σ v (fun t => mM x0 x1 x3 t (ix2 0 c))
    (fun t => aA x0 x1 x2 x3 x4 t (ix2 ⟨d.val, by omega⟩ c)) (fun t => aA x0 x1 x2 x3 x4 t (ix2 128 c)) ?_ ?_ ?_ ?_ ?_ ?_
  · show mM x0 x1 x3 0 (ix2 0 c) = _
    rw [mM_zero, hn]
    simp only [hC]
  · intro t ht
    show mM x0 x1 x3 (t + 1) (ix2 0 c) = _
    rw [mM_step x0 x1 x3 t ht]
    simp only [hL, Nat.add_assoc]
  · show aA x0 x1 x2 x3 x4 0 (ix2 _ c) = _
    rw [aA_zero, hn]
    simp only [hC, hvC]
  · intro t ht
    show aA x0 x1 x2 x3 x4 (t + 1) (ix2 _ c) = _
    rw [aA_step x0 x1 x2 x3 x4 t ht]
    simp only [hL, hvL, Nat.add_assoc]
  · show aA x0 x1 x2 x3 x4 0 (ix2 _ c) = _
    rw [aA_zero, hn]
    simp only [hC, h1C]
  · intro t ht
    show aA x0 x1 x2 x3 x4 (t + 1) (ix2 _ c) = _
    rw [aA_step x0 x1 x2 x3 x4 t ht]
    simp only [hL, h1L, Nat.add_assoc]

theorem pay4_apply (a : Vec Ideal S144x4096 .f32) (r : Fin 2048) (d : Fin 128) :
    k0_pay4 a (ix3 0 r d) = Ideal.div (a (ix2 ⟨d.val, by omega⟩ ⟨r.val, by omega⟩)) (a (ix2 128 ⟨r.val, by omega⟩)) := by
  pointwise [k0_pay4, k0_pay3]

theorem pay5_apply (a : Vec Ideal S144x4096 .f32) (r : Fin 2048) (d : Fin 128) :
    k0_pay5 a (ix3 0 r d) = Ideal.div (a (ix2 ⟨d.val, by omega⟩ ⟨2048 + r.val, by omega⟩)) (a (ix2 128 ⟨2048 + r.val, by omega⟩)) := by
  pointwise [k0_pay5, k0_pay3]

/-- The stored block: head `g` in columns `128 g` to `128 g + 127`. -/
theorem outVal_apply (g : Fin 2) (r : Fin 2048) (d : Fin 128) :
    outVal x0 x1 x2 x3 x4 (ix3 0 r ⟨128 * g.val + d.val, by omega⟩)
      = Ideal.div (aA x0 x1 x2 x3 x4 32 (ix2 ⟨d.val, by omega⟩ ⟨2048 * g.val + r.val, by omega⟩))
          (aA x0 x1 x2 x3 x4 32 (ix2 128 ⟨2048 * g.val + r.val, by omega⟩)) := by
  unfold outVal outPieces
  match g with
  | ⟨0, _⟩ =>
    rw [View.canon_cons_of_not_mem]
    · have e : (ix3 0 r ⟨128 * 0 + d.val, by omega⟩ : S1x2048x256.Idx)
          = (Rect.unit (s := S1x2048x256) ![0, 0, 0] S1x2048x128.size inb_S1x2048x256_S1x2048x128_0_0_0).emb (ix3 0 r d) := by
        refine funext fun a => ?_
        match a with
        | ⟨0, _⟩ => rfl
        | ⟨1, _⟩ => exact Fin.ext (by show r.val = 0 + 1 * r.val; omega)
        | ⟨2, _⟩ => exact Fin.ext (by show 128 * 0 + d.val = 0 + 1 * d.val; omega)
      refine (congrArg _ e).trans ((View.canon_cons_emb _ _ _ _).trans ?_)
      rw [pay4_apply]
      simp only [Nat.mul_zero, Nat.zero_add]
    · intro h
      obtain ⟨j, -, hx⟩ := (LoadRect.mem_set _).mp h 2
      have h2 : 128 * 0 + d.val = 128 + 1 * j := hx
      omega
  | ⟨1, _⟩ =>
    have e : (ix3 0 r ⟨128 * 1 + d.val, by omega⟩ : S1x2048x256.Idx)
        = (Rect.unit (s := S1x2048x256) ![0, 0, 128] S1x2048x128.size inb_S1x2048x256_S1x2048x128_0_0_128).emb (ix3 0 r d) := by
      refine funext fun a => ?_
      match a with
      | ⟨0, _⟩ => rfl
      | ⟨1, _⟩ => exact Fin.ext (by show r.val = 0 + 1 * r.val; omega)
      | ⟨2, _⟩ => exact Fin.ext (by show 128 * 1 + d.val = 128 + 1 * d.val; omega)
    refine (congrArg _ e).trans ((View.canon_cons_emb _ _ _ _).trans ?_)
    rw [pay5_apply]
    simp only [Nat.mul_one]

end Cert.KernelIdeal.Att

end
-- ==== Proof.KernelIdeal.Trip.lean ====
/- The attention kernel's loop (`KernelIdeal`): one trip works off two key tiles, and the loop carries the recursions of `Values`. -/
module

public import proofs.«01_k».proof.Proof.KernelIdeal.Values
public import Idealize.ShloMosaic.Lib.Tactic
public import Idealize.ShloMosaic.Lib.Ring
public import Idealize.ShloMosaic.Lib.WordCmp

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (x0 : Vec F S1x2x128x2048 .bf16) (x1 : Vec F S1x1x256x128 .bf16) (x2 : Vec F S1x1x1x144x256 .bf16)
  (x3 : Vec F S1x1x16384x128 .bf16) (x4 : Vec F S1x1x32x144x512 .bf16)

theorem mM_succ (j : ℕ) : mM x0 x1 x3 (j + 1) = k0_pay9 (mM x0 x1 x3 j) (mX x0 x3 j) := rfl

theorem aA_succ (j : ℕ) : aA x0 x1 x2 x3 x4 (j + 1) =
    k0_pay13 (aL x0 x1 x3 j) (k0_pay12 (vt x4 j)) (pP x0 x1 x3 j) (aA x0 x1 x2 x3 x4 j) := rfl

/-- The accumulator's step as the second half of a trip spells it. -/
theorem v_step (a : FVec F S1x4096 .f32) (v : Vec F S1x1x1x144x512 .bf16) (p : Vec F S512x4096 .bf16) (s : Vec F S144x4096 .f32) :
    k0_pay39 a v p s = k0_pay13 a (k0_pay12 v) p s := rfl

/-- A load at equal offsets is the same load. -/
theorem ld_off {S : Shape} {e : EltTy} (X : S.Idx → Elt F e) {o o' : Fin S.rank → ℕ} {sz : Fin S.rank → ℕ} (h : o = o') (i i') :
    View.ld X (Rect.unit (s := S) o sz i) = View.ld X (Rect.unit (s := S) o' sz i') := by
  subst h; rfl

/-- What the loop holds before trip `k`: scores of tile `2k+1`, weights of tile `2k`, the accumulator before tile `2k`. -/
def inv (c : Dev nD)
    (arg3 : Memref sig .tc .vmem S1x2x128x2048 .bf16) (harg3 : arg3.IsWhole)
    (arg4 : Memref sig .tc .vmem S1x1x256x128 .bf16) (harg4 : arg4.IsWhole)
    (arg5 : Memref sig .tc .vmem S1x1x1x144x256 .bf16) (harg5 : arg5.IsWhole)
    (arg6 : Memref sig .tc .vmem S1x1x16384x128 .bf16) (harg6 : arg6.IsWhole)
    (arg7 : Memref sig .tc .vmem S1x1x32x144x512 .bf16) (harg7 : arg7.IsWhole)
    (arg8 : Memref sig .tc .vmem S1x2048x256 .bf16) (harg8 : arg8.IsWhole)
    (arg9 : Memref sig .tc .vmem S256x4096 .f32) (harg9 : arg9.IsWhole)
    (arg10 : Memref sig .tc .vmem S256x4096 .bf16) (harg10 : arg10.IsWhole)
    (arg11 : Memref sig .tc .vmem S512x4096 .f32) (harg11 : arg11.IsWhole)
    (arg12 : Memref sig .tc .vmem S512x4096 .f32) (harg12 : arg12.IsWhole)
    (arg13 : Memref sig .tc .vmem S512x4096 .bf16) (harg13 : arg13.IsWhole)
    (arg14 : Memref sig .tc .vmem S512x4096 .bf16) (harg14 : arg14.IsWhole)
    (arg15 : Memref sig .tc .vmem S144x4096 .f32) (harg15 : arg15.IsWhole)
    (k : ℕ) (acc : FVec F S1x4096 .f32 × FVec F S1x4096 .f32 × FVec F S1x4096 .f32) : sProp 𝕄 :=
  iprop(owns (c : Thread nD τ) arg6 fullShare x3 ∗ owns (c : Thread nD τ) arg7 fullShare x4
    ∗ (∃ d, owns (c : Thread nD τ) arg11 fullShare d) ∗ owns (c : Thread nD τ) arg12 fullShare (sS x0 x3 (2 * k + 1))
    ∗ owns (c : Thread nD τ) arg13 fullShare (pP x0 x1 x3 (2 * k)) ∗ (∃ d, owns (c : Thread nD τ) arg14 fullShare d)
    ∗ owns (c : Thread nD τ) arg15 fullShare (aA x0 x1 x2 x3 x4 (2 * k))
    ∗ ⌜acc = (mM x0 x1 x3 (2 * k + 1), aL x0 x1 x3 (2 * k), mX x0 x3 (2 * k + 1))⌝)

theorem trip (c : Dev nD) (E : Set ℕ) (i : grid0.Coords)
    (arg3 : Memref sig .tc .vmem S1x2x128x2048 .bf16) (harg3 : arg3.IsWhole)
    (arg4 : Memref sig .tc .vmem S1x1x256x128 .bf16) (harg4 : arg4.IsWhole)
    (arg5 : Memref sig .tc .vmem S1x1x1x144x256 .bf16) (harg5 : arg5.IsWhole)
    (arg6 : Memref sig .tc .vmem S1x1x16384x128 .bf16) (harg6 : arg6.IsWhole)
    (arg7 : Memref sig .tc .vmem S1x1x32x144x512 .bf16) (harg7 : arg7.IsWhole)
    (arg8 : Memref sig .tc .vmem S1x2048x256 .bf16) (harg8 : arg8.IsWhole)
    (arg9 : Memref sig .tc .vmem S256x4096 .f32) (harg9 : arg9.IsWhole)
    (arg10 : Memref sig .tc .vmem S256x4096 .bf16) (harg10 : arg10.IsWhole)
    (arg11 : Memref sig .tc .vmem S512x4096 .f32) (harg11 : arg11.IsWhole)
    (arg12 : Memref sig .tc .vmem S512x4096 .f32) (harg12 : arg12.IsWhole)
    (arg13 : Memref sig .tc .vmem S512x4096 .bf16) (harg13 : arg13.IsWhole)
    (arg14 : Memref sig .tc .vmem S512x4096 .bf16) (harg14 : arg14.IsWhole)
    (arg15 : Memref sig .tc .vmem S144x4096 .f32) (harg15 : arg15.IsWhole)
    (v38 v48 v49 v59 : FVec F S1x4096 .f32) (v61 : FVec F S144x256 .bf16)
    (k : Fin k0_t1_loop.trips) (acc : FVec F S1x4096 .f32 × FVec F S1x4096 .f32 × FVec F S1x4096 .f32) :
    inv x0 x1 x2 x3 x4 c arg3 harg3 arg4 harg4 arg5 harg5 arg6 harg6 arg7 harg7 arg8 harg8 arg9 harg9 arg10 harg10 arg11 harg11 arg12 harg12 arg13 harg13 arg14 harg14 arg15 harg15 k.val acc
      ⊢ wp frame (wpE (defs₀ (F := F)) Variants.none (c : Thread nD τ) none) E
          (k0_t1_body (F := F) i arg3 harg3 arg4 harg4 arg5 harg5 arg6 harg6 arg7 harg7 arg8 harg8 arg9 harg9 arg10 harg10 arg11 harg11 arg12 harg12 arg13 harg13 arg14 harg14 arg15 harg15 (qq x0) v38 v48 v49 v59 v61 k acc)
          (fun yld => inv x0 x1 x2 x3 x4 c arg3 harg3 arg4 harg4 arg5 harg5 arg6 harg6 arg7 harg7 arg8 harg8 arg9 harg9 arg10 harg10 arg11 harg11 arg12 harg12 arg13 harg13 arg14 harg14 arg15 harg15 (k.val + 1) yld) := by
  have hk : k.val < 15 := Nat.lt_of_lt_of_le k.isLt k0_t1_abs.2.1
  unfold inv owns k0_t1_body
  iintro ⟨⟨%f6, %h6, H6⟩, ⟨%f7, %h7, H7⟩, ⟨%d11, %f11, -, H11⟩, ⟨%f12, %h12, H12⟩, ⟨%f13, %h13, H13⟩, ⟨%d14, %f14, -, H14⟩, ⟨%f15, %h15, H15⟩, %ha⟩
  subst ha
  have k0 : arg6.view.readAt (Elt F) (Rect.unit (s := S1x1x16384x128) (k0_off1 k 0#32) S1x1x512x128.size (k0_off1_inb k 0)).toLoadRect f6
      = kt x3 (2 * k.val + 2) := by
    rw [kt, ← h6]
    exact ld_off _ ((k0_off1_eq k 0).trans (by
      rw [Nat.mod_eq_of_lt (show 2 * k.val + 2 < 32 by omega), show 1024 * k.val + 512 * (0 : Fin 2).val + 1024 = 512 * (2 * k.val + 2) by
        show 1024 * k.val + 512 * 0 + 1024 = _; omega])) _ _
  have k1 : arg6.view.readAt (Elt F) (Rect.unit (s := S1x1x16384x128) (k0_off1 k 1#32) S1x1x512x128.size (k0_off1_inb k 1)).toLoadRect f6
      = kt x3 (2 * k.val + 3) := by
    rw [kt, ← h6]
    exact ld_off _ ((k0_off1_eq k 1).trans (by
      rw [Nat.mod_eq_of_lt (show 2 * k.val + 3 < 32 by omega), show 1024 * k.val + 512 * (1 : Fin 2).val + 1024 = 512 * (2 * k.val + 3) by
        show 1024 * k.val + 512 * 1 + 1024 = _; omega])) _ _
  have t0 : arg7.view.readAt (Elt F) (Rect.unit (s := S1x1x32x144x512) (k0_off2 k 0#32) S1x1x1x144x512.size (k0_off2_inb k 0)).toLoadRect f7
      = vt x4 (2 * k.val) := by
    rw [vt, ← h7]
    exact ld_off _ ((k0_off2_eq k 0).trans (by
      rw [Nat.mod_eq_of_lt (show 2 * k.val < 32 by omega)]; rfl)) _ _
  have t1 : arg7.view.readAt (Elt F) (Rect.unit (s := S1x1x32x144x512) (k0_off2 k 1#32) S1x1x1x144x512.size (k0_off2_inb k 1)).toLoadRect f7
      = vt x4 (2 * k.val + 1) := by
    rw [vt, ← h7]
    exact ld_off _ ((k0_off2_eq k 1).trans (by
      rw [Nat.mod_eq_of_lt (show 2 * k.val + 1 < 32 by omega)]; rfl)) _ _
  sl_exec
  sl_step
  rw [show 2 * (k.val + 1) = 2 * k.val + 1 + 1 from by omega]
  isplitl [H6]
  · iexists _; isplitr; · ipureintro; exact h6
    iexact H6
  isplitl [H7]
  · iexists _; isplitr; · ipureintro; exact h7
    iexact H7
  isplitl [H11]
  · iexists _, _; isplitr; swap; · iexact H11
    ipureintro; rfl
  isplitl [H12]
  · iexists _; isplitr; swap; · iexact H12
    ipureintro
    rw [View.read_writes_full]; rfl
  isplitl [H13]
  · iexists _; isplitr; swap; · iexact H13
    ipureintro
    sl_unfold_words
    rw [View.read_writes_full, View.readCov_full]; rfl
  isplitl [H14]
  · iexists _, _; isplitr; swap; · iexact H14
    ipureintro; rfl
  isplitl [H15]
  · iexists _; isplitr; swap; · iexact H15
    ipureintro
    sl_unfold_words
    rw [View.read_writes_full, View.readCov_full, View.readCov_full, View.readAt_full, View.readAt_full, View.readAt_full, h12, h13, h15,
      aA_succ, aA_succ, v_step]; rfl
  ipureintro
  sl_unfold_words
  rw [mM_succ, mM_succ]; rfl

end Cert.KernelIdeal.Att

end
-- ==== Proof.KernelIdeal.Run.lean ====
/- The attention kernel's body (`KernelIdeal`): from its five input blocks to the block of `Values.outVal`. -/
module

public import proofs.«01_k».proof.Proof.KernelIdeal.Trip

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (x0 : Vec F S1x2x128x2048 .bf16) (x1 : Vec F S1x1x256x128 .bf16) (x2 : Vec F S1x1x1x144x256 .bf16)
  (x3 : Vec F S1x1x16384x128 .bf16) (x4 : Vec F S1x1x32x144x512 .bf16)

/-- The body's first part: the queries, the context's scores and the scores of key tile 0. -/
theorem part3_run (c : Dev nD) (E : Set ℕ) (i : grid0.Coords)
    (arg3 : Memref sig .tc .vmem S1x2x128x2048 .bf16) (harg3 : arg3.IsWhole)
    (arg4 : Memref sig .tc .vmem S1x1x256x128 .bf16) (harg4 : arg4.IsWhole)
    (arg5 : Memref sig .tc .vmem S1x1x1x144x256 .bf16) (harg5 : arg5.IsWhole)
    (arg6 : Memref sig .tc .vmem S1x1x16384x128 .bf16) (harg6 : arg6.IsWhole)
    (arg7 : Memref sig .tc .vmem S1x1x32x144x512 .bf16) (harg7 : arg7.IsWhole)
    (arg8 : Memref sig .tc .vmem S1x2048x256 .bf16) (harg8 : arg8.IsWhole)
    (arg9 : Memref sig .tc .vmem S256x4096 .f32) (harg9 : arg9.IsWhole)
    (arg10 : Memref sig .tc .vmem S256x4096 .bf16) (harg10 : arg10.IsWhole)
    (arg11 : Memref sig .tc .vmem S512x4096 .f32) (harg11 : arg11.IsWhole)
    (arg12 : Memref sig .tc .vmem S512x4096 .f32) (harg12 : arg12.IsWhole)
    (arg13 : Memref sig .tc .vmem S512x4096 .bf16) (harg13 : arg13.IsWhole)
    (arg14 : Memref sig .tc .vmem S512x4096 .bf16) (harg14 : arg14.IsWhole)
    (arg15 : Memref sig .tc .vmem S144x4096 .f32) (harg15 : arg15.IsWhole) :
    (iprop(owns (c : Thread nD τ) arg3 fullShare x0 ∗ owns (c : Thread nD τ) arg4 fullShare x1 ∗ owns (c : Thread nD τ) arg6 fullShare x3 ∗ (∃ d, owns (c : Thread nD τ) arg9 fullShare d) ∗ (∃ d, owns (c : Thread nD τ) arg11 fullShare d) ∗ (∃ d, owns (c : Thread nD τ) arg15 fullShare d)) : sProp 𝕄)
      ⊢ wp frame (wpE (defs₀ (F := F)) Variants.none (c : Thread nD τ) none) E (k0_part3 (F := F) i arg3 harg3 arg4 harg4 arg5 harg5 arg6 harg6 arg7 harg7 arg8 harg8 arg9 harg9 arg10 harg10 arg11 harg11 arg12 harg12 arg13 harg13 arg14 harg14 arg15 harg15)
          (fun r => iprop(owns (c : Thread nD τ) arg3 fullShare x0 ∗ owns (c : Thread nD τ) arg4 fullShare x1 ∗ owns (c : Thread nD τ) arg6 fullShare x3 ∗ owns (c : Thread nD τ) arg9 fullShare (k0_pay24 (q0 x0) (q1 x0) x1) ∗ owns (c : Thread nD τ) arg11 fullShare (sS x0 x3 0) ∗ owns (c : Thread nD τ) arg15 fullShare k0_pay21 ∗ ⌜r = ⟨qq x0, k0_pay22, k0_pay25 (q0 x0) (q1 x0) x1, (k0_pay26 (q0 x0) (q1 x0) (kt x3 0))⟩⌝)) := by
  simp only [k0_part3_eq_skeleton]; unfold k0_part3_skel owns
  iintro ⟨⟨%f3, %h3, H3⟩, ⟨%f4, %h4, H4⟩, ⟨%f6, %h6, H6⟩, ⟨%d9, %f9, -, H9⟩, ⟨%d11, %f11, -, H11⟩, ⟨%d15, %f15, -, H15⟩⟩
  have e0 : arg3.view.readAt (Elt F) (Rect.unit (s := S1x2x128x2048) ![0, 0, 0, 0] S1x1x128x2048.size inb_S1x2x128x2048_S1x1x128x2048_0_0_0_0).toLoadRect f3
      = q0 x0 := by rw [q0, ← h3]; rfl
  have e1 : arg3.view.readAt (Elt F) (Rect.unit (s := S1x2x128x2048) ![0, 1, 0, 0] S1x1x128x2048.size inb_S1x2x128x2048_S1x1x128x2048_0_1_0_0).toLoadRect f3
      = q1 x0 := by rw [q1, ← h3]; rfl
  have e4 : arg4.view.readAt (Elt F) (Rect.unit (s := S1x1x256x128) ![0, 0, 0, 0] S1x1x256x128.size inb_S1x1x256x128_S1x1x256x128_0_0_0_0).toLoadRect f4
      = x1 := (View.readAt_full _ _ _).trans h4
  have e6 : arg6.view.readAt (Elt F) (Rect.unit (s := S1x1x16384x128) ![0, 0, 0, 0] S1x1x512x128.size inb_S1x1x16384x128_S1x1x512x128_0_0_0_0).toLoadRect f6
      = kt x3 0 := by rw [kt, ← h6]; exact ld_off _ rfl _ _
  sl_exec
  sl_step
  sl_unfold_words
  isplitl [H3]
  · iexists _; isplitr; · ipureintro; exact h3
    iexact H3
  isplitl [H4]
  · iexists _; isplitr; · ipureintro; exact h4
    iexact H4
  isplitl [H6]
  · iexists _; isplitr; · ipureintro; exact h6
    iexact H6
  isplitl [H9]
  · iexists _; isplitr; swap; · iexact H9
    ipureintro
    rw [View.read_writes_full]
  isplitl [H11]
  · iexists _; isplitr; swap; · iexact H11
    ipureintro
    rw [View.read_writes_full]; rfl
  isplitl [H15]
  · iexists _; isplitr; swap; · iexact H15
    ipureintro
    rw [View.read_writes_full]
  ipureintro; rfl

/-- The body's second part: the context's weights, the scores of key tile 1 and the weights of key tile 0. -/
theorem part4_run (c : Dev nD) (E : Set ℕ) (i : grid0.Coords)
    (arg3 : Memref sig .tc .vmem S1x2x128x2048 .bf16) (harg3 : arg3.IsWhole)
    (arg4 : Memref sig .tc .vmem S1x1x256x128 .bf16) (harg4 : arg4.IsWhole)
    (arg5 : Memref sig .tc .vmem S1x1x1x144x256 .bf16) (harg5 : arg5.IsWhole)
    (arg6 : Memref sig .tc .vmem S1x1x16384x128 .bf16) (harg6 : arg6.IsWhole)
    (arg7 : Memref sig .tc .vmem S1x1x32x144x512 .bf16) (harg7 : arg7.IsWhole)
    (arg8 : Memref sig .tc .vmem S1x2048x256 .bf16) (harg8 : arg8.IsWhole)
    (arg9 : Memref sig .tc .vmem S256x4096 .f32) (harg9 : arg9.IsWhole)
    (arg10 : Memref sig .tc .vmem S256x4096 .bf16) (harg10 : arg10.IsWhole)
    (arg11 : Memref sig .tc .vmem S512x4096 .f32) (harg11 : arg11.IsWhole)
    (arg12 : Memref sig .tc .vmem S512x4096 .f32) (harg12 : arg12.IsWhole)
    (arg13 : Memref sig .tc .vmem S512x4096 .bf16) (harg13 : arg13.IsWhole)
    (arg14 : Memref sig .tc .vmem S512x4096 .bf16) (harg14 : arg14.IsWhole)
    (arg15 : Memref sig .tc .vmem S144x4096 .f32) (harg15 : arg15.IsWhole) :
    (iprop(owns (c : Thread nD τ) arg5 fullShare x2 ∗ owns (c : Thread nD τ) arg6 fullShare x3 ∗ owns (c : Thread nD τ) arg9 fullShare (k0_pay24 (q0 x0) (q1 x0) x1) ∗ (∃ d, owns (c : Thread nD τ) arg10 fullShare d) ∗ owns (c : Thread nD τ) arg11 fullShare (sS x0 x3 0) ∗ (∃ d, owns (c : Thread nD τ) arg12 fullShare d) ∗ (∃ d, owns (c : Thread nD τ) arg13 fullShare d)) : sProp 𝕄)
      ⊢ wp frame (wpE (defs₀ (F := F)) Variants.none (c : Thread nD τ) none) E (k0_part4 (F := F) i arg3 harg3 arg4 harg4 arg5 harg5 arg6 harg6 arg7 harg7 arg8 harg8 arg9 harg9 arg10 harg10 arg11 harg11 arg12 harg12 arg13 harg13 arg14 harg14 arg15 harg15 (qq x0) k0_pay22 (k0_pay25 (q0 x0) (q1 x0) x1) (k0_pay26 (q0 x0) (q1 x0) (kt x3 0)))
          (fun r => iprop(owns (c : Thread nD τ) arg5 fullShare x2 ∗ owns (c : Thread nD τ) arg6 fullShare x3 ∗ (∃ d, owns (c : Thread nD τ) arg9 fullShare d) ∗ owns (c : Thread nD τ) arg10 fullShare (k0_pay29 k0_pay22 (k0_pay25 (q0 x0) (q1 x0) x1) (k0_pay24 (q0 x0) (q1 x0) x1)) ∗ (∃ d, owns (c : Thread nD τ) arg11 fullShare d) ∗ owns (c : Thread nD τ) arg12 fullShare (sS x0 x3 1) ∗ owns (c : Thread nD τ) arg13 fullShare (pP x0 x1 x3 0) ∗ ⌜r = ⟨k0_pay30 k0_pay22 (k0_pay25 (q0 x0) (q1 x0) x1), mX x0 x3 1, mM x0 x1 x3 1, aL x0 x1 x3 0, k0_pay37 x2⟩⌝)) := by
  simp only [k0_part4_eq_skeleton]; unfold k0_part4_skel owns
  iintro ⟨⟨%f5, %h5, H5⟩, ⟨%f6, %h6, H6⟩, ⟨%f9, %h9, H9⟩, ⟨%d10, %f10, -, H10⟩, ⟨%f11, %h11, H11⟩, ⟨%d12, %f12, -, H12⟩, ⟨%d13, %f13, -, H13⟩⟩
  have e6 : arg6.view.readAt (Elt F) (Rect.unit (s := S1x1x16384x128) ![0, 0, 512, 0] S1x1x512x128.size inb_S1x1x16384x128_S1x1x512x128_0_0_512_0).toLoadRect f6
      = kt x3 1 := by rw [kt, ← h6]; exact ld_off _ rfl _ _
  sl_exec
  sl_step
  sl_unfold_words
  isplitl [H5]
  · iexists _; isplitr; · ipureintro; exact h5
    iexact H5
  isplitl [H6]
  · iexists _; isplitr; · ipureintro; exact h6
    iexact H6
  isplitl [H9]
  · iexists _, _; isplitr; swap; · iexact H9
    ipureintro; rfl
  isplitl [H10]
  · iexists _; isplitr; swap; · iexact H10
    ipureintro
    rw [View.read_writes_full, View.readAt_full, h9]
  isplitl [H11]
  · iexists _, _; isplitr; swap; · iexact H11
    ipureintro; rfl
  isplitl [H12]
  · iexists _; isplitr; swap; · iexact H12
    ipureintro
    rw [View.read_writes_full]; rfl
  isplitl [H13]
  · iexists _; isplitr; swap; · iexact H13
    ipureintro
    rw [View.read_writes_full, View.readAt_full, h11]; rfl
  ipureintro
  rw [View.readAt_full, h5]; rfl

/-- The body's third part: the context worked into the accumulator, the loop, and what follows it. -/
theorem part5_run (c : Dev nD) (E : Set ℕ) (i : grid0.Coords)
    (arg3 : Memref sig .tc .vmem S1x2x128x2048 .bf16) (harg3 : arg3.IsWhole)
    (arg4 : Memref sig .tc .vmem S1x1x256x128 .bf16) (harg4 : arg4.IsWhole)
    (arg5 : Memref sig .tc .vmem S1x1x1x144x256 .bf16) (harg5 : arg5.IsWhole)
    (arg6 : Memref sig .tc .vmem S1x1x16384x128 .bf16) (harg6 : arg6.IsWhole)
    (arg7 : Memref sig .tc .vmem S1x1x32x144x512 .bf16) (harg7 : arg7.IsWhole)
    (arg8 : Memref sig .tc .vmem S1x2048x256 .bf16) (harg8 : arg8.IsWhole)
    (arg9 : Memref sig .tc .vmem S256x4096 .f32) (harg9 : arg9.IsWhole)
    (arg10 : Memref sig .tc .vmem S256x4096 .bf16) (harg10 : arg10.IsWhole)
    (arg11 : Memref sig .tc .vmem S512x4096 .f32) (harg11 : arg11.IsWhole)
    (arg12 : Memref sig .tc .vmem S512x4096 .f32) (harg12 : arg12.IsWhole)
    (arg13 : Memref sig .tc .vmem S512x4096 .bf16) (harg13 : arg13.IsWhole)
    (arg14 : Memref sig .tc .vmem S512x4096 .bf16) (harg14 : arg14.IsWhole)
    (arg15 : Memref sig .tc .vmem S144x4096 .f32) (harg15 : arg15.IsWhole) :
    (iprop(owns (c : Thread nD τ) arg6 fullShare x3 ∗ owns (c : Thread nD τ) arg7 fullShare x4 ∗ owns (c : Thread nD τ) arg10 fullShare (k0_pay29 k0_pay22 (k0_pay25 (q0 x0) (q1 x0) x1) (k0_pay24 (q0 x0) (q1 x0) x1)) ∗ (∃ d, owns (c : Thread nD τ) arg11 fullShare d) ∗ owns (c : Thread nD τ) arg12 fullShare (sS x0 x3 1) ∗ owns (c : Thread nD τ) arg13 fullShare (pP x0 x1 x3 0) ∗ (∃ d, owns (c : Thread nD τ) arg14 fullShare d) ∗ owns (c : Thread nD τ) arg15 fullShare k0_pay21) : sProp 𝕄)
      ⊢ wp frame (wpE (defs₀ (F := F)) Variants.none (c : Thread nD τ) none) E (k0_part5 (F := F) i arg3 harg3 arg4 harg4 arg5 harg5 arg6 harg6 arg7 harg7 arg8 harg8 arg9 harg9 arg10 harg10 arg11 harg11 arg12 harg12 arg13 harg13 arg14 harg14 arg15 harg15 (qq x0) (k0_pay30 k0_pay22 (k0_pay25 (q0 x0) (q1 x0) x1)) (mX x0 x3 1) (mM x0 x1 x3 1) (aL x0 x1 x3 0) (k0_pay37 x2))
          (fun r => iprop(owns (c : Thread nD τ) arg6 fullShare x3 ∗ owns (c : Thread nD τ) arg7 fullShare x4 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare (pP x0 x1 x3 31) ∗ (∃ d, owns (c : Thread nD τ) arg15 fullShare d) ∗ ⌜r.1 = aL x0 x1 x3 31 ∧ k0_pay1 r.2.1 = aA x0 x1 x2 x3 x4 31⌝)) := by
  simp only [k0_part5_eq_skeleton]; unfold k0_part5_skel owns
  iintro ⟨H6, H7, ⟨%f10, %h10, H10⟩, H11, H12, H13, H14, ⟨%f15, %h15, H15⟩⟩
  sl_exec
  sl_for (inv x0 x1 x2 x3 x4 c arg3 harg3 arg4 harg4 arg5 harg5 arg6 harg6 arg7 harg7 arg8 harg8 arg9 harg9 arg10 harg10 arg11 harg11 arg12 harg12 arg13 harg13 arg14 harg14 arg15 harg15) $$ [H6 H7 H11 H12 H13 H14 H15]
  case region =>
    intro k acc
    exact trip x0 x1 x2 x3 x4 c E i arg3 harg3 arg4 harg4 arg5 harg5 arg6 harg6 arg7 harg7 arg8 harg8 arg9 harg9 arg10 harg10 arg11 harg11 arg12 harg12 arg13 harg13 arg14 harg14 arg15 harg15 _ _ _ _ _ k acc
  · unfold inv owns
    isplitl [H6]; · iexact H6
    isplitl [H7]; · iexact H7
    isplitl [H11]; · iexact H11
    isplitl [H12]; · iexact H12
    isplitl [H13]; · iexact H13
    isplitl [H14]; · iexact H14
    isplitl [H15]
    · iexists _; isplitr; swap; · iexact H15
      ipureintro
      sl_unfold_words
      rw [View.read_writes_full, View.readAt_full, View.readAt_full, h10, h15]; rfl
    ipureintro; rfl
  iintro %acc Hinv
  have htr : Scf.trips k0_t1_loop.lb k0_t1_loop.ub k0_t1_loop.st = 15 := by decide
  unfold inv owns
  icases Hinv with ⟨⟨%f6, %h6, H6⟩, ⟨%f7, %h7, H7⟩, ⟨%d11, %f11, -, H11⟩, ⟨%f12, %h12, H12⟩, ⟨%f13, %h13, H13⟩, ⟨%d14, %f14, -, H14⟩, ⟨%g15, %hg15, H15⟩, %ha⟩
  rw [htr] at h12 h13 hg15 ha
  subst ha
  have t0 : arg7.view.readAt (Elt F) (Rect.unit (s := S1x1x32x144x512) ![0, 0, 30, 0, 0] S1x1x1x144x512.size inb_S1x1x32x144x512_S1x1x1x144x512_0_0_30_0_0).toLoadRect f7
      = vt x4 30 := by rw [vt, ← h7]; exact ld_off _ rfl _ _
  sl_exec
  sl_step
  isplitl [H6]
  · iexists _; isplitr; · ipureintro; exact h6
    iexact H6
  isplitl [H7]
  · iexists _; isplitr; · ipureintro; exact h7
    iexact H7
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _; isplitr; swap; · iexact H14
    ipureintro
    rw [View.read_writes_full, View.readAt_full, h12]; rfl
  isplitl [H15]
  · iexists _, _; isplitr; swap; · iexact H15
    ipureintro; rfl
  ipureintro
  refine ⟨rfl, ?_⟩
  show k0_pay1 (k0_pay43 _ _ _ _) = _
  rw [View.readAt_full, View.readAt_full, h13, hg15]; rfl

theorem out_cover : ∀ y, ∃ p ∈ outPieces x0 x1 x2 x3 x4, y ∈ p.1.set :=
  View.cover_of_tiledL (outPieces x0 x1 x2 x3 x4) S1x2048x128.size (by sl_kernel_rfl)

set_option maxHeartbeats 1000000 in
/-- The body: the five input blocks kept, the output block at `outVal`, the scratch at anything. -/
theorem body_run (c : Dev nD) (E : Set ℕ) (i : grid0.Coords)
    (arg3 : Memref sig .tc .vmem S1x2x128x2048 .bf16) (harg3 : arg3.IsWhole)
    (arg4 : Memref sig .tc .vmem S1x1x256x128 .bf16) (harg4 : arg4.IsWhole)
    (arg5 : Memref sig .tc .vmem S1x1x1x144x256 .bf16) (harg5 : arg5.IsWhole)
    (arg6 : Memref sig .tc .vmem S1x1x16384x128 .bf16) (harg6 : arg6.IsWhole)
    (arg7 : Memref sig .tc .vmem S1x1x32x144x512 .bf16) (harg7 : arg7.IsWhole)
    (arg8 : Memref sig .tc .vmem S1x2048x256 .bf16) (harg8 : arg8.IsWhole)
    (arg9 : Memref sig .tc .vmem S256x4096 .f32) (harg9 : arg9.IsWhole)
    (arg10 : Memref sig .tc .vmem S256x4096 .bf16) (harg10 : arg10.IsWhole)
    (arg11 : Memref sig .tc .vmem S512x4096 .f32) (harg11 : arg11.IsWhole)
    (arg12 : Memref sig .tc .vmem S512x4096 .f32) (harg12 : arg12.IsWhole)
    (arg13 : Memref sig .tc .vmem S512x4096 .bf16) (harg13 : arg13.IsWhole)
    (arg14 : Memref sig .tc .vmem S512x4096 .bf16) (harg14 : arg14.IsWhole)
    (arg15 : Memref sig .tc .vmem S144x4096 .f32) (harg15 : arg15.IsWhole)
    (K : PUnit → sProp 𝕄) :
    (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ owns (c : Thread nD τ) arg8 fullShare (outVal x0 x1 x2 x3 x4) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩)) : sProp 𝕄)
      ⊢ wp frame (wpE (defs₀ (F := F)) Variants.none (c : Thread nD τ) none) E (cc0_attn_global (F := F) i arg3 harg3 arg4 harg4 arg5 harg5 arg6 harg6 arg7 harg7 arg8 harg8 arg9 harg9 arg10 harg10 arg11 harg11 arg12 harg12 arg13 harg13 arg14 harg14 arg15 harg15) K := by
  simp only [cc0_attn_global_eq_skeleton]; unfold cc0_attn_global_skel
  iintro ⟨H3, H4, H5, H6, H7, H8, H9, H10, H11, H12, H13, H14, H15, Hk⟩
  rw [wp_bind]
  iapply (wp_wand_r Idealize.ShloMosaic.frame (wpE (defs₀ (F := F)) Variants.none (c : Thread nD τ) none) E)
  isplitl [H3 H4 H6 H9 H11 H15]
  · iapply (part3_run x0 x1 x3 c E i arg3 harg3 arg4 harg4 arg5 harg5 arg6 harg6 arg7 harg7 arg8 harg8 arg9 harg9 arg10 harg10 arg11 harg11 arg12 harg12 arg13 harg13 arg14 harg14 arg15 harg15)
    isplitl [H3]; · iexact H3
    isplitl [H4]; · iexact H4
    isplitl [H6]; · iexact H6
    isplitl [H9]; · iexact H9
    isplitl [H11]; · iexact H11
    iexact H15
  iintro %r ⟨H3, H4, H6, H9, H11, H15, %hr⟩
  subst hr
  rw [wp_bind]
  iapply (wp_wand_r Idealize.ShloMosaic.frame (wpE (defs₀ (F := F)) Variants.none (c : Thread nD τ) none) E)
  isplitl [H5 H6 H9 H10 H11 H12 H13]
  · iapply (part4_run x0 x1 x2 x3 c E i arg3 harg3 arg4 harg4 arg5 harg5 arg6 harg6 arg7 harg7 arg8 harg8 arg9 harg9 arg10 harg10 arg11 harg11 arg12 harg12 arg13 harg13 arg14 harg14 arg15 harg15)
    isplitl [H5]; · iexact H5
    isplitl [H6]; · iexact H6
    isplitl [H9]; · iexact H9
    isplitl [H10]; · iexact H10
    isplitl [H11]; · iexact H11
    isplitl [H12]; · iexact H12
    iexact H13
  iintro %r ⟨H5, H6, H9, H10, H11, H12, H13, %hr⟩
  subst hr
  rw [wp_bind]
  iapply (wp_wand_r Idealize.ShloMosaic.frame (wpE (defs₀ (F := F)) Variants.none (c : Thread nD τ) none) E)
  isplitl [H6 H7 H10 H11 H12 H13 H14 H15]
  · iapply (part5_run x0 x1 x2 x3 x4 c E i arg3 harg3 arg4 harg4 arg5 harg5 arg6 harg6 arg7 harg7 arg8 harg8 arg9 harg9 arg10 harg10 arg11 harg11 arg12 harg12 arg13 harg13 arg14 harg14 arg15 harg15)
    isplitl [H6]; · iexact H6
    isplitl [H7]; · iexact H7
    isplitl [H10]; · iexact H10
    isplitl [H11]; · iexact H11
    isplitl [H12]; · iexact H12
    isplitl [H13]; · iexact H13
    isplitl [H14]; · iexact H14
    iexact H15
  iintro %r ⟨H6, H7, H10, H11, H12, H13, H14, H15, %hr⟩
  obtain ⟨r1, r2, r3⟩ := r
  obtain ⟨hr1, hr2⟩ := hr
  simp only at hr1 hr2
  subst hr1
  unfold owns
  icases H7 with ⟨%f7, %h7, H7⟩
  icases H8 with ⟨%d8, %f8, -, H8⟩
  icases H14 with ⟨%f14, %h14, H14⟩
  icases H15 with ⟨%d15, %f15, -, H15⟩
  have t1 : arg7.view.readAt (Elt F) (Rect.unit (s := S1x1x32x144x512) ![0, 0, 31, 0, 0] S1x1x1x144x512.size inb_S1x1x32x144x512_S1x1x1x144x512_0_0_31_0_0).toLoadRect f7
      = vt x4 31 := by rw [vt, ← h7]; exact ld_off _ rfl _ _
  sl_exec
  sl_step
  iapply Hk
  isplitl [H3]; · iexact H3
  isplitl [H4]; · iexact H4
  isplitl [H5]; · iexact H5
  isplitl [H6]; · iexact H6
  isplitl [H7]
  · iexists _; isplitr; · ipureintro; exact h7
    iexact H7
  isplitl [H8]
  · iexists _; isplitr; swap; · iexact H8
    ipureintro
    sl_unfold_words
    rw [hr2, View.readCov_full, View.readCov_full, View.readAt_full, h14]
    exact View.read_writes_eq_canon _ _ (outPieces x0 x1 x2 x3 x4) (out_cover x0 x1 x2 x3 x4)
  isplitl [H9]; · iexact H9
  isplitl [H10]; · iexact H10
  isplitl [H11]; · iexact H11
  isplitl [H12]; · iexact H12
  isplitl [H13]; · iexact H13
  isplitl [H14]
  · iexists _, _; isplitr; swap; · iexact H14
    ipureintro; rfl
  iexists _, _; isplitr; swap; · iexact H15
  ipureintro; rfl

end Cert.KernelIdeal.Att

end
-- ==== Proof.KernelIdeal.Whole.lean ====
/- The launch of the attention kernel (`KernelIdeal`): the body at every grid point, the whole run, the arguments unchanged,
   and the result array block by block. -/
module

public import proofs.«01_k».proof.Proof.KernelIdeal.Run
public import proofs.«01_k».proof.Proof.Gen.KernelIdeal.Frame
public import Idealize.ShloMosaic.Lib.Claim
public import Idealize.ShloMosaic.Lib.Pipeline.Value

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 0's staging memref at point `t`. -/
abbrev ms0 (t : Fin cfg0.N) : Memref sig .tc .vmem S1x2x128x2048 .bf16 := win0_0.stage (cfg0.slots t 0)
abbrev hs0 (t : Fin cfg0.N) : (ms0 t).IsWhole := hstage0_0 ((cfg0.slots t 0).cast nbuf0_0)
/-- Window 1's staging memref at point `t`. -/
abbrev ms1 (t : Fin cfg0.N) : Memref sig .tc .vmem S1x1x256x128 .bf16 := win0_1.stage (cfg0.slots t 1)
abbrev hs1 (t : Fin cfg0.N) : (ms1 t).IsWhole := hstage0_1 ((cfg0.slots t 1).cast nbuf0_1)
/-- Window 2's staging memref at point `t`. -/
abbrev ms2 (t : Fin cfg0.N) : Memref sig .tc .vmem S1x1x1x144x256 .bf16 := win0_2.stage (cfg0.slots t 2)
abbrev hs2 (t : Fin cfg0.N) : (ms2 t).IsWhole := hstage0_2 ((cfg0.slots t 2).cast nbuf0_2)
/-- Window 3's staging memref at point `t`. -/
abbrev ms3 (t : Fin cfg0.N) : Memref sig .tc .vmem S1x1x16384x128 .bf16 := win0_3.stage (cfg0.slots t 3)
abbrev hs3 (t : Fin cfg0.N) : (ms3 t).IsWhole := hstage0_3 ((cfg0.slots t 3).cast nbuf0_3)
/-- Window 4's staging memref at point `t`. -/
abbrev ms4 (t : Fin cfg0.N) : Memref sig .tc .vmem S1x1x32x144x512 .bf16 := win0_4.stage (cfg0.slots t 4)
abbrev hs4 (t : Fin cfg0.N) : (ms4 t).IsWhole := hstage0_4 ((cfg0.slots t 4).cast nbuf0_4)
/-- Window 5's staging memref at point `t`. -/
abbrev ms5 (t : Fin cfg0.N) : Memref sig .tc .vmem S1x2048x256 .bf16 := win0_5.stage (cfg0.slots t 5)
abbrev hs5 (t : Fin cfg0.N) : (ms5 t).IsWhole := hstage0_5 ((cfg0.slots t 5).cast nbuf0_5)
/-- Scratch operand 0. -/
abbrev sc0 : Memref sig .tc .vmem S256x4096 .f32 := Memref.whole cc0_scratch0
/-- Scratch operand 1. -/
abbrev sc1 : Memref sig .tc .vmem S256x4096 .bf16 := Memref.whole cc0_scratch1
/-- Scratch operand 2. -/
abbrev sc2 : Memref sig .tc .vmem S512x4096 .f32 := Memref.whole cc0_scratch2
/-- Scratch operand 3. -/
abbrev sc3 : Memref sig .tc .vmem S512x4096 .f32 := Memref.whole cc0_scratch3
/-- Scratch operand 4. -/
abbrev sc4 : Memref sig .tc .vmem S512x4096 .bf16 := Memref.whole cc0_scratch4
/-- Scratch operand 5. -/
abbrev sc5 : Memref sig .tc .vmem S512x4096 .bf16 := Memref.whole cc0_scratch5
/-- Scratch operand 6. -/
abbrev sc6 : Memref sig .tc .vmem S144x4096 .f32 := Memref.whole cc0_scratch6

theorem phi_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d)) ∗ (∃ r, prngReg c r)) := by
  unfold Pipeline.ΦA; rw [scopedRest0_eq]; simp only [sc0, sc1, sc2, sc3, sc4, sc5, sc6, owns_whole]; try rfl

/-- What the body leaves in the output's staging buffer at point `t`. -/
def outAt (c : Dev nD) (t : Fin cfg0.N) : Vec F S1x2048x256 .bf16 := outVal (iblk m c 0 t) (iblk m c 1 t) (iblk m c 2 t) (iblk m c 3 t) (iblk m c 4 t)

/-- The pipeline's proof data: the arrays as the region finds them, each input's block kept, the output's block `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 1200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  rw [show (dats m 0 c).Φ t.castSucc = Pipeline.ΦA spec0 c from rfl, phi_eq]
  unfold outAt
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩⟩
  iapply (body_run (iblk m c 0 t) (iblk m c 1 t) (iblk m c 2 t) (iblk m c 3 t) (iblk m c 4 t) c Set.univ (grid0.coords t) (ms0 t) (hs0 t) (ms1 t) (hs1 t) (ms2 t) (hs2 t) (ms3 t) (hs3 t) (ms4 t) (hs4 t) (ms5 t) (hs5 t)
    sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, HS0, HS1, HS2, HS3, HS4, HS5, HS6⟩
  isplitl [HS0 HS1 HS2 HS3 HS4 HS5 HS6 Hg]
  · isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run ends with every array at what the proof data says and every counter at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end as they were, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-! ## The result array, block by block -/

theorem flushed5 (c : Dev nD) (t : Fin cfg0.N) :
    (dats m 0 c).flushed 5 t = (cfg0.win 5).cut (grid0.coords t) (outAt m c t) := by
  show (cfg0.win 5).cut (grid0.coords t) ((dats m 0 c).after 5 t) = _
  rw [after5]

theorem idx_inj5 : ∀ t t' : Fin cfg0.N, win0_5.index t = win0_5.index t' → t = t' :=
  (by decide +kernel : ∀ t t' : Fin grid0.N, win0_5.index t = win0_5.index t' → t = t')

theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

theorem blocks5 (c : Dev nD) (t : Fin cfg0.N) :
    ((cfg0.win 5).blk t).view.read (Elt F) ((dats m 0 c).arrAt 5 cfg0.N) = (cfg0.win 5).cut (grid0.coords t) (outAt m c t) :=
  ((dats m 0 c).read_blk_arrAt_eq_flushed 5 disjoint5 cfg0.N t t.isLt (flush0_5 t)).trans (flushed5 m c t)

/-- The run with the result array named and the counters at zero. -/
theorem run_result : θ_run defs (onTc (τ := τ) (main (F := F))) ⟨m, fun _ => 0, ρ⟩ (fun r =>
      ((∀ c : Dev nD, r.2.mem ((c : Thread nD τ).loc main_v24) = (dats m 0 c).arrAt 5 cfg0.N)
      ∧ ∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0) :=
  (θ_run defs _ _).mono (fun _ h => ⟨⟨h.1, h.2.1⟩, h.2.2⟩)
    (θ_run_and ((θ_run defs _ _).mono (fun r h c => (h.1 c).1 5) (run_main m ρ)) (frame m ρ))

end Cert.KernelIdeal.Att

end
-- ==== Proof.Spec.lean ====
/- The attention, index by index of the arguments: the common value of kernel and reference over the extended reals. -/
module

public import proofs.«01_k».proof.Proof.Softmax

@[expose] public section

noncomputable section

namespace Spec

open Idealize.ShloMosaic Idealize.ShloMosaic.Pointwise
open Softmax (two)

/-- The shapes of the queries, the latent keys or values, and the context's. -/
abbrev SQ : Shape := ⟨4, ![2, 16384, 4, 128]⟩
abbrev SL : Shape := ⟨4, ![2, 16384, 2, 128]⟩
abbrev SC : Shape := ⟨4, ![2, 256, 2, 128]⟩

/-- Key (or value) `j` of batch entry `b` and key head `h`: the 256 of the context first, then the latent ones. -/
def all (x : SL.Idx → EReal) (xc : SC.Idx → EReal) (b h : Fin 2) (j : ℕ) (d : Fin 128) : EReal :=
  if hj : j < 256 then xc (ix4 b ⟨j, hj⟩ h d)
  else if hj' : j - 256 < 16384 then x (ix4 b ⟨j - 256, hj'⟩ h d) else 0

theorem all_ctx (x : SL.Idx → EReal) (xc : SC.Idx → EReal) (b h : Fin 2) (r : Fin 256) (d : Fin 128) :
    all x xc b h r.val d = xc (ix4 b r h d) := dif_pos r.isLt

theorem all_lat (x : SL.Idx → EReal) (xc : SC.Idx → EReal) (b h : Fin 2) (r : Fin 16384) (d : Fin 128) :
    all x xc b h (256 + r.val) d = x (ix4 b r h d) := by
  unfold all
  rw [dif_neg (by omega), dif_pos (by omega)]
  congr 2
  exact Fin.ext (by show 256 + r.val - 256 = r.val; omega)

variable (q : SQ.Idx → EReal) (k : SL.Idx → EReal) (v : SL.Idx → EReal) (kc : SC.Idx → EReal) (vc : SC.Idx → EReal)

/-- The product of key `j` with a query, as reals, and the score: its quotient by the root of the depth. -/
def dot (b : Fin 2) (l : Fin 16384) (n : Fin 4) (h : Fin 2) (j : ℕ) : ℝ :=
  ∑ d : Fin 128, (all k kc b h j d).toReal * (q (ix4 b l n d)).toReal
def score (b : Fin 2) (l : Fin 16384) (n : Fin 4) (h : Fin 2) (j : ℕ) : ℝ := dot q k kc b l n h j / Real.sqrt 128

/-- The attention's output: the values' sum under the softmax of the scores. -/
def out (b : Fin 2) (l : Fin 16384) (h g : Fin 2) (d : Fin 128) : EReal :=
  ∑ j ∈ Finset.range 16640, all v vc b h j d
    * ((Real.exp (score q k kc b l ⟨2 * h.val + g.val, by omega⟩ h j)
        / ∑ i ∈ Finset.range 16640, Real.exp (score q k kc b l ⟨2 * h.val + g.val, by omega⟩ h i) : ℝ) : EReal)

/-- Every entry is a real number. -/
def Real' {s : Shape} (x : s.Idx → EReal) : Prop := ∀ i, x i = (((x i).toReal : ℝ) : EReal)

theorem all_real (hk : Real' k) (hkc : Real' kc) (b h : Fin 2) (j : ℕ) (d : Fin 128) :
    all k kc b h j d = (((all k kc b h j d).toReal : ℝ) : EReal) := by
  unfold all
  split
  · exact hkc _
  · split
    · exact hk _
    · simp

/-- The products' sum is the real one, each query entry first multiplied by a real `s`. -/
theorem sum_scaled (hq : Real' q) (hk : Real' k) (hkc : Real' kc) (s : ℝ) (b : Fin 2) (l : Fin 16384) (n : Fin 4) (h : Fin 2) (j : ℕ) :
    ∑ d : Fin 128, all k kc b h j d * (q (ix4 b l n d) * (s : EReal)) = ((dot q k kc b l n h j * s : ℝ) : EReal) := by
  unfold dot
  rw [Finset.sum_mul, Softmax.coe_sum]
  refine Finset.sum_congr rfl fun d _ => ?_
  rw [all_real k kc hk hkc, hq (ix4 b l n d), ← EReal.coe_mul, ← EReal.coe_mul, EReal.toReal_coe, EReal.toReal_coe, mul_assoc]

theorem sum_plain (hq : Real' q) (hk : Real' k) (hkc : Real' kc) (b : Fin 2) (l : Fin 16384) (n : Fin 4) (h : Fin 2) (j : ℕ) :
    ∑ d : Fin 128, all k kc b h j d * q (ix4 b l n d) = ((dot q k kc b l n h j : ℝ) : EReal) := by
  have := sum_scaled q k kc hq hk hkc 1 b l n h j
  simpa using this

/-- The kernel's factor, `1 / (√128 · log 2)`. -/
def qs : ℝ := 1 / (Real.sqrt 128 * Real.log 2)

theorem two_qs (x : ℝ) : two (x * qs) = Real.exp (x / Real.sqrt 128) := by
  have h2 : Real.log 2 ≠ 0 := (Real.log_pos (by norm_num)).ne'
  have hs : Real.sqrt 128 ≠ 0 := (Real.sqrt_pos.2 (by norm_num)).ne'
  show (2 : ℝ) ^ (x * qs) = _
  rw [Real.rpow_def_of_pos (by norm_num)]
  congr 1
  unfold qs
  field_simp

theorem ofBits_128 : Ideal.ofBits .f32 0x43000000#32 = ((128 : ℝ) : EReal) := by
  simp [Ideal.ofBits, Ideal.ieee, -EReal.coe_mul]; norm_num
theorem ofBits_2 : Ideal.ofBits .f32 0x40000000#32 = ((2 : ℝ) : EReal) := by
  simp [Ideal.ofBits, Ideal.ieee, -EReal.coe_mul]; norm_num

theorem qs_eq : Ideal.div 1 (Ideal.sqrt (Ideal.ofBits .f32 0x43000000#32) * Ideal.log (Ideal.ofBits .f32 0x40000000#32)) = (qs : EReal) := by
  have h2 : 0 < Real.log 2 := Real.log_pos (by norm_num)
  have hs : 0 < Real.sqrt 128 := Real.sqrt_pos.2 (by norm_num)
  rw [ofBits_128, ofBits_2, Ideal.sqrt_coe, Ideal.log_coe, if_neg (by norm_num), if_neg (by norm_num), ← EReal.coe_mul,
    Ideal.div_coe (mul_pos hs h2).ne', one_mul]
  rfl

end Spec

end
-- ==== Proof.KernelIdeal.Host.lean ====
/- What the region finds in the arrays its windows stage, and the windows' blocks, entry by entry of the arguments. -/
module

public import proofs.«01_k».proof.Proof.KernelIdeal.Whole
public import proofs.«01_k».proof.Proof.Spec
public import Idealize.ShloMosaic.Lib.Pointwise
public import Idealize.ShloMosaic.Lib.IdealHost

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.ShloMosaic.Pointwise

variable (m : (ℓ : Loc nD τ sig) → Buf (Elt Ideal) ℓ) (c : Dev nD)

/-- The arguments. -/
abbrev aQ : Vec Ideal S2x16384x4x128 .f32 := m ((c.tc : Thread nD τ).loc main_arg0)
abbrev aK : Vec Ideal S2x16384x2x128 .f32 := m ((c.tc : Thread nD τ).loc main_arg1)
abbrev aV : Vec Ideal S2x16384x2x128 .f32 := m ((c.tc : Thread nD τ).loc main_arg2)
abbrev aKc : Vec Ideal S2x256x2x128 .f32 := m ((c.tc : Thread nD τ).loc main_arg3)
abbrev aVc : Vec Ideal S2x256x2x128 .f32 := m ((c.tc : Thread nD τ).loc main_arg4)

theorem V_q : V m c main_v7 = truncf .bf16 (transpose S2x4x128x16384 [0, 2, 3, 1] (mulf (aQ m c)
    (broadcastInDim S2x16384x4x128 ![] bcast_S_S2x16384x4x128 (Host.divf (constant (F := Ideal) S_ .f32 0x3F800000#32)
      (mulf (Host.sqrt (constant (F := Ideal) S_ .f32 0x43000000#32)) (Host.log (constant (F := Ideal) S_ .f32 0x40000000#32))))))
      transposes_S2x16384x4x128_S2x4x128x16384_0_2_3_1) bitsLt_bf16_f32 := by
  unfold V; after_results <;> rfl

theorem V_k : V m c main_v9 = truncf (F := Ideal) .bf16 (transpose S2x2x16384x128 [0, 2, 1, 3] (aK m c) transposes_S2x16384x2x128_S2x2x16384x128_0_2_1_3) bitsLt_bf16_f32 := by
  unfold V; after_results <;> rfl

theorem V_kc : V m c main_v11 = truncf (F := Ideal) .bf16 (transpose S2x2x256x128 [0, 2, 1, 3] (aKc m c) transposes_S2x256x2x128_S2x2x256x128_0_2_1_3) bitsLt_bf16_f32 := by
  unfold V; after_results <;> rfl

theorem V_v : V m c main_v17 = concatenate S2x2x32x144x512 3
    [⟨S2x2x32x128x512, truncf .bf16 (transpose S2x2x32x128x512 [0, 1, 2, 4, 3] (shapeCast S2x2x32x512x128
        (transpose S2x2x16384x128 [0, 2, 1, 3] (aV m c) transposes_S2x16384x2x128_S2x2x16384x128_0_2_1_3) shapeCasts_S2x2x16384x128_S2x2x32x512x128)
        transposes_S2x2x32x512x128_S2x2x32x128x512_0_1_2_4_3) bitsLt_bf16_f32⟩,
     ⟨S2x2x32x16x512, broadcastInDim S2x2x32x16x512 ![] bcast_S_S2x2x32x16x512 (constant (F := Ideal) S_ .bf16 0x3F80#16)⟩]
    concatenates_S2x2x32x128x512_S2x2x32x16x512_S2x2x32x144x512_d3 := by
  unfold V; after_results <;> rfl

theorem V_vc : V m c main_v23 = concatenate S2x2x1x144x256 3
    [⟨S2x2x1x128x256, truncf .bf16 (transpose S2x2x1x128x256 [0, 1, 2, 4, 3] (shapeCast S2x2x1x256x128
        (transpose S2x2x256x128 [0, 2, 1, 3] (aVc m c) transposes_S2x256x2x128_S2x2x256x128_0_2_1_3) shapeCasts_S2x2x256x128_S2x2x1x256x128)
        transposes_S2x2x1x256x128_S2x2x1x128x256_0_1_2_4_3) bitsLt_bf16_f32⟩,
     ⟨S2x2x1x16x256, broadcastInDim S2x2x1x16x256 ![] bcast_S_S2x2x1x16x256 (constant (F := Ideal) S_ .bf16 0x3F80#16)⟩]
    concatenates_S2x2x1x128x256_S2x2x1x16x256_S2x2x1x144x256_d3 := by
  unfold V; after_results <;> rfl

theorem V_q_apply (b : Fin 2) (h : Fin 4) (d : Fin 128) (l : Fin 16384) :
    (V m c main_v7 : Vec Ideal S2x4x128x16384 .bf16) (ix4 b h d l) = aQ m c (ix4 b l h d) * (Spec.qs : EReal) := by
  rw [V_q, ← Spec.qs_eq]
  generalize aQ m c = q
  pointwise []

theorem V_k_apply (b h : Fin 2) (l : Fin 16384) (d : Fin 128) :
    (V m c main_v9 : Vec Ideal S2x2x16384x128 .bf16) (ix4 b h l d) = aK m c (ix4 b l h d) := by
  rw [V_k]
  generalize aK m c = q
  pointwise []

theorem V_kc_apply (b h : Fin 2) (l : Fin 256) (d : Fin 128) :
    (V m c main_v11 : Vec Ideal S2x2x256x128 .bf16) (ix4 b h l d) = aKc m c (ix4 b l h d) := by
  rw [V_kc]
  generalize aKc m c = q
  pointwise []

theorem V_v_apply (b h : Fin 2) (j : Fin 32) (d : Fin 144) (r : Fin 512) :
    (V m c main_v17 : Vec Ideal S2x2x32x144x512 .bf16) (ix5 b h j d r)
      = if hd : d.val < 128 then aV m c (ix4 b ⟨512 * j.val + r.val, by omega⟩ h ⟨d.val, hd⟩) else (1 : EReal) := by
  rw [V_v]
  generalize aV m c = q
  pointwise []
  simp only [Nat.mul_comm]

theorem V_vc_apply (b h : Fin 2) (d : Fin 144) (r : Fin 256) :
    (V m c main_v23 : Vec Ideal S2x2x1x144x256 .bf16) (ix5 b h 0 d r)
      = if hd : d.val < 128 then aVc m c (ix4 b r h ⟨d.val, hd⟩) else (1 : EReal) := by
  rw [V_vc]
  generalize aVc m c = q
  pointwise []

theorem index0 : ∀ t : Fin grid0.N, win0_0.index t = ![t.val / 16, t.val / 8 % 2, 0, t.val % 8] := by decide +kernel
theorem index1 : ∀ t : Fin grid0.N, win0_1.index t = ![t.val / 16, t.val / 8 % 2, 0, 0] := by decide +kernel
theorem index2 : ∀ t : Fin grid0.N, win0_2.index t = ![t.val / 16, t.val / 8 % 2, 0, 0, 0] := by decide +kernel
theorem index3 : ∀ t : Fin grid0.N, win0_3.index t = ![t.val / 16, t.val / 8 % 2, 0, 0] := by decide +kernel
theorem index4 : ∀ t : Fin grid0.N, win0_4.index t = ![t.val / 16, t.val / 8 % 2, 0, 0, 0] := by decide +kernel
theorem index5 : ∀ t : Fin grid0.N, win0_5.index t = ![t.val / 16, t.val % 8, t.val / 8 % 2] := by decide +kernel

theorem lt_N (t : Fin cfg0.N) : t.val < 32 := lt_of_lt_of_eq t.isLt N_0

theorem iblk0_apply (t : Fin cfg0.N) (g : Fin 2) (d : Fin 128) (r : Fin 2048) :
    (iblk m c 0 t : Vec Ideal S1x2x128x2048 .bf16) (ix4 0 g d r) = (V m c main_v7 : Vec Ideal S2x4x128x16384 .bf16)
      (ix4 ⟨t.val / 16, by have := lt_N t; omega⟩ ⟨2 * (t.val / 8 % 2) + g.val, by omega⟩ d ⟨2048 * (t.val % 8) + r.val, by omega⟩) := by
  show (V m c main_v7 : Vec Ideal S2x4x128x16384 .bf16) ((win0_0.rect t).emb (ix4 0 g d r)) = _
  refine congrArg _ (funext fun a => Fin.ext ((win0_0.rect_emb_val t _ a).trans ?_))
  rw [index0]
  match a with
  | ⟨0, _⟩ => show t.val / 16 * 1 + 0 = t.val / 16; omega
  | ⟨1, _⟩ => show t.val / 8 % 2 * 2 + g.val = 2 * (t.val / 8 % 2) + g.val; omega
  | ⟨2, _⟩ => show 0 * 128 + d.val = d.val; omega
  | ⟨3, _⟩ => show t.val % 8 * 2048 + r.val = 2048 * (t.val % 8) + r.val; omega

theorem iblk1_apply (t : Fin cfg0.N) (r : Fin 256) (d : Fin 128) :
    (iblk m c 1 t : Vec Ideal S1x1x256x128 .bf16) (ix4 0 0 r d) = (V m c main_v11 : Vec Ideal S2x2x256x128 .bf16)
      (ix4 ⟨t.val / 16, by have := lt_N t; omega⟩ ⟨t.val / 8 % 2, by omega⟩ r d) := by
  show (V m c main_v11 : Vec Ideal S2x2x256x128 .bf16) ((win0_1.rect t).emb (ix4 0 0 r d)) = _
  refine congrArg _ (funext fun a => Fin.ext ((win0_1.rect_emb_val t _ a).trans ?_))
  rw [index1]
  match a with
  | ⟨0, _⟩ => show t.val / 16 * 1 + 0 = t.val / 16; omega
  | ⟨1, _⟩ => show t.val / 8 % 2 * 1 + 0 = t.val / 8 % 2; omega
  | ⟨2, _⟩ => show 0 * 256 + r.val = r.val; omega
  | ⟨3, _⟩ => show 0 * 128 + d.val = d.val; omega

theorem iblk2_apply (t : Fin cfg0.N) (d : Fin 144) (r : Fin 256) :
    (iblk m c 2 t : Vec Ideal S1x1x1x144x256 .bf16) (ix5 0 0 0 d r) = (V m c main_v23 : Vec Ideal S2x2x1x144x256 .bf16)
      (ix5 ⟨t.val / 16, by have := lt_N t; omega⟩ ⟨t.val / 8 % 2, by omega⟩ 0 d r) := by
  show (V m c main_v23 : Vec Ideal S2x2x1x144x256 .bf16) ((win0_2.rect t).emb (ix5 0 0 0 d r)) = _
  refine congrArg _ (funext fun a => Fin.ext ((win0_2.rect_emb_val t _ a).trans ?_))
  rw [index2]
  match a with
  | ⟨0, _⟩ => show t.val / 16 * 1 + 0 = t.val / 16; omega
  | ⟨1, _⟩ => show t.val / 8 % 2 * 1 + 0 = t.val / 8 % 2; omega
  | ⟨2, _⟩ => rfl
  | ⟨3, _⟩ => show 0 * 144 + d.val = d.val; omega
  | ⟨4, _⟩ => show 0 * 256 + r.val = r.val; omega

theorem iblk3_apply (t : Fin cfg0.N) (r : Fin 16384) (d : Fin 128) :
    (iblk m c 3 t : Vec Ideal S1x1x16384x128 .bf16) (ix4 0 0 r d) = (V m c main_v9 : Vec Ideal S2x2x16384x128 .bf16)
      (ix4 ⟨t.val / 16, by have := lt_N t; omega⟩ ⟨t.val / 8 % 2, by omega⟩ r d) := by
  show (V m c main_v9 : Vec Ideal S2x2x16384x128 .bf16) ((win0_3.rect t).emb (ix4 0 0 r d)) = _
  refine congrArg _ (funext fun a => Fin.ext ((win0_3.rect_emb_val t _ a).trans ?_))
  rw [index3]
  match a with
  | ⟨0, _⟩ => show t.val / 16 * 1 + 0 = t.val / 16; omega
  | ⟨1, _⟩ => show t.val / 8 % 2 * 1 + 0 = t.val / 8 % 2; omega
  | ⟨2, _⟩ => show 0 * 16384 + r.val = r.val; omega
  | ⟨3, _⟩ => show 0 * 128 + d.val = d.val; omega

theorem iblk4_apply (t : Fin cfg0.N) (j : Fin 32) (d : Fin 144) (r : Fin 512) :
    (iblk m c 4 t : Vec Ideal S1x1x32x144x512 .bf16) (ix5 0 0 j d r) = (V m c main_v17 : Vec Ideal S2x2x32x144x512 .bf16)
      (ix5 ⟨t.val / 16, by have := lt_N t; omega⟩ ⟨t.val / 8 % 2, by omega⟩ j d r) := by
  show (V m c main_v17 : Vec Ideal S2x2x32x144x512 .bf16) ((win0_4.rect t).emb (ix5 0 0 j d r)) = _
  refine congrArg _ (funext fun a => Fin.ext ((win0_4.rect_emb_val t _ a).trans ?_))
  rw [index4]
  match a with
  | ⟨0, _⟩ => show t.val / 16 * 1 + 0 = t.val / 16; omega
  | ⟨1, _⟩ => show t.val / 8 % 2 * 1 + 0 = t.val / 8 % 2; omega
  | ⟨2, _⟩ => show 0 * 32 + j.val = j.val; omega
  | ⟨3, _⟩ => show 0 * 144 + d.val = d.val; omega
  | ⟨4, _⟩ => show 0 * 512 + r.val = r.val; omega

end Cert.KernelIdeal.Att

end
-- ==== Proof.KernelIdeal.Array.lean ====
/- The kernel's result array: the attention at every index, from the blocks the grid points store. -/
module

public import proofs.«01_k».proof.Proof.KernelIdeal.Column
public import proofs.«01_k».proof.Proof.KernelIdeal.Host

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.ShloMosaic.Pointwise
open Softmax (two)

variable (m : (ℓ : Loc nD τ sig) → Buf (Elt Ideal) ℓ) (c : Dev nD)

/-- The place of grid point `t`: batch entry, key head, and the first query's block. -/
abbrev bt (t : Fin cfg0.N) : Fin 2 := ⟨t.val / 16, by have := lt_N t; omega⟩
abbrev ht (t : Fin cfg0.N) : Fin 2 := ⟨t.val / 8 % 2, by omega⟩
abbrev lt (t : Fin cfg0.N) (r : Fin 2048) : Fin 16384 := ⟨2048 * (t.val % 8) + r.val, by omega⟩
abbrev nt (t : Fin cfg0.N) (g : Fin 2) : Fin 4 := ⟨2 * (t.val / 8 % 2) + g.val, by omega⟩

theorem qcol_apply (t : Fin cfg0.N) (g : Fin 2) (r : Fin 2048) (d : Fin 128) :
    qcol (iblk m c 0 t) ⟨2048 * g.val + r.val, by omega⟩ d = aQ m c (ix4 (bt t) (lt t r) (nt t g) d) * (Spec.qs : EReal) := by
  unfold qcol
  have e1 : (⟨(2048 * g.val + r.val) / 2048, by omega⟩ : Fin 2) = g := Fin.ext (by show (2048 * g.val + r.val) / 2048 = g.val; omega)
  have e2 : (⟨(2048 * g.val + r.val) % 2048, by omega⟩ : Fin 2048) = r := Fin.ext (by show (2048 * g.val + r.val) % 2048 = r.val; omega)
  show (iblk m c 0 t : Vec Ideal S1x2x128x2048 .bf16) (ix4 0 ⟨(2048 * g.val + r.val) / 2048, by omega⟩ d ⟨(2048 * g.val + r.val) % 2048, by omega⟩) = _
  rw [e1, e2, iblk0_apply, V_q_apply]

variable (hq : Spec.Real' (aQ m c)) (hk : Spec.Real' (aK m c)) (hkc : Spec.Real' (aKc m c))
include hq hk hkc

/-- What grid point `t` stores for head `g` of its pair, query `r` of its block, entry `d`. -/
theorem outAt_apply (t : Fin cfg0.N) (g : Fin 2) (r : Fin 2048) (d : Fin 128) :
    (outAt m c t (ix3 0 r ⟨128 * g.val + d.val, by omega⟩) : EReal)
      = Spec.out (aQ m c) (aK m c) (aV m c) (aKc m c) (aVc m c) (bt t) (lt t r) (ht t) g d := by
  unfold outAt
  refine (outVal_apply _ _ _ _ _ g r d).trans ?_
  refine (quot_apply _ _ _ _ _ ⟨2048 * g.val + r.val, by omega⟩ d
    (fun j => Spec.dot (aQ m c) (aK m c) (aKc m c) (bt t) (lt t r) (nt t g) (ht t) j * Spec.qs)
    (fun j => Spec.all (aV m c) (aVc m c) (bt t) (ht t) j d) ?_ ?_ ?_ ?_ ?_ ?_).trans ?_
  · intro j
    rw [← Spec.sum_scaled _ _ _ hq hk hkc]
    unfold scC
    refine Finset.sum_congr rfl fun x _ => ?_
    rw [qcol_apply, iblk1_apply, V_kc_apply, Spec.all_ctx]
  · intro j
    rw [← Spec.sum_scaled _ _ _ hq hk hkc]
    unfold scL
    refine Finset.sum_congr rfl fun x _ => ?_
    rw [qcol_apply, iblk3_apply, V_k_apply, Spec.all_lat]
  · intro j
    rw [iblk2_apply, V_vc_apply, dif_pos d.isLt]
    exact (Spec.all_ctx _ _ _ _ j d).symm
  · intro i j
    rw [iblk4_apply, V_v_apply, dif_pos d.isLt]
    exact (Spec.all_lat _ _ _ _ ⟨512 * i.val + j.val, by omega⟩ d).symm
  · intro j
    rw [iblk2_apply, V_vc_apply, dif_neg (by decide)]
  · intro i j
    rw [iblk4_apply, V_v_apply, dif_neg (by decide)]
  · unfold Spec.out Spec.score
    simp only [Spec.two_qs]

omit hq hk hkc

/-- The attention as an array. -/
def G : Vec Ideal S2x16384x512 .bf16 := fun i =>
  Spec.out (aQ m c) (aK m c) (aV m c) (aKc m c) (aVc m c) (i 0) (i 1) ⟨(i 2).val / 256, by have : (i 2).val < 512 := (i 2).isLt; omega⟩
    ⟨(i 2).val / 128 % 2, by omega⟩ ⟨(i 2).val % 128, by omega⟩

theorem G_apply (b : Fin 2) (l : Fin 16384) (h g : Fin 2) (d : Fin 128) :
    (G m c (ix3 b l ⟨256 * h.val + (128 * g.val + d.val), by omega⟩) : EReal)
      = Spec.out (aQ m c) (aK m c) (aV m c) (aKc m c) (aVc m c) b l h g d := by
  have e1 : (⟨(256 * h.val + (128 * g.val + d.val)) / 256, by omega⟩ : Fin 2) = h :=
    Fin.ext (by show (256 * h.val + (128 * g.val + d.val)) / 256 = h.val; omega)
  have e2 : (⟨(256 * h.val + (128 * g.val + d.val)) / 128 % 2, by omega⟩ : Fin 2) = g :=
    Fin.ext (by show (256 * h.val + (128 * g.val + d.val)) / 128 % 2 = g.val; omega)
  have e3 : (⟨(256 * h.val + (128 * g.val + d.val)) % 128, by omega⟩ : Fin 128) = d :=
    Fin.ext (by show (256 * h.val + (128 * g.val + d.val)) % 128 = d.val; omega)
  show Spec.out (aQ m c) (aK m c) (aV m c) (aKc m c) (aVc m c) b l ⟨(256 * h.val + (128 * g.val + d.val)) / 256, by omega⟩
    ⟨(256 * h.val + (128 * g.val + d.val)) / 128 % 2, by omega⟩ ⟨(256 * h.val + (128 * g.val + d.val)) % 128, by omega⟩ = _
  rw [e1, e2, e3]

/-- Where grid point `t`'s block lies in the array. -/
theorem emb5 (t : Fin cfg0.N) (r : Fin 2048) (o : Fin 256) :
    ((win0_5.rect t).emb (ix3 0 r o) : S2x16384x512.Idx) = ix3 (bt t) (lt t r) ⟨256 * (ht t).val + o.val, by omega⟩ := by
  refine funext fun a => Fin.ext ((win0_5.rect_emb_val t _ a).trans ?_)
  rw [index5]
  match a with
  | ⟨0, _⟩ => show t.val / 16 * 1 + 0 = t.val / 16; omega
  | ⟨1, _⟩ => show t.val % 8 * 2048 + r.val = 2048 * (t.val % 8) + r.val; omega
  | ⟨2, _⟩ => show t.val / 8 % 2 * 256 + o.val = 256 * (t.val / 8 % 2) + o.val; omega

theorem ix3_eta (x : S1x2048x256.Idx) : ∃ (r : Fin 2048) (g : Fin 2) (d : Fin 128), x = ix3 0 r ⟨128 * g.val + d.val, by omega⟩ := by
  have h2 : (x 2).val < 256 := (x 2).isLt
  refine ⟨x 1, ⟨(x 2).val / 128, by omega⟩, ⟨(x 2).val % 128, by omega⟩, funext fun a => ?_⟩
  match a with
  | ⟨0, _⟩ => exact Fin.ext (by have h0 : (x 0).val < 1 := (x 0).isLt; show (x 0).val = 0; omega)
  | ⟨1, _⟩ => rfl
  | ⟨2, _⟩ => exact Fin.ext (by show (x 2).val = 128 * ((x 2).val / 128) + (x 2).val % 128; omega)

include hq hk hkc in
theorem outAt_G (t : Fin cfg0.N) (x : S1x2048x256.Idx) (i : S2x16384x512.Idx) (hi : (win0_5.rect t).emb x = i) :
    (outAt m c t x : EReal) = G m c i := by
  obtain ⟨r, g, d, rfl⟩ := ix3_eta x
  rw [emb5] at hi
  rw [outAt_apply m c hq hk hkc, ← hi, G_apply m c (bt t) (lt t r) (ht t) g d]

theorem read5 (t : Fin cfg0.N) (X : Vec Ideal S2x16384x512 .bf16) (x : S1x2048x256.Idx) :
    ((cfg0.win 5).blk t).view.read (Elt Ideal) X x = X ((win0_5.rect t).emb x) := rfl

include hq hk hkc in
theorem flushed_eq (t : Fin cfg0.N) : (dats m 0 c).flushed 5 t = ((cfg0.win 5).blk t).view.read (Elt Ideal) (G m c) := by
  rw [flushed5]
  have h1 : ∀ x : S1x2048x256.Idx, (cfg0.win 5).cut (grid0.coords t) (outAt m c t) x = outAt m c t x := fun x => rfl
  refine funext fun (x : S1x2048x256.Idx) => ?_
  exact (h1 x).trans ((outAt_G m c hq hk hkc t x _ rfl).trans (read5 t (G m c) x).symm)

theorem cover (i : S2x16384x512.Idx) : ∃ t : Fin cfg0.N, (cfg0.win 5).flush t = true ∧ i ∈ ((cfg0.win 5).blk t).view.set := by
  have h0 : (i 0).val < 2 := (i 0).isLt
  have h1 : (i 1).val < 16384 := (i 1).isLt
  have h2 : (i 2).val < 512 := (i 2).isLt
  have hN : cfg0.N = 32 := N_0
  obtain ⟨t, ht⟩ : ∃ t : Fin cfg0.N, t.val = 16 * (i 0).val + 8 * ((i 2).val / 256) + (i 1).val / 2048 := ⟨⟨_, by omega⟩, rfl⟩
  refine ⟨t, flush0_5 _, ?_⟩
  have e : ((win0_5.rect t).emb (ix3 0 ⟨(i 1).val % 2048, by omega⟩ ⟨(i 2).val % 256, by omega⟩) : S2x16384x512.Idx) = i := by
    rw [emb5]
    refine funext fun a => ?_
    match a with
    | ⟨0, _⟩ => exact Fin.ext (by show t.val / 16 = (i 0).val; omega)
    | ⟨1, _⟩ => exact Fin.ext (by show 2048 * (t.val % 8) + (i 1).val % 2048 = (i 1).val; omega)
    | ⟨2, _⟩ => exact Fin.ext (by show 256 * (t.val / 8 % 2) + (i 2).val % 256 = (i 2).val; omega)
  rw [← e]
  exact ((cfg0.win 5).blk t).view.emb_mem_set (ix3 0 ⟨(i 1).val % 2048, by omega⟩ ⟨(i 2).val % 256, by omega⟩ : S1x2048x256.Idx)

include hq hk hkc in
/-- The result array after the run. -/
theorem arr_eq : (dats m 0 c).arrAt 5 cfg0.N = G m c :=
  (dats m 0 c).arrAt_eq_of_cover 5 (G m c) (fun t _ => flushed_eq m c hq hk hkc t) cover

end Cert.KernelIdeal.Att

end
-- ==== Proof.RefValue.lean ====
/- The reference's result, entry by entry. -/
module

public import proofs.«01_k».proof.Proof.Gen.ReferenceIdeal.Run
public import proofs.«01_k».proof.Proof.Spec
public import Idealize.ShloMosaic.Lib.Pointwise
public import Idealize.ShloMosaic.Lib.IdealHost

@[expose] public section

set_option maxRecDepth 16384

noncomputable section

namespace Cert.ReferenceIdeal.Att

open Cert.ReferenceIdeal Cert.ReferenceIdeal.Gen
open Idealize.ShloMosaic Idealize.ShloMosaic.TcCoe Idealize.ShloMosaic.Pointwise

/-- The scores, their maxima, the exponentials, the weights and the result, as the reference's operations build them. -/
def scores (q : Vec Ideal S2x16384x4x128 .f32) (k : Vec Ideal S2x16384x2x128 .f32) (kc : Vec Ideal S2x256x2x128 .f32) :
    FVec Ideal S2x2x2x16384x16640 .f32 :=
  Host.divf (transpose S2x2x2x16384x16640 [0, 1, 4, 3, 2] (Host.dotGeneral (φ₁ := .f32) (φ₂ := .f32) dot_S2x16640x2x128_S2x16384x2x2x128_S2x2x16640x16384x2_3_4_1_13_02_02 none
      (concatenate S2x16640x2x128 1 [⟨S2x256x2x128, kc⟩, ⟨S2x16384x2x128, k⟩] concatenates_S2x256x2x128_S2x16384x2x128_S2x16640x2x128_d1)
      (shapeCast _ q shapeCasts_S2x16384x4x128_S2x16384x2x2x128)) transposes_S2x2x16640x16384x2_S2x2x2x16384x16640_0_1_4_3_2)
    (broadcastInDim S2x2x2x16384x16640 ![] bcast_S_S2x2x2x16384x16640 (Host.sqrt (constant S_ .f32 0x43000000#32)))

def maxs (z : FVec Ideal S_ .f32) (s : FVec Ideal S2x2x2x16384x16640 .f32) : FVec Ideal S2x2x2x16384 .f32 :=
  maximumf (broadcastInDim S2x2x2x16384 ![] bcast_S_S2x2x2x16384 z) (Host.reduce FloatOps.maximumf s z reducesTo_S2x2x2x16384x16640_S2x2x2x16384_d4 h_S_)

def exps (s : FVec Ideal S2x2x2x16384x16640 .f32) (x : FVec Ideal S2x2x2x16384 .f32) : FVec Ideal S2x2x2x16384x16640 .f32 :=
  Host.exp (subf s (broadcastInDim S2x2x2x16384x16640 ![0, 1, 2, 3, 4] bcast_S2x2x2x16384x1_S2x2x2x16384x16640_0_1_2_3_4
    (broadcastInDim S2x2x2x16384x1 ![0, 1, 2, 3] bcast_S2x2x2x16384_S2x2x2x16384x1_0_1_2_3 x)))

def wts (e : FVec Ideal S2x2x2x16384x16640 .f32) : FVec Ideal S2x2x2x16384x16640 .f32 :=
  Host.divf e (broadcastInDim S2x2x2x16384x16640 ![0, 1, 2, 3, 4] bcast_S2x2x2x16384x1_S2x2x2x16384x16640_0_1_2_3_4
    (broadcastInDim S2x2x2x16384x1 ![0, 1, 2, 3] bcast_S2x2x2x16384_S2x2x2x16384x1_0_1_2_3
      (Host.reduceAdd e (constant S_ .f32 0x00000000#32) reducesTo_S2x2x2x16384x16640_S2x2x2x16384_d4 h_S_)))

def outs (v : Vec Ideal S2x16384x2x128 .f32) (vc : Vec Ideal S2x256x2x128 .f32) (w : FVec Ideal S2x2x2x16384x16640 .f32) : FVec Ideal S2x16384x512 .bf16 :=
  truncf .bf16 (shapeCast _ (transpose S2x16384x2x2x128 [0, 4, 1, 3, 2] (Host.dotGeneral (φ₁ := .f32) (φ₂ := .f32) dot_S2x16640x2x128_S2x2x2x16384x16640_S2x2x128x2x16384_1_4_3_23_02_01 none
    (concatenate S2x16640x2x128 1 [⟨S2x256x2x128, vc⟩, ⟨S2x16384x2x128, v⟩] concatenates_S2x256x2x128_S2x16384x2x128_S2x16640x2x128_d1) w)
    transposes_S2x2x128x2x16384_S2x16384x2x2x128_0_4_1_3_2) shapeCasts_S2x16384x2x2x128_S2x16384x512) bitsLt_bf16_f32

theorem scores_apply (q : Vec Ideal S2x16384x4x128 .f32) (k : Vec Ideal S2x16384x2x128 .f32) (kc : Vec Ideal S2x256x2x128 .f32)
    (b h g : Fin 2) (l : Fin 16384) (j : Fin 16640) :
    (scores q k kc (ix5 b h g l j) : EReal) = Ideal.div (∑ d : Fin 128, Spec.all k kc b h j.val d * q (ix4 b l ⟨2 * h.val + g.val, by omega⟩ d))
      (Ideal.sqrt (Ideal.ofBits .f32 0x43000000#32)) := by
  pointwise [scores]
  refine congrArg (fun x => Ideal.div x _) (Finset.sum_congr rfl fun d _ => ?_)
  have e : (⟨h.val * 2 + g.val, by omega⟩ : Fin 4) = ⟨2 * h.val + g.val, by omega⟩ := Fin.ext (by show h.val * 2 + g.val = 2 * h.val + g.val; omega)
  rw [e]
  refine congrArg (fun x => x * _) ?_
  unfold Spec.all
  by_cases hj : j.val < 256
  · rw [dif_pos hj, dif_pos hj]
  · rw [dif_neg hj, dif_neg hj, dif_pos (by omega)]

theorem ofBits_neg_inf : Ideal.ofBits .f32 0xFF800000#32 = ⊥ := by
  simp [Ideal.ofBits, Ideal.ieee]

/-- A reduction over the last axis, for any operation. -/
theorem reduce_last {α : Type} (op : α → α → α) [Std.Commutative op] [Std.Associative op] (s : S2x2x2x16384x16640.Idx → α) (z : S_.Idx → α)
    (b h g : Fin 2) (l : Fin 16384) :
    Host.reduce op s z reducesTo_S2x2x2x16384x16640_S2x2x2x16384_d4 h_S_ (ix4 b h g l)
      = Finset.univ.fold op (z (Shape.Idx.first h_S_)) fun j => s (ix5 b h g l j) := by
  rw [Host.reduce_eq_fold, Shape.ReducesTo.fold_fiber_r5_a4]
  exact congrArg (fun f => Finset.univ.fold op _ f) (funext fun k => rfl)

theorem fold_maximumf {ι : Type} (u : Finset ι) (b : EReal) (f : ι → EReal) :
    u.fold (FloatOps.maximumf (F := Ideal) (φ := .f32)) b f = u.fold max b f := rfl

theorem max_apply (z : FVec Ideal S_ .f32) (r : FVec Ideal S2x2x2x16384 .f32) (b h g : Fin 2) (l : Fin 16384) :
    (maximumf (broadcastInDim S2x2x2x16384 ![] bcast_S_S2x2x2x16384 z) r (ix4 b h g l) : EReal) = max (z ix0) (r (ix4 b h g l)) := by
  pointwise []

theorem maxs_apply (z : FVec Ideal S_ .f32) (s : FVec Ideal S2x2x2x16384x16640 .f32) (b h g : Fin 2) (l : Fin 16384) :
    (maxs z s (ix4 b h g l) : EReal) = max (z ix0) (Finset.univ.fold max (z (Shape.Idx.first h_S_)) fun j => s (ix5 b h g l j)) := by
  unfold maxs
  rw [max_apply, reduce_last (FloatOps.maximumf (F := Ideal) (φ := .f32)), fold_maximumf]

theorem exps_apply (s : FVec Ideal S2x2x2x16384x16640 .f32) (x : FVec Ideal S2x2x2x16384 .f32) (b h g : Fin 2) (l : Fin 16384) (j : Fin 16640) :
    (exps s x (ix5 b h g l j) : EReal) = Ideal.exp (s (ix5 b h g l j) - x (ix4 b h g l)) := by
  pointwise [exps]

theorem wts_apply (e : FVec Ideal S2x2x2x16384x16640 .f32) (b h g : Fin 2) (l : Fin 16384) (j : Fin 16640) :
    (wts e (ix5 b h g l j) : EReal) = Ideal.div (e (ix5 b h g l j)) (∑ x : Fin 16640, e (ix5 b h g l x)) := by
  pointwise [wts]

theorem outs_apply (v : Vec Ideal S2x16384x2x128 .f32) (vc : Vec Ideal S2x256x2x128 .f32) (w : FVec Ideal S2x2x2x16384x16640 .f32)
    (b : Fin 2) (l : Fin 16384) (h g : Fin 2) (d : Fin 128) :
    (outs v vc w (ix3 b l ⟨256 * h.val + (128 * g.val + d.val), by omega⟩) : EReal)
      = ∑ j : Fin 16640, Spec.all v vc b h j.val d * w (ix5 b h g l j) := by
  pointwise [outs]
  refine (congrArg₂ (· + ·) (Finset.sum_congr rfl fun x _ => ?_) (Finset.sum_congr rfl fun x _ => ?_)).trans
    (Fin.sum_univ_add (a := 256) (b := 16384) fun j : Fin 16640 => Spec.all v vc b h j.val d * w (ix5 b h g l j)).symm
  · rw [← Spec.all_ctx v vc b h x d]
    rfl
  · rw [← Spec.all_lat v vc b h x d]
    rfl

/-- The operations' result at head `2 h + g`, entry `d`. -/
theorem outs_all (q : Vec Ideal S2x16384x4x128 .f32) (k v : Vec Ideal S2x16384x2x128 .f32) (kc vc : Vec Ideal S2x256x2x128 .f32)
    (hq : Spec.Real' q) (hk : Spec.Real' k) (hkc : Spec.Real' kc) (b : Fin 2) (l : Fin 16384) (h g : Fin 2) (d : Fin 128) :
    (outs v vc (wts (exps (scores q k kc) (maxs (constant S_ .f32 0xFF800000#32) (scores q k kc))))
        (ix3 b l ⟨256 * h.val + (128 * g.val + d.val), by omega⟩) : EReal)
      = Spec.out q k v kc vc b l h g d := by
  rw [outs_apply]
  unfold Spec.out
  rw [Finset.sum_range]
  refine Finset.sum_congr rfl fun j _ => congrArg (fun x => _ * x) ?_
  have hs : 0 < Real.sqrt 128 := Real.sqrt_pos.2 (by norm_num)
  have hS : ∀ j : Fin 16640, (scores q k kc (ix5 b h g l j) : EReal)
      = ((Spec.score q k kc b l ⟨2 * h.val + g.val, by omega⟩ h j.val : ℝ) : EReal) := fun j => by
    rw [scores_apply, Spec.sum_plain q k kc hq hk hkc, Spec.ofBits_128, Ideal.sqrt_coe, if_neg (by norm_num), Ideal.div_coe hs.ne', ← EReal.coe_mul]
    unfold Spec.score
    rw [mul_one_div]
  generalize scores q k kc = s at hS ⊢
  have hz : (constant (F := Ideal) S_ .f32 0xFF800000#32 : S_.Idx → EReal) = fun _ => ⊥ := funext fun _ => ofBits_neg_inf
  rw [wts_apply]
  simp only [exps_apply, maxs_apply, hS, hz]
  exact Softmax.weights 16640 (by norm_num) _ j.val

variable (m : (ℓ : Loc nD τ sig) → Buf (Elt Ideal) ℓ) (c : Dev nD)

/-- The arguments. -/
abbrev aQ : Vec Ideal S2x16384x4x128 .f32 := m ((c.tc : Thread nD τ).loc main_arg0)
abbrev aK : Vec Ideal S2x16384x2x128 .f32 := m ((c.tc : Thread nD τ).loc main_arg1)
abbrev aV : Vec Ideal S2x16384x2x128 .f32 := m ((c.tc : Thread nD τ).loc main_arg2)
abbrev aKc : Vec Ideal S2x256x2x128 .f32 := m ((c.tc : Thread nD τ).loc main_arg3)
abbrev aVc : Vec Ideal S2x256x2x128 .f32 := m ((c.tc : Thread nD τ).loc main_arg4)

theorem res_eq : (Value.res_main_v22 m c : Vec Ideal S2x16384x512 .bf16)
    = outs (aV m c) (aVc m c) (wts (exps (scores (aQ m c) (aK m c) (aKc m c)) (maxs (constant S_ .f32 0xFF800000#32) (scores (aQ m c) (aK m c) (aKc m c))))) := by
  unfold Value.res_main_v22 outs wts exps maxs scores
  rfl

end Cert.ReferenceIdeal.Att

end
-- ==== Proof.Finite.lean ====
/- The precondition, entry by entry: the queries and the keys are real numbers. -/
module

public import proofs.«01_k».proof.Defs
public import proofs.«01_k».proof.Proof.Gen.Pre_finite
public import proofs.«01_k».proof.Proof.Spec

@[expose] public section

noncomputable section

namespace Cert.Pre_finite

open Idealize.ShloMosaic Cert.Pre_finite.Gen

theorem andi_one : ∀ x y : BitVec 1, IntOp.andi x y = 1#1 → x = 1#1 ∧ y = 1#1 := by decide

theorem foldl_andi {α : Type} (f : α → BitVec 1) (l : List α) (b : BitVec 1)
    (h : l.foldl (fun r n => IntOp.andi r (f n)) b = 1#1) : b = 1#1 ∧ ∀ n ∈ l, f n = 1#1 := by
  induction l generalizing b with
  | nil => exact ⟨h, fun n hn => absurd hn (List.not_mem_nil)⟩
  | cons a l ih =>
    obtain ⟨h1, h2⟩ := ih _ h
    obtain ⟨h3, h4⟩ := andi_one _ _ h1
    refine ⟨h3, fun n hn => ?_⟩
    rcases List.mem_cons.1 hn with e | e
    · exact e ▸ h4
    · exact h2 n e

/-- A conjunction over all entries that is one is one at every entry. -/
theorem of_reduce {s : Shape} {axes : List (Fin s.rank)} (x : IVec s 1) (v : IVec S_ 1) (h : s.ReducesTo axes S_) (hu : 0 < S_.numel)
    (j : S_.Idx) (e : Host.reduce IntOp.andi x v h hu j = 1#1) (i : s.Idx) : x i = 1#1 := by
  have := (foldl_andi _ _ _ e).2 (s.rowMajor i)
  rw [Equiv.symm_apply_apply] at this
  refine this (List.mem_filter.2 ⟨List.mem_finRange _, ?_⟩)
  rw [decide_eq_true_eq]
  exact funext fun a => a.elim0

theorem ofBits_inf : Ideal.ofBits .f32 0x7F800000#32 = ⊤ := by
  simp [Ideal.ofBits, Ideal.ieee]

/-- A number whose absolute value is below infinity is real. -/
theorem real_of_abs (x : EReal) (h : FloatOps.cmpf (F := Ideal) (φ := .f32) .olt (FloatOps.absf (F := Ideal) (φ := .f32) x) (Ideal.ofBits .f32 0x7F800000#32) = 1#1) :
    x = ((x.toReal : ℝ) : EReal) := by
  rw [ofBits_inf] at h
  induction x with
  | bot => exfalso; revert h; simp [FloatOps.cmpf, FloatOps.absf, Ideal.cmp]
  | top => exfalso; revert h; simp [FloatOps.cmpf, FloatOps.absf, Ideal.cmp]
  | coe r => simp

theorem real (q : FVec Ideal S2x16384x4x128 .f32) (k v : FVec Ideal S2x16384x2x128 .f32) (kc vc : FVec Ideal S2x256x2x128 .f32)
    (h : fn (F := Ideal) q k v kc vc = fun _ => 1#1) : Spec.Real' q ∧ Spec.Real' k ∧ Spec.Real' kc := by
  have h0 := congrFun h (Shape.Idx.first h_S_)
  unfold fn at h0
  obtain ⟨h1, h2⟩ := andi_one _ _ h0
  obtain ⟨h3, h4⟩ := andi_one _ _ h1
  exact ⟨fun i => real_of_abs _ (of_reduce _ _ _ _ _ h3 i), fun i => real_of_abs _ (of_reduce _ _ _ _ _ h4 i),
    fun i => real_of_abs _ (of_reduce _ _ _ _ _ h2 i)⟩

end Cert.Pre_finite

end
-- ==== Proof.Mlp.Run.lean ====
/- The gated layer's body: from its twelve input blocks to the block it stores, as one term over the named operations.

   The body keeps the normalized rows of its tile (sixteen rows of the tile before, its own 1024, sixteen of the tile after) in
   one buffer, takes the eleven groups of 256 hidden columns one after the other through four buffers, and multiplies the
   gated activations by the second matrix at the end. Its operations are written out once per group; each group's operations
   are the same, so they are all stated here by those of the first. -/
module

public import proofs.«01_k».proof.Proof.Gen.Kernel2Ideal.Frame
public import proofs.«01_k».proof.Proof.Gen.Kernel2Ideal.Value
public import Idealize.ShloMosaic.Lib.Pipeline.ValueKit

@[expose] public section

set_option maxRecDepth 16384

noncomputable section

namespace Cert.Kernel2Ideal.Mlp

open Cert.Kernel2Ideal Cert.Kernel2Ideal.Gen
open Idealize.ShloMosaic Idealize.ShloMosaic.TcCoe Idealize.ShloMosaic.Tactic

variable {F : FTy → Type} [FloatOps F]

/-! ## Each group's operations are the first group's -/

section Same

variable (H : Vec F S1056x1024 .bf16) (w : Vec F S1024x256 .bf16) (u v : Vec F S1056x256 .f32) (cw cv : Vec F S3x256 .f32) (cb bv : Vec F S1x256 .f32)

theorem up13 : k0_pay13 H w = k0_pay12 H w := rfl
theorem up14 : k0_pay14 H w = k0_pay12 H w := rfl
theorem up15 : k0_pay15 H w = k0_pay12 H w := rfl
theorem up18 : k0_pay18 H w = k0_pay12 H w := rfl
theorem up19 : k0_pay19 H w = k0_pay12 H w := rfl
theorem up27 : k0_pay27 H w = k0_pay12 H w := rfl
theorem up28 : k0_pay28 H w = k0_pay12 H w := rfl
theorem up37 : k0_pay37 H w = k0_pay12 H w := rfl
theorem up42 : k0_pay42 H w = k0_pay12 H w := rfl
theorem up43 : k0_pay43 H w = k0_pay12 H w := rfl
theorem up48 : k0_pay48 H w = k0_pay12 H w := rfl
theorem up49 : k0_pay49 H w = k0_pay12 H w := rfl
theorem up52 : k0_pay52 H w = k0_pay12 H w := rfl
theorem up53 : k0_pay53 H w = k0_pay12 H w := rfl
theorem up61 : k0_pay61 H w = k0_pay12 H w := rfl
theorem up62 : k0_pay62 H w = k0_pay12 H w := rfl
theorem up71 : k0_pay71 H w = k0_pay12 H w := rfl
theorem up76 : k0_pay76 H w = k0_pay12 H w := rfl
theorem up77 : k0_pay77 H w = k0_pay12 H w := rfl
theorem up36 : k0_pay36 (k0_pay35 H w) = k0_pay12 H w := rfl
theorem up70 : k0_pay70 (k0_pay69 H w) = k0_pay12 H w := rfl
theorem group1 : k0_pay26 (k0_pay23 (k0_pay20 u) (k0_pay21 cw u) (k0_pay22 cw) cb) (k0_pay24 cv v bv) (k0_pay25 (k0_pay20 u) (k0_pay21 cw u) (k0_pay22 cw) cb)
    = k0_pay17 (k0_pay16 cw u cb) cv v bv := rfl
theorem group2 : k0_pay34 (k0_pay29 cw u cb) cv (k0_pay30 v) (k0_pay31 cv v) (k0_pay32 v) (k0_pay33 cv) bv
    = k0_pay17 (k0_pay16 cw u cb) cv v bv := rfl
theorem group3 : k0_pay41 (k0_pay40 (k0_pay38 cw u) (k0_pay39 cb) cv v bv)
    = k0_pay17 (k0_pay16 cw u cb) cv v bv := rfl
theorem group4 : k0_pay47 (k0_pay45 cw u (k0_pay44 u) 1055#32 cb) (k0_pay46 cv v) bv
    = k0_pay17 (k0_pay16 cw u cb) cv v bv := rfl
theorem group5 : k0_pay51 (k0_pay50 cw u cb) cv v bv
    = k0_pay17 (k0_pay16 cw u cb) cv v bv := rfl
theorem group6 : k0_pay60 (k0_pay57 (k0_pay54 u) (k0_pay55 cw u) (k0_pay56 cw) cb) (k0_pay58 cv v bv) (k0_pay59 (k0_pay54 u) (k0_pay55 cw u) (k0_pay56 cw) cb)
    = k0_pay17 (k0_pay16 cw u cb) cv v bv := rfl
theorem group7 : k0_pay68 (k0_pay63 cw u cb) cv (k0_pay64 v) (k0_pay65 cv v) (k0_pay66 v) (k0_pay67 cv) bv
    = k0_pay17 (k0_pay16 cw u cb) cv v bv := rfl
theorem group8 : k0_pay75 (k0_pay74 (k0_pay72 cw u) (k0_pay73 cb) cv v bv)
    = k0_pay17 (k0_pay16 cw u cb) cv v bv := rfl
theorem group9 : k0_pay81 (k0_pay79 cw u (k0_pay78 u) 1055#32 cb) (k0_pay80 cv v) bv
    = k0_pay17 (k0_pay16 cw u cb) cv v bv := rfl
theorem group10 : k0_pay84 (k0_pay82 cw u) (k0_pay83 cb) cv v bv
    = k0_pay17 (k0_pay16 cw u cb) cv v bv := rfl

end Same

/-! ## The body's term -/

theorem inb8 (o : ℕ) (h : o ≤ 5376) : ∀ a, (![0, o] : Fin 2 → ℕ) a + S1024x256.size a ≤ S1024x5632.size a := fun a =>
  match a with
  | ⟨0, _⟩ => by show 0 + 1024 ≤ 1024; omega
  | ⟨1, _⟩ => by show o + 256 ≤ 5632; omega

theorem inb9 (o : ℕ) (h : o ≤ 5376) : ∀ a, (![0, o] : Fin 2 → ℕ) a + S3x256.size a ≤ S3x5632.size a := fun a =>
  match a with
  | ⟨0, _⟩ => by show 0 + 3 ≤ 3; omega
  | ⟨1, _⟩ => by show o + 256 ≤ 5632; omega

theorem inb10 (o : ℕ) (h : o ≤ 5376) : ∀ a, (![0, o] : Fin 2 → ℕ) a + S1x256.size a ≤ S1x5632.size a := fun a =>
  match a with
  | ⟨0, _⟩ => by show 0 + 1 ≤ 1; omega
  | ⟨1, _⟩ => by show o + 256 ≤ 5632; omega

theorem inbA (o : ℕ) (h : o ≤ 2560) : ∀ a, (![0, o] : Fin 2 → ℕ) a + S1024x256.size a ≤ S1024x2816.size a := fun a =>
  match a with
  | ⟨0, _⟩ => by show 0 + 1024 ≤ 1024; omega
  | ⟨1, _⟩ => by show o + 256 ≤ 2816; omega

/-- 256 columns of the first matrix, of the convolution's weights and of its bias, from column `o` on. -/
def wcol (x : Vec F S1024x5632 .bf16) (o : ℕ) (h : o ≤ 5376) : Vec F S1024x256 .bf16 :=
  View.ld (Val := Elt F) (e' := .bf16) x (Rect.unit (s := S1024x5632) ![0, o] S1024x256.size (inb8 o h))
def ccol (x : Vec F S3x5632 .f32) (o : ℕ) (h : o ≤ 5376) : Vec F S3x256 .f32 :=
  View.ld (Val := Elt F) (e' := .f32) x (Rect.unit (s := S3x5632) ![0, o] S3x256.size (inb9 o h))
def bcol (x : Vec F S1x5632 .f32) (o : ℕ) (h : o ≤ 5376) : Vec F S1x256 .f32 :=
  View.ld (Val := Elt F) (e' := .f32) x (Rect.unit (s := S1x5632) ![0, o] S1x256.size (inb10 o h))

/-- Rows of the modulation and of the gains. -/
def md3 (x : Vec F S1x6x1024 .f32) : Vec F S1x1x1024 .f32 := View.ld (Val := Elt F) (e' := .f32) x (Rect.unit (s := S1x6x1024) ![0, 3, 0] S1x1x1024.size inb_S1x6x1024_S1x1x1024_0_3_0)
def md4 (x : Vec F S1x6x1024 .f32) : Vec F S1x1x1024 .f32 := View.ld (Val := Elt F) (e' := .f32) x (Rect.unit (s := S1x6x1024) ![0, 4, 0] S1x1x1024.size inb_S1x6x1024_S1x1x1024_0_4_0)
def md5 (x : Vec F S1x6x1024 .f32) : Vec F S1x1x1024 .f32 := View.ld (Val := Elt F) (e' := .f32) x (Rect.unit (s := S1x6x1024) ![0, 5, 0] S1x1x1024.size inb_S1x6x1024_S1x1x1024_0_5_0)
def ng2 (x : Vec F S4x1024 .f32) : Vec F S1x1024 .f32 := View.ld (Val := Elt F) (e' := .f32) x (Rect.unit (s := S4x1024) ![2, 0] S1x1024.size inb_S4x1024_S1x1024_2_0)
def ng3 (x : Vec F S4x1024 .f32) : Vec F S1x1024 .f32 := View.ld (Val := Elt F) (e' := .f32) x (Rect.unit (s := S4x1024) ![3, 0] S1x1024.size inb_S4x1024_S1x1024_3_0)

/-- The buffer of normalized rows: the sixteen before the tile, the tile's, the sixteen after it. -/
def stackL (a d : Vec F S16x1024 .bf16) (b : Vec F S1024x1024 .bf16) : List (View.Piece (Elt F) S1056x1024 .bf16) :=
  [⟨Rect.unit ![1040, 0] S16x1024.size inb_S1056x1024_S16x1024_1040_0, d⟩,
   ⟨Rect.unit ![16, 0] S1024x1024.size inb_S1056x1024_S1024x1024_16_0, b⟩,
   ⟨Rect.unit ![0, 0] S16x1024.size inb_S1056x1024_S16x1024_0_0, a⟩]
def stack (a d : Vec F S16x1024 .bf16) (b : Vec F S1024x1024 .bf16) : Vec F S1056x1024 .bf16 := View.canon (stackL a d b)

/-- The gated activations of the 256 hidden columns from `o` on. -/
def group (H : Vec F S1056x1024 .bf16) (x8 : Vec F S1024x5632 .bf16) (x9 : Vec F S3x5632 .f32) (x10 : Vec F S1x5632 .f32) (o : ℕ) (h : o ≤ 2560) :
    Vec F S1024x256 .bf16 :=
  k0_pay17 (k0_pay16 (ccol x9 o (by omega)) (k0_pay12 H (wcol x8 o (by omega))) (bcol x10 o (by omega)))
    (ccol x9 (o + 2816) (by omega)) (k0_pay12 H (wcol x8 (o + 2816) (by omega))) (bcol x10 (o + 2816) (by omega))

/-- The buffer of gated activations: eleven stores of 256 columns. -/
def sheetL (p : (o : ℕ) → o ≤ 2560 → Vec F S1024x256 .bf16) : List (View.Piece (Elt F) S1024x2816 .bf16) :=
  [⟨Rect.unit ![0, 2560] S1024x256.size (inbA 2560 (by omega)), p 2560 (by omega)⟩,
   ⟨Rect.unit ![0, 2304] S1024x256.size (inbA 2304 (by omega)), p 2304 (by omega)⟩,
   ⟨Rect.unit ![0, 2048] S1024x256.size (inbA 2048 (by omega)), p 2048 (by omega)⟩,
   ⟨Rect.unit ![0, 1792] S1024x256.size (inbA 1792 (by omega)), p 1792 (by omega)⟩,
   ⟨Rect.unit ![0, 1536] S1024x256.size (inbA 1536 (by omega)), p 1536 (by omega)⟩,
   ⟨Rect.unit ![0, 1280] S1024x256.size (inbA 1280 (by omega)), p 1280 (by omega)⟩,
   ⟨Rect.unit ![0, 1024] S1024x256.size (inbA 1024 (by omega)), p 1024 (by omega)⟩,
   ⟨Rect.unit ![0, 768] S1024x256.size (inbA 768 (by omega)), p 768 (by omega)⟩,
   ⟨Rect.unit ![0, 512] S1024x256.size (inbA 512 (by omega)), p 512 (by omega)⟩,
   ⟨Rect.unit ![0, 256] S1024x256.size (inbA 256 (by omega)), p 256 (by omega)⟩,
   ⟨Rect.unit ![0, 0] S1024x256.size (inbA 0 (by omega)), p 0 (by omega)⟩]
def sheet (p : (o : ℕ) → o ≤ 2560 → Vec F S1024x256 .bf16) : Vec F S1024x2816 .bf16 := View.canon (sheetL p)

theorem cover_stack (a d : Vec F S16x1024 .bf16) (b : Vec F S1024x1024 .bf16) (y : S1056x1024.Idx) : ∃ p ∈ stackL a d b, y ∈ p.1.set := by
  have h0 : (y 0).val < 1056 := (y 0).isLt
  have h1 : (y 1).val < 1024 := (y 1).isLt
  unfold stackL
  by_cases c1 : 1040 ≤ (y 0).val
  · refine ⟨⟨Rect.unit ![1040, 0] S16x1024.size inb_S1056x1024_S16x1024_1040_0, d⟩, List.mem_cons_self, ?_⟩
    refine (Rect.mem_set_unit (inb := inb_S1056x1024_S16x1024_1040_0)).2 fun e => ?_
    match e with
    | ⟨0, _⟩ => exact ⟨c1, by show (y 0).val < 1040 + 16; omega⟩
    | ⟨1, _⟩ => exact ⟨Nat.zero_le _, by show (y 1).val < 0 + 1024; omega⟩
  by_cases c2 : 16 ≤ (y 0).val
  · refine ⟨⟨Rect.unit ![16, 0] S1024x1024.size inb_S1056x1024_S1024x1024_16_0, b⟩, List.mem_cons_of_mem _ List.mem_cons_self, ?_⟩
    refine (Rect.mem_set_unit (inb := inb_S1056x1024_S1024x1024_16_0)).2 fun e => ?_
    match e with
    | ⟨0, _⟩ => exact ⟨c2, by show (y 0).val < 16 + 1024; omega⟩
    | ⟨1, _⟩ => exact ⟨Nat.zero_le _, by show (y 1).val < 0 + 1024; omega⟩
  · refine ⟨⟨Rect.unit ![0, 0] S16x1024.size inb_S1056x1024_S16x1024_0_0, a⟩, List.mem_cons_of_mem _ (List.mem_cons_of_mem _ List.mem_cons_self), ?_⟩
    refine (Rect.mem_set_unit (inb := inb_S1056x1024_S16x1024_0_0)).2 fun e => ?_
    match e with
    | ⟨0, _⟩ => exact ⟨Nat.zero_le _, by show (y 0).val < 0 + 16; omega⟩
    | ⟨1, _⟩ => exact ⟨Nat.zero_le _, by show (y 1).val < 0 + 1024; omega⟩

theorem cover_sheet (p : (o : ℕ) → o ≤ 2560 → Vec F S1024x256 .bf16) (y : S1024x2816.Idx) : ∃ q ∈ sheetL p, y ∈ q.1.set :=
  View.cover_of_tiledL (sheetL p) S1024x256.size (by sl_kernel_rfl) y

/-- What a load of the whole of either buffer finds after those stores. -/
theorem load_stack {ρ : RefSig} (v : View ρ .tc .vmem S1056x1024 .bf16) (a d : Vec F S16x1024 .bf16) (b : Vec F S1024x1024 .bf16)
    (h : ∀ a, (![0, 0] : Fin 2 → ℕ) a + S1056x1024.size a ≤ S1056x1024.size a) :
    v.readCov (Val := Elt F) (stackL a d b) (Rect.unit ![0, 0] S1056x1024.size h).toLoadRect = stack a d b := by
  rw [View.readCov_eq_canon_ld _ _ _ (cover_stack a d b)]
  exact View.ld_unit_lit h _ (by decide)

theorem load_sheet {ρ : RefSig} (v : View ρ .tc .vmem S1024x2816 .bf16) (p : (o : ℕ) → o ≤ 2560 → Vec F S1024x256 .bf16)
    (h : ∀ a, (![0, 0] : Fin 2 → ℕ) a + S1024x2816.size a ≤ S1024x2816.size a) :
    v.readCov (Val := Elt F) (sheetL p) (Rect.unit ![0, 0] S1024x2816.size h).toLoadRect = sheet p := by
  rw [View.readCov_eq_canon_ld _ _ _ (cover_sheet p)]
  exact View.ld_unit_lit h _ (by decide)

/-- The normalized rows of tile `n`. -/
def rows (n : ℕ) (x0 : Vec F S1x16x1024 .f32) (x1 : Vec F S1x1024x1024 .f32) (x2 : Vec F S1x16x1024 .f32) (x3 : Vec F S1x16x1024 .bf16)
    (x4 : Vec F S1x1024x1024 .bf16) (x5 : Vec F S1x16x1024 .bf16) (x6 : Vec F S1x6x1024 .f32) (x7 : Vec F S4x1024 .f32) : Vec F S1056x1024 .bf16 :=
  stack (k0_pay9 (BitVec.ofNat 32 n) (k0_pay5 (k0_pay3 x0 x3 (ng2 x7) (md4 x6)) (k0_pay4 (md3 x6))))
    (k0_pay11 (BitVec.ofNat 32 n) (k0_pay7 x2 x5) (ng2 x7) (k0_pay8 x2 x5) (md4 x6) (md3 x6))
    (k0_pay10 (k0_pay6 (k0_pay2 x1 x4) (ng2 x7) (md4 x6) (md3 x6)))

/-- The block stored, from the normalized rows. -/
def block (H : Vec F S1056x1024 .bf16) (x1 : Vec F S1x1024x1024 .f32) (x4 : Vec F S1x1024x1024 .bf16) (x6 : Vec F S1x6x1024 .f32) (x7 : Vec F S4x1024 .f32)
    (x8 : Vec F S1024x5632 .bf16) (x9 : Vec F S3x5632 .f32) (x10 : Vec F S1x5632 .f32) (x11 : Vec F S2816x1024 .bf16) : Vec F S1x1024x1024 .f32 :=
  k0_pay1 (k0_pay86 (k0_pay2 x1 x4) (sheet (group H x8 x9 x10)) (k0_pay85 x11) (md5 x6) (ng3 x7))

set_option maxHeartbeats 4000000 in
/-- What the body leaves in the output's staging buffer. -/
theorem out_eq (c : Dev nD) (i : grid0.Coords)
    (arg2 : Memref sig .tc .vmem S1x16x1024 .f32) (harg2 : arg2.IsWhole)
    (arg3 : Memref sig .tc .vmem S1x1024x1024 .f32) (harg3 : arg3.IsWhole)
    (arg4 : Memref sig .tc .vmem S1x16x1024 .f32) (harg4 : arg4.IsWhole)
    (arg5 : Memref sig .tc .vmem S1x16x1024 .bf16) (harg5 : arg5.IsWhole)
    (arg6 : Memref sig .tc .vmem S1x1024x1024 .bf16) (harg6 : arg6.IsWhole)
    (arg7 : Memref sig .tc .vmem S1x16x1024 .bf16) (harg7 : arg7.IsWhole)
    (arg8 : Memref sig .tc .vmem S1x6x1024 .f32) (harg8 : arg8.IsWhole)
    (arg9 : Memref sig .tc .vmem S4x1024 .f32) (harg9 : arg9.IsWhole)
    (arg10 : Memref sig .tc .vmem S1024x5632 .bf16) (harg10 : arg10.IsWhole)
    (arg11 : Memref sig .tc .vmem S3x5632 .f32) (harg11 : arg11.IsWhole)
    (arg12 : Memref sig .tc .vmem S1x5632 .f32) (harg12 : arg12.IsWhole)
    (arg13 : Memref sig .tc .vmem S2816x1024 .bf16) (harg13 : arg13.IsWhole)
    (arg14 : Memref sig .tc .vmem S1x1024x1024 .f32) (harg14 : arg14.IsWhole)
    (arg15 : Memref sig .tc .vmem S1056x1024 .bf16) (harg15 : arg15.IsWhole)
    (arg16 : Memref sig .tc .vmem S1056x256 .f32) (harg16 : arg16.IsWhole)
    (arg17 : Memref sig .tc .vmem S1056x256 .f32) (harg17 : arg17.IsWhole)
    (arg18 : Memref sig .tc .vmem S1056x256 .f32) (harg18 : arg18.IsWhole)
    (arg19 : Memref sig .tc .vmem S1056x256 .f32) (harg19 : arg19.IsWhole)
    (arg20 : Memref sig .tc .vmem S1024x2816 .bf16) (harg20 : arg20.IsWhole)
    (x0 : Vec F S1x16x1024 .f32) (x1 : Vec F S1x1024x1024 .f32) (x2 : Vec F S1x16x1024 .f32) (x3 : Vec F S1x16x1024 .bf16) (x4 : Vec F S1x1024x1024 .bf16) (x5 : Vec F S1x16x1024 .bf16) (x6 : Vec F S1x6x1024 .f32) (x7 : Vec F S4x1024 .f32) (x8 : Vec F S1024x5632 .bf16) (x9 : Vec F S3x5632 .f32) (x10 : Vec F S1x5632 .f32) (x11 : Vec F S2816x1024 .bf16) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11
      = block (rows (i 1).val x0 x1 x2 x3 x4 x5 x6 x7) x1 x4 x6 x7 x8 x9 x10 x11 := by
  frame_out [up13, up14, up15, up18, up19, up27, up28, up37, up42, up43, up48, up49, up52, up53, up61, up62, up71, up76, up77, up36, up70,
    group1, group2, group3, group4, group5, group6, group7, group8, group9, group10]
  refine Eq.trans (b := k0_pay1 (k0_pay86 (k0_pay2 x1 x4)
    (arg20.view.readCov (Val := Elt F) (sheetL (group (arg15.view.readCov (Val := Elt F) (stackL
        (k0_pay9 (BitVec.ofNat 32 (i 1).val) (k0_pay5 (k0_pay3 x0 x3 (ng2 x7) (md4 x6)) (k0_pay4 (md3 x6))))
        (k0_pay11 (BitVec.ofNat 32 (i 1).val) (k0_pay7 x2 x5) (ng2 x7) (k0_pay8 x2 x5) (md4 x6) (md3 x6))
        (k0_pay10 (k0_pay6 (k0_pay2 x1 x4) (ng2 x7) (md4 x6) (md3 x6))))
        (Rect.unit ![0, 0] S1056x1024.size inb_S1056x1024_S1056x1024_0_0).toLoadRect) x8 x9 x10))
      (Rect.unit ![0, 0] S1024x2816.size inb_S1024x2816_S1024x2816_0_0).toLoadRect)
    (k0_pay85 x11) (md5 x6) (ng3 x7))) ?_ ?_
  · rfl
  · rw [load_stack, load_sheet]
    rfl

end Cert.Kernel2Ideal.Mlp

end
-- ==== Proof.Mlp.Spec.lean ====
/- The gated layer as plain mathematics: what both programs compute, entry by entry, over the extended reals.

   The residual is added, the sum normalized by its root mean square and modulated; a first matrix takes it to 5632 hidden
   columns, over which a convolution of width three runs along the rows (zero before the first row and after the last); one half
   of the columns gates the other, a second matrix takes the 2816 products back, and the normalized, modulated result is added
   to the residual. -/
module

public import Idealize.ShloMosaic.Lib.Pointwise
public import Idealize.ShloMosaic.Lib.IdealHost

@[expose] public section

noncomputable section

namespace Cert.Mlp

open Idealize.ShloMosaic

/-- The number of entries the mean divides by, the constant added to it, and one, as the programs write them. -/
abbrev cnt : EReal := Ideal.ofBits .f32 0x44800000#32
abbrev eps : EReal := Ideal.ofBits .f32 0x358637BD#32
abbrev one : EReal := Ideal.ofBits .f32 0x3F800000#32

/-- The reciprocal of the root mean square of a row. -/
def rinv (v : Fin 1024 → EReal) : EReal := Ideal.rsqrt (Ideal.div (∑ k, v k * v k) cnt + eps)

/-- The normalized row with its gain `g`, its scale `s` and its shift `t`. -/
def hid (v g s t : Fin 1024 → EReal) (k : Fin 1024) : EReal := v k * rinv v * g k * (one + s k) + t k

/-- The convolution's three terms and its bias, of the column before, at and after a row. -/
def conv (p q n w0 w1 w2 b : EReal) : EReal := p * w0 + q * w1 + n * w2 + b

/-- The gate: the sigmoid-weighted column times the other half's. -/
def gate (g v : EReal) : EReal := Ideal.div g (one + Ideal.exp (-g)) * v

/-- The result: the residual and the normalized row of the second matrix's products, with its gain and its scale. -/
def fin (x : EReal) (y g s : Fin 1024 → EReal) (e : Fin 1024) : EReal := x + s e * (y e * rinv y * g e)

theorem gate_eq (g v : EReal) : g * Ideal.div one (one + Ideal.exp (-g)) * v = gate g v := by
  have h1 : one = 1 := Ideal.ofBits_one_f32
  have h0 : (0 : EReal) ≤ Ideal.exp (-g) := by
    generalize -g = x
    induction x using EReal.rec with
    | bot => exact le_refl _
    | top => exact le_top
    | coe r => exact EReal.coe_nonneg.2 (Real.exp_pos r).le
  have hy : one + Ideal.exp (-g) ≠ 0 := by
    rw [h1]
    exact (lt_of_lt_of_le zero_lt_one (le_add_of_nonneg_right h0)).ne'
  unfold gate Ideal.div
  rw [if_neg hy, if_neg hy, h1, one_mul]

/-! ## The hidden columns, from the modulated rows -/

section Hidden

variable (hr : Fin 16384 → Fin 1024 → EReal) (wu : Fin 1024 → Fin 5632 → EReal) (cw : Fin 3 → Fin 5632 → EReal) (cb : Fin 5632 → EReal)
  (wd : Fin 2816 → Fin 1024 → EReal)

/-- The hidden columns, with a row of zeros before the first and one after the last: row `n` is the rows' row `n - 1`. -/
def up (n : ℕ) (f : Fin 5632) : EReal := if h : 1 ≤ n ∧ n ≤ 16384 then ∑ k, hr ⟨n - 1, by omega⟩ k * wu k f else 0

/-- The convolved hidden columns. -/
def cvs (l : ℕ) (f : Fin 5632) : EReal := conv (up hr wu l f) (up hr wu (l + 1) f) (up hr wu (l + 2) f) (cw 0 f) (cw 1 f) (cw 2 f) (cb f)

/-- The gated activations. -/
def act (l : ℕ) (f : Fin 2816) : EReal := gate (cvs hr wu cw cb l ⟨f.val, by omega⟩) (cvs hr wu cw cb l ⟨f.val + 2816, by omega⟩)

/-- Their products with the second matrix. -/
def mlp (l : Fin 16384) (e : Fin 1024) : EReal := ∑ f, act hr wu cw cb l.val f * wd f e

end Hidden

/-! ## The whole layers -/

section Layer

variable (xs : Fin 2 → Fin 16384 → Fin 1024 → EReal) (md : Fin 2 → Fin 6144 → EReal) (ng : Fin 4 → Fin 1024 → EReal)
  (wu : Fin 1024 → Fin 5632 → EReal) (cw : Fin 3 → Fin 5632 → EReal) (cb : Fin 5632 → EReal) (wd : Fin 2816 → Fin 1024 → EReal)

/-- The modulated rows. -/
def row (b : Fin 2) (l : Fin 16384) : Fin 1024 → EReal :=
  hid (xs b l) (ng 2) (fun k => md b ⟨4096 + k.val, by omega⟩) (fun k => md b ⟨3072 + k.val, by omega⟩)

/-- The last layer's result, from the sum of the stream and the mixer's branch. -/
def out (b : Fin 2) (l : Fin 16384) (e : Fin 1024) : EReal :=
  fin (xs b l e) (mlp (row xs md ng b) wu cw cb wd l) (ng 3) (fun k => md b ⟨5120 + k.val, by omega⟩) e

variable (h : Fin 2 → Fin 16384 → Fin 1024 → EReal) (md' : Fin 2 → Fin 6144 → EReal) (ng' : Fin 4 → Fin 1024 → EReal)

/-- The first layer's stream, from the stream before and its modulated rows `h`. -/
def mid (b : Fin 2) (l : Fin 16384) (e : Fin 1024) : EReal :=
  fin (xs b l e) (mlp (h b) wu cw cb wd l) (ng 3) (fun k => md b ⟨5120 + k.val, by omega⟩) e

/-- The next layer's modulated rows. -/
def next (b : Fin 2) (l : Fin 16384) (e : Fin 1024) : EReal :=
  hid (mid xs md ng wu cw cb wd h b l) (ng' 0) (fun k => md' b ⟨1024 + k.val, by omega⟩) (fun k => md' b ⟨k.val, by omega⟩) e

end Layer

/-! ## The output projection -/

section Proj

variable (oa ob : Fin 2 → Fin 16384 → Fin 512 → EReal) (xs : Fin 2 → Fin 16384 → Fin 1024 → EReal) (md : Fin 2 → Fin 6144 → EReal)
  (ng : Fin 4 → Fin 1024 → EReal) (w : Fin 1024 → Fin 1024 → EReal)

/-- The products of both groups of heads with the matrix. -/
def proj (b : Fin 2) (l : Fin 16384) (e : Fin 1024) : EReal :=
  ∑ k : Fin 512, oa b l k * w ⟨k.val, by omega⟩ e + ∑ k : Fin 512, ob b l k * w ⟨512 + k.val, by omega⟩ e

/-- The stream after the mixer. -/
def after (b : Fin 2) (l : Fin 16384) (e : Fin 1024) : EReal :=
  fin (xs b l e) (proj oa ob w b l) (ng 1) (fun k => md b ⟨2048 + k.val, by omega⟩) e

end Proj

end Cert.Mlp

end
-- ==== Proof.Mlp.Block.lean ====
/- The gated layer's body, entry by entry: the normalized rows, the hidden columns, the convolution and the gate of one group,
   the buffer of activations, the block stored. -/
module

public import proofs.«01_k».proof.Proof.Mlp.Run
public import proofs.«01_k».proof.Proof.Mlp.Spec
public import Idealize.ShloMosaic.Lib.Pointwise
public import Idealize.ShloMosaic.Lib.IdealHost

@[expose] public section

set_option maxRecDepth 16384

noncomputable section

namespace Cert.Kernel2Ideal.Mlp

open Cert.Kernel2Ideal Cert.Kernel2Ideal.Gen
open Idealize.ShloMosaic Idealize.ShloMosaic.TcCoe Idealize.ShloMosaic.Pointwise
open Cert.Mlp (rinv hid conv gate fin cnt eps one)

section Ops

variable (x0 x2 : Vec Ideal S1x16x1024 .f32) (x3 x5 : Vec Ideal S1x16x1024 .bf16) (g : Vec Ideal S1x1024 .f32) (s t : Vec Ideal S1x1x1024 .f32)
  (x1 : Vec Ideal S1x1024x1024 .f32) (x4 : Vec Ideal S1x1024x1024 .bf16) (xs : FVec Ideal S1024x1024 .f32)

/-! ## The normalized rows -/

theorem first_ne : ∀ n : Fin 16, Scalar.cmpi .sgt (BitVec.ofNat 32 n.val) 0#32 = if n.val = 0 then 0 else 1 := by decide
theorem last_ne : ∀ n : Fin 16, Scalar.cmpi .slt (BitVec.ofNat 32 n.val) 15#32 = if n.val = 15 then 0 else 1 := by decide

theorem before_row (r : Fin 16) (k : Fin 1024) :
    (k0_pay5 (k0_pay3 x0 x3 g s) (k0_pay4 t) (ix2 r k) : EReal)
      = hid (fun k => x0 (ix3 0 r k) + x3 (ix3 0 r k)) (fun k => g (ix2 0 k)) (fun k => s (ix3 0 0 k)) (fun k => t (ix3 0 0 k)) k := by
  pointwise [k0_pay5, k0_pay3, k0_pay4, hid, rinv]

theorem before_apply (n : Fin 16) (v : FVec Ideal S16x1024 .bf16) (r : Fin 16) (k : Fin 1024) :
    (k0_pay9 (BitVec.ofNat 32 n.val) v (ix2 r k) : EReal) = if n.val = 0 then 0 else v (ix2 r k) := by
  unfold k0_pay9
  rw [first_ne]
  by_cases h : n.val = 0
  · rw [if_pos h, if_pos h]
    pointwise []
    rfl
  · rw [if_neg h, if_neg h]
    pointwise []
    rfl

theorem within_row (r k : Fin 1024) :
    (k0_pay10 (k0_pay6 xs g s t) (ix2 r k) : EReal)
      = hid (fun k => xs (ix2 r k)) (fun k => g (ix2 0 k)) (fun k => s (ix3 0 0 k)) (fun k => t (ix3 0 0 k)) k := by
  pointwise [k0_pay10, k0_pay6, hid, rinv]

theorem sum_apply (r k : Fin 1024) : (k0_pay2 x1 x4 (ix2 r k) : EReal) = x1 (ix3 0 r k) + x4 (ix3 0 r k) := by
  pointwise [k0_pay2]

theorem after_apply (n : Fin 16) (v : FVec Ideal S16x1024 .f32) (q : FVec Ideal S16x1 .f32) (r : Fin 16) (k : Fin 1024) :
    (k0_pay11 (BitVec.ofNat 32 n.val) v g q s t (ix2 r k) : EReal)
      = if n.val = 15 then 0 else v (ix2 r k) * Ideal.rsqrt (q (ix2 r 0) + eps) * g (ix2 0 k) * (one + s (ix3 0 0 k)) + t (ix3 0 0 k) := by
  unfold k0_pay11
  rw [last_ne]
  by_cases h : n.val = 15
  · rw [if_pos h, if_pos h]
    pointwise []
    rfl
  · rw [if_neg h, if_neg h]
    pointwise []
    rfl

theorem after_sum (r : Fin 16) (k : Fin 1024) : (k0_pay7 x2 x5 (ix2 r k) : EReal) = x2 (ix3 0 r k) + x5 (ix3 0 r k) := by
  pointwise [k0_pay7]

theorem after_mean (r : Fin 16) :
    (k0_pay8 x2 x5 (ix2 r 0) : EReal) = Ideal.div (∑ k : Fin 1024, (x2 (ix3 0 r k) + x5 (ix3 0 r k)) * (x2 (ix3 0 r k) + x5 (ix3 0 r k))) cnt := by
  pointwise [k0_pay8, k0_pay7]

/-! ## One group of hidden columns -/

theorem up_apply (H : Vec Ideal S1056x1024 .bf16) (w : Vec Ideal S1024x256 .bf16) (r : Fin 1056) (f : Fin 256) :
    (k0_pay12 H w (ix2 r f) : EReal) = ∑ k : Fin 1024, H (ix2 r k) * w (ix2 k f) := by
  pointwise [k0_pay12]

/-- The column one row up and one row down, as the body's rotations by one and by all but one row give them. -/
theorem turn_back (u : Vec Ideal S1056x256 .f32) (r : Fin 1024) (f : Fin 256) :
    extractStridedSlice S1024x256 ![16, 0] (dynamicRotate 0 1#32 none u rotates_S1056x256_d0) slices_S1056x256_o16_0_S1024x256 (ix2 r f)
      = u (ix2 ⟨r.val + 15, by omega⟩ f) := by
  pointwise []
  refine congrArg (fun n => u (ix2 n f)) (Fin.ext ?_)
  show (16 + r.val + 1056 - 1) % 1056 = r.val + 15
  omega
theorem turn_on (u : Vec Ideal S1056x256 .f32) (r : Fin 1024) (f : Fin 256) :
    extractStridedSlice S1024x256 ![16, 0] (dynamicRotate 0 1055#32 none u rotates_S1056x256_d0) slices_S1056x256_o16_0_S1024x256 (ix2 r f)
      = u (ix2 ⟨r.val + 17, by omega⟩ f) := by
  pointwise []
  refine congrArg (fun n => u (ix2 n f)) (Fin.ext ?_)
  show (16 + r.val + 1056 - 1055) % 1056 = r.val + 17
  omega

/-- The convolution's sum, of the three columns. -/
theorem sum3_apply (cw : Vec Ideal S3x256 .f32) (p q n : FVec Ideal S1024x256 .f32) (cb : Vec Ideal S1x256 .f32) (r : Fin 1024) (f : Fin 256) :
    (addf (addf (addf (mulf p (broadcastTo S1024x256 (extractStridedSlice S1x256 ![0, 0] cw slices_S3x256_o0_0_S1x256) broadcasts_S1x256_S1024x256))
        (mulf q (broadcastTo S1024x256 (extractStridedSlice S1x256 ![1, 0] cw slices_S3x256_o1_0_S1x256) broadcasts_S1x256_S1024x256)))
        (mulf n (broadcastTo S1024x256 (extractStridedSlice S1x256 ![2, 0] cw slices_S3x256_o2_0_S1x256) broadcasts_S1x256_S1024x256)))
        (broadcastTo S1024x256 (shapeCast S1x256 cb shapeCasts_S1x256_S1x256) broadcasts_S1x256_S1024x256) (ix2 r f) : EReal)
      = conv (p (ix2 r f)) (q (ix2 r f)) (n (ix2 r f)) (cw (ix2 0 f)) (cw (ix2 1 f)) (cw (ix2 2 f)) (cb (ix2 0 f)) := by
  pointwise [conv]

theorem mid_apply (u : Vec Ideal S1056x256 .f32) (r : Fin 1024) (f : Fin 256) :
    extractStridedSlice S1024x256 ![16, 0] u slices_S1056x256_o16_0_S1024x256 (ix2 r f) = u (ix2 ⟨r.val + 16, by omega⟩ f) := by
  pointwise []
  exact congrArg (fun n => u (ix2 n f)) (Fin.ext (Nat.add_comm _ _))

theorem conv_apply (cw : Vec Ideal S3x256 .f32) (u : Vec Ideal S1056x256 .f32) (cb : Vec Ideal S1x256 .f32) (r : Fin 1024) (f : Fin 256) :
    (k0_pay16 cw u cb (ix2 r f) : EReal)
      = conv (u (ix2 ⟨r.val + 15, by omega⟩ f)) (u (ix2 ⟨r.val + 16, by omega⟩ f)) (u (ix2 ⟨r.val + 17, by omega⟩ f))
          (cw (ix2 0 f)) (cw (ix2 1 f)) (cw (ix2 2 f)) (cb (ix2 0 f)) := by
  unfold k0_pay16
  refine (sum3_apply cw _ _ _ cb r f).trans ?_
  rw [turn_back, mid_apply, turn_on]

theorem gate_apply (z : FVec Ideal S1024x256 .f32) (cw : Vec Ideal S3x256 .f32) (u : Vec Ideal S1056x256 .f32) (cb : Vec Ideal S1x256 .f32) (r : Fin 1024) (f : Fin 256) :
    (k0_pay17 z cw u cb (ix2 r f) : EReal) = gate (z (ix2 r f)) (k0_pay16 cw u cb (ix2 r f)) := by
  pointwise [k0_pay17, k0_pay16, gate]
  rw [sub_eq_add_neg, zero_add]

/-! ## The end -/

theorem fin_apply (A : Vec Ideal S1024x2816 .bf16) (wd : Vec Ideal S2816x1024 .bf16) (r e : Fin 1024) :
    (k0_pay1 (k0_pay86 xs A (k0_pay85 wd) s g) (ix3 0 r e) : EReal)
      = fin (xs (ix2 r e)) (fun e => ∑ f : Fin 2816, A (ix2 r f) * wd (ix2 f e)) (fun k => g (ix2 0 k)) (fun k => s (ix3 0 0 k)) e := by
  pointwise [k0_pay1, k0_pay86, k0_pay85, fin, rinv]

end Ops

/-! ## The two buffers -/

theorem stack_apply (a d : Vec Ideal S16x1024 .bf16) (b : Vec Ideal S1024x1024 .bf16) (r : Fin 1056) (k : Fin 1024) :
    (stack a d b (ix2 r k) : EReal) = if h : r.val < 16 then a (ix2 ⟨r.val, h⟩ k)
      else if h' : r.val < 1040 then b (ix2 ⟨r.val - 16, by omega⟩ k) else d (ix2 ⟨r.val - 1040, by omega⟩ k) := by
  refine View.canon_apply_of_pieces (Val := Elt Ideal) (fun y : S1056x1024.Idx => if h : (y 0).val < 16 then a (ix2 ⟨(y 0).val, h⟩ (y 1))
    else if h' : (y 0).val < 1040 then b (ix2 ⟨(y 0).val - 16, by omega⟩ (y 1)) else d (ix2 ⟨(y 0).val - 1040, by have h0 : (y 0).val < 1056 := (y 0).isLt; omega⟩ (y 1)))
    (stackL a d b) ?_ (ix2 r k) (cover_stack a d b _)
  intro p hp
  rcases List.mem_cons.1 hp with rfl | hp
  · intro j
    have hj : (j 0).val < 16 := (j 0).isLt
    have he : ((Rect.unit (s := S1056x1024) ![1040, 0] S16x1024.size inb_S1056x1024_S16x1024_1040_0).emb j : S1056x1024.Idx) = ix2 (n0 := 1056) (n1 := 1024) ⟨1040 + (j 0).val, by omega⟩ (j 1) :=
      funext fun a => Fin.ext ((Rect.idx_unit_val _ _ _ j a).trans (match a with
        | ⟨0, _⟩ => rfl
        | ⟨1, _⟩ => Nat.zero_add _))
    show (d j : EReal) = _
    rw [he]
    refine Eq.trans ?_ ((dif_neg (show ¬(1040 + (j 0).val < 16) by omega)).trans (dif_neg (show ¬(1040 + (j 0).val < 1040) by omega))).symm
    exact congrArg d (funext fun a => match a with
      | ⟨0, _⟩ => Fin.ext (by show (j 0).val = 1040 + (j 0).val - 1040; omega)
      | ⟨1, _⟩ => rfl)
  rcases List.mem_cons.1 hp with rfl | hp
  · intro j
    have hj : (j 0).val < 1024 := (j 0).isLt
    have he : ((Rect.unit (s := S1056x1024) ![16, 0] S1024x1024.size inb_S1056x1024_S1024x1024_16_0).emb j : S1056x1024.Idx) = ix2 (n0 := 1056) (n1 := 1024) ⟨16 + (j 0).val, by omega⟩ (j 1) :=
      funext fun a => Fin.ext ((Rect.idx_unit_val _ _ _ j a).trans (match a with
        | ⟨0, _⟩ => rfl
        | ⟨1, _⟩ => Nat.zero_add _))
    show (b j : EReal) = _
    rw [he]
    refine Eq.trans ?_ ((dif_neg (show ¬(16 + (j 0).val < 16) by omega)).trans (dif_pos (show 16 + (j 0).val < 1040 by omega))).symm
    exact congrArg b (funext fun a => match a with
      | ⟨0, _⟩ => Fin.ext (by show (j 0).val = 16 + (j 0).val - 16; omega)
      | ⟨1, _⟩ => rfl)
  rcases List.mem_cons.1 hp with rfl | hp
  · intro j
    have hj : (j 0).val < 16 := (j 0).isLt
    have he : ((Rect.unit (s := S1056x1024) ![0, 0] S16x1024.size inb_S1056x1024_S16x1024_0_0).emb j : S1056x1024.Idx) = ix2 (n0 := 1056) (n1 := 1024) ⟨0 + (j 0).val, by omega⟩ (j 1) :=
      funext fun a => Fin.ext ((Rect.idx_unit_val _ _ _ j a).trans (match a with
        | ⟨0, _⟩ => rfl
        | ⟨1, _⟩ => Nat.zero_add _))
    show (a j : EReal) = _
    rw [he]
    refine Eq.trans ?_ (dif_pos (show 0 + (j 0).val < 16 by omega)).symm
    exact congrArg a (funext fun a => match a with
      | ⟨0, _⟩ => Fin.ext (by show (j 0).val = 0 + (j 0).val; omega)
      | ⟨1, _⟩ => rfl)
  exact absurd hp List.not_mem_nil

/-- The buffer of activations holds `G`, if every group stored holds its columns of `G`. -/
theorem sheet_apply (p : (o : ℕ) → o ≤ 2560 → Vec Ideal S1024x256 .bf16) (G : Fin 1024 → Fin 2816 → EReal)
    (hG : ∀ (o : ℕ) (h : o ≤ 2560) (r : Fin 1024) (f : Fin 256), (p o h (ix2 r f) : EReal) = G r ⟨o + f.val, by omega⟩)
    (r : Fin 1024) (f : Fin 2816) : (sheet p (ix2 r f) : EReal) = G r f := by
  refine View.canon_apply_of_pieces (Val := Elt Ideal) (fun y : S1024x2816.Idx => G (y 0) (y 1)) (sheetL p) ?_ (ix2 r f) (cover_sheet p _)
  have key : ∀ (o : ℕ) (h : o ≤ 2560) (j : S1024x256.Idx), (p o h j : EReal)
      = (fun y : S1024x2816.Idx => G (y 0) (y 1)) ((Rect.unit (s := S1024x2816) ![0, o] S1024x256.size (inbA o h)).emb j) := by
    intro o h j
    have hj : (j 1).val < 256 := (j 1).isLt
    have he : ((Rect.unit (s := S1024x2816) ![0, o] S1024x256.size (inbA o h)).emb j : S1024x2816.Idx) = ix2 (n0 := 1024) (n1 := 2816) (j 0) ⟨o + (j 1).val, by omega⟩ :=
      funext fun a => Fin.ext ((Rect.idx_unit_val (s := S1024x2816) ![0, o] S1024x256.size (inbA o h) j a).trans (match a with
        | ⟨0, _⟩ => Nat.zero_add _
        | ⟨1, _⟩ => rfl))
    rw [he]
    exact (congrArg (p o h) (eq_ix2 (n0 := 1024) (n1 := 256) j)).trans (hG o h (j 0) (j 1))
  intro q hq
  simp only [sheetL, List.mem_cons, List.not_mem_nil, or_false] at hq
  rcases hq with rfl | rfl | rfl | rfl | rfl | rfl | rfl | rfl | rfl | rfl | rfl <;> exact key _ _

/-! ## Loads of parts of the blocks -/

section Loads

variable (x6 : Vec Ideal S1x6x1024 .f32) (x7 : Vec Ideal S4x1024 .f32) (x8 : Vec Ideal S1024x5632 .bf16) (x9 : Vec Ideal S3x5632 .f32) (x10 : Vec Ideal S1x5632 .f32)

theorem md3_apply (k : Fin 1024) : md3 x6 (ix3 0 0 k) = x6 (ix3 0 3 k) :=
  View.ld_unit_apply_of _ _ _ _ _ (ix3 0 3 k) fun a => match a with | ⟨0, _⟩ => rfl | ⟨1, _⟩ => rfl | ⟨2, _⟩ => (Nat.zero_add _).symm
theorem md4_apply (k : Fin 1024) : md4 x6 (ix3 0 0 k) = x6 (ix3 0 4 k) :=
  View.ld_unit_apply_of _ _ _ _ _ (ix3 0 4 k) fun a => match a with | ⟨0, _⟩ => rfl | ⟨1, _⟩ => rfl | ⟨2, _⟩ => (Nat.zero_add _).symm
theorem md5_apply (k : Fin 1024) : md5 x6 (ix3 0 0 k) = x6 (ix3 0 5 k) :=
  View.ld_unit_apply_of _ _ _ _ _ (ix3 0 5 k) fun a => match a with | ⟨0, _⟩ => rfl | ⟨1, _⟩ => rfl | ⟨2, _⟩ => (Nat.zero_add _).symm
theorem ng2_apply (k : Fin 1024) : ng2 x7 (ix2 0 k) = x7 (ix2 2 k) :=
  View.ld_unit_apply_of _ _ _ _ _ (ix2 2 k) fun a => match a with | ⟨0, _⟩ => rfl | ⟨1, _⟩ => (Nat.zero_add _).symm
theorem ng3_apply (k : Fin 1024) : ng3 x7 (ix2 0 k) = x7 (ix2 3 k) :=
  View.ld_unit_apply_of _ _ _ _ _ (ix2 3 k) fun a => match a with | ⟨0, _⟩ => rfl | ⟨1, _⟩ => (Nat.zero_add _).symm

variable (o : ℕ) (h : o ≤ 5376) (f : Fin 256)

theorem wcol_apply (k : Fin 1024) : wcol x8 o h (ix2 k f) = x8 (ix2 k ⟨o + f.val, by omega⟩) :=
  View.ld_unit_apply_of _ _ _ _ _ (ix2 k ⟨o + f.val, by omega⟩) fun a => match a with | ⟨0, _⟩ => (Nat.zero_add _).symm | ⟨1, _⟩ => rfl
theorem ccol_apply (n : Fin 3) : ccol x9 o h (ix2 n f) = x9 (ix2 n ⟨o + f.val, by omega⟩) :=
  View.ld_unit_apply_of _ _ _ _ _ (ix2 n ⟨o + f.val, by omega⟩) fun a => match a with | ⟨0, _⟩ => (Nat.zero_add _).symm | ⟨1, _⟩ => rfl
theorem bcol_apply : bcol x10 o h (ix2 0 f) = x10 (ix2 0 ⟨o + f.val, by omega⟩) :=
  View.ld_unit_apply_of _ _ _ _ _ (ix2 0 ⟨o + f.val, by omega⟩) fun a => match a with | ⟨0, _⟩ => rfl | ⟨1, _⟩ => rfl

end Loads

end Cert.Kernel2Ideal.Mlp

end
-- ==== Proof.Mlp.Group.lean ====
/- One group of 256 hidden columns of a tile, from what the buffer of normalized rows holds. -/
module

public import proofs.«01_k».proof.Proof.Mlp.Block

@[expose] public section

set_option maxRecDepth 16384

noncomputable section

namespace Cert.Kernel2Ideal.Mlp

open Cert.Kernel2Ideal Cert.Kernel2Ideal.Gen
open Idealize.ShloMosaic Idealize.ShloMosaic.TcCoe Idealize.ShloMosaic.Pointwise
open Cert.Mlp (rinv hid conv gate fin cnt eps one)

/-- What the buffer holds in the tile `n`: the rows from `1024 n - 16` on, and zero outside the sequence. -/
structure Fills (hr : Fin 16384 → Fin 1024 → EReal) (n : Fin 16) (H : Vec Ideal S1056x1024 .bf16) : Prop where
  entry : ∀ (r : Fin 1056) (k : Fin 1024), (H (ix2 r k) : EReal)
    = if h : 16 ≤ 1024 * n.val + r.val ∧ 1024 * n.val + r.val < 16400 then hr ⟨1024 * n.val + r.val - 16, by omega⟩ k else 0

variable {hr : Fin 16384 → Fin 1024 → EReal} {n : Fin 16} {H : Vec Ideal S1056x1024 .bf16}
  {wu : Fin 1024 → Fin 5632 → EReal} {cw : Fin 3 → Fin 5632 → EReal} {cb : Fin 5632 → EReal}
  {x8 : Vec Ideal S1024x5632 .bf16} {x9 : Vec Ideal S3x5632 .f32} {x10 : Vec Ideal S1x5632 .f32}
  (hH : Fills hr n H)
  (h8 : ∀ (k : Fin 1024) (f : Fin 5632), (x8 (ix2 k f) : EReal) = wu k f)
  (h9 : ∀ (j : Fin 3) (f : Fin 5632), (x9 (ix2 j f) : EReal) = cw j f)
  (h10 : ∀ f : Fin 5632, (x10 (ix2 0 f) : EReal) = cb f)
include hH h8

/-- A hidden column of the buffer's row `r` is the layer's, of its row `m - 1` (`m + 15 = 1024 n + r`). -/
theorem ucol (o : ℕ) (h : o ≤ 5376) (r : Fin 1056) (f : Fin 256) (m : ℕ) (hm : m + 15 = 1024 * n.val + r.val) :
    (k0_pay12 H (wcol x8 o h) (ix2 r f) : EReal) = Cert.Mlp.up hr wu m ⟨o + f.val, by omega⟩ := by
  rw [up_apply]
  unfold Cert.Mlp.up
  by_cases h1 : 1 ≤ m ∧ m ≤ 16384
  · rw [dif_pos h1]
    refine Finset.sum_congr rfl fun k _ => ?_
    rw [hH.entry, wcol_apply, h8, dif_pos (by omega)]
    have e : (⟨1024 * n.val + r.val - 16, by omega⟩ : Fin 16384) = ⟨m - 1, by omega⟩ :=
      Fin.ext (by show 1024 * n.val + r.val - 16 = m - 1; omega)
    rw [e]
  · rw [dif_neg h1]
    refine Finset.sum_eq_zero fun k _ => ?_
    rw [hH.entry, dif_neg (by omega), zero_mul]

include h9 h10

/-- The convolved hidden columns of the tile's row `r`. -/
theorem ccv (o : ℕ) (h : o ≤ 5376) (r : Fin 1024) (f : Fin 256) :
    (k0_pay16 (ccol x9 o h) (k0_pay12 H (wcol x8 o h)) (bcol x10 o h) (ix2 r f) : EReal)
      = Cert.Mlp.cvs hr wu cw cb (1024 * n.val + r.val) ⟨o + f.val, by omega⟩ := by
  rw [conv_apply, ucol hH h8 o h ⟨r.val + 15, by omega⟩ f (1024 * n.val + r.val) (by show _ = 1024 * n.val + (r.val + 15); omega),
    ucol hH h8 o h ⟨r.val + 16, by omega⟩ f (1024 * n.val + r.val + 1) (by show _ = 1024 * n.val + (r.val + 16); omega),
    ucol hH h8 o h ⟨r.val + 17, by omega⟩ f (1024 * n.val + r.val + 2) (by show _ = 1024 * n.val + (r.val + 17); omega),
    ccol_apply, ccol_apply, ccol_apply, bcol_apply, h9, h9, h9, h10]
  rfl

/-- The gated activations of the tile's row `r`. -/
theorem group_apply (o : ℕ) (h : o ≤ 2560) (r : Fin 1024) (f : Fin 256) :
    (group H x8 x9 x10 o h (ix2 r f) : EReal)
      = Cert.Mlp.act hr wu cw cb (1024 * n.val + r.val) ⟨o + f.val, by omega⟩ := by
  unfold group
  rw [gate_apply, ccv hH h8 h9 h10, ccv hH h8 h9 h10]
  unfold Cert.Mlp.act
  have e : (⟨o + 2816 + f.val, by omega⟩ : Fin 5632) = ⟨o + f.val + 2816, by omega⟩ :=
    Fin.ext (by show o + 2816 + f.val = o + f.val + 2816; omega)
  rw [e]

end Cert.Kernel2Ideal.Mlp

end
-- ==== Proof.Mlp.Tile.lean ====
/- One tile of the gated layer: if the body's twelve blocks hold tile `n`'s part of the arguments, the block it stores holds the
   layer's result at the tile's rows. -/
module

public import proofs.«01_k».proof.Proof.Mlp.Group

@[expose] public section

set_option maxRecDepth 16384

noncomputable section

namespace Cert.Kernel2Ideal.Mlp

open Cert.Kernel2Ideal Cert.Kernel2Ideal.Gen
open Idealize.ShloMosaic Idealize.ShloMosaic.TcCoe Idealize.ShloMosaic.Pointwise
open Cert.Mlp (rinv hid conv gate fin cnt eps one)

/-- What the blocks of tile `n` of batch entry `b` hold. -/
structure Holds (xs : Fin 2 → Fin 16384 → Fin 1024 → EReal) (md : Fin 2 → Fin 6144 → EReal) (ng : Fin 4 → Fin 1024 → EReal)
    (wu : Fin 1024 → Fin 5632 → EReal) (cw : Fin 3 → Fin 5632 → EReal) (cb : Fin 5632 → EReal) (wd : Fin 2816 → Fin 1024 → EReal)
    (b : Fin 2) (n : Fin 16)
    (x0 : Vec Ideal S1x16x1024 .f32) (x1 : Vec Ideal S1x1024x1024 .f32) (x2 : Vec Ideal S1x16x1024 .f32) (x3 : Vec Ideal S1x16x1024 .bf16)
    (x4 : Vec Ideal S1x1024x1024 .bf16) (x5 : Vec Ideal S1x16x1024 .bf16) (x6 : Vec Ideal S1x6x1024 .f32) (x7 : Vec Ideal S4x1024 .f32)
    (x8 : Vec Ideal S1024x5632 .bf16) (x9 : Vec Ideal S3x5632 .f32) (x10 : Vec Ideal S1x5632 .f32) (x11 : Vec Ideal S2816x1024 .bf16) : Prop where
  before : n.val ≠ 0 → ∀ (r : Fin 16) (k : Fin 1024), (x0 (ix3 0 r k) + x3 (ix3 0 r k) : EReal) = xs b ⟨1024 * n.val + r.val - 16, by omega⟩ k
  within : ∀ r k : Fin 1024, (x1 (ix3 0 r k) + x4 (ix3 0 r k) : EReal) = xs b ⟨1024 * n.val + r.val, by omega⟩ k
  after : ∀ (h : n.val ≠ 15) (r : Fin 16) (k : Fin 1024), (x2 (ix3 0 r k) + x5 (ix3 0 r k) : EReal) = xs b ⟨1024 * n.val + 1024 + r.val, by omega⟩ k
  mods : ∀ (j : Fin 6) (k : Fin 1024), (x6 (ix3 0 j k) : EReal) = md b ⟨1024 * j.val + k.val, by omega⟩
  gains : ∀ (j : Fin 4) (k : Fin 1024), (x7 (ix2 j k) : EReal) = ng j k
  ups : ∀ (k : Fin 1024) (f : Fin 5632), (x8 (ix2 k f) : EReal) = wu k f
  convs : ∀ (j : Fin 3) (f : Fin 5632), (x9 (ix2 j f) : EReal) = cw j f
  bias : ∀ f : Fin 5632, (x10 (ix2 0 f) : EReal) = cb f
  downs : ∀ (f : Fin 2816) (e : Fin 1024), (x11 (ix2 f e) : EReal) = wd f e

section Tile

variable {xs : Fin 2 → Fin 16384 → Fin 1024 → EReal} {md : Fin 2 → Fin 6144 → EReal} {ng : Fin 4 → Fin 1024 → EReal}
  {wu : Fin 1024 → Fin 5632 → EReal} {cw : Fin 3 → Fin 5632 → EReal} {cb : Fin 5632 → EReal} {wd : Fin 2816 → Fin 1024 → EReal}
  {b : Fin 2} {n : Fin 16}
  {x0 : Vec Ideal S1x16x1024 .f32} {x1 : Vec Ideal S1x1024x1024 .f32} {x2 : Vec Ideal S1x16x1024 .f32} {x3 : Vec Ideal S1x16x1024 .bf16}
  {x4 : Vec Ideal S1x1024x1024 .bf16} {x5 : Vec Ideal S1x16x1024 .bf16} {x6 : Vec Ideal S1x6x1024 .f32} {x7 : Vec Ideal S4x1024 .f32}
  {x8 : Vec Ideal S1024x5632 .bf16} {x9 : Vec Ideal S3x5632 .f32} {x10 : Vec Ideal S1x5632 .f32} {x11 : Vec Ideal S2816x1024 .bf16}
  (H : Holds xs md ng wu cw cb wd b n x0 x1 x2 x3 x4 x5 x6 x7 x8 x9 x10 x11)
include H

theorem gain2 : (fun k : Fin 1024 => (ng2 x7 (ix2 0 k) : EReal)) = ng 2 := funext fun k => (ng2_apply x7 k).trans (H.gains 2 k)
theorem gain3 : (fun k : Fin 1024 => (ng3 x7 (ix2 0 k) : EReal)) = ng 3 := funext fun k => (ng3_apply x7 k).trans (H.gains 3 k)
theorem shift : (fun k : Fin 1024 => (md3 x6 (ix3 0 0 k) : EReal)) = fun k => md b ⟨3072 + k.val, by omega⟩ :=
  funext fun k => (md3_apply x6 k).trans (H.mods 3 k)
theorem scale : (fun k : Fin 1024 => (md4 x6 (ix3 0 0 k) : EReal)) = fun k => md b ⟨4096 + k.val, by omega⟩ :=
  funext fun k => (md4_apply x6 k).trans (H.mods 4 k)
theorem scale2 : (fun k : Fin 1024 => (md5 x6 (ix3 0 0 k) : EReal)) = fun k => md b ⟨5120 + k.val, by omega⟩ :=
  funext fun k => (md5_apply x6 k).trans (H.mods 5 k)

/-- The buffer of normalized rows holds rows `1024 n - 16 …` of the layer's, zero where there are none. -/
theorem rows_apply (r : Fin 1056) (k : Fin 1024) :
    (rows n.val x0 x1 x2 x3 x4 x5 x6 x7 (ix2 r k) : EReal)
      = if h : 16 ≤ 1024 * n.val + r.val ∧ 1024 * n.val + r.val < 16400 then Cert.Mlp.row xs md ng b ⟨1024 * n.val + r.val - 16, by omega⟩ k else 0 := by
  unfold rows
  rw [stack_apply]
  by_cases h1 : r.val < 16
  · rw [dif_pos h1, before_apply]
    by_cases h0 : n.val = 0
    · rw [if_pos h0, dif_neg (by omega)]
    · rw [if_neg h0, dif_pos (by omega), before_row, gain2 H, shift H, scale H, funext (H.before h0 ⟨r.val, h1⟩)]
      rfl
  · rw [dif_neg h1]
    by_cases h2 : r.val < 1040
    · rw [dif_pos h2, dif_pos (by omega), within_row, gain2 H, shift H, scale H]
      unfold Cert.Mlp.row
      refine congrArg (fun v => hid v _ _ _ k) (funext fun k => ?_)
      rw [sum_apply, H.within]
      exact congrArg (fun l => xs b l k) (Fin.ext (by show 1024 * n.val + (r.val - 16) = 1024 * n.val + r.val - 16; omega))
    · rw [dif_neg h2, after_apply]
      by_cases h0 : n.val = 15
      · rw [if_pos h0, dif_neg (by omega)]
      · rw [if_neg h0, dif_pos (by omega)]
        have hg := congrFun (gain2 H) k
        have hs := congrFun (scale H) k
        have ht := congrFun (shift H) k
        rw [hg, hs, ht, after_mean]
        simp only [after_sum]
        have hx : ∀ k, (x2 (ix3 0 ⟨r.val - 1040, by omega⟩ k) + x5 (ix3 0 ⟨r.val - 1040, by omega⟩ k) : EReal)
            = xs b ⟨1024 * n.val + r.val - 16, by omega⟩ k := fun k => by
          rw [H.after h0]
          exact congrArg (fun l => xs b l k) (Fin.ext (by show 1024 * n.val + 1024 + (r.val - 1040) = 1024 * n.val + r.val - 16; omega))
        simp only [hx]
        rfl

theorem block_apply (r e : Fin 1024) :
    (block (rows n.val x0 x1 x2 x3 x4 x5 x6 x7) x1 x4 x6 x7 x8 x9 x10 x11 (ix3 0 r e) : EReal)
      = Cert.Mlp.out xs md ng wu cw cb wd b ⟨1024 * n.val + r.val, by omega⟩ e := by
  unfold block
  rw [fin_apply, gain3 H, scale2 H, sum_apply, H.within]
  unfold Cert.Mlp.out
  refine congrArg (fun y => fin _ y _ _ e) (funext fun e => Finset.sum_congr rfl fun f _ => ?_)
  rw [sheet_apply _ (fun r f => Cert.Mlp.act (Cert.Mlp.row xs md ng b) wu cw cb (1024 * n.val + r.val) f)
    (group_apply ⟨rows_apply H⟩ H.ups H.convs H.bias), H.downs]

end Tile

end Cert.Kernel2Ideal.Mlp

end
-- ==== Proof.Mlp.Array.lean ====
/- What the region finds in the arrays its windows stage, the windows' blocks entry by entry of the arguments, and the result array. -/
module

public import proofs.«01_k».proof.Proof.Mlp.Tile
public import Idealize.ShloMosaic.Lib.IdealHost

@[expose] public section

set_option maxRecDepth 16384

noncomputable section

namespace Cert.Kernel2Ideal.Mlp

open Cert.Kernel2Ideal Cert.Kernel2Ideal.Gen
open Idealize.ShloMosaic Idealize.ShloMosaic.TcCoe Idealize.ShloMosaic.Tactic
open Idealize.ShloMosaic.Pointwise

variable (m : (ℓ : Loc nD τ sig) → Buf (Elt Ideal) ℓ) (c : Dev nD)

/-- The arguments. -/
abbrev aX : Vec Ideal S2x16384x1024 .f32 := m ((c.tc : Thread nD τ).loc main_arg0)
abbrev aR : Vec Ideal S2x16384x1024 .f32 := m ((c.tc : Thread nD τ).loc main_arg1)
abbrev aMd : Vec Ideal S2x6144 .f32 := m ((c.tc : Thread nD τ).loc main_arg2)
abbrev aNg : Vec Ideal S4x1024 .f32 := m ((c.tc : Thread nD τ).loc main_arg3)
abbrev aWu : Vec Ideal S1024x5632 .f32 := m ((c.tc : Thread nD τ).loc main_arg4)
abbrev aCw : Vec Ideal S3x5632 .f32 := m ((c.tc : Thread nD τ).loc main_arg5)
abbrev aCb : Vec Ideal S5632 .f32 := m ((c.tc : Thread nD τ).loc main_arg6)
abbrev aWd : Vec Ideal S2816x1024 .f32 := m ((c.tc : Thread nD τ).loc main_arg7)

theorem V_mod : V m c main_v2 = shapeCast S8x6x1024 (concatenate S8x6144 0 [⟨S2x6144, aMd m c⟩,
    ⟨S6x6144, broadcastInDim S6x6144 ![] bcast_S_S6x6144 (constant (F := Ideal) S_ .f32 0x00000000#32)⟩]
    concatenates_S2x6144_S6x6144_S8x6144_d0) shapeCasts_S8x6144_S8x6x1024 := by
  unfold V; after_results <;> rfl

theorem V_branch : V m c main_v3 = truncf (F := Ideal) .bf16 (aR m c) bitsLt_bf16_f32 := by unfold V; after_results <;> rfl
theorem V_up : V m c main_v4 = truncf (F := Ideal) .bf16 (aWu m c) bitsLt_bf16_f32 := by unfold V; after_results <;> rfl
theorem V_bias : V m c main_v5 = shapeCast S1x5632 (aCb m c) shapeCasts_S5632_S1x5632 := by unfold V; after_results <;> rfl
theorem V_down : V m c main_v6 = truncf (F := Ideal) .bf16 (aWd m c) bitsLt_bf16_f32 := by unfold V; after_results <;> rfl

theorem V_mod_apply (b : Fin 2) (j : Fin 6) (k : Fin 1024) :
    (V m c main_v2 : Vec Ideal S8x6x1024 .f32) (ix3 ⟨b.val, by omega⟩ j k) = aMd m c (ix2 b ⟨1024 * j.val + k.val, by omega⟩) := by
  rw [V_mod]
  generalize aMd m c = q
  pointwise []
  simp only [Nat.mul_comm]

theorem V_branch_apply (b : Fin 2) (l : Fin 16384) (k : Fin 1024) :
    (V m c main_v3 : Vec Ideal S2x16384x1024 .bf16) (ix3 b l k) = aR m c (ix3 b l k) := by rw [V_branch]; rfl
theorem V_up_apply (k : Fin 1024) (f : Fin 5632) : (V m c main_v4 : Vec Ideal S1024x5632 .bf16) (ix2 k f) = aWu m c (ix2 k f) := by
  rw [V_up]; rfl
theorem V_bias_apply (f : Fin 5632) : (V m c main_v5 : Vec Ideal S1x5632 .f32) (ix2 0 f) = aCb m c (ix1 f) := by
  rw [V_bias]
  generalize aCb m c = q
  pointwise []
theorem V_down_apply (f : Fin 2816) (e : Fin 1024) : (V m c main_v6 : Vec Ideal S2816x1024 .bf16) (ix2 f e) = aWd m c (ix2 f e) := by
  rw [V_down]; rfl

theorem index0 : ∀ t : Fin grid0.N, win0_0.index t = ![t.val / 16, t.val % 16 * 64 - 1, 0] := by decide +kernel
theorem index1 : ∀ t : Fin grid0.N, win0_1.index t = ![t.val / 16, t.val % 16, 0] := by decide +kernel
theorem index2 : ∀ t : Fin grid0.N, win0_2.index t = ![t.val / 16, min ((t.val % 16 + 1) * 64) 1023, 0] := by decide +kernel
theorem index3 : ∀ t : Fin grid0.N, win0_3.index t = ![t.val / 16, t.val % 16 * 64 - 1, 0] := by decide +kernel
theorem index4 : ∀ t : Fin grid0.N, win0_4.index t = ![t.val / 16, t.val % 16, 0] := by decide +kernel
theorem index5 : ∀ t : Fin grid0.N, win0_5.index t = ![t.val / 16, min ((t.val % 16 + 1) * 64) 1023, 0] := by decide +kernel
theorem index6 : ∀ t : Fin grid0.N, win0_6.index t = ![t.val / 16, 0, 0] := by decide +kernel
theorem index7 : ∀ t : Fin grid0.N, win0_7.index t = ![0, 0] := by decide +kernel
theorem index8 : ∀ t : Fin grid0.N, win0_8.index t = ![0, 0] := by decide +kernel
theorem index9 : ∀ t : Fin grid0.N, win0_9.index t = ![0, 0] := by decide +kernel
theorem index10 : ∀ t : Fin grid0.N, win0_10.index t = ![0, 0] := by decide +kernel
theorem index11 : ∀ t : Fin grid0.N, win0_11.index t = ![0, 0] := by decide +kernel
theorem index12 : ∀ t : Fin grid0.N, win0_12.index t = ![t.val / 16, t.val % 16, 0] := by decide +kernel

theorem lt_N (t : Fin cfg0.N) : t.val < 32 := lt_of_lt_of_eq t.isLt N_0

/-- The place of grid point `t`: batch entry and tile. -/
abbrev bt (t : Fin cfg0.N) : Fin 2 := ⟨t.val / 16, by have := lt_N t; omega⟩
abbrev nt (t : Fin cfg0.N) : Fin 16 := ⟨t.val % 16, by omega⟩

theorem coords1 : ∀ t : Fin grid0.N, (grid0.coords t 1).val = t.val % 16 := by decide +kernel

theorem iblk0_apply (t : Fin cfg0.N) (h : t.val % 16 ≠ 0) (r : Fin 16) (k : Fin 1024) :
    (iblk m c 0 t : Vec Ideal S1x16x1024 .f32) (ix3 0 r k) = (V m c main_arg0 : Vec Ideal S2x16384x1024 .f32) (ix3 (bt t) ⟨1024 * (t.val % 16) + r.val - 16, by omega⟩ k) := by
  show (V m c main_arg0 : Vec Ideal S2x16384x1024 .f32) ((win0_0.rect t).emb (ix3 0 r k)) = _
  refine congrArg _ (funext fun a => Fin.ext ((win0_0.rect_emb_val t _ a).trans ?_))
  rw [index0]
  match a with
  | ⟨0, _⟩ => show t.val / 16 * 1 + 0 = t.val / 16; omega
  | ⟨1, _⟩ => show (t.val % 16 * 64 - 1) * 16 + r.val = 1024 * (t.val % 16) + r.val - 16; omega
  | ⟨2, _⟩ => show 0 * 1024 + k.val = k.val; omega

theorem iblk1_apply (t : Fin cfg0.N) (r : Fin 1024) (k : Fin 1024) :
    (iblk m c 1 t : Vec Ideal S1x1024x1024 .f32) (ix3 0 r k) = (V m c main_arg0 : Vec Ideal S2x16384x1024 .f32) (ix3 (bt t) ⟨1024 * (t.val % 16) + r.val, by omega⟩ k) := by
  show (V m c main_arg0 : Vec Ideal S2x16384x1024 .f32) ((win0_1.rect t).emb (ix3 0 r k)) = _
  refine congrArg _ (funext fun a => Fin.ext ((win0_1.rect_emb_val t _ a).trans ?_))
  rw [index1]
  match a with
  | ⟨0, _⟩ => show t.val / 16 * 1 + 0 = t.val / 16; omega
  | ⟨1, _⟩ => show t.val % 16 * 1024 + r.val = 1024 * (t.val % 16) + r.val; omega
  | ⟨2, _⟩ => show 0 * 1024 + k.val = k.val; omega

theorem iblk2_apply (t : Fin cfg0.N) (h : t.val % 16 ≠ 15) (r : Fin 16) (k : Fin 1024) :
    (iblk m c 2 t : Vec Ideal S1x16x1024 .f32) (ix3 0 r k) = (V m c main_arg0 : Vec Ideal S2x16384x1024 .f32) (ix3 (bt t) ⟨1024 * (t.val % 16) + 1024 + r.val, by omega⟩ k) := by
  show (V m c main_arg0 : Vec Ideal S2x16384x1024 .f32) ((win0_2.rect t).emb (ix3 0 r k)) = _
  refine congrArg _ (funext fun a => Fin.ext ((win0_2.rect_emb_val t _ a).trans ?_))
  rw [index2]
  match a with
  | ⟨0, _⟩ => show t.val / 16 * 1 + 0 = t.val / 16; omega
  | ⟨1, _⟩ => show min ((t.val % 16 + 1) * 64) 1023 * 16 + r.val = 1024 * (t.val % 16) + 1024 + r.val; omega
  | ⟨2, _⟩ => show 0 * 1024 + k.val = k.val; omega

theorem iblk3_apply (t : Fin cfg0.N) (h : t.val % 16 ≠ 0) (r : Fin 16) (k : Fin 1024) :
    (iblk m c 3 t : Vec Ideal S1x16x1024 .bf16) (ix3 0 r k) = (V m c main_v3 : Vec Ideal S2x16384x1024 .bf16) (ix3 (bt t) ⟨1024 * (t.val % 16) + r.val - 16, by omega⟩ k) := by
  show (V m c main_v3 : Vec Ideal S2x16384x1024 .bf16) ((win0_3.rect t).emb (ix3 0 r k)) = _
  refine congrArg _ (funext fun a => Fin.ext ((win0_3.rect_emb_val t _ a).trans ?_))
  rw [index3]
  match a with
  | ⟨0, _⟩ => show t.val / 16 * 1 + 0 = t.val / 16; omega
  | ⟨1, _⟩ => show (t.val % 16 * 64 - 1) * 16 + r.val = 1024 * (t.val % 16) + r.val - 16; omega
  | ⟨2, _⟩ => show 0 * 1024 + k.val = k.val; omega

theorem iblk4_apply (t : Fin cfg0.N) (r : Fin 1024) (k : Fin 1024) :
    (iblk m c 4 t : Vec Ideal S1x1024x1024 .bf16) (ix3 0 r k) = (V m c main_v3 : Vec Ideal S2x16384x1024 .bf16) (ix3 (bt t) ⟨1024 * (t.val % 16) + r.val, by omega⟩ k) := by
  show (V m c main_v3 : Vec Ideal S2x16384x1024 .bf16) ((win0_4.rect t).emb (ix3 0 r k)) = _
  refine congrArg _ (funext fun a => Fin.ext ((win0_4.rect_emb_val t _ a).trans ?_))
  rw [index4]
  match a with
  | ⟨0, _⟩ => show t.val / 16 * 1 + 0 = t.val / 16; omega
  | ⟨1, _⟩ => show t.val % 16 * 1024 + r.val = 1024 * (t.val % 16) + r.val; omega
  | ⟨2, _⟩ => show 0 * 1024 + k.val = k.val; omega

theorem iblk5_apply (t : Fin cfg0.N) (h : t.val % 16 ≠ 15) (r : Fin 16) (k : Fin 1024) :
    (iblk m c 5 t : Vec Ideal S1x16x1024 .bf16) (ix3 0 r k) = (V m c main_v3 : Vec Ideal S2x16384x1024 .bf16) (ix3 (bt t) ⟨1024 * (t.val % 16) + 1024 + r.val, by omega⟩ k) := by
  show (V m c main_v3 : Vec Ideal S2x16384x1024 .bf16) ((win0_5.rect t).emb (ix3 0 r k)) = _
  refine congrArg _ (funext fun a => Fin.ext ((win0_5.rect_emb_val t _ a).trans ?_))
  rw [index5]
  match a with
  | ⟨0, _⟩ => show t.val / 16 * 1 + 0 = t.val / 16; omega
  | ⟨1, _⟩ => show min ((t.val % 16 + 1) * 64) 1023 * 16 + r.val = 1024 * (t.val % 16) + 1024 + r.val; omega
  | ⟨2, _⟩ => show 0 * 1024 + k.val = k.val; omega

theorem iblk6_apply (t : Fin cfg0.N) (j : Fin 6) (k : Fin 1024) :
    (iblk m c 6 t : Vec Ideal S1x6x1024 .f32) (ix3 0 j k) = (V m c main_v2 : Vec Ideal S8x6x1024 .f32) (ix3 ⟨(bt t).val, by omega⟩ j k) := by
  show (V m c main_v2 : Vec Ideal S8x6x1024 .f32) ((win0_6.rect t).emb (ix3 0 j k)) = _
  refine congrArg _ (funext fun a => Fin.ext ((win0_6.rect_emb_val t _ a).trans ?_))
  rw [index6]
  match a with
  | ⟨0, _⟩ => show t.val / 16 * 1 + 0 = t.val / 16; omega
  | ⟨1, _⟩ => show 0 * 6 + j.val = j.val; omega
  | ⟨2, _⟩ => show 0 * 1024 + k.val = k.val; omega

theorem iblk7_apply (t : Fin cfg0.N) (j : Fin 4) (k : Fin 1024) :
    (iblk m c 7 t : Vec Ideal S4x1024 .f32) (ix2 j k) = (V m c main_arg3 : Vec Ideal S4x1024 .f32) (ix2 j k) := by
  show (V m c main_arg3 : Vec Ideal S4x1024 .f32) ((win0_7.rect t).emb (ix2 j k)) = _
  refine congrArg _ (funext fun a => Fin.ext ((win0_7.rect_emb_val t _ a).trans ?_))
  rw [index7]
  match a with
  | ⟨0, _⟩ => show 0 * 4 + j.val = j.val; omega
  | ⟨1, _⟩ => show 0 * 1024 + k.val = k.val; omega

theorem iblk8_apply (t : Fin cfg0.N) (j : Fin 1024) (k : Fin 5632) :
    (iblk m c 8 t : Vec Ideal S1024x5632 .bf16) (ix2 j k) = (V m c main_v4 : Vec Ideal S1024x5632 .bf16) (ix2 j k) := by
  show (V m c main_v4 : Vec Ideal S1024x5632 .bf16) ((win0_8.rect t).emb (ix2 j k)) = _
  refine congrArg _ (funext fun a => Fin.ext ((win0_8.rect_emb_val t _ a).trans ?_))
  rw [index8]
  match a with
  | ⟨0, _⟩ => show 0 * 1024 + j.val = j.val; omega
  | ⟨1, _⟩ => show 0 * 5632 + k.val = k.val; omega

theorem iblk9_apply (t : Fin cfg0.N) (j : Fin 3) (k : Fin 5632) :
    (iblk m c 9 t : Vec Ideal S3x5632 .f32) (ix2 j k) = (V m c main_arg5 : Vec Ideal S3x5632 .f32) (ix2 j k) := by
  show (V m c main_arg5 : Vec Ideal S3x5632 .f32) ((win0_9.rect t).emb (ix2 j k)) = _
  refine congrArg _ (funext fun a => Fin.ext ((win0_9.rect_emb_val t _ a).trans ?_))
  rw [index9]
  match a with
  | ⟨0, _⟩ => show 0 * 3 + j.val = j.val; omega
  | ⟨1, _⟩ => show 0 * 5632 + k.val = k.val; omega

theorem iblk10_apply (t : Fin cfg0.N) (j : Fin 1) (k : Fin 5632) :
    (iblk m c 10 t : Vec Ideal S1x5632 .f32) (ix2 j k) = (V m c main_v5 : Vec Ideal S1x5632 .f32) (ix2 j k) := by
  show (V m c main_v5 : Vec Ideal S1x5632 .f32) ((win0_10.rect t).emb (ix2 j k)) = _
  refine congrArg _ (funext fun a => Fin.ext ((win0_10.rect_emb_val t _ a).trans ?_))
  rw [index10]
  match a with
  | ⟨0, _⟩ => show 0 * 1 + j.val = j.val; omega
  | ⟨1, _⟩ => show 0 * 5632 + k.val = k.val; omega

theorem iblk11_apply (t : Fin cfg0.N) (j : Fin 2816) (k : Fin 1024) :
    (iblk m c 11 t : Vec Ideal S2816x1024 .bf16) (ix2 j k) = (V m c main_v6 : Vec Ideal S2816x1024 .bf16) (ix2 j k) := by
  show (V m c main_v6 : Vec Ideal S2816x1024 .bf16) ((win0_11.rect t).emb (ix2 j k)) = _
  refine congrArg _ (funext fun a => Fin.ext ((win0_11.rect_emb_val t _ a).trans ?_))
  rw [index11]
  match a with
  | ⟨0, _⟩ => show 0 * 2816 + j.val = j.val; omega
  | ⟨1, _⟩ => show 0 * 1024 + k.val = k.val; omega

/-- The layer's argument functions. -/
abbrev fX : Fin 2 → Fin 16384 → Fin 1024 → EReal := fun b l k => aX m c (ix3 b l k) + aR m c (ix3 b l k)
abbrev fMd : Fin 2 → Fin 6144 → EReal := fun b k => aMd m c (ix2 b k)
abbrev fNg : Fin 4 → Fin 1024 → EReal := fun n k => aNg m c (ix2 n k)
abbrev fWu : Fin 1024 → Fin 5632 → EReal := fun k f => aWu m c (ix2 k f)
abbrev fCw : Fin 3 → Fin 5632 → EReal := fun n f => aCw m c (ix2 n f)
abbrev fCb : Fin 5632 → EReal := fun f => aCb m c (ix1 f)
abbrev fWd : Fin 2816 → Fin 1024 → EReal := fun f e => aWd m c (ix2 f e)

theorem holds (t : Fin cfg0.N) : Holds (fX m c) (fMd m c) (fNg m c) (fWu m c) (fCw m c) (fCb m c) (fWd m c) (bt t) (nt t)
    (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) where
  before h r k := by rw [iblk0_apply m c t h, iblk3_apply m c t h, V_main_arg0, V_branch_apply]
  within r k := by rw [iblk1_apply, iblk4_apply, V_main_arg0, V_branch_apply]
  after h r k := by rw [iblk2_apply m c t h, iblk5_apply m c t h, V_main_arg0, V_branch_apply]
  mods j k := by rw [iblk6_apply, V_mod_apply]
  gains j k := by rw [iblk7_apply, V_main_arg3]
  ups k f := by rw [iblk8_apply, V_up_apply]
  convs j f := by rw [iblk9_apply, V_main_arg5]
  bias f := by rw [iblk10_apply, V_bias_apply]
  downs f e := by rw [iblk11_apply, V_down_apply]

/-- The layer as an array. -/
def G : Vec Ideal S2x16384x1024 .f32 := fun i =>
  Cert.Mlp.out (fX m c) (fMd m c) (fNg m c) (fWu m c) (fCw m c) (fCb m c) (fWd m c) (i 0) (i 1) (i 2)

/-- What grid point `t` stores. -/
def outAt (t : Fin cfg0.N) : Vec Ideal S1x1024x1024 .f32 :=
  block (rows (nt t).val (iblk m c 0 t) (iblk m c 1 t) (iblk m c 2 t) (iblk m c 3 t) (iblk m c 4 t) (iblk m c 5 t) (iblk m c 6 t) (iblk m c 7 t))
    (iblk m c 1 t) (iblk m c 4 t) (iblk m c 6 t) (iblk m c 7 t) (iblk m c 8 t) (iblk m c 9 t) (iblk m c 10 t) (iblk m c 11 t)

theorem outAt_apply (t : Fin cfg0.N) (r e : Fin 1024) :
    (outAt m c t (ix3 0 r e) : EReal) = G m c (ix3 (bt t) ⟨1024 * (nt t).val + r.val, by omega⟩ e) :=
  block_apply (holds m c t) r e

theorem outs_eq (t : Fin cfg0.N) : outsAt0 m c t = outAt m c t := by
  unfold outAt outsAt0
  rw [show (nt t).val = (grid0.coords t 1).val from (coords1 t).symm]
  exact out_eq ..

/-- Where grid point `t`'s block lies in the array. -/
theorem emb12 (t : Fin cfg0.N) (r e : Fin 1024) :
    ((win0_12.rect t).emb (ix3 0 r e) : S2x16384x1024.Idx) = ix3 (bt t) ⟨1024 * (nt t).val + r.val, by omega⟩ e := by
  refine funext fun a => Fin.ext ((win0_12.rect_emb_val t _ a).trans ?_)
  rw [index12]
  match a with
  | ⟨0, _⟩ => show t.val / 16 * 1 + 0 = t.val / 16; omega
  | ⟨1, _⟩ => show t.val % 16 * 1024 + r.val = 1024 * (t.val % 16) + r.val; omega
  | ⟨2, _⟩ => show 0 * 1024 + e.val = e.val; omega

theorem ix3_eta (x : S1x1024x1024.Idx) : ∃ r e : Fin 1024, x = ix3 0 r e := by
  refine ⟨x 1, x 2, funext fun a => ?_⟩
  match a with
  | ⟨0, _⟩ => exact Fin.ext (by have h0 : (x 0).val < 1 := (x 0).isLt; show (x 0).val = 0; omega)
  | ⟨1, _⟩ => rfl
  | ⟨2, _⟩ => rfl

theorem outAt_G (t : Fin cfg0.N) (x : S1x1024x1024.Idx) (i : S2x16384x1024.Idx) (hi : (win0_12.rect t).emb x = i) :
    (outAt m c t x : EReal) = G m c i := by
  obtain ⟨r, e, rfl⟩ := ix3_eta x
  rw [emb12] at hi
  rw [outAt_apply m c, ← hi]

theorem read12 (t : Fin cfg0.N) (X : Vec Ideal S2x16384x1024 .f32) (x : S1x1024x1024.Idx) :
    ((cfg0.win 12).blk t).view.read (Elt Ideal) X x = X ((win0_12.rect t).emb x) := rfl

theorem flushed_eq (t : Fin cfg0.N) : (dats m 0 c).flushed 12 t = ((cfg0.win 12).blk t).view.read (Elt Ideal) (G m c) := by
  rw [Value.flushed12, outs_eq]
  have h1 : ∀ x : S1x1024x1024.Idx, (cfg0.win 12).cut (grid0.coords t) (outAt m c t) x = outAt m c t x := fun x => rfl
  refine funext fun (x : S1x1024x1024.Idx) => ?_
  exact (h1 x).trans ((outAt_G m c t x _ rfl).trans (read12 t (G m c) x).symm)

theorem cover (i : S2x16384x1024.Idx) : ∃ t : Fin cfg0.N, (cfg0.win 12).flush t = true ∧ i ∈ ((cfg0.win 12).blk t).view.set := by
  have h0 : (i 0).val < 2 := (i 0).isLt
  have h1 : (i 1).val < 16384 := (i 1).isLt
  have h2 : (i 2).val < 1024 := (i 2).isLt
  have hN : cfg0.N = 32 := N_0
  obtain ⟨t, ht⟩ : ∃ t : Fin cfg0.N, t.val = 16 * (i 0).val + (i 1).val / 1024 := ⟨⟨_, by omega⟩, rfl⟩
  refine ⟨t, flush0_12 _, ?_⟩
  have e : ((win0_12.rect t).emb (ix3 0 ⟨(i 1).val % 1024, by omega⟩ ⟨(i 2).val, h2⟩) : S2x16384x1024.Idx) = i := by
    rw [emb12]
    refine funext fun a => ?_
    match a with
    | ⟨0, _⟩ => exact Fin.ext (by show t.val / 16 = (i 0).val; omega)
    | ⟨1, _⟩ => exact Fin.ext (by show 1024 * (t.val % 16) + (i 1).val % 1024 = (i 1).val; omega)
    | ⟨2, _⟩ => rfl
  rw [← e]
  exact ((cfg0.win 12).blk t).view.emb_mem_set (ix3 0 ⟨(i 1).val % 1024, by omega⟩ ⟨(i 2).val, h2⟩ : S1x1024x1024.Idx)

/-- The result array after the run. -/
theorem arr_eq : (dats m 0 c).arrAt 12 cfg0.N = G m c :=
  (dats m 0 c).arrAt_eq_of_cover 12 (G m c) (fun t _ => flushed_eq m c t) cover

end Cert.Kernel2Ideal.Mlp

end
-- ==== Proof.Mlp.Ref.lean ====
/- The gated layer's reference, entry by entry. -/
module

public import proofs.«01_k».proof.Proof.Gen.Reference2Ideal.Run
public import proofs.«01_k».proof.Proof.Mlp.Spec
public import Idealize.ShloMosaic.Lib.Pointwise
public import Idealize.ShloMosaic.Lib.IdealHost

@[expose] public section

set_option maxRecDepth 16384

noncomputable section

namespace Cert.Reference2Ideal.Mlp

open Cert.Reference2Ideal Cert.Reference2Ideal.Gen
open Idealize.ShloMosaic Idealize.ShloMosaic.TcCoe Idealize.ShloMosaic.Pointwise
open Cert.Mlp (rinv hid conv gate fin cnt eps one)

/-- The reference's operations, in the order it runs them: the reciprocal root mean squares, the modulated rows, the hidden
    columns, their padding, the convolution, the gated activations, the products with the second matrix, the result. -/
def rms (x : FVec Ideal S2x16384x1024 .f32) : FVec Ideal S2x16384x1 .f32 :=
  Host.rsqrt (addf (Host.divf (broadcastInDim S2x16384x1 ![0, 1] bcast_S2x16384_S2x16384x1_0_1
    (Host.reduceAdd (mulf x x) (constant S_ .f32 0x00000000#32) reducesTo_S2x16384x1024_S2x16384_d2 h_S_))
    (broadcastInDim S2x16384x1 ![] bcast_S_S2x16384x1 (constant S_ .f32 0x44800000#32)))
    (broadcastInDim S2x16384x1 ![] bcast_S_S2x16384x1 (constant S_ .f32 0x358637BD#32)))

def hids (xs : FVec Ideal S2x16384x1024 .f32) (r : FVec Ideal S2x16384x1 .f32) (ng : Vec Ideal S4x1024 .f32) (md : Vec Ideal S2x6144 .f32) :
    FVec Ideal S2x16384x1024 .f32 :=
  addf (mulf (mulf (mulf xs (broadcastInDim S2x16384x1024 ![0, 1, 2] bcast_S2x16384x1_S2x16384x1024_0_1_2 r))
    (broadcastInDim S2x16384x1024 ![0, 1, 2] bcast_S1x1x1024_S2x16384x1024_0_1_2 (broadcastInDim S1x1x1024 ![2] bcast_S1024_S1x1x1024_2
      (shapeCast _ (extractStridedSlice S1x1024 ![2, 0] ng slices_S4x1024_S1x1024_2_0) shapeCasts_S1x1024_S1024))))
    (broadcastInDim S2x16384x1024 ![0, 1, 2] bcast_S2x1x1024_S2x16384x1024_0_1_2
      (addf (broadcastInDim S2x1x1024 ![] bcast_S_S2x1x1024 (constant S_ .f32 0x3F800000#32))
        (extractStridedSlice S2x1x1024 ![0, 0, 4096] (broadcastInDim S2x1x6144 ![0, 2] bcast_S2x6144_S2x1x6144_0_2 md) slices_S2x1x6144_S2x1x1024_0_0_4096))))
    (broadcastInDim S2x16384x1024 ![0, 1, 2] bcast_S2x1x1024_S2x16384x1024_0_1_2
      (extractStridedSlice S2x1x1024 ![0, 0, 3072] (broadcastInDim S2x1x6144 ![0, 2] bcast_S2x6144_S2x1x6144_0_2 md) slices_S2x1x6144_S2x1x1024_0_0_3072))

def ups (h : FVec Ideal S2x16384x1024 .f32) (wu : Vec Ideal S1024x5632 .f32) : FVec Ideal S2x16384x5632 .f32 :=
  Host.dotGeneral (φ₁ := .f32) (φ₂ := .f32) dot_S2x16384x1024_S1024x5632_S2x16384x5632_2_0_01_1_n_n none h wu

def pads (us : FVec Ideal S2x16384x5632 .f32) : FVec Ideal S2x16386x5632 .f32 :=
  pad S2x16386x5632 ![0, 1, 0] ![0, 1, 0] ![0, 0, 0] us (sitofp (F := Ideal) .f32 (constantI S_ 32 0#32)) pads_S2x16384x5632_S2x16386x5632_000_110_000 h_S_

def convs (ps : FVec Ideal S2x16386x5632 .f32) (cw : Vec Ideal S3x5632 .f32) (cb : Vec Ideal S5632 .f32) : FVec Ideal S2x16384x5632 .f32 :=
  addf (addf (addf
    (mulf (extractStridedSlice S2x16384x5632 ![0, 0, 0] ps slices_S2x16386x5632_S2x16384x5632_0_0_0) (broadcastInDim S2x16384x5632 ![0, 1, 2] bcast_S1x1x5632_S2x16384x5632_0_1_2 (broadcastInDim S1x1x5632 ![2] bcast_S5632_S1x1x5632_2 (shapeCast _ (extractStridedSlice S1x5632 ![0, 0] cw slices_S3x5632_S1x5632_0_0) shapeCasts_S1x5632_S5632))))
    (mulf (extractStridedSlice S2x16384x5632 ![0, 1, 0] ps slices_S2x16386x5632_S2x16384x5632_0_1_0) (broadcastInDim S2x16384x5632 ![0, 1, 2] bcast_S1x1x5632_S2x16384x5632_0_1_2 (broadcastInDim S1x1x5632 ![2] bcast_S5632_S1x1x5632_2 (shapeCast _ (extractStridedSlice S1x5632 ![1, 0] cw slices_S3x5632_S1x5632_1_0) shapeCasts_S1x5632_S5632)))))
    (mulf (extractStridedSlice S2x16384x5632 ![0, 2, 0] ps slices_S2x16386x5632_S2x16384x5632_0_2_0) (broadcastInDim S2x16384x5632 ![0, 1, 2] bcast_S1x1x5632_S2x16384x5632_0_1_2 (broadcastInDim S1x1x5632 ![2] bcast_S5632_S1x1x5632_2 (shapeCast _ (extractStridedSlice S1x5632 ![2, 0] cw slices_S3x5632_S1x5632_2_0) shapeCasts_S1x5632_S5632)))))
    (broadcastInDim S2x16384x5632 ![0, 1, 2] bcast_S1x1x5632_S2x16384x5632_0_1_2 (broadcastInDim S1x1x5632 ![2] bcast_S5632_S1x1x5632_2 cb))

def acts (cv : FVec Ideal S2x16384x5632 .f32) : FVec Ideal S2x16384x2816 .f32 :=
  mulf (mulf (extractStridedSlice S2x16384x2816 ![0, 0, 0] cv slices_S2x16384x5632_S2x16384x2816_0_0_0)
    (Host.divf (broadcastInDim S2x16384x2816 ![] bcast_S_S2x16384x2816 (constant S_ .f32 0x3F800000#32))
      (addf (broadcastInDim S2x16384x2816 ![] bcast_S_S2x16384x2816 (constant S_ .f32 0x3F800000#32))
        (Host.exp (Host.negf (extractStridedSlice S2x16384x2816 ![0, 0, 0] cv slices_S2x16384x5632_S2x16384x2816_0_0_0))))))
    (extractStridedSlice S2x16384x2816 ![0, 0, 2816] cv slices_S2x16384x5632_S2x16384x2816_0_0_2816)

def downs (ac : FVec Ideal S2x16384x2816 .f32) (wd : Vec Ideal S2816x1024 .f32) : FVec Ideal S2x16384x1024 .f32 :=
  Host.dotGeneral (φ₁ := .f32) (φ₂ := .f32) dot_S2x16384x2816_S2816x1024_S2x16384x1024_2_0_01_1_n_n none ac wd

def outs (xs ys : FVec Ideal S2x16384x1024 .f32) (r : FVec Ideal S2x16384x1 .f32) (ng : Vec Ideal S4x1024 .f32) (md : Vec Ideal S2x6144 .f32) :
    FVec Ideal S2x16384x1024 .f32 :=
  addf xs (mulf (broadcastInDim S2x16384x1024 ![0, 1, 2] bcast_S2x1x1024_S2x16384x1024_0_1_2
      (extractStridedSlice S2x1x1024 ![0, 0, 5120] (broadcastInDim S2x1x6144 ![0, 2] bcast_S2x6144_S2x1x6144_0_2 md) slices_S2x1x6144_S2x1x1024_0_0_5120))
    (mulf (mulf ys (broadcastInDim S2x16384x1024 ![0, 1, 2] bcast_S2x16384x1_S2x16384x1024_0_1_2 r))
      (broadcastInDim S2x16384x1024 ![0, 1, 2] bcast_S1x1x1024_S2x16384x1024_0_1_2 (broadcastInDim S1x1x1024 ![2] bcast_S1024_S1x1x1024_2
        (shapeCast _ (extractStridedSlice S1x1024 ![3, 0] ng slices_S4x1024_S1x1024_3_0) shapeCasts_S1x1024_S1024)))))

variable (xs ys : FVec Ideal S2x16384x1024 .f32) (r : FVec Ideal S2x16384x1 .f32) (ng : Vec Ideal S4x1024 .f32) (md : Vec Ideal S2x6144 .f32)
  (wu : Vec Ideal S1024x5632 .f32) (cw : Vec Ideal S3x5632 .f32) (cb : Vec Ideal S5632 .f32) (wd : Vec Ideal S2816x1024 .f32)
  (us : FVec Ideal S2x16384x5632 .f32) (ps : FVec Ideal S2x16386x5632 .f32) (ac : FVec Ideal S2x16384x2816 .f32) (b : Fin 2) (l : Fin 16384)

theorem rms_apply : (rms xs (ix3 b l 0) : EReal) = rinv fun k => xs (ix3 b l k) := by
  pointwise [rms, rinv]

theorem hids_apply (k : Fin 1024) : (hids xs r ng md (ix3 b l k) : EReal)
    = xs (ix3 b l k) * r (ix3 b l 0) * ng (ix2 2 k) * (one + md (ix2 b ⟨4096 + k.val, by omega⟩)) + md (ix2 b ⟨3072 + k.val, by omega⟩) := by
  pointwise [hids]

theorem ups_apply (f : Fin 5632) : (ups xs wu (ix3 b l f) : EReal) = ∑ k : Fin 1024, xs (ix3 b l k) * wu (ix2 k f) := by
  pointwise [ups]

theorem sitofp_zero : (FloatOps.sitofp (F := Ideal) FTy.f32 (0#32 : BitVec 32) : EReal) = 0 := by
  show (((0#32 : BitVec 32).toInt : ℝ) : EReal) = 0
  simp

theorem pads_apply (n : Fin 16386) (f : Fin 5632) :
    (pads us (ix3 b n f) : EReal) = if h : 1 ≤ n.val ∧ n.val ≤ 16384 then us (ix3 b ⟨n.val - 1, by omega⟩ f) else 0 := by
  pointwise [pads]
  have hz : (FloatOps.sitofp (F := Ideal) FTy.f32 (0#32 : BitVec 32) : EReal) = 0 := sitofp_zero
  rw [hz]
  by_cases h : 1 ≤ n.val ∧ n.val ≤ 16384
  · rw [dif_pos h, dif_pos ⟨h.1, by omega⟩]
  · rw [dif_neg h, dif_neg (by omega)]

theorem convs_apply (f : Fin 5632) : (convs ps cw cb (ix3 b l f) : EReal)
    = conv (ps (ix3 b ⟨l.val, by omega⟩ f)) (ps (ix3 b ⟨l.val + 1, by omega⟩ f)) (ps (ix3 b ⟨l.val + 2, by omega⟩ f))
        (cw (ix2 0 f)) (cw (ix2 1 f)) (cw (ix2 2 f)) (cb (ix1 f)) := by
  pointwise [convs, conv]
  simp only [Nat.add_comm]

theorem acts_apply (f : Fin 2816) : (acts us (ix3 b l f) : EReal)
    = us (ix3 b l ⟨f.val, by omega⟩) * Ideal.div one (one + Ideal.exp (-us (ix3 b l ⟨f.val, by omega⟩))) * us (ix3 b l ⟨2816 + f.val, by omega⟩) := by
  pointwise [acts]

theorem downs_apply (e : Fin 1024) : (downs ac wd (ix3 b l e) : EReal) = ∑ f : Fin 2816, ac (ix3 b l f) * wd (ix2 f e) := by
  pointwise [downs]

theorem outs_apply (e : Fin 1024) : (outs xs ys r ng md (ix3 b l e) : EReal)
    = xs (ix3 b l e) + md (ix2 b ⟨5120 + e.val, by omega⟩) * (ys (ix3 b l e) * r (ix3 b l 0) * ng (ix2 3 e)) := by
  pointwise [outs]

variable (m : (ℓ : Loc nD τ sig) → Buf (Elt Ideal) ℓ) (c : Dev nD)

/-- The arguments. -/
abbrev aX : Vec Ideal S2x16384x1024 .f32 := m ((c.tc : Thread nD τ).loc main_arg0)
abbrev aR : Vec Ideal S2x16384x1024 .f32 := m ((c.tc : Thread nD τ).loc main_arg1)
abbrev aMd : Vec Ideal S2x6144 .f32 := m ((c.tc : Thread nD τ).loc main_arg2)
abbrev aNg : Vec Ideal S4x1024 .f32 := m ((c.tc : Thread nD τ).loc main_arg3)
abbrev aWu : Vec Ideal S1024x5632 .f32 := m ((c.tc : Thread nD τ).loc main_arg4)
abbrev aCw : Vec Ideal S3x5632 .f32 := m ((c.tc : Thread nD τ).loc main_arg5)
abbrev aCb : Vec Ideal S5632 .f32 := m ((c.tc : Thread nD τ).loc main_arg6)
abbrev aWd : Vec Ideal S2816x1024 .f32 := m ((c.tc : Thread nD τ).loc main_arg7)

/-- The operations one after the other, from the sum of the residuals. -/
def layer (xs : FVec Ideal S2x16384x1024 .f32) (md : Vec Ideal S2x6144 .f32) (ng : Vec Ideal S4x1024 .f32) (wu : Vec Ideal S1024x5632 .f32)
    (cw : Vec Ideal S3x5632 .f32) (cb : Vec Ideal S5632 .f32) (wd : Vec Ideal S2816x1024 .f32) : FVec Ideal S2x16384x1024 .f32 :=
  outs xs (downs (acts (convs (pads (ups (hids xs (rms xs) ng md) wu)) cw cb)) wd)
    (rms (downs (acts (convs (pads (ups (hids xs (rms xs) ng md) wu)) cw cb)) wd)) ng md

theorem res_eq : (Value.res_main_v76 m c : Vec Ideal S2x16384x1024 .f32)
    = layer (addf (aX m c) (aR m c)) (aMd m c) (aNg m c) (aWu m c) (aCw m c) (aCb m c) (aWd m c) := by
  unfold Value.res_main_v76 layer outs downs acts convs pads ups hids rms
  rfl

theorem layer_apply (xs : FVec Ideal S2x16384x1024 .f32) (e : Fin 1024) :
    (layer xs md ng wu cw cb wd (ix3 b l e) : EReal)
      = Cert.Mlp.out (fun b l k => xs (ix3 b l k)) (fun b k => md (ix2 b k)) (fun n k => ng (ix2 n k)) (fun k f => wu (ix2 k f)) (fun n f => cw (ix2 n f))
          (fun f => cb (ix1 f)) (fun f e => wd (ix2 f e)) b l e := by
  have hH : ∀ b l k, (hids xs (rms xs) ng md (ix3 b l k) : EReal)
      = Cert.Mlp.row (fun b l k => xs (ix3 b l k)) (fun b k => md (ix2 b k)) (fun n k => ng (ix2 n k)) b l k := fun b l k => by
    rw [hids_apply, rms_apply]; rfl
  unfold layer
  generalize hids xs (rms xs) ng md = h at hH ⊢
  have hU : ∀ b (n : Fin 16386) f, (pads (ups h wu) (ix3 b n f) : EReal)
      = Cert.Mlp.up (Cert.Mlp.row (fun b l k => xs (ix3 b l k)) (fun b k => md (ix2 b k)) (fun n k => ng (ix2 n k)) b) (fun k f => wu (ix2 k f)) n.val f := fun b n f => by
    rw [pads_apply]
    unfold Cert.Mlp.up
    by_cases hn : 1 ≤ n.val ∧ n.val ≤ 16384
    · rw [dif_pos hn, dif_pos hn, ups_apply]
      exact Finset.sum_congr rfl fun k _ => by rw [hH]
    · rw [dif_neg hn, dif_neg hn]
  generalize pads (ups h wu) = p at hU ⊢
  have hA : ∀ b l f, (acts (convs p cw cb) (ix3 b l f) : EReal)
      = Cert.Mlp.act (Cert.Mlp.row (fun b l k => xs (ix3 b l k)) (fun b k => md (ix2 b k)) (fun n k => ng (ix2 n k)) b) (fun k f => wu (ix2 k f))
          (fun n f => cw (ix2 n f)) (fun f => cb (ix1 f)) l.val f := fun b l f => by
    rw [acts_apply, Cert.Mlp.gate_eq, convs_apply, convs_apply]
    simp only [hU]
    unfold Cert.Mlp.act Cert.Mlp.cvs
    simp only [Nat.add_comm]
  generalize acts (convs p cw cb) = a at hA ⊢
  rw [outs_apply, rms_apply]
  simp only [downs_apply, hA]
  rfl

end Cert.Reference2Ideal.Mlp

end
-- ==== Proof.Ffn.Run.lean ====
/- The first layer's gated branch: from the body's twelve input blocks to the two blocks it stores, as terms over named operations.

   The body is the second layer's but for its rows, which arrive normalized, and its end, which normalizes the result once more
   for the next layer. Its operations on the hidden columns are the second layer's, and are stated here by those. -/
module

public import proofs.«01_k».proof.Proof.Gen.Kernel3Ideal.Frame
public import proofs.«01_k».proof.Proof.Gen.Kernel3Ideal.Value
public import proofs.«01_k».proof.Proof.Mlp.Run

@[expose] public section

set_option maxRecDepth 16384

noncomputable section

namespace Cert.Kernel3Ideal.Ffn

open Cert.Kernel3Ideal Cert.Kernel3Ideal.Gen
open Cert.Kernel2Ideal.Mlp (group sheetL sheet stackL stack load_stack load_sheet ng3 md5)
open Idealize.ShloMosaic Idealize.ShloMosaic.TcCoe Idealize.ShloMosaic.Tactic

variable {F : FTy → Type} [FloatOps F]

/-! ## Each group's operations are the second layer's first group's -/

section Same

variable (H : Vec F S1056x1024 .bf16) (w : Vec F S1024x256 .bf16) (u v : Vec F S1056x256 .f32) (cw cv : Vec F S3x256 .f32) (cb bv : Vec F S1x256 .f32)

theorem up8 : k0_pay8 H w = Kernel2Ideal.Gen.k0_pay12 H w := rfl
theorem up9 : k0_pay9 H w = Kernel2Ideal.Gen.k0_pay12 H w := rfl
theorem up16 : k0_pay16 H w = Kernel2Ideal.Gen.k0_pay12 H w := rfl
theorem up17 : k0_pay17 H w = Kernel2Ideal.Gen.k0_pay12 H w := rfl
theorem up25 : k0_pay25 H w = Kernel2Ideal.Gen.k0_pay12 H w := rfl
theorem up26 : k0_pay26 H w = Kernel2Ideal.Gen.k0_pay12 H w := rfl
theorem up35 : k0_pay35 H w = Kernel2Ideal.Gen.k0_pay12 H w := rfl
theorem up39 : k0_pay39 H w = Kernel2Ideal.Gen.k0_pay12 H w := rfl
theorem up40 : k0_pay40 H w = Kernel2Ideal.Gen.k0_pay12 H w := rfl
theorem up45 : k0_pay45 H w = Kernel2Ideal.Gen.k0_pay12 H w := rfl
theorem up46 : k0_pay46 H w = Kernel2Ideal.Gen.k0_pay12 H w := rfl
theorem up49 : k0_pay49 H w = Kernel2Ideal.Gen.k0_pay12 H w := rfl
theorem up50 : k0_pay50 H w = Kernel2Ideal.Gen.k0_pay12 H w := rfl
theorem up58 : k0_pay58 H w = Kernel2Ideal.Gen.k0_pay12 H w := rfl
theorem up64 : k0_pay64 H w = Kernel2Ideal.Gen.k0_pay12 H w := rfl
theorem up65 : k0_pay65 H w = Kernel2Ideal.Gen.k0_pay12 H w := rfl
theorem up74 : k0_pay74 H w = Kernel2Ideal.Gen.k0_pay12 H w := rfl
theorem up75 : k0_pay75 H w = Kernel2Ideal.Gen.k0_pay12 H w := rfl
theorem up7 : k0_pay7 H (k0_pay6 w) (constant S1056x256 .f32 0x00000000#32) = Kernel2Ideal.Gen.k0_pay12 H w := rfl
theorem up11 : k0_pay11 (k0_pay10 H w) = Kernel2Ideal.Gen.k0_pay12 H w := rfl
theorem up34 : k0_pay34 (k0_pay33 H w) = Kernel2Ideal.Gen.k0_pay12 H w := rfl
theorem up60 : k0_pay60 H (k0_pay59 w) (constant S1056x256 .f32 0x00000000#32) = Kernel2Ideal.Gen.k0_pay12 H w := rfl
theorem group0 : k0_pay15 (k0_pay12 cw u cb) (k0_pay13 cv) v (k0_pay14 v) bv
    = Kernel2Ideal.Gen.k0_pay17 (Kernel2Ideal.Gen.k0_pay16 cw u cb) cv v bv :=
  Eq.trans (b := Kernel2Ideal.Gen.k0_pay17 (Kernel2Ideal.Gen.k0_pay16 (shapeCast S3x256 cw shapeCasts_S3x256_S3x256) u cb)
    (shapeCast S3x256 cv shapeCasts_S3x256_S3x256) v bv) rfl (by rw [shapeCast_self, shapeCast_self])
theorem group1 : k0_pay24 (k0_pay21 (k0_pay19 cw u) (k0_pay20 cw u) cb) (k0_pay22 cv v bv) (k0_pay23 (k0_pay19 cw u) (k0_pay20 cw u) cb)
    = Kernel2Ideal.Gen.k0_pay17 (Kernel2Ideal.Gen.k0_pay16 cw u cb) cv v bv :=
  Eq.trans (b := Kernel2Ideal.Gen.k0_pay17 (Kernel2Ideal.Gen.k0_pay16 (shapeCast S3x256 cw shapeCasts_S3x256_S3x256) u cb)
    (shapeCast S3x256 cv shapeCasts_S3x256_S3x256) v bv) rfl (by rw [shapeCast_self, shapeCast_self])
theorem group2 : k0_pay32 (k0_pay27 cw u cb) (k0_pay28 cv) (k0_pay29 v) (k0_pay30 cv v) (k0_pay31 v) bv
    = Kernel2Ideal.Gen.k0_pay17 (Kernel2Ideal.Gen.k0_pay16 cw u cb) cv v bv :=
  Eq.trans (b := Kernel2Ideal.Gen.k0_pay17 (Kernel2Ideal.Gen.k0_pay16 (shapeCast S3x256 cw shapeCasts_S3x256_S3x256) u cb)
    (shapeCast S3x256 cv shapeCasts_S3x256_S3x256) v bv) rfl (by rw [shapeCast_self, shapeCast_self])
theorem group3 : k0_pay38 (k0_pay37 (k0_pay36 cw u) cb cv v bv)
    = Kernel2Ideal.Gen.k0_pay17 (Kernel2Ideal.Gen.k0_pay16 cw u cb) cv v bv :=
  Eq.trans (b := Kernel2Ideal.Gen.k0_pay17 (Kernel2Ideal.Gen.k0_pay16 (shapeCast S3x256 cw shapeCasts_S3x256_S3x256) u cb)
    (shapeCast S3x256 cv shapeCasts_S3x256_S3x256) v bv) rfl (by rw [shapeCast_self, shapeCast_self])
theorem group4 : k0_pay44 (k0_pay42 (k0_pay41 cw) u cb) (k0_pay43 cv v) bv
    = Kernel2Ideal.Gen.k0_pay17 (Kernel2Ideal.Gen.k0_pay16 cw u cb) cv v bv :=
  Eq.trans (b := Kernel2Ideal.Gen.k0_pay17 (Kernel2Ideal.Gen.k0_pay16 (shapeCast S3x256 cw shapeCasts_S3x256_S3x256) u cb)
    (shapeCast S3x256 cv shapeCasts_S3x256_S3x256) v bv) rfl (by rw [shapeCast_self, shapeCast_self])
theorem group5 : k0_pay48 (k0_pay47 cw u cb) cv v bv
    = Kernel2Ideal.Gen.k0_pay17 (Kernel2Ideal.Gen.k0_pay16 cw u cb) cv v bv :=
  Eq.trans (b := Kernel2Ideal.Gen.k0_pay17 (Kernel2Ideal.Gen.k0_pay16 (shapeCast S3x256 cw shapeCasts_S3x256_S3x256) u cb)
    (shapeCast S3x256 cv shapeCasts_S3x256_S3x256) v bv) rfl (by rw [shapeCast_self, shapeCast_self])
theorem group6 : k0_pay57 (k0_pay55 (k0_pay51 cw) u (k0_pay52 u) (k0_pay53 u) (k0_pay54 cw) cb) (k0_pay56 cv v) bv
    = Kernel2Ideal.Gen.k0_pay17 (Kernel2Ideal.Gen.k0_pay16 cw u cb) cv v bv :=
  Eq.trans (b := Kernel2Ideal.Gen.k0_pay17 (Kernel2Ideal.Gen.k0_pay16 (shapeCast S3x256 cw shapeCasts_S3x256_S3x256) u cb)
    (shapeCast S3x256 cv shapeCasts_S3x256_S3x256) v bv) rfl (by rw [shapeCast_self, shapeCast_self])
theorem group7 : k0_pay63 (k0_pay61 cw u cb) (k0_pay62 cv) v bv
    = Kernel2Ideal.Gen.k0_pay17 (Kernel2Ideal.Gen.k0_pay16 cw u cb) cv v bv :=
  Eq.trans (b := Kernel2Ideal.Gen.k0_pay17 (Kernel2Ideal.Gen.k0_pay16 (shapeCast S3x256 cw shapeCasts_S3x256_S3x256) u cb)
    (shapeCast S3x256 cv shapeCasts_S3x256_S3x256) v bv) rfl (by rw [shapeCast_self, shapeCast_self])
theorem group8 : k0_pay73 (k0_pay70 (k0_pay67 u) (k0_pay68 cw u) (k0_pay69 cw) cb) (k0_pay71 cv v bv) (k0_pay72 (k0_pay67 u) (k0_pay68 cw u) (k0_pay69 cw) cb) (Scalar.ofBits .f32 0x3F800000#32)
    = Kernel2Ideal.Gen.k0_pay17 (Kernel2Ideal.Gen.k0_pay16 cw u cb) cv v bv :=
  Eq.trans (b := Kernel2Ideal.Gen.k0_pay17 (Kernel2Ideal.Gen.k0_pay16 (shapeCast S3x256 cw shapeCasts_S3x256_S3x256) u cb)
    (shapeCast S3x256 cv shapeCasts_S3x256_S3x256) v bv) rfl (by rw [shapeCast_self, shapeCast_self])
theorem group9 : k0_pay81 (k0_pay76 cw u cb) (k0_pay77 cv) v (k0_pay78 v) (k0_pay79 v) (k0_pay80 cv) bv
    = Kernel2Ideal.Gen.k0_pay17 (Kernel2Ideal.Gen.k0_pay16 cw u cb) cv v bv :=
  Eq.trans (b := Kernel2Ideal.Gen.k0_pay17 (Kernel2Ideal.Gen.k0_pay16 (shapeCast S3x256 cw shapeCasts_S3x256_S3x256) u cb)
    (shapeCast S3x256 cv shapeCasts_S3x256_S3x256) v bv) rfl (by rw [shapeCast_self, shapeCast_self])
theorem group10 : k0_pay89 (k0_pay86 (k0_pay82 cw) u (k0_pay83 u) (k0_pay84 u) (k0_pay85 cw) cb) (k0_pay87 cv v bv) (k0_pay88 (k0_pay82 cw) u (k0_pay83 u) (k0_pay84 u) (k0_pay85 cw) cb)
    = Kernel2Ideal.Gen.k0_pay17 (Kernel2Ideal.Gen.k0_pay16 cw u cb) cv v bv :=
  Eq.trans (b := Kernel2Ideal.Gen.k0_pay17 (Kernel2Ideal.Gen.k0_pay16 (shapeCast S3x256 cw shapeCasts_S3x256_S3x256) u cb)
    (shapeCast S3x256 cv shapeCasts_S3x256_S3x256) v bv) rfl (by rw [shapeCast_self, shapeCast_self])

end Same

/-! ## The loaded rows of the next layer's modulation -/

def md0 (x : Vec F S1x6x1024 .f32) : Vec F S1x1x1024 .f32 := View.ld (Val := Elt F) (e' := .f32) x (Rect.unit (s := S1x6x1024) ![0, 0, 0] S1x1x1024.size inb_S1x6x1024_S1x1x1024_0_0_0)
def md1 (x : Vec F S1x6x1024 .f32) : Vec F S1x1x1024 .f32 := View.ld (Val := Elt F) (e' := .f32) x (Rect.unit (s := S1x6x1024) ![0, 1, 0] S1x1x1024.size inb_S1x6x1024_S1x1x1024_0_1_0)
def ng0 (x : Vec F S4x1024 .f32) : Vec F S1x1024 .f32 := View.ld (Val := Elt F) (e' := .f32) x (Rect.unit (s := S4x1024) ![0, 0] S1x1024.size inb_S4x1024_S1x1024_0_0)

/-- The rows of the tile at `i`. -/
def rows (i : grid0.Coords) (x0 : Vec F S1x16x1024 .bf16) (x1 : Vec F S1x1024x1024 .bf16) (x2 : Vec F S1x16x1024 .bf16) : Vec F S1056x1024 .bf16 :=
  stack (k0_pay3 i x0) (k0_pay5 i x2) (k0_pay4 x1)

/-- The first block stored, from the rows. -/
def block (H : Vec F S1056x1024 .bf16) (x3 : Vec F S1x1024x1024 .f32) (x4 : Vec F S1x6x1024 .f32) (x5 : Vec F S4x1024 .f32) (x6 : Vec F S1024x5632 .bf16)
    (x7 : Vec F S3x5632 .f32) (x8 : Vec F S1x5632 .f32) (x9 : Vec F S2816x1024 .bf16) : Vec F S1x1024x1024 .f32 :=
  k0_pay91 (k0_pay2 x3) (sheet (group H x6 x7 x8)) x9 (md5 x4) (ng3 x5)

/-- The second block stored, from the rows. -/
def follow (H : Vec F S1056x1024 .bf16) (x3 : Vec F S1x1024x1024 .f32) (x4 : Vec F S1x6x1024 .f32) (x5 : Vec F S4x1024 .f32) (x6 : Vec F S1024x5632 .bf16)
    (x7 : Vec F S3x5632 .f32) (x8 : Vec F S1x5632 .f32) (x9 : Vec F S2816x1024 .bf16) (x10 : Vec F S1x6x1024 .f32) (x11 : Vec F S4x1024 .f32) :
    Vec F S1x1024x1024 .bf16 :=
  k0_pay1 (k0_pay94 (k0_pay90 (k0_pay2 x3) (sheet (group H x6 x7 x8)) x9 (md5 x4) (ng3 x5)) (k0_pay92 (ng0 x11))
    (k0_pay93 (k0_pay2 x3) (sheet (group H x6 x7 x8)) x9 (md5 x4) (ng3 x5)) (md1 x10) (md0 x10))

set_option maxHeartbeats 1000000 in
/-- What the body leaves in the first output's staging buffer. -/
theorem out_eq (c : Dev nD) (i : grid0.Coords)
    (arg2 : Memref sig .tc .vmem S1x16x1024 .bf16) (harg2 : arg2.IsWhole)
    (arg3 : Memref sig .tc .vmem S1x1024x1024 .bf16) (harg3 : arg3.IsWhole)
    (arg4 : Memref sig .tc .vmem S1x16x1024 .bf16) (harg4 : arg4.IsWhole)
    (arg5 : Memref sig .tc .vmem S1x1024x1024 .f32) (harg5 : arg5.IsWhole)
    (arg6 : Memref sig .tc .vmem S1x6x1024 .f32) (harg6 : arg6.IsWhole)
    (arg7 : Memref sig .tc .vmem S4x1024 .f32) (harg7 : arg7.IsWhole)
    (arg8 : Memref sig .tc .vmem S1024x5632 .bf16) (harg8 : arg8.IsWhole)
    (arg9 : Memref sig .tc .vmem S3x5632 .f32) (harg9 : arg9.IsWhole)
    (arg10 : Memref sig .tc .vmem S1x5632 .f32) (harg10 : arg10.IsWhole)
    (arg11 : Memref sig .tc .vmem S2816x1024 .bf16) (harg11 : arg11.IsWhole)
    (arg12 : Memref sig .tc .vmem S1x6x1024 .f32) (harg12 : arg12.IsWhole)
    (arg13 : Memref sig .tc .vmem S4x1024 .f32) (harg13 : arg13.IsWhole)
    (arg14 : Memref sig .tc .vmem S1x1024x1024 .f32) (harg14 : arg14.IsWhole)
    (arg15 : Memref sig .tc .vmem S1x1024x1024 .bf16) (harg15 : arg15.IsWhole)
    (arg16 : Memref sig .tc .vmem S1056x1024 .bf16) (harg16 : arg16.IsWhole)
    (arg17 : Memref sig .tc .vmem S1056x256 .f32) (harg17 : arg17.IsWhole)
    (arg18 : Memref sig .tc .vmem S1056x256 .f32) (harg18 : arg18.IsWhole)
    (arg19 : Memref sig .tc .vmem S1056x256 .f32) (harg19 : arg19.IsWhole)
    (arg20 : Memref sig .tc .vmem S1056x256 .f32) (harg20 : arg20.IsWhole)
    (arg21 : Memref sig .tc .vmem S1024x2816 .bf16) (harg21 : arg21.IsWhole)
    (x0 : Vec F S1x16x1024 .bf16) (x1 : Vec F S1x1024x1024 .bf16) (x2 : Vec F S1x16x1024 .bf16) (x3 : Vec F S1x1024x1024 .f32) (x4 : Vec F S1x6x1024 .f32) (x5 : Vec F S4x1024 .f32) (x6 : Vec F S1024x5632 .bf16) (x7 : Vec F S3x5632 .f32) (x8 : Vec F S1x5632 .f32) (x9 : Vec F S2816x1024 .bf16) (x10 : Vec F S1x6x1024 .f32) (x11 : Vec F S4x1024 .f32) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11
      = block (rows i x0 x1 x2) x3 x4 x5 x6 x7 x8 x9 := by
  frame_out [up8, up9, up16, up17, up25, up26, up35, up39, up40, up45, up46, up49, up50, up58, up64, up65, up74, up75, up7, up11, up34, up60, group0, group1, group2, group3, group4, group5, group6, group7, group8, group9, group10]
  refine Eq.trans (b := k0_pay91 (k0_pay2 x3)
    (arg21.view.readCov (Val := Elt F) (sheetL (group (arg16.view.readCov (Val := Elt F) (stackL (k0_pay3 i x0) (k0_pay5 i x2) (k0_pay4 x1))
        (Rect.unit ![0, 0] S1056x1024.size inb_S1056x1024_S1056x1024_0_0).toLoadRect) x6 x7 x8))
      (Rect.unit ![0, 0] S1024x2816.size inb_S1024x2816_S1024x2816_0_0).toLoadRect)
    x9 (md5 x4) (ng3 x5)) ?_ ?_
  · rfl
  · rw [load_stack, load_sheet]
    rfl

set_option maxHeartbeats 1000000 in
/-- What the body leaves in the second output's staging buffer. -/
theorem next_eq (c : Dev nD) (i : grid0.Coords)
    (arg2 : Memref sig .tc .vmem S1x16x1024 .bf16) (harg2 : arg2.IsWhole)
    (arg3 : Memref sig .tc .vmem S1x1024x1024 .bf16) (harg3 : arg3.IsWhole)
    (arg4 : Memref sig .tc .vmem S1x16x1024 .bf16) (harg4 : arg4.IsWhole)
    (arg5 : Memref sig .tc .vmem S1x1024x1024 .f32) (harg5 : arg5.IsWhole)
    (arg6 : Memref sig .tc .vmem S1x6x1024 .f32) (harg6 : arg6.IsWhole)
    (arg7 : Memref sig .tc .vmem S4x1024 .f32) (harg7 : arg7.IsWhole)
    (arg8 : Memref sig .tc .vmem S1024x5632 .bf16) (harg8 : arg8.IsWhole)
    (arg9 : Memref sig .tc .vmem S3x5632 .f32) (harg9 : arg9.IsWhole)
    (arg10 : Memref sig .tc .vmem S1x5632 .f32) (harg10 : arg10.IsWhole)
    (arg11 : Memref sig .tc .vmem S2816x1024 .bf16) (harg11 : arg11.IsWhole)
    (arg12 : Memref sig .tc .vmem S1x6x1024 .f32) (harg12 : arg12.IsWhole)
    (arg13 : Memref sig .tc .vmem S4x1024 .f32) (harg13 : arg13.IsWhole)
    (arg14 : Memref sig .tc .vmem S1x1024x1024 .f32) (harg14 : arg14.IsWhole)
    (arg15 : Memref sig .tc .vmem S1x1024x1024 .bf16) (harg15 : arg15.IsWhole)
    (arg16 : Memref sig .tc .vmem S1056x1024 .bf16) (harg16 : arg16.IsWhole)
    (arg17 : Memref sig .tc .vmem S1056x256 .f32) (harg17 : arg17.IsWhole)
    (arg18 : Memref sig .tc .vmem S1056x256 .f32) (harg18 : arg18.IsWhole)
    (arg19 : Memref sig .tc .vmem S1056x256 .f32) (harg19 : arg19.IsWhole)
    (arg20 : Memref sig .tc .vmem S1056x256 .f32) (harg20 : arg20.IsWhole)
    (arg21 : Memref sig .tc .vmem S1024x2816 .bf16) (harg21 : arg21.IsWhole)
    (x0 : Vec F S1x16x1024 .bf16) (x1 : Vec F S1x1024x1024 .bf16) (x2 : Vec F S1x16x1024 .bf16) (x3 : Vec F S1x1024x1024 .f32) (x4 : Vec F S1x6x1024 .f32) (x5 : Vec F S4x1024 .f32) (x6 : Vec F S1024x5632 .bf16) (x7 : Vec F S3x5632 .f32) (x8 : Vec F S1x5632 .f32) (x9 : Vec F S2816x1024 .bf16) (x10 : Vec F S1x6x1024 .f32) (x11 : Vec F S4x1024 .f32) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11
      = follow (rows i x0 x1 x2) x3 x4 x5 x6 x7 x8 x9 x10 x11 := by
  frame_out [up8, up9, up16, up17, up25, up26, up35, up39, up40, up45, up46, up49, up50, up58, up64, up65, up74, up75, up7, up11, up34, up60, group0, group1, group2, group3, group4, group5, group6, group7, group8, group9, group10]
  refine Eq.trans (b := k0_pay1 (k0_pay94 (k0_pay90 (k0_pay2 x3)
    (arg21.view.readCov (Val := Elt F) (sheetL (group (arg16.view.readCov (Val := Elt F) (stackL (k0_pay3 i x0) (k0_pay5 i x2) (k0_pay4 x1))
        (Rect.unit ![0, 0] S1056x1024.size inb_S1056x1024_S1056x1024_0_0).toLoadRect) x6 x7 x8))
      (Rect.unit ![0, 0] S1024x2816.size inb_S1024x2816_S1024x2816_0_0).toLoadRect)
    x9 (md5 x4) (ng3 x5)) (k0_pay92 (ng0 x11)) (k0_pay93 (k0_pay2 x3)
    (arg21.view.readCov (Val := Elt F) (sheetL (group (arg16.view.readCov (Val := Elt F) (stackL (k0_pay3 i x0) (k0_pay5 i x2) (k0_pay4 x1))
        (Rect.unit ![0, 0] S1056x1024.size inb_S1056x1024_S1056x1024_0_0).toLoadRect) x6 x7 x8))
      (Rect.unit ![0, 0] S1024x2816.size inb_S1024x2816_S1024x2816_0_0).toLoadRect)
    x9 (md5 x4) (ng3 x5)) (md1 x10) (md0 x10))) ?_ ?_
  · rfl
  · rw [load_stack, load_sheet]
    rfl

end Cert.Kernel3Ideal.Ffn

end
-- ==== Proof.Ffn.Tile.lean ====
/- One tile of the first layer's gated branch: the body's own operations entry by entry, and, if its twelve blocks hold tile `n`'s
   part of the arguments, what the two blocks it stores hold. -/
module

public import proofs.«01_k».proof.Proof.Ffn.Run
public import proofs.«01_k».proof.Proof.Mlp.Group

@[expose] public section

set_option maxRecDepth 16384

noncomputable section

namespace Cert.Kernel3Ideal.Ffn

open Cert.Kernel3Ideal Cert.Kernel3Ideal.Gen
open Cert.Kernel2Ideal.Mlp (group sheet stack ng3 md5 ng3_apply md5_apply stack_apply sheet_apply group_apply Fills first_ne last_ne)
open Idealize.ShloMosaic Idealize.ShloMosaic.TcCoe Idealize.ShloMosaic.Pointwise
open Cert.Mlp (rinv hid conv gate fin cnt eps one)

/-! ## The body's own operations -/

section Ops

variable (g : Vec Ideal S1x1024 .f32) (s t : Vec Ideal S1x1x1024 .f32) (xs : FVec Ideal S1024x1024 .f32)

theorem before_apply (i : grid0.Coords) (n : Fin 16) (hn : (i 1).val = n.val) (x0 : Vec Ideal S1x16x1024 .bf16) (r : Fin 16) (k : Fin 1024) :
    (k0_pay3 i x0 (ix2 r k) : EReal) = if n.val = 0 then 0 else x0 (ix3 0 r k) := by
  unfold k0_pay3
  rw [hn, first_ne]
  by_cases h : n.val = 0
  · rw [if_pos h, if_pos h]
    pointwise []
    rfl
  · rw [if_neg h, if_neg h]
    pointwise []
    rfl

theorem after_apply (i : grid0.Coords) (n : Fin 16) (hn : (i 1).val = n.val) (x2 : Vec Ideal S1x16x1024 .bf16) (r : Fin 16) (k : Fin 1024) :
    (k0_pay5 i x2 (ix2 r k) : EReal) = if n.val = 15 then 0 else x2 (ix3 0 r k) := by
  unfold k0_pay5
  rw [hn, last_ne]
  by_cases h : n.val = 15
  · rw [if_pos h, if_pos h]
    pointwise []
    rfl
  · rw [if_neg h, if_neg h]
    pointwise []
    rfl

theorem within_apply (x1 : Vec Ideal S1x1024x1024 .bf16) (r k : Fin 1024) : (k0_pay4 x1 (ix2 r k) : EReal) = x1 (ix3 0 r k) := by
  pointwise [k0_pay4]

theorem stream_apply (x3 : Vec Ideal S1x1024x1024 .f32) (r k : Fin 1024) : (k0_pay2 x3 (ix2 r k) : EReal) = x3 (ix3 0 r k) := by
  pointwise [k0_pay2]

theorem sum_apply (A : Vec Ideal S1024x2816 .bf16) (wd : Vec Ideal S2816x1024 .bf16) (r e : Fin 1024) :
    (k0_pay90 xs A wd s g (ix2 r e) : EReal)
      = fin (xs (ix2 r e)) (fun e => ∑ f : Fin 2816, A (ix2 r f) * wd (ix2 f e)) (fun k => g (ix2 0 k)) (fun k => s (ix3 0 0 k)) e := by
  pointwise [k0_pay90, fin, rinv]

theorem fin_apply (A : Vec Ideal S1024x2816 .bf16) (wd : Vec Ideal S2816x1024 .bf16) (r e : Fin 1024) :
    (k0_pay91 xs A wd s g (ix3 0 r e) : EReal) = k0_pay90 xs A wd s g (ix2 r e) := by
  unfold k0_pay91
  generalize k0_pay90 xs A wd s g = y
  pointwise []

theorem next_apply (y : FVec Ideal S1024x1024 .f32) (r e : Fin 1024) :
    (k0_pay1 (k0_pay94 y (k0_pay92 g) (mulf y y) s t) (ix3 0 r e) : EReal)
      = hid (fun k => y (ix2 r k)) (fun k => g (ix2 0 k)) (fun k => s (ix3 0 0 k)) (fun k => t (ix3 0 0 k)) e := by
  pointwise [k0_pay1, k0_pay94, k0_pay92, hid, rinv]

end Ops

theorem md0_apply (x : Vec Ideal S1x6x1024 .f32) (k : Fin 1024) : md0 x (ix3 0 0 k) = x (ix3 0 0 k) :=
  View.ld_unit_apply_of _ _ _ _ _ (ix3 0 0 k) fun a => match a with | ⟨0, _⟩ => rfl | ⟨1, _⟩ => rfl | ⟨2, _⟩ => (Nat.zero_add _).symm
theorem md1_apply (x : Vec Ideal S1x6x1024 .f32) (k : Fin 1024) : md1 x (ix3 0 0 k) = x (ix3 0 1 k) :=
  View.ld_unit_apply_of _ _ _ _ _ (ix3 0 1 k) fun a => match a with | ⟨0, _⟩ => rfl | ⟨1, _⟩ => rfl | ⟨2, _⟩ => (Nat.zero_add _).symm
theorem ng0_apply (x : Vec Ideal S4x1024 .f32) (k : Fin 1024) : ng0 x (ix2 0 k) = x (ix2 0 k) :=
  View.ld_unit_apply_of _ _ _ _ _ (ix2 0 k) fun a => match a with | ⟨0, _⟩ => rfl | ⟨1, _⟩ => (Nat.zero_add _).symm

/-! ## The tile -/

/-- What the blocks of tile `n` of batch entry `b` hold. -/
structure Holds (xs h : Fin 2 → Fin 16384 → Fin 1024 → EReal) (md md' : Fin 2 → Fin 6144 → EReal) (ng ng' : Fin 4 → Fin 1024 → EReal)
    (wu : Fin 1024 → Fin 5632 → EReal) (cw : Fin 3 → Fin 5632 → EReal) (cb : Fin 5632 → EReal) (wd : Fin 2816 → Fin 1024 → EReal)
    (b : Fin 2) (n : Fin 16)
    (x0 : Vec Ideal S1x16x1024 .bf16) (x1 : Vec Ideal S1x1024x1024 .bf16) (x2 : Vec Ideal S1x16x1024 .bf16) (x3 : Vec Ideal S1x1024x1024 .f32)
    (x4 : Vec Ideal S1x6x1024 .f32) (x5 : Vec Ideal S4x1024 .f32) (x6 : Vec Ideal S1024x5632 .bf16) (x7 : Vec Ideal S3x5632 .f32)
    (x8 : Vec Ideal S1x5632 .f32) (x9 : Vec Ideal S2816x1024 .bf16) (x10 : Vec Ideal S1x6x1024 .f32) (x11 : Vec Ideal S4x1024 .f32) : Prop where
  before : n.val ≠ 0 → ∀ (r : Fin 16) (k : Fin 1024), (x0 (ix3 0 r k) : EReal) = h b ⟨1024 * n.val + r.val - 16, by omega⟩ k
  within : ∀ r k : Fin 1024, (x1 (ix3 0 r k) : EReal) = h b ⟨1024 * n.val + r.val, by omega⟩ k
  after : ∀ (hn : n.val ≠ 15) (r : Fin 16) (k : Fin 1024), (x2 (ix3 0 r k) : EReal) = h b ⟨1024 * n.val + 1024 + r.val, by omega⟩ k
  stream : ∀ r k : Fin 1024, (x3 (ix3 0 r k) : EReal) = xs b ⟨1024 * n.val + r.val, by omega⟩ k
  mods : ∀ (j : Fin 6) (k : Fin 1024), (x4 (ix3 0 j k) : EReal) = md b ⟨1024 * j.val + k.val, by omega⟩
  gains : ∀ (j : Fin 4) (k : Fin 1024), (x5 (ix2 j k) : EReal) = ng j k
  ups : ∀ (k : Fin 1024) (f : Fin 5632), (x6 (ix2 k f) : EReal) = wu k f
  convs : ∀ (j : Fin 3) (f : Fin 5632), (x7 (ix2 j f) : EReal) = cw j f
  bias : ∀ f : Fin 5632, (x8 (ix2 0 f) : EReal) = cb f
  downs : ∀ (f : Fin 2816) (e : Fin 1024), (x9 (ix2 f e) : EReal) = wd f e
  mods' : ∀ (j : Fin 6) (k : Fin 1024), (x10 (ix3 0 j k) : EReal) = md' b ⟨1024 * j.val + k.val, by omega⟩
  gains' : ∀ (j : Fin 4) (k : Fin 1024), (x11 (ix2 j k) : EReal) = ng' j k

section Tile

variable {xs h : Fin 2 → Fin 16384 → Fin 1024 → EReal} {md md' : Fin 2 → Fin 6144 → EReal} {ng ng' : Fin 4 → Fin 1024 → EReal}
  {wu : Fin 1024 → Fin 5632 → EReal} {cw : Fin 3 → Fin 5632 → EReal} {cb : Fin 5632 → EReal} {wd : Fin 2816 → Fin 1024 → EReal}
  {b : Fin 2} {n : Fin 16}
  {x0 : Vec Ideal S1x16x1024 .bf16} {x1 : Vec Ideal S1x1024x1024 .bf16} {x2 : Vec Ideal S1x16x1024 .bf16} {x3 : Vec Ideal S1x1024x1024 .f32}
  {x4 : Vec Ideal S1x6x1024 .f32} {x5 : Vec Ideal S4x1024 .f32} {x6 : Vec Ideal S1024x5632 .bf16} {x7 : Vec Ideal S3x5632 .f32}
  {x8 : Vec Ideal S1x5632 .f32} {x9 : Vec Ideal S2816x1024 .bf16} {x10 : Vec Ideal S1x6x1024 .f32} {x11 : Vec Ideal S4x1024 .f32}
  (H : Holds xs h md md' ng ng' wu cw cb wd b n x0 x1 x2 x3 x4 x5 x6 x7 x8 x9 x10 x11)
include H

theorem gain3 : (fun k : Fin 1024 => (ng3 x5 (ix2 0 k) : EReal)) = ng 3 := funext fun k => (ng3_apply x5 k).trans (H.gains 3 k)
theorem scale5 : (fun k : Fin 1024 => (md5 x4 (ix3 0 0 k) : EReal)) = fun k => md b ⟨5120 + k.val, by omega⟩ :=
  funext fun k => (md5_apply x4 k).trans (H.mods 5 k)
theorem gain0 : (fun k : Fin 1024 => (ng0 x11 (ix2 0 k) : EReal)) = ng' 0 := funext fun k => (ng0_apply x11 k).trans (H.gains' 0 k)
theorem scale1 : (fun k : Fin 1024 => (md1 x10 (ix3 0 0 k) : EReal)) = fun k => md' b ⟨1024 + k.val, by omega⟩ :=
  funext fun k => (md1_apply x10 k).trans (H.mods' 1 k)
theorem shift0 : (fun k : Fin 1024 => (md0 x10 (ix3 0 0 k) : EReal)) = fun k => md' b ⟨k.val, by omega⟩ :=
  funext fun k => (md0_apply x10 k).trans ((H.mods' 0 k).trans (congrArg (md' b) (Fin.ext (by show 1024 * 0 + k.val = k.val; omega))))

variable (i : grid0.Coords) (hn : (i 1).val = n.val)
include hn

/-- The buffer of rows holds rows `1024 n - 16 …`, zero where there are none. -/
theorem fills : Fills (h b) n (rows i x0 x1 x2) := ⟨fun r k => by
  unfold rows
  rw [stack_apply]
  by_cases h1 : r.val < 16
  · rw [dif_pos h1, before_apply i n hn]
    by_cases h0 : n.val = 0
    · rw [if_pos h0, dif_neg (by omega)]
    · rw [if_neg h0, dif_pos (by omega), H.before h0 ⟨r.val, h1⟩]
  · rw [dif_neg h1]
    by_cases h2 : r.val < 1040
    · rw [dif_pos h2, dif_pos (by omega), within_apply, H.within]
      exact congrArg (fun l => h b l k) (Fin.ext (by show 1024 * n.val + (r.val - 16) = 1024 * n.val + r.val - 16; omega))
    · rw [dif_neg h2, after_apply i n hn]
      by_cases h0 : n.val = 15
      · rw [if_pos h0, dif_neg (by omega)]
      · rw [if_neg h0, dif_pos (by omega), H.after h0]
        exact congrArg (fun l => h b l k) (Fin.ext (by show 1024 * n.val + 1024 + (r.val - 1040) = 1024 * n.val + r.val - 16; omega))⟩

theorem mid_apply (r e : Fin 1024) :
    (k0_pay90 (k0_pay2 x3) (sheet (group (rows i x0 x1 x2) x6 x7 x8)) x9 (md5 x4) (ng3 x5) (ix2 r e) : EReal)
      = Cert.Mlp.mid xs md ng wu cw cb wd h b ⟨1024 * n.val + r.val, by omega⟩ e := by
  rw [sum_apply, gain3 H, scale5 H, stream_apply, H.stream]
  unfold Cert.Mlp.mid
  refine congrArg (fun y => fin _ y _ _ e) (funext fun e => Finset.sum_congr rfl fun f _ => ?_)
  rw [sheet_apply _ (fun r f => Cert.Mlp.act (h b) wu cw cb (1024 * n.val + r.val) f)
    (group_apply (fills H i hn) H.ups H.convs H.bias), H.downs]

theorem block_apply (r e : Fin 1024) :
    (block (rows i x0 x1 x2) x3 x4 x5 x6 x7 x8 x9 (ix3 0 r e) : EReal)
      = Cert.Mlp.mid xs md ng wu cw cb wd h b ⟨1024 * n.val + r.val, by omega⟩ e := by
  unfold block
  rw [fin_apply, mid_apply H i hn]

theorem follow_apply (r e : Fin 1024) :
    (follow (rows i x0 x1 x2) x3 x4 x5 x6 x7 x8 x9 x10 x11 (ix3 0 r e) : EReal)
      = Cert.Mlp.next xs md ng wu cw cb wd h md' ng' b ⟨1024 * n.val + r.val, by omega⟩ e := by
  unfold follow k0_pay93
  rw [next_apply, gain0 H, scale1 H, shift0 H]
  unfold Cert.Mlp.next
  exact congrArg (fun v => hid v _ _ _ e) (funext fun k => mid_apply H i hn r k)

end Tile

end Cert.Kernel3Ideal.Ffn

end
-- ==== Proof.Ffn.Array.lean ====
/- What the region finds in the arrays its windows stage, the windows' blocks entry by entry of the arguments, and the two result
   arrays. -/
module

public import proofs.«01_k».proof.Proof.Ffn.Tile
public import Idealize.ShloMosaic.Lib.IdealHost

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.ShloMosaic.Pointwise

variable (m : (ℓ : Loc nD τ sig) → Buf (Elt Ideal) ℓ) (c : Dev nD)

/-- The arguments. -/
abbrev aX : Vec Ideal S2x16384x1024 .f32 := m ((c.tc : Thread nD τ).loc main_arg0)
abbrev aH : Vec Ideal S2x16384x1024 .f32 := m ((c.tc : Thread nD τ).loc main_arg1)
abbrev aMd : Vec Ideal S2x2x6144 .f32 := m ((c.tc : Thread nD τ).loc main_arg2)
abbrev aNg : Vec Ideal S2x4x1024 .f32 := m ((c.tc : Thread nD τ).loc main_arg3)
abbrev aWu : Vec Ideal S2x1024x5632 .f32 := m ((c.tc : Thread nD τ).loc main_arg4)
abbrev aCw : Vec Ideal S2x3x5632 .f32 := m ((c.tc : Thread nD τ).loc main_arg5)
abbrev aCb : Vec Ideal S2x5632 .f32 := m ((c.tc : Thread nD τ).loc main_arg6)
abbrev aWd : Vec Ideal S2x2816x1024 .f32 := m ((c.tc : Thread nD τ).loc main_arg7)

theorem V_mod0 : V m c main_v4 = shapeCast S8x6x1024 (concatenate S8x6144 0 [⟨S2x6144,
      shapeCast S2x6144 (extractStridedSlice S1x2x6144 ![0, 0, 0] (aMd m c) slices_S2x2x6144_S1x2x6144_0_0_0) shapeCasts_S1x2x6144_S2x6144⟩,
    ⟨S6x6144, broadcastInDim S6x6144 ![] bcast_S_S6x6144 (constant (F := Ideal) S_ .f32 0x00000000#32)⟩]
    concatenates_S2x6144_S6x6144_S8x6144_d0) shapeCasts_S8x6144_S8x6x1024 := by
  unfold V; after_results <;> rfl
theorem V_mod1 : V m c main_v20 = shapeCast S8x6x1024 (concatenate S8x6144 0 [⟨S2x6144,
      shapeCast S2x6144 (extractStridedSlice S1x2x6144 ![1, 0, 0] (aMd m c) slices_S2x2x6144_S1x2x6144_1_0_0) shapeCasts_S1x2x6144_S2x6144⟩,
    ⟨S6x6144, broadcastInDim S6x6144 ![] bcast_S_S6x6144 (constant (F := Ideal) S_ .f32 0x00000000#32)⟩]
    concatenates_S2x6144_S6x6144_S8x6144_d0) shapeCasts_S8x6144_S8x6x1024 := by
  unfold V; after_results <;> rfl
theorem V_ng0 : V m c main_v6 = shapeCast S4x1024 (extractStridedSlice S1x4x1024 ![0, 0, 0] (aNg m c) slices_S2x4x1024_S1x4x1024_0_0_0) shapeCasts_S1x4x1024_S4x1024 := by
  unfold V; after_results <;> rfl
theorem V_ng1 : V m c main_v22 = shapeCast S4x1024 (extractStridedSlice S1x4x1024 ![1, 0, 0] (aNg m c) slices_S2x4x1024_S1x4x1024_1_0_0) shapeCasts_S1x4x1024_S4x1024 := by
  unfold V; after_results <;> rfl
theorem V_branch : V m c main_v15 = truncf (F := Ideal) .bf16 (aH m c) bitsLt_bf16_f32 := by
  unfold V; after_results <;> rfl
theorem V_up : V m c main_v23 = truncf (F := Ideal) .bf16 (shapeCast S1024x5632 (extractStridedSlice S1x1024x5632 ![0, 0, 0] (aWu m c) slices_S2x1024x5632_S1x1024x5632_0_0_0) shapeCasts_S1x1024x5632_S1024x5632) bitsLt_bf16_f32 := by
  unfold V; after_results <;> rfl
theorem V_conv : V m c main_v10 = shapeCast S3x5632 (extractStridedSlice S1x3x5632 ![0, 0, 0] (aCw m c) slices_S2x3x5632_S1x3x5632_0_0_0) shapeCasts_S1x3x5632_S3x5632 := by
  unfold V; after_results <;> rfl
theorem V_bias : V m c main_v24 = shapeCast S1x5632 (shapeCast S5632 (extractStridedSlice S1x5632 ![0, 0] (aCb m c) slices_S2x5632_S1x5632_0_0) shapeCasts_S1x5632_S5632) shapeCasts_S5632_S1x5632 := by
  unfold V; after_results <;> rfl
theorem V_down : V m c main_v25 = truncf (F := Ideal) .bf16 (shapeCast S2816x1024 (extractStridedSlice S1x2816x1024 ![0, 0, 0] (aWd m c) slices_S2x2816x1024_S1x2816x1024_0_0_0) shapeCasts_S1x2816x1024_S2816x1024) bitsLt_bf16_f32 := by
  unfold V; after_results <;> rfl

theorem V_mod0_apply (b : Fin 2) (j : Fin 6) (k : Fin 1024) :
    (V m c main_v4 : Vec Ideal S8x6x1024 .f32) (ix3 ⟨b.val, by omega⟩ j k) = aMd m c (ix3 0 b ⟨1024 * j.val + k.val, by omega⟩) := by
  rw [V_mod0]
  generalize aMd m c = q
  pointwise []
  simp only [Nat.mul_comm]
theorem V_mod1_apply (b : Fin 2) (j : Fin 6) (k : Fin 1024) :
    (V m c main_v20 : Vec Ideal S8x6x1024 .f32) (ix3 ⟨b.val, by omega⟩ j k) = aMd m c (ix3 1 b ⟨1024 * j.val + k.val, by omega⟩) := by
  rw [V_mod1]
  generalize aMd m c = q
  pointwise []
  simp only [Nat.mul_comm]
theorem V_ng0_apply (j : Fin 4) (k : Fin 1024) :
    (V m c main_v6 : Vec Ideal S4x1024 .f32) (ix2 j k) = aNg m c (ix3 0 j k) := by
  rw [V_ng0]
  generalize aNg m c = q
  pointwise []
theorem V_ng1_apply (j : Fin 4) (k : Fin 1024) :
    (V m c main_v22 : Vec Ideal S4x1024 .f32) (ix2 j k) = aNg m c (ix3 1 j k) := by
  rw [V_ng1]
  generalize aNg m c = q
  pointwise []
theorem V_branch_apply (b : Fin 2) (l : Fin 16384) (k : Fin 1024) :
    (V m c main_v15 : Vec Ideal S2x16384x1024 .bf16) (ix3 b l k) = aH m c (ix3 b l k) := by rw [V_branch]; rfl
theorem V_up_apply (k : Fin 1024) (f : Fin 5632) :
    (V m c main_v23 : Vec Ideal S1024x5632 .bf16) (ix2 k f) = aWu m c (ix3 0 k f) := by
  rw [V_up]
  generalize aWu m c = q
  pointwise []
theorem V_conv_apply (j : Fin 3) (f : Fin 5632) :
    (V m c main_v10 : Vec Ideal S3x5632 .f32) (ix2 j f) = aCw m c (ix3 0 j f) := by
  rw [V_conv]
  generalize aCw m c = q
  pointwise []
theorem V_bias_apply (f : Fin 5632) :
    (V m c main_v24 : Vec Ideal S1x5632 .f32) (ix2 0 f) = aCb m c (ix2 0 f) := by
  rw [V_bias]
  generalize aCb m c = q
  pointwise []
theorem V_down_apply (f : Fin 2816) (e : Fin 1024) :
    (V m c main_v25 : Vec Ideal S2816x1024 .bf16) (ix2 f e) = aWd m c (ix3 0 f e) := by
  rw [V_down]
  generalize aWd m c = q
  pointwise []

theorem index0 : ∀ t : Fin grid0.N, win0_0.index t = ![t.val / 16, t.val % 16 * 64 - 1, 0] := by decide +kernel
theorem index1 : ∀ t : Fin grid0.N, win0_1.index t = ![t.val / 16, t.val % 16, 0] := by decide +kernel
theorem index2 : ∀ t : Fin grid0.N, win0_2.index t = ![t.val / 16, min ((t.val % 16 + 1) * 64) 1023, 0] := by decide +kernel
theorem index3 : ∀ t : Fin grid0.N, win0_3.index t = ![t.val / 16, t.val % 16, 0] := by decide +kernel
theorem index4 : ∀ t : Fin grid0.N, win0_4.index t = ![t.val / 16, 0, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![0, 0] := by decide +kernel
theorem index8 : ∀ t : Fin grid0.N, win0_8.index t = ![0, 0] := by decide +kernel
theorem index9 : ∀ t : Fin grid0.N, win0_9.index t = ![0, 0] := by decide +kernel
theorem index10 : ∀ t : Fin grid0.N, win0_10.index t = ![t.val / 16, 0, 0] := by decide +kernel
theorem index11 : ∀ t : Fin grid0.N, win0_11.index t = ![0, 0] := by decide +kernel
theorem index12 : ∀ t : Fin grid0.N, win0_12.index t = ![t.val / 16, t.val % 16, 0] := by decide +kernel
theorem index13 : ∀ t : Fin grid0.N, win0_13.index t = ![t.val / 16, t.val % 16, 0] := by decide +kernel

theorem lt_N (t : Fin cfg0.N) : t.val < 32 := lt_of_lt_of_eq t.isLt N_0

/-- The place of grid point `t`: batch entry and tile. -/
abbrev bt (t : Fin cfg0.N) : Fin 2 := ⟨t.val / 16, by have := lt_N t; omega⟩
abbrev nt (t : Fin cfg0.N) : Fin 16 := ⟨t.val % 16, by omega⟩

theorem coords1 : ∀ t : Fin grid0.N, (grid0.coords t 1).val = t.val % 16 := by decide +kernel

theorem iblk0_apply (t : Fin cfg0.N) (h : t.val % 16 ≠ 0) (r : Fin 16) (k : Fin 1024) :
    (iblk m c 0 t : Vec Ideal S1x16x1024 .bf16) (ix3 0 r k) = (V m c main_v15 : Vec Ideal S2x16384x1024 .bf16) (ix3 (bt t) ⟨1024 * (t.val % 16) + r.val - 16, by omega⟩ k) := by
  show (V m c main_v15 : Vec Ideal S2x16384x1024 .bf16) ((win0_0.rect t).emb (ix3 0 r k)) = _
  refine congrArg _ (funext fun a => Fin.ext ((win0_0.rect_emb_val t _ a).trans ?_))
  rw [index0]
  match a with
  | ⟨0, _⟩ => show t.val / 16 * 1 + 0 = t.val / 16; omega
  | ⟨1, _⟩ => show (t.val % 16 * 64 - 1) * 16 + r.val = 1024 * (t.val % 16) + r.val - 16; omega
  | ⟨2, _⟩ => show 0 * 1024 + k.val = k.val; omega

theorem iblk1_apply (t : Fin cfg0.N) (r k : Fin 1024) :
    (iblk m c 1 t : Vec Ideal S1x1024x1024 .bf16) (ix3 0 r k) = (V m c main_v15 : Vec Ideal S2x16384x1024 .bf16) (ix3 (bt t) ⟨1024 * (t.val % 16) + r.val, by omega⟩ k) := by
  show (V m c main_v15 : Vec Ideal S2x16384x1024 .bf16) ((win0_1.rect t).emb (ix3 0 r k)) = _
  refine congrArg _ (funext fun a => Fin.ext ((win0_1.rect_emb_val t _ a).trans ?_))
  rw [index1]
  match a with
  | ⟨0, _⟩ => show t.val / 16 * 1 + 0 = t.val / 16; omega
  | ⟨1, _⟩ => show t.val % 16 * 1024 + r.val = 1024 * (t.val % 16) + r.val; omega
  | ⟨2, _⟩ => show 0 * 1024 + k.val = k.val; omega

theorem iblk2_apply (t : Fin cfg0.N) (h : t.val % 16 ≠ 15) (r : Fin 16) (k : Fin 1024) :
    (iblk m c 2 t : Vec Ideal S1x16x1024 .bf16) (ix3 0 r k) = (V m c main_v15 : Vec Ideal S2x16384x1024 .bf16) (ix3 (bt t) ⟨1024 * (t.val % 16) + 1024 + r.val, by omega⟩ k) := by
  show (V m c main_v15 : Vec Ideal S2x16384x1024 .bf16) ((win0_2.rect t).emb (ix3 0 r k)) = _
  refine congrArg _ (funext fun a => Fin.ext ((win0_2.rect_emb_val t _ a).trans ?_))
  rw [index2]
  match a with
  | ⟨0, _⟩ => show t.val / 16 * 1 + 0 = t.val / 16; omega
  | ⟨1, _⟩ => show min ((t.val % 16 + 1) * 64) 1023 * 16 + r.val = 1024 * (t.val % 16) + 1024 + r.val; omega
  | ⟨2, _⟩ => show 0 * 1024 + k.val = k.val; omega

theorem iblk3_apply (t : Fin cfg0.N) (r k : Fin 1024) :
    (iblk m c 3 t : Vec Ideal S1x1024x1024 .f32) (ix3 0 r k) = (V m c main_arg0 : Vec Ideal S2x16384x1024 .f32) (ix3 (bt t) ⟨1024 * (t.val % 16) + r.val, by omega⟩ k) := by
  show (V m c main_arg0 : Vec Ideal S2x16384x1024 .f32) ((win0_3.rect t).emb (ix3 0 r k)) = _
  refine congrArg _ (funext fun a => Fin.ext ((win0_3.rect_emb_val t _ a).trans ?_))
  rw [index3]
  match a with
  | ⟨0, _⟩ => show t.val / 16 * 1 + 0 = t.val / 16; omega
  | ⟨1, _⟩ => show t.val % 16 * 1024 + r.val = 1024 * (t.val % 16) + r.val; omega
  | ⟨2, _⟩ => show 0 * 1024 + k.val = k.val; omega

theorem iblk4_apply (t : Fin cfg0.N) (j : Fin 6) (k : Fin 1024) :
    (iblk m c 4 t : Vec Ideal S1x6x1024 .f32) (ix3 0 j k) = (V m c main_v4 : Vec Ideal S8x6x1024 .f32) (ix3 ⟨(bt t).val, by omega⟩ j k) := by
  show (V m c main_v4 : Vec Ideal S8x6x1024 .f32) ((win0_4.rect t).emb (ix3 0 j k)) = _
  refine congrArg _ (funext fun a => Fin.ext ((win0_4.rect_emb_val t _ a).trans ?_))
  rw [index4]
  match a with
  | ⟨0, _⟩ => show t.val / 16 * 1 + 0 = t.val / 16; omega
  | ⟨1, _⟩ => show 0 * 6 + j.val = j.val; omega
  | ⟨2, _⟩ => show 0 * 1024 + k.val = k.val; omega

theorem iblk10_apply (t : Fin cfg0.N) (j : Fin 6) (k : Fin 1024) :
    (iblk m c 10 t : Vec Ideal S1x6x1024 .f32) (ix3 0 j k) = (V m c main_v20 : Vec Ideal S8x6x1024 .f32) (ix3 ⟨(bt t).val, by omega⟩ j k) := by
  show (V m c main_v20 : Vec Ideal S8x6x1024 .f32) ((win0_10.rect t).emb (ix3 0 j k)) = _
  refine congrArg _ (funext fun a => Fin.ext ((win0_10.rect_emb_val t _ a).trans ?_))
  rw [index10]
  match a with
  | ⟨0, _⟩ => show t.val / 16 * 1 + 0 = t.val / 16; omega
  | ⟨1, _⟩ => show 0 * 6 + j.val = j.val; omega
  | ⟨2, _⟩ => show 0 * 1024 + k.val = k.val; omega

theorem iblk5_apply (t : Fin cfg0.N) (j : Fin 4) (k : Fin 1024) :
    (iblk m c 5 t : Vec Ideal S4x1024 .f32) (ix2 j k) = (V m c main_v6 : Vec Ideal S4x1024 .f32) (ix2 j k) := by
  show (V m c main_v6 : Vec Ideal S4x1024 .f32) ((win0_5.rect t).emb (ix2 j k)) = _
  refine congrArg _ (funext fun a => Fin.ext ((win0_5.rect_emb_val t _ a).trans ?_))
  rw [index5]
  match a with
  | ⟨0, _⟩ => show 0 * 4 + j.val = j.val; omega
  | ⟨1, _⟩ => show 0 * 1024 + k.val = k.val; omega

theorem iblk6_apply (t : Fin cfg0.N) (j : Fin 1024) (k : Fin 5632) :
    (iblk m c 6 t : Vec Ideal S1024x5632 .bf16) (ix2 j k) = (V m c main_v23 : Vec Ideal S1024x5632 .bf16) (ix2 j k) := by
  show (V m c main_v23 : Vec Ideal S1024x5632 .bf16) ((win0_6.rect t).emb (ix2 j k)) = _
  refine congrArg _ (funext fun a => Fin.ext ((win0_6.rect_emb_val t _ a).trans ?_))
  rw [index6]
  match a with
  | ⟨0, _⟩ => show 0 * 1024 + j.val = j.val; omega
  | ⟨1, _⟩ => show 0 * 5632 + k.val = k.val; omega

theorem iblk7_apply (t : Fin cfg0.N) (j : Fin 3) (k : Fin 5632) :
    (iblk m c 7 t : Vec Ideal S3x5632 .f32) (ix2 j k) = (V m c main_v10 : Vec Ideal S3x5632 .f32) (ix2 j k) := by
  show (V m c main_v10 : Vec Ideal S3x5632 .f32) ((win0_7.rect t).emb (ix2 j k)) = _
  refine congrArg _ (funext fun a => Fin.ext ((win0_7.rect_emb_val t _ a).trans ?_))
  rw [index7]
  match a with
  | ⟨0, _⟩ => show 0 * 3 + j.val = j.val; omega
  | ⟨1, _⟩ => show 0 * 5632 + k.val = k.val; omega

theorem iblk8_apply (t : Fin cfg0.N) (j : Fin 1) (k : Fin 5632) :
    (iblk m c 8 t : Vec Ideal S1x5632 .f32) (ix2 j k) = (V m c main_v24 : Vec Ideal S1x5632 .f32) (ix2 j k) := by
  show (V m c main_v24 : Vec Ideal S1x5632 .f32) ((win0_8.rect t).emb (ix2 j k)) = _
  refine congrArg _ (funext fun a => Fin.ext ((win0_8.rect_emb_val t _ a).trans ?_))
  rw [index8]
  match a with
  | ⟨0, _⟩ => show 0 * 1 + j.val = j.val; omega
  | ⟨1, _⟩ => show 0 * 5632 + k.val = k.val; omega

theorem iblk9_apply (t : Fin cfg0.N) (j : Fin 2816) (k : Fin 1024) :
    (iblk m c 9 t : Vec Ideal S2816x1024 .bf16) (ix2 j k) = (V m c main_v25 : Vec Ideal S2816x1024 .bf16) (ix2 j k) := by
  show (V m c main_v25 : Vec Ideal S2816x1024 .bf16) ((win0_9.rect t).emb (ix2 j k)) = _
  refine congrArg _ (funext fun a => Fin.ext ((win0_9.rect_emb_val t _ a).trans ?_))
  rw [index9]
  match a with
  | ⟨0, _⟩ => show 0 * 2816 + j.val = j.val; omega
  | ⟨1, _⟩ => show 0 * 1024 + k.val = k.val; omega

theorem iblk11_apply (t : Fin cfg0.N) (j : Fin 4) (k : Fin 1024) :
    (iblk m c 11 t : Vec Ideal S4x1024 .f32) (ix2 j k) = (V m c main_v22 : Vec Ideal S4x1024 .f32) (ix2 j k) := by
  show (V m c main_v22 : Vec Ideal S4x1024 .f32) ((win0_11.rect t).emb (ix2 j k)) = _
  refine congrArg _ (funext fun a => Fin.ext ((win0_11.rect_emb_val t _ a).trans ?_))
  rw [index11]
  match a with
  | ⟨0, _⟩ => show 0 * 4 + j.val = j.val; omega
  | ⟨1, _⟩ => show 0 * 1024 + k.val = k.val; omega

/-- The argument functions. -/
abbrev fX : Fin 2 → Fin 16384 → Fin 1024 → EReal := fun b l k => aX m c (ix3 b l k)
abbrev fH : Fin 2 → Fin 16384 → Fin 1024 → EReal := fun b l k => aH m c (ix3 b l k)
abbrev fMd : Fin 2 → Fin 2 → Fin 6144 → EReal := fun i b k => aMd m c (ix3 i b k)
abbrev fNg : Fin 2 → Fin 4 → Fin 1024 → EReal := fun i n k => aNg m c (ix3 i n k)
abbrev fWu : Fin 1024 → Fin 5632 → EReal := fun k f => aWu m c (ix3 0 k f)
abbrev fCw : Fin 3 → Fin 5632 → EReal := fun n f => aCw m c (ix3 0 n f)
abbrev fCb : Fin 5632 → EReal := fun f => aCb m c (ix2 0 f)
abbrev fWd : Fin 2816 → Fin 1024 → EReal := fun f e => aWd m c (ix3 0 f e)

theorem holds (t : Fin cfg0.N) : Holds (fX m c) (fH m c) (fMd m c 0) (fMd m c 1) (fNg m c 0) (fNg m c 1) (fWu m c) (fCw m c) (fCb m c) (fWd m c) (bt t) (nt t)
    (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) where
  before h r k := by rw [iblk0_apply m c t h, V_branch_apply]
  within r k := by rw [iblk1_apply, V_branch_apply]
  after h r k := by rw [iblk2_apply m c t h, V_branch_apply]
  stream r k := by rw [iblk3_apply, V_main_arg0]
  mods j k := by rw [iblk4_apply, V_mod0_apply]
  gains j k := by rw [iblk5_apply, V_ng0_apply]
  ups k f := by rw [iblk6_apply, V_up_apply]
  convs j f := by rw [iblk7_apply, V_conv_apply]
  bias f := by rw [iblk8_apply, V_bias_apply]
  downs f e := by rw [iblk9_apply, V_down_apply]
  mods' j k := by rw [iblk10_apply, V_mod1_apply]
  gains' j k := by rw [iblk11_apply, V_ng1_apply]

/-- The two results as arrays. -/
def G : Vec Ideal S2x16384x1024 .f32 := fun i =>
  Cert.Mlp.mid (fX m c) (fMd m c 0) (fNg m c 0) (fWu m c) (fCw m c) (fCb m c) (fWd m c) (fH m c) (i 0) (i 1) (i 2)
def G' : Vec Ideal S2x16384x1024 .bf16 := fun i =>
  Cert.Mlp.next (fX m c) (fMd m c 0) (fNg m c 0) (fWu m c) (fCw m c) (fCb m c) (fWd m c) (fH m c) (fMd m c 1) (fNg m c 1) (i 0) (i 1) (i 2)

/-- What grid point `t` stores. -/
def outAt (t : Fin cfg0.N) : Vec Ideal S1x1024x1024 .f32 :=
  block (rows (grid0.coords t) (iblk m c 0 t) (iblk m c 1 t) (iblk m c 2 t))
    (iblk m c 3 t) (iblk m c 4 t) (iblk m c 5 t) (iblk m c 6 t) (iblk m c 7 t) (iblk m c 8 t) (iblk m c 9 t)
def nextAt (t : Fin cfg0.N) : Vec Ideal S1x1024x1024 .bf16 :=
  follow (rows (grid0.coords t) (iblk m c 0 t) (iblk m c 1 t) (iblk m c 2 t))
    (iblk m c 3 t) (iblk m c 4 t) (iblk m c 5 t) (iblk m c 6 t) (iblk m c 7 t) (iblk m c 8 t) (iblk m c 9 t) (iblk m c 10 t) (iblk m c 11 t)

theorem outAt_apply (t : Fin cfg0.N) (r e : Fin 1024) :
    (outAt m c t (ix3 0 r e) : EReal) = G m c (ix3 (bt t) ⟨1024 * (nt t).val + r.val, by omega⟩ e) :=
  block_apply (holds m c t) (grid0.coords t) (coords1 t) r e
theorem nextAt_apply (t : Fin cfg0.N) (r e : Fin 1024) :
    (nextAt m c t (ix3 0 r e) : EReal) = G' m c (ix3 (bt t) ⟨1024 * (nt t).val + r.val, by omega⟩ e) :=
  follow_apply (holds m c t) (grid0.coords t) (coords1 t) r e

theorem outs_eq (t : Fin cfg0.N) : (outsAt0 m c t).1 = outAt m c t := by
  unfold outAt outsAt0
  dsimp only
  exact out_eq ..
theorem nexts_eq (t : Fin cfg0.N) : (outsAt0 m c t).2 = nextAt m c t := by
  unfold nextAt outsAt0
  dsimp only
  exact next_eq ..

theorem ix3_eta (x : S1x1024x1024.Idx) : ∃ r e : Fin 1024, x = ix3 0 r e := by
  refine ⟨x 1, x 2, funext fun a => ?_⟩
  match a with
  | ⟨0, _⟩ => exact Fin.ext (by have h0 : (x 0).val < 1 := (x 0).isLt; show (x 0).val = 0; omega)
  | ⟨1, _⟩ => rfl
  | ⟨2, _⟩ => rfl

/-- Where grid point `t`'s block lies in the array. -/
theorem emb12 (t : Fin cfg0.N) (r e : Fin 1024) :
    ((win0_12.rect t).emb (ix3 0 r e) : S2x16384x1024.Idx) = ix3 (bt t) ⟨1024 * (nt t).val + r.val, by omega⟩ e := by
  refine funext fun a => Fin.ext ((win0_12.rect_emb_val t _ a).trans ?_)
  rw [index12]
  match a with
  | ⟨0, _⟩ => show t.val / 16 * 1 + 0 = t.val / 16; omega
  | ⟨1, _⟩ => show t.val % 16 * 1024 + r.val = 1024 * (t.val % 16) + r.val; omega
  | ⟨2, _⟩ => show 0 * 1024 + e.val = e.val; omega

theorem outAt_G (t : Fin cfg0.N) (x : S1x1024x1024.Idx) (i : S2x16384x1024.Idx) (hi : (win0_12.rect t).emb x = i) :
    (outAt m c t x : EReal) = G m c i := by
  obtain ⟨r, e, rfl⟩ := ix3_eta x
  rw [emb12] at hi
  rw [outAt_apply m c, ← hi]

theorem read12 (t : Fin cfg0.N) (X : Vec Ideal S2x16384x1024 .f32) (x : S1x1024x1024.Idx) :
    ((cfg0.win 12).blk t).view.read (Elt Ideal) X x = X ((win0_12.rect t).emb x) := rfl

theorem flushed_eq (t : Fin cfg0.N) : (dats m 0 c).flushed 12 t = ((cfg0.win 12).blk t).view.read (Elt Ideal) (G m c) := by
  rw [Value.flushed12, outs_eq]
  have h1 : ∀ x : S1x1024x1024.Idx, (cfg0.win 12).cut (grid0.coords t) (outAt m c t) x = outAt m c t x := fun x => rfl
  refine funext fun (x : S1x1024x1024.Idx) => ?_
  exact (h1 x).trans ((outAt_G m c t x _ rfl).trans (read12 t (G m c) x).symm)

theorem cover (i : S2x16384x1024.Idx) : ∃ t : Fin cfg0.N, (cfg0.win 12).flush t = true ∧ i ∈ ((cfg0.win 12).blk t).view.set := by
  have h0 : (i 0).val < 2 := (i 0).isLt
  have h1 : (i 1).val < 16384 := (i 1).isLt
  have h2 : (i 2).val < 1024 := (i 2).isLt
  have hN : cfg0.N = 32 := N_0
  obtain ⟨t, ht⟩ : ∃ t : Fin cfg0.N, t.val = 16 * (i 0).val + (i 1).val / 1024 := ⟨⟨_, by omega⟩, rfl⟩
  refine ⟨t, flush0_12 _, ?_⟩
  have e : ((win0_12.rect t).emb (ix3 0 ⟨(i 1).val % 1024, by omega⟩ ⟨(i 2).val, h2⟩) : S2x16384x1024.Idx) = i := by
    rw [emb12]
    refine funext fun a => ?_
    match a with
    | ⟨0, _⟩ => exact Fin.ext (by show t.val / 16 = (i 0).val; omega)
    | ⟨1, _⟩ => exact Fin.ext (by show 1024 * (t.val % 16) + (i 1).val % 1024 = (i 1).val; omega)
    | ⟨2, _⟩ => rfl
  rw [← e]
  exact ((cfg0.win 12).blk t).view.emb_mem_set (ix3 0 ⟨(i 1).val % 1024, by omega⟩ ⟨(i 2).val, h2⟩ : S1x1024x1024.Idx)

/-- The first result array after the run. -/
theorem arr_eq : (dats m 0 c).arrAt 12 cfg0.N = G m c :=
  (dats m 0 c).arrAt_eq_of_cover 12 (G m c) (fun t _ => flushed_eq m c t) cover

/-- Where grid point `t`'s second block lies in the array. -/
theorem emb13 (t : Fin cfg0.N) (r e : Fin 1024) :
    ((win0_13.rect t).emb (ix3 0 r e) : S2x16384x1024.Idx) = ix3 (bt t) ⟨1024 * (nt t).val + r.val, by omega⟩ e := by
  refine funext fun a => Fin.ext ((win0_13.rect_emb_val t _ a).trans ?_)
  rw [index13]
  match a with
  | ⟨0, _⟩ => show t.val / 16 * 1 + 0 = t.val / 16; omega
  | ⟨1, _⟩ => show t.val % 16 * 1024 + r.val = 1024 * (t.val % 16) + r.val; omega
  | ⟨2, _⟩ => show 0 * 1024 + e.val = e.val; omega

theorem nextAt_image (t : Fin cfg0.N) (x : S1x1024x1024.Idx) (i : S2x16384x1024.Idx) (hi : (win0_13.rect t).emb x = i) :
    (nextAt m c t x : EReal) = G' m c i := by
  obtain ⟨r, e, rfl⟩ := ix3_eta x
  rw [emb13] at hi
  rw [nextAt_apply m c, ← hi]

theorem read13 (t : Fin cfg0.N) (X : Vec Ideal S2x16384x1024 .bf16) (x : S1x1024x1024.Idx) :
    ((cfg0.win 13).blk t).view.read (Elt Ideal) X x = X ((win0_13.rect t).emb x) := rfl

theorem flushed_eq' (t : Fin cfg0.N) : (dats m 0 c).flushed 13 t = ((cfg0.win 13).blk t).view.read (Elt Ideal) (G' m c) := by
  rw [Value.flushed13, nexts_eq]
  have h1 : ∀ x : S1x1024x1024.Idx, (cfg0.win 13).cut (grid0.coords t) (nextAt m c t) x = nextAt m c t x := fun x => rfl
  refine funext fun (x : S1x1024x1024.Idx) => ?_
  exact (h1 x).trans ((nextAt_image m c t x _ rfl).trans (read13 t (G' m c) x).symm)

theorem cover' (i : S2x16384x1024.Idx) : ∃ t : Fin cfg0.N, (cfg0.win 13).flush t = true ∧ i ∈ ((cfg0.win 13).blk t).view.set := by
  have h0 : (i 0).val < 2 := (i 0).isLt
  have h1 : (i 1).val < 16384 := (i 1).isLt
  have h2 : (i 2).val < 1024 := (i 2).isLt
  have hN : cfg0.N = 32 := N_0
  obtain ⟨t, ht⟩ : ∃ t : Fin cfg0.N, t.val = 16 * (i 0).val + (i 1).val / 1024 := ⟨⟨_, by omega⟩, rfl⟩
  refine ⟨t, flush0_13 _, ?_⟩
  have e : ((win0_13.rect t).emb (ix3 0 ⟨(i 1).val % 1024, by omega⟩ ⟨(i 2).val, h2⟩) : S2x16384x1024.Idx) = i := by
    rw [emb13]
    refine funext fun a => ?_
    match a with
    | ⟨0, _⟩ => exact Fin.ext (by show t.val / 16 = (i 0).val; omega)
    | ⟨1, _⟩ => exact Fin.ext (by show 1024 * (t.val % 16) + (i 1).val % 1024 = (i 1).val; omega)
    | ⟨2, _⟩ => rfl
  rw [← e]
  exact ((cfg0.win 13).blk t).view.emb_mem_set (ix3 0 ⟨(i 1).val % 1024, by omega⟩ ⟨(i 2).val, h2⟩ : S1x1024x1024.Idx)

/-- The second result array after the run. -/
theorem arr_eq' : (dats m 0 c).arrAt 13 cfg0.N = G' m c :=
  (dats m 0 c).arrAt_eq_of_cover 13 (G' m c) (fun t _ => flushed_eq' m c t) cover'

end Cert.Kernel3Ideal.Ffn

end
-- ==== Proof.Ffn.Ref.lean ====
/- The reference of the first layer's gated branch, entry by entry. -/
module

public import proofs.«01_k».proof.Proof.Gen.Reference3Ideal.Run
public import proofs.«01_k».proof.Proof.Mlp.Ref

@[expose] public section

set_option maxRecDepth 16384

noncomputable section

namespace Cert.Reference3Ideal.Ffn

open Cert.Reference3Ideal Cert.Reference3Ideal.Gen
open Cert.Reference2Ideal.Mlp (rms ups pads convs acts downs rms_apply ups_apply pads_apply convs_apply acts_apply downs_apply)
open Idealize.ShloMosaic Idealize.ShloMosaic.TcCoe Idealize.ShloMosaic.Pointwise
open Cert.Mlp (rinv hid conv gate fin cnt eps one)

/-- The first layer's parameters out of the stacked ones, and the rows the branch reads. -/
def wu0 (wu : Vec Ideal S2x1024x5632 .f32) : Vec Ideal S1024x5632 .f32 :=
  shapeCast _ (extractStridedSlice S1x1024x5632 ![0, 0, 0] wu slices_S2x1024x5632_S1x1024x5632_0_0_0) shapeCasts_S1x1024x5632_S1024x5632
def cw0 (cw : Vec Ideal S2x3x5632 .f32) : Vec Ideal S3x5632 .f32 :=
  shapeCast _ (extractStridedSlice S1x3x5632 ![0, 0, 0] cw slices_S2x3x5632_S1x3x5632_0_0_0) shapeCasts_S1x3x5632_S3x5632
def cb0 (cb : Vec Ideal S2x5632 .f32) : Vec Ideal S5632 .f32 :=
  shapeCast _ (extractStridedSlice S1x5632 ![0, 0] cb slices_S2x5632_S1x5632_0_0) shapeCasts_S1x5632_S5632
def wd0 (wd : Vec Ideal S2x2816x1024 .f32) : Vec Ideal S2816x1024 .f32 :=
  shapeCast _ (extractStridedSlice S1x2816x1024 ![0, 0, 0] wd slices_S2x2816x1024_S1x2816x1024_0_0_0) shapeCasts_S1x2816x1024_S2816x1024
def rows (h : Vec Ideal S2x16384x1024 .f32) : FVec Ideal S2x16384x1024 .f32 := extf .f32 (truncf .bf16 h bitsLt_bf16_f32) bitsLt_bf16_f32

/-- The branch before its normalisation. -/
def branch (h : FVec Ideal S2x16384x1024 .f32) (wu : Vec Ideal S1024x5632 .f32) (cw : Vec Ideal S3x5632 .f32) (cb : Vec Ideal S5632 .f32)
    (wd : Vec Ideal S2816x1024 .f32) : FVec Ideal S2x16384x1024 .f32 :=
  downs (acts (convs (pads (ups h wu)) cw cb)) wd

/-- The first result. -/
def mids (xs ys : FVec Ideal S2x16384x1024 .f32) (r : FVec Ideal S2x16384x1 .f32) (ng : Vec Ideal S2x4x1024 .f32) (md : Vec Ideal S2x2x6144 .f32) :
    FVec Ideal S2x16384x1024 .f32 :=
  addf xs (mulf (broadcastInDim S2x16384x1024 ![0, 1, 2] bcast_S2x1x1024_S2x16384x1024_0_1_2
      (extractStridedSlice S2x1x1024 ![0, 0, 5120] (broadcastInDim S2x1x6144 ![0, 2] bcast_S2x6144_S2x1x6144_0_2
        (shapeCast S2x6144 (extractStridedSlice S1x2x6144 ![0, 0, 0] md slices_S2x2x6144_S1x2x6144_0_0_0) shapeCasts_S1x2x6144_S2x6144)) slices_S2x1x6144_S2x1x1024_0_0_5120))
    (mulf (mulf ys (broadcastInDim S2x16384x1024 ![0, 1, 2] bcast_S2x16384x1_S2x16384x1024_0_1_2 r))
      (broadcastInDim S2x16384x1024 ![0, 1, 2] bcast_S1x1x1024_S2x16384x1024_0_1_2 (broadcastInDim S1x1x1024 ![2] bcast_S1024_S1x1x1024_2
        (shapeCast S1024 (extractStridedSlice S1x1x1024 ![0, 3, 0] ng slices_S2x4x1024_S1x1x1024_0_3_0) shapeCasts_S1x1x1024_S1024)))))

/-- The second result. -/
def nexts (xs : FVec Ideal S2x16384x1024 .f32) (r : FVec Ideal S2x16384x1 .f32) (ng : Vec Ideal S2x4x1024 .f32) (md : Vec Ideal S2x2x6144 .f32) :
    FVec Ideal S2x16384x1024 .bf16 :=
  truncf .bf16 (addf (mulf (mulf (mulf xs (broadcastInDim S2x16384x1024 ![0, 1, 2] bcast_S2x16384x1_S2x16384x1024_0_1_2 r))
    (broadcastInDim S2x16384x1024 ![0, 1, 2] bcast_S1x1x1024_S2x16384x1024_0_1_2 (broadcastInDim S1x1x1024 ![2] bcast_S1024_S1x1x1024_2
      (shapeCast S1024 (extractStridedSlice S1x1x1024 ![1, 0, 0] ng slices_S2x4x1024_S1x1x1024_1_0_0) shapeCasts_S1x1x1024_S1024))))
    (broadcastInDim S2x16384x1024 ![0, 1, 2] bcast_S2x1x1024_S2x16384x1024_0_1_2
      (addf (broadcastInDim S2x1x1024 ![] bcast_S_S2x1x1024 (constant S_ .f32 0x3F800000#32))
        (extractStridedSlice S2x1x1024 ![0, 0, 1024] (broadcastInDim S2x1x6144 ![0, 2] bcast_S2x6144_S2x1x6144_0_2
          (shapeCast S2x6144 (extractStridedSlice S1x2x6144 ![1, 0, 0] md slices_S2x2x6144_S1x2x6144_1_0_0) shapeCasts_S1x2x6144_S2x6144)) slices_S2x1x6144_S2x1x1024_0_0_1024))))
    (broadcastInDim S2x16384x1024 ![0, 1, 2] bcast_S2x1x1024_S2x16384x1024_0_1_2
      (extractStridedSlice S2x1x1024 ![0, 0, 0] (broadcastInDim S2x1x6144 ![0, 2] bcast_S2x6144_S2x1x6144_0_2
        (shapeCast S2x6144 (extractStridedSlice S1x2x6144 ![1, 0, 0] md slices_S2x2x6144_S1x2x6144_1_0_0) shapeCasts_S1x2x6144_S2x6144)) slices_S2x1x6144_S2x1x1024_0_0_0))) bitsLt_bf16_f32

variable (xs ys h : FVec Ideal S2x16384x1024 .f32) (r : FVec Ideal S2x16384x1 .f32) (ng : Vec Ideal S2x4x1024 .f32) (md : Vec Ideal S2x2x6144 .f32)
  (wu : Vec Ideal S2x1024x5632 .f32) (cw : Vec Ideal S2x3x5632 .f32) (cb : Vec Ideal S2x5632 .f32) (wd : Vec Ideal S2x2816x1024 .f32)
  (wu' : Vec Ideal S1024x5632 .f32) (cw' : Vec Ideal S3x5632 .f32) (cb' : Vec Ideal S5632 .f32) (wd' : Vec Ideal S2816x1024 .f32)
  (b : Fin 2) (l : Fin 16384)

theorem wu0_apply (k : Fin 1024) (f : Fin 5632) : (wu0 wu (ix2 k f) : EReal) = wu (ix3 0 k f) := by pointwise [wu0]
theorem cw0_apply (j : Fin 3) (f : Fin 5632) : (cw0 cw (ix2 j f) : EReal) = cw (ix3 0 j f) := by pointwise [cw0]
theorem cb0_apply (f : Fin 5632) : (cb0 cb (ix1 f) : EReal) = cb (ix2 0 f) := by pointwise [cb0]
theorem wd0_apply (f : Fin 2816) (e : Fin 1024) : (wd0 wd (ix2 f e) : EReal) = wd (ix3 0 f e) := by pointwise [wd0]
theorem rows_apply (k : Fin 1024) : (rows h (ix3 b l k) : EReal) = h (ix3 b l k) := by pointwise [rows]

theorem mids_apply (e : Fin 1024) : (mids xs ys r ng md (ix3 b l e) : EReal)
    = xs (ix3 b l e) + md (ix3 0 b ⟨5120 + e.val, by omega⟩) * (ys (ix3 b l e) * r (ix3 b l 0) * ng (ix3 0 3 e)) := by
  pointwise [mids]

theorem nexts_apply (e : Fin 1024) : (nexts xs r ng md (ix3 b l e) : EReal)
    = xs (ix3 b l e) * r (ix3 b l 0) * ng (ix3 1 0 e) * (one + md (ix3 1 b ⟨1024 + e.val, by omega⟩)) + md (ix3 1 b ⟨e.val, by omega⟩) := by
  pointwise [nexts]

theorem branch_apply (e : Fin 1024) : (branch h wu' cw' cb' wd' (ix3 b l e) : EReal)
    = Cert.Mlp.mlp (fun l k => h (ix3 b l k)) (fun k f => wu' (ix2 k f)) (fun n f => cw' (ix2 n f)) (fun f => cb' (ix1 f)) (fun f e => wd' (ix2 f e)) l e := by
  unfold branch
  have hU : ∀ b (n : Fin 16386) f, (pads (ups h wu') (ix3 b n f) : EReal)
      = Cert.Mlp.up (fun l k => h (ix3 b l k)) (fun k f => wu' (ix2 k f)) n.val f := fun b n f => by
    rw [pads_apply]
    unfold Cert.Mlp.up
    by_cases hn : 1 ≤ n.val ∧ n.val ≤ 16384
    · rw [dif_pos hn, dif_pos hn, ups_apply]
    · rw [dif_neg hn, dif_neg hn]
  generalize pads (ups h wu') = p at hU ⊢
  have hA : ∀ b l f, (acts (convs p cw' cb') (ix3 b l f) : EReal)
      = Cert.Mlp.act (fun l k => h (ix3 b l k)) (fun k f => wu' (ix2 k f)) (fun n f => cw' (ix2 n f)) (fun f => cb' (ix1 f)) l.val f := fun b l f => by
    rw [acts_apply, Cert.Mlp.gate_eq, convs_apply, convs_apply]
    simp only [hU]
    unfold Cert.Mlp.act Cert.Mlp.cvs
    simp only [Nat.add_comm]
  generalize acts (convs p cw' cb') = a at hA ⊢
  rw [downs_apply]
  simp only [hA]
  rfl

/-- The first result, and the second from it. -/
def first : FVec Ideal S2x16384x1024 .f32 :=
  mids xs (branch (rows h) (wu0 wu) (cw0 cw) (cb0 cb) (wd0 wd)) (rms (branch (rows h) (wu0 wu) (cw0 cw) (cb0 cb) (wd0 wd))) ng md

theorem first_apply (e : Fin 1024) : (first xs h ng md wu cw cb wd (ix3 b l e) : EReal)
    = Cert.Mlp.mid (fun b l k => xs (ix3 b l k)) (fun b k => md (ix3 0 b k)) (fun n k => ng (ix3 0 n k)) (fun k f => wu (ix3 0 k f))
        (fun n f => cw (ix3 0 n f)) (fun f => cb (ix2 0 f)) (fun f e => wd (ix3 0 f e)) (fun b l k => h (ix3 b l k)) b l e := by
  unfold first
  rw [mids_apply, rms_apply]
  simp only [branch_apply, rows_apply, wu0_apply, cw0_apply, cb0_apply, wd0_apply]
  rfl

theorem second_apply (e : Fin 1024) :
    (nexts (first xs h ng md wu cw cb wd) (rms (first xs h ng md wu cw cb wd)) ng md (ix3 b l e) : EReal)
    = Cert.Mlp.next (fun b l k => xs (ix3 b l k)) (fun b k => md (ix3 0 b k)) (fun n k => ng (ix3 0 n k)) (fun k f => wu (ix3 0 k f))
        (fun n f => cw (ix3 0 n f)) (fun f => cb (ix2 0 f)) (fun f e => wd (ix3 0 f e)) (fun b l k => h (ix3 b l k))
        (fun b k => md (ix3 1 b k)) (fun n k => ng (ix3 1 n k)) b l e := by
  have hF := first_apply xs h ng md wu cw cb wd b l
  generalize first xs h ng md wu cw cb wd = y at hF ⊢
  rw [nexts_apply, rms_apply]
  simp only [hF]
  rfl

variable (m : (ℓ : Loc nD τ sig) → Buf (Elt Ideal) ℓ) (c : Dev nD)

/-- The arguments. -/
abbrev aX : Vec Ideal S2x16384x1024 .f32 := m ((c.tc : Thread nD τ).loc main_arg0)
abbrev aH : Vec Ideal S2x16384x1024 .f32 := m ((c.tc : Thread nD τ).loc main_arg1)
abbrev aMd : Vec Ideal S2x2x6144 .f32 := m ((c.tc : Thread nD τ).loc main_arg2)
abbrev aNg : Vec Ideal S2x4x1024 .f32 := m ((c.tc : Thread nD τ).loc main_arg3)
abbrev aWu : Vec Ideal S2x1024x5632 .f32 := m ((c.tc : Thread nD τ).loc main_arg4)
abbrev aCw : Vec Ideal S2x3x5632 .f32 := m ((c.tc : Thread nD τ).loc main_arg5)
abbrev aCb : Vec Ideal S2x5632 .f32 := m ((c.tc : Thread nD τ).loc main_arg6)
abbrev aWd : Vec Ideal S2x2816x1024 .f32 := m ((c.tc : Thread nD τ).loc main_arg7)

/-- The first result, from the arguments. -/
abbrev firstOf : FVec Ideal S2x16384x1024 .f32 :=
  first (aX m c) (aH m c) (aNg m c) (aMd m c) (aWu m c) (aCw m c) (aCb m c) (aWd m c)

/-- The second result, from the arguments. -/
abbrev secondOf : FVec Ideal S2x16384x1024 .bf16 :=
  nexts (first (aX m c) (aH m c) (aNg m c) (aMd m c) (aWu m c) (aCw m c) (aCb m c) (aWd m c))
    (rms (first (aX m c) (aH m c) (aNg m c) (aMd m c) (aWu m c) (aCw m c) (aCb m c) (aWd m c))) (aNg m c) (aMd m c)

theorem down_eq : (Value.res_main_v57 (StableHlo.launchContents m c) : FVec Ideal S2x16384x1024 .f32)
    = branch (rows (aH m c)) (wu0 (aWu m c)) (cw0 (aCw m c)) (cb0 (aCb m c)) (wd0 (aWd m c)) := by
  unfold Value.res_main_v57 Value.res_main_v53 Value.res_main_v52 Value.res_main_v29 Value.res_main_v23 branch downs acts convs pads ups rows wu0 cw0 cb0 wd0
  rfl

theorem first_eq : (Value.res_main_v75 (StableHlo.launchContents m c) : FVec Ideal S2x16384x1024 .f32) = firstOf m c := by
  unfold Value.res_main_v75 Value.res_main_v2 firstOf first
  rw [down_eq]
  unfold mids rms
  rfl

theorem second_eq : (truncf .bf16 (addf (mulf (mulf (mulf (Value.res_main_v75 (StableHlo.launchContents m c)) (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf (Value.res_main_v75 (StableHlo.launchContents m c)) (Value.res_main_v75 (StableHlo.launchContents m c))) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 (shapeCast _ (extractStridedSlice S1x1x1024 ![1, 0, 0] ((StableHlo.launchContents m c) (Proc.devRef .tc main_arg3)) slices_S2x4x1024_S1x1x1024_1_0_0) shapeCasts_S1x1x1024_S1024)))) (broadcastInDim S2x16384x1024 ![0, 1, 2] bcast_S2x1x1024_S2x16384x1024_0_1_2 (addf (broadcastInDim S2x1x1024 ![] bcast_S_S2x1x1024 (constant S_ .f32 0x3F800000#32)) (extractStridedSlice S2x1x1024 ![0, 0, 1024] (Value.res_main_v11 (StableHlo.launchContents m c)) slices_S2x1x6144_S2x1x1024_0_0_1024)))) (broadcastInDim S2x16384x1024 ![0, 1, 2] bcast_S2x1x1024_S2x16384x1024_0_1_2 (extractStridedSlice S2x1x1024 ![0, 0, 0] (Value.res_main_v11 (StableHlo.launchContents m c)) slices_S2x1x6144_S2x1x1024_0_0_0))) bitsLt_bf16_f32 : FVec Ideal S2x16384x1024 .bf16) = secondOf m c := by
  rw [first_eq]
  unfold Value.res_main_v11 secondOf firstOf nexts rms
  rfl

end Cert.Reference3Ideal.Ffn

end
-- ==== Proof.Out.Run.lean ====
/- The output projection's body: from its six input blocks to the two blocks it stores, as terms over the named operations.

   The body takes the 128-row parts of its tile one after the other. Its operations are written out once per part; each part's
   operations are the same, so they are all stated here by those of the first. -/
module

public import proofs.«01_k».proof.Proof.Gen.Kernel4Ideal.Frame
public import proofs.«01_k».proof.Proof.Gen.Kernel4Ideal.Value
public import Idealize.ShloMosaic.Lib.Pipeline.ValueKit

@[expose] public section

set_option maxRecDepth 16384

noncomputable section

namespace Cert.Kernel4Ideal.Out

open Cert.Kernel4Ideal Cert.Kernel4Ideal.Gen
open Idealize.ShloMosaic Idealize.ShloMosaic.TcCoe Idealize.ShloMosaic.Tactic

variable {F : FTy → Type} [FloatOps F]

theorem inbA (o : ℕ) (h : o ≤ 1920) : ∀ a, (![0, o, 0] : Fin 3 → ℕ) a + S1x128x512.size a ≤ S1x2048x512.size a := fun a =>
  match a with
  | ⟨0, _⟩ => by show 0 + 1 ≤ 1; omega
  | ⟨1, _⟩ => by show o + 128 ≤ 2048; omega
  | ⟨2, _⟩ => by show 0 + 512 ≤ 512; omega

theorem inbX (o : ℕ) (h : o ≤ 1920) : ∀ a, (![0, o, 0] : Fin 3 → ℕ) a + S1x128x1024.size a ≤ S1x2048x1024.size a := fun a =>
  match a with
  | ⟨0, _⟩ => by show 0 + 1 ≤ 1; omega
  | ⟨1, _⟩ => by show o + 128 ≤ 2048; omega
  | ⟨2, _⟩ => by show 0 + 1024 ≤ 1024; omega

/-- 128 rows from row `o` on, of a half of the attention and of the residual. -/
def arow (x : Vec F S1x2048x512 .bf16) (o : ℕ) (h : o ≤ 1920) : Vec F S1x128x512 .bf16 :=
  View.ld (Val := Elt F) (e' := .bf16) x (Rect.unit (s := S1x2048x512) ![0, o, 0] S1x128x512.size (inbA o h))
def xrow (x : Vec F S1x2048x1024 .f32) (o : ℕ) (h : o ≤ 1920) : Vec F S1x128x1024 .f32 :=
  View.ld (Val := Elt F) (e' := .f32) x (Rect.unit (s := S1x2048x1024) ![0, o, 0] S1x128x1024.size (inbX o h))

/-- The matrix's two halves. -/
def wup (x : Vec F S1024x1024 .bf16) : Vec F S512x1024 .bf16 := View.ld (Val := Elt F) (e' := .bf16) x (Rect.unit (s := S1024x1024) ![0, 0] S512x1024.size inb_S1024x1024_S512x1024_0_0)
def wdn (x : Vec F S1024x1024 .bf16) : Vec F S512x1024 .bf16 := View.ld (Val := Elt F) (e' := .bf16) x (Rect.unit (s := S1024x1024) ![512, 0] S512x1024.size inb_S1024x1024_S512x1024_512_0)

/-- Rows of the modulation and of the gains. -/
def md2 (x : Vec F S1x6x1024 .f32) : Vec F S1x1x1024 .f32 := View.ld (Val := Elt F) (e' := .f32) x (Rect.unit (s := S1x6x1024) ![0, 2, 0] S1x1x1024.size inb_S1x6x1024_S1x1x1024_0_2_0)
def md3 (x : Vec F S1x6x1024 .f32) : Vec F S1x1x1024 .f32 := View.ld (Val := Elt F) (e' := .f32) x (Rect.unit (s := S1x6x1024) ![0, 3, 0] S1x1x1024.size inb_S1x6x1024_S1x1x1024_0_3_0)
def md4 (x : Vec F S1x6x1024 .f32) : Vec F S1x1x1024 .f32 := View.ld (Val := Elt F) (e' := .f32) x (Rect.unit (s := S1x6x1024) ![0, 4, 0] S1x1x1024.size inb_S1x6x1024_S1x1x1024_0_4_0)
def ng1 (x : Vec F S4x1024 .f32) : Vec F S1x1024 .f32 := View.ld (Val := Elt F) (e' := .f32) x (Rect.unit (s := S4x1024) ![1, 0] S1x1024.size inb_S4x1024_S1x1024_1_0)
def ng2 (x : Vec F S4x1024 .f32) : Vec F S1x1024 .f32 := View.ld (Val := Elt F) (e' := .f32) x (Rect.unit (s := S4x1024) ![2, 0] S1x1024.size inb_S4x1024_S1x1024_2_0)

/-- A block stored in sixteen parts of 128 rows. -/
def sheetL {e : EltTy} (p : (o : ℕ) → o ≤ 1920 → Vec F S1x128x1024 e) : List (View.Piece (Elt F) S1x2048x1024 e) :=
  [⟨Rect.unit ![0, 1920, 0] S1x128x1024.size (inbX 1920 (by omega)), p 1920 (by omega)⟩,
   ⟨Rect.unit ![0, 1792, 0] S1x128x1024.size (inbX 1792 (by omega)), p 1792 (by omega)⟩,
   ⟨Rect.unit ![0, 1664, 0] S1x128x1024.size (inbX 1664 (by omega)), p 1664 (by omega)⟩,
   ⟨Rect.unit ![0, 1536, 0] S1x128x1024.size (inbX 1536 (by omega)), p 1536 (by omega)⟩,
   ⟨Rect.unit ![0, 1408, 0] S1x128x1024.size (inbX 1408 (by omega)), p 1408 (by omega)⟩,
   ⟨Rect.unit ![0, 1280, 0] S1x128x1024.size (inbX 1280 (by omega)), p 1280 (by omega)⟩,
   ⟨Rect.unit ![0, 1152, 0] S1x128x1024.size (inbX 1152 (by omega)), p 1152 (by omega)⟩,
   ⟨Rect.unit ![0, 1024, 0] S1x128x1024.size (inbX 1024 (by omega)), p 1024 (by omega)⟩,
   ⟨Rect.unit ![0, 896, 0] S1x128x1024.size (inbX 896 (by omega)), p 896 (by omega)⟩,
   ⟨Rect.unit ![0, 768, 0] S1x128x1024.size (inbX 768 (by omega)), p 768 (by omega)⟩,
   ⟨Rect.unit ![0, 640, 0] S1x128x1024.size (inbX 640 (by omega)), p 640 (by omega)⟩,
   ⟨Rect.unit ![0, 512, 0] S1x128x1024.size (inbX 512 (by omega)), p 512 (by omega)⟩,
   ⟨Rect.unit ![0, 384, 0] S1x128x1024.size (inbX 384 (by omega)), p 384 (by omega)⟩,
   ⟨Rect.unit ![0, 256, 0] S1x128x1024.size (inbX 256 (by omega)), p 256 (by omega)⟩,
   ⟨Rect.unit ![0, 128, 0] S1x128x1024.size (inbX 128 (by omega)), p 128 (by omega)⟩,
   ⟨Rect.unit ![0, 0, 0] S1x128x1024.size (inbX 0 (by omega)), p 0 (by omega)⟩]
def sheet {e : EltTy} (p : (o : ℕ) → o ≤ 1920 → Vec F S1x128x1024 e) : Vec F S1x2048x1024 e := View.canon (sheetL p)

theorem cover_sheet {e : EltTy} (p : (o : ℕ) → o ≤ 1920 → Vec F S1x128x1024 e) (y : S1x2048x1024.Idx) : ∃ q ∈ sheetL p, y ∈ q.1.set :=
  View.cover_of_tiledL (sheetL p) S1x128x1024.size (by sl_kernel_rfl) y

section Body

variable (x0 x1 : Vec F S1x2048x512 .bf16) (x2 : Vec F S1024x1024 .bf16) (x3 : Vec F S1x2048x1024 .f32) (x4 : Vec F S1x6x1024 .f32) (x5 : Vec F S4x1024 .f32)

/-- The products of 128 rows. -/
def prods (o : ℕ) (h : o ≤ 1920) : FVec F S128x1024 .f32 := k0_pay3 (arow x0 o h) (wup x2) (arow x1 o h) (wdn x2)

/-- What is stored of 128 rows: the new residual, and the rows normalized for the next operation. -/
def resid (o : ℕ) (h : o ≤ 1920) : Vec F S1x128x1024 .f32 :=
  k0_pay28 (k0_pay26 (prods x0 x1 x2 o h) (xrow x3 o h) (md2 x4) (ng1 x5))
def nextIn (o : ℕ) (h : o ≤ 1920) : Vec F S1x128x1024 .bf16 :=
  k0_pay29 (k0_pay27 (prods x0 x1 x2 o h) (xrow x3 o h) (md2 x4) (ng1 x5) (ng2 x5)) (md4 x4) (md3 x4)

theorem out_eq : out0_6 x0 x1 x2 x3 x4 x5 = sheet (F := F) (e := .f32) (resid x0 x1 x2 x3 x4 x5) := rfl
theorem next_eq : out0_7 x0 x1 x2 x3 x4 x5 = sheet (F := F) (e := .bf16) (nextIn x0 x1 x2 x3 x4 x5) := rfl

end Body

end Cert.Kernel4Ideal.Out

end
-- ==== Proof.Out.Spec.lean ====
/- The output projection as plain mathematics: the rows that the next operation reads, of the stream after the mixer. -/
module

public import proofs.«01_k».proof.Proof.Mlp.Spec

@[expose] public section

noncomputable section

namespace Cert.Mlp

variable (oa ob : Fin 2 → Fin 16384 → Fin 512 → EReal) (xs : Fin 2 → Fin 16384 → Fin 1024 → EReal) (md : Fin 2 → Fin 6144 → EReal)
  (ng : Fin 4 → Fin 1024 → EReal) (w : Fin 1024 → Fin 1024 → EReal)

/-- The stream after the mixer, normalized and modulated. -/
def feed (b : Fin 2) (l : Fin 16384) (e : Fin 1024) : EReal :=
  hid (after oa ob xs md ng w b l) (ng 2) (fun k => md b ⟨4096 + k.val, by omega⟩) (fun k => md b ⟨3072 + k.val, by omega⟩) e

end Cert.Mlp

end
-- ==== Proof.Out.Tile.lean ====
/- One tile of the output projection: the body's operations entry by entry, and, if its six blocks hold tile `n`'s part of the
   arguments, what the two blocks it stores hold. -/
module

public import proofs.«01_k».proof.Proof.Out.Run
public import proofs.«01_k».proof.Proof.Out.Spec
public import Idealize.ShloMosaic.Lib.Pointwise
public import Idealize.ShloMosaic.Lib.IdealHost

@[expose] public section

set_option maxRecDepth 16384

noncomputable section

namespace Cert.Kernel4Ideal.Out

open Cert.Kernel4Ideal Cert.Kernel4Ideal.Gen
open Idealize.ShloMosaic Idealize.ShloMosaic.TcCoe Idealize.ShloMosaic.Pointwise
open Cert.Mlp (rinv hid fin cnt eps one)

/-! ## The operations of 128 rows -/

section Ops

variable (y : FVec Ideal S128x1024 .f32) (x : Vec Ideal S1x128x1024 .f32) (s s' t' : Vec Ideal S1x1x1024 .f32) (g g' : Vec Ideal S1x1024 .f32)
  (r : Fin 128) (e : Fin 1024)

theorem prods_entry (a b : Vec Ideal S1x128x512 .bf16) (u v : Vec Ideal S512x1024 .bf16) :
    (k0_pay3 a u b v (ix2 r e) : EReal) = ∑ k : Fin 512, a (ix3 0 r k) * u (ix2 k e) + ∑ k : Fin 512, b (ix3 0 r k) * v (ix2 k e) := by
  pointwise [k0_pay3]

theorem sum_entry : (k0_pay26 y x s g (ix2 r e) : EReal)
    = fin (x (ix3 0 r e)) (fun e => y (ix2 r e)) (fun k => g (ix2 0 k)) (fun k => s (ix3 0 0 k)) e := by
  pointwise [k0_pay26, fin, rinv]

theorem norm_entry : (k0_pay27 y x s g g' (ix2 r e) : EReal)
    = k0_pay26 y x s g (ix2 r e) * rinv (fun k => k0_pay26 y x s g (ix2 r k)) * g' (ix2 0 e) := by
  unfold k0_pay27
  generalize k0_pay26 y x s g = z
  pointwise [rinv]

theorem store_entry : (k0_pay28 y (ix3 0 r e) : EReal) = y (ix2 r e) := by
  pointwise [k0_pay28]

theorem next_entry : (k0_pay29 y s' t' (ix3 0 r e) : EReal) = y (ix2 r e) * (one + s' (ix3 0 0 e)) + t' (ix3 0 0 e) := by
  pointwise [k0_pay29]

end Ops

/-! ## Loads of parts of the blocks -/

section Loads

variable (xa : Vec Ideal S1x2048x512 .bf16) (xw : Vec Ideal S1024x1024 .bf16) (xx : Vec Ideal S1x2048x1024 .f32) (xm : Vec Ideal S1x6x1024 .f32) (xg : Vec Ideal S4x1024 .f32)

theorem md2_apply (k : Fin 1024) : md2 xm (ix3 0 0 k) = xm (ix3 0 2 k) :=
  View.ld_unit_apply_of _ _ _ _ _ (ix3 0 2 k) fun a => match a with | ⟨0, _⟩ => rfl | ⟨1, _⟩ => rfl | ⟨2, _⟩ => (Nat.zero_add _).symm
theorem md3_apply (k : Fin 1024) : md3 xm (ix3 0 0 k) = xm (ix3 0 3 k) :=
  View.ld_unit_apply_of _ _ _ _ _ (ix3 0 3 k) fun a => match a with | ⟨0, _⟩ => rfl | ⟨1, _⟩ => rfl | ⟨2, _⟩ => (Nat.zero_add _).symm
theorem md4_apply (k : Fin 1024) : md4 xm (ix3 0 0 k) = xm (ix3 0 4 k) :=
  View.ld_unit_apply_of _ _ _ _ _ (ix3 0 4 k) fun a => match a with | ⟨0, _⟩ => rfl | ⟨1, _⟩ => rfl | ⟨2, _⟩ => (Nat.zero_add _).symm
theorem ng1_apply (k : Fin 1024) : ng1 xg (ix2 0 k) = xg (ix2 1 k) :=
  View.ld_unit_apply_of _ _ _ _ _ (ix2 1 k) fun a => match a with | ⟨0, _⟩ => rfl | ⟨1, _⟩ => (Nat.zero_add _).symm
theorem ng2_apply (k : Fin 1024) : ng2 xg (ix2 0 k) = xg (ix2 2 k) :=
  View.ld_unit_apply_of _ _ _ _ _ (ix2 2 k) fun a => match a with | ⟨0, _⟩ => rfl | ⟨1, _⟩ => (Nat.zero_add _).symm
theorem wup_apply (k : Fin 512) (e : Fin 1024) : wup xw (ix2 k e) = xw (ix2 ⟨k.val, by omega⟩ e) :=
  View.ld_unit_apply_of _ _ _ _ _ (ix2 ⟨k.val, by omega⟩ e) fun a => match a with | ⟨0, _⟩ => (Nat.zero_add _).symm | ⟨1, _⟩ => (Nat.zero_add _).symm
theorem wdn_apply (k : Fin 512) (e : Fin 1024) : wdn xw (ix2 k e) = xw (ix2 ⟨512 + k.val, by omega⟩ e) :=
  View.ld_unit_apply_of _ _ _ _ _ (ix2 ⟨512 + k.val, by omega⟩ e) fun a => match a with | ⟨0, _⟩ => rfl | ⟨1, _⟩ => (Nat.zero_add _).symm

variable (o : ℕ) (h : o ≤ 1920) (r : Fin 128)

theorem arow_apply (k : Fin 512) : arow xa o h (ix3 0 r k) = xa (ix3 0 ⟨o + r.val, by omega⟩ k) :=
  View.ld_unit_apply_of _ _ _ _ _ (ix3 0 ⟨o + r.val, by omega⟩ k) fun a => match a with | ⟨0, _⟩ => rfl | ⟨1, _⟩ => rfl | ⟨2, _⟩ => (Nat.zero_add _).symm
theorem xrow_apply (k : Fin 1024) : xrow xx o h (ix3 0 r k) = xx (ix3 0 ⟨o + r.val, by omega⟩ k) :=
  View.ld_unit_apply_of _ _ _ _ _ (ix3 0 ⟨o + r.val, by omega⟩ k) fun a => match a with | ⟨0, _⟩ => rfl | ⟨1, _⟩ => rfl | ⟨2, _⟩ => (Nat.zero_add _).symm

end Loads

/-! ## The stored blocks -/

theorem ix3_part (j : S1x128x1024.Idx) : ∃ (r : Fin 128) (e : Fin 1024), j = ix3 0 r e := by
  refine ⟨j 1, j 2, funext fun a => ?_⟩
  match a with
  | ⟨0, _⟩ => exact Fin.ext (by have h0 : (j 0).val < 1 := (j 0).isLt; show (j 0).val = 0; omega)
  | ⟨1, _⟩ => rfl
  | ⟨2, _⟩ => rfl

theorem emb_part (o : ℕ) (h : o ≤ 1920) (r : Fin 128) (e : Fin 1024) :
    ((Rect.unit (s := S1x2048x1024) ![0, o, 0] S1x128x1024.size (inbX o h)).emb (ix3 0 r e) : S1x2048x1024.Idx)
      = ix3 (n0 := 1) (n1 := 2048) (n2 := 1024) 0 ⟨o + r.val, by omega⟩ e :=
  funext fun a => Fin.ext ((Rect.idx_unit_val (s := S1x2048x1024) ![0, o, 0] S1x128x1024.size (inbX o h) _ a).trans (match a with
    | ⟨0, _⟩ => rfl
    | ⟨1, _⟩ => rfl
    | ⟨2, _⟩ => Nat.zero_add _))

/-- The first stored block holds `G`, if every part stored holds its rows of `G`; and the second. -/
theorem sheet_apply (p : (o : ℕ) → o ≤ 1920 → Vec Ideal S1x128x1024 .f32) (G : Fin 2048 → Fin 1024 → EReal)
    (hG : ∀ (o : ℕ) (h : o ≤ 1920) (r : Fin 128) (e : Fin 1024), (p o h (ix3 0 r e) : EReal) = G ⟨o + r.val, by omega⟩ e)
    (r : Fin 2048) (e : Fin 1024) : (sheet p (ix3 0 r e) : EReal) = G r e := by
  refine View.canon_apply_of_pieces (Val := Elt Ideal) (fun y : S1x2048x1024.Idx => G (y 1) (y 2)) (sheetL p) ?_ (ix3 0 r e) (cover_sheet p _)
  have key : ∀ (o : ℕ) (h : o ≤ 1920) (j : S1x128x1024.Idx), (p o h j : EReal)
      = (fun y : S1x2048x1024.Idx => G (y 1) (y 2)) ((Rect.unit (s := S1x2048x1024) ![0, o, 0] S1x128x1024.size (inbX o h)).emb j) := by
    intro o h j
    obtain ⟨r, e, rfl⟩ := ix3_part j
    rw [emb_part o h]
    exact hG o h r e
  intro q hq
  simp only [sheetL, List.mem_cons, List.not_mem_nil, or_false] at hq
  rcases hq with rfl | rfl | rfl | rfl | rfl | rfl | rfl | rfl | rfl | rfl | rfl | rfl | rfl | rfl | rfl | rfl <;> exact key _ _

theorem sheet_apply' (p : (o : ℕ) → o ≤ 1920 → Vec Ideal S1x128x1024 .bf16) (G : Fin 2048 → Fin 1024 → EReal)
    (hG : ∀ (o : ℕ) (h : o ≤ 1920) (r : Fin 128) (e : Fin 1024), (p o h (ix3 0 r e) : EReal) = G ⟨o + r.val, by omega⟩ e)
    (r : Fin 2048) (e : Fin 1024) : (sheet p (ix3 0 r e) : EReal) = G r e := by
  refine View.canon_apply_of_pieces (Val := Elt Ideal) (fun y : S1x2048x1024.Idx => G (y 1) (y 2)) (sheetL p) ?_ (ix3 0 r e) (cover_sheet p _)
  have key : ∀ (o : ℕ) (h : o ≤ 1920) (j : S1x128x1024.Idx), (p o h j : EReal)
      = (fun y : S1x2048x1024.Idx => G (y 1) (y 2)) ((Rect.unit (s := S1x2048x1024) ![0, o, 0] S1x128x1024.size (inbX o h)).emb j) := by
    intro o h j
    obtain ⟨r, e, rfl⟩ := ix3_part j
    rw [emb_part o h]
    exact hG o h r e
  intro q hq
  simp only [sheetL, List.mem_cons, List.not_mem_nil, or_false] at hq
  rcases hq with rfl | rfl | rfl | rfl | rfl | rfl | rfl | rfl | rfl | rfl | rfl | rfl | rfl | rfl | rfl | rfl <;> exact key _ _

/-! ## The tile -/

/-- What the blocks of tile `n` of batch entry `b` hold. -/
structure Holds (oa ob : Fin 2 → Fin 16384 → Fin 512 → EReal) (xs : Fin 2 → Fin 16384 → Fin 1024 → EReal) (md : Fin 2 → Fin 6144 → EReal)
    (ng : Fin 4 → Fin 1024 → EReal) (w : Fin 1024 → Fin 1024 → EReal) (b : Fin 2) (n : Fin 8)
    (x0 x1 : Vec Ideal S1x2048x512 .bf16) (x2 : Vec Ideal S1024x1024 .bf16) (x3 : Vec Ideal S1x2048x1024 .f32)
    (x4 : Vec Ideal S1x6x1024 .f32) (x5 : Vec Ideal S4x1024 .f32) : Prop where
  left : ∀ (r : Fin 2048) (k : Fin 512), (x0 (ix3 0 r k) : EReal) = oa b ⟨2048 * n.val + r.val, by omega⟩ k
  right : ∀ (r : Fin 2048) (k : Fin 512), (x1 (ix3 0 r k) : EReal) = ob b ⟨2048 * n.val + r.val, by omega⟩ k
  matrix : ∀ k e : Fin 1024, (x2 (ix2 k e) : EReal) = w k e
  stream : ∀ (r : Fin 2048) (k : Fin 1024), (x3 (ix3 0 r k) : EReal) = xs b ⟨2048 * n.val + r.val, by omega⟩ k
  mods : ∀ (j : Fin 6) (k : Fin 1024), (x4 (ix3 0 j k) : EReal) = md b ⟨1024 * j.val + k.val, by omega⟩
  gains : ∀ (j : Fin 4) (k : Fin 1024), (x5 (ix2 j k) : EReal) = ng j k

section Tile

variable {oa ob : Fin 2 → Fin 16384 → Fin 512 → EReal} {xs : Fin 2 → Fin 16384 → Fin 1024 → EReal} {md : Fin 2 → Fin 6144 → EReal}
  {ng : Fin 4 → Fin 1024 → EReal} {w : Fin 1024 → Fin 1024 → EReal} {b : Fin 2} {n : Fin 8}
  {x0 x1 : Vec Ideal S1x2048x512 .bf16} {x2 : Vec Ideal S1024x1024 .bf16} {x3 : Vec Ideal S1x2048x1024 .f32}
  {x4 : Vec Ideal S1x6x1024 .f32} {x5 : Vec Ideal S4x1024 .f32}
  (H : Holds oa ob xs md ng w b n x0 x1 x2 x3 x4 x5)
include H

theorem gain1 : (fun k : Fin 1024 => (ng1 x5 (ix2 0 k) : EReal)) = ng 1 := funext fun k => (ng1_apply x5 k).trans (H.gains 1 k)
theorem scale2 : (fun k : Fin 1024 => (md2 x4 (ix3 0 0 k) : EReal)) = fun k => md b ⟨2048 + k.val, by omega⟩ :=
  funext fun k => (md2_apply x4 k).trans (H.mods 2 k)

theorem prods_apply (o : ℕ) (h : o ≤ 1920) (r : Fin 128) (e : Fin 1024) :
    (prods x0 x1 x2 o h (ix2 r e) : EReal) = Cert.Mlp.proj oa ob w b ⟨2048 * n.val + (o + r.val), by omega⟩ e := by
  unfold prods
  rw [prods_entry]
  simp only [arow_apply, wup_apply, wdn_apply, H.left, H.right, H.matrix]
  rfl

theorem after_apply (o : ℕ) (h : o ≤ 1920) (r : Fin 128) (e : Fin 1024) :
    (k0_pay26 (prods x0 x1 x2 o h) (xrow x3 o h) (md2 x4) (ng1 x5) (ix2 r e) : EReal)
      = Cert.Mlp.after oa ob xs md ng w b ⟨2048 * n.val + (o + r.val), by omega⟩ e := by
  rw [sum_entry, gain1 H, scale2 H, xrow_apply, H.stream]
  exact congrArg (fun y => fin _ y _ _ e) (funext fun e => prods_apply H o h r e)

theorem block_apply (r : Fin 2048) (e : Fin 1024) :
    (sheet (F := Ideal) (e := .f32) (resid x0 x1 x2 x3 x4 x5) (ix3 0 r e) : EReal)
      = Cert.Mlp.after oa ob xs md ng w b ⟨2048 * n.val + r.val, by omega⟩ e := by
  refine sheet_apply _ (fun r e => Cert.Mlp.after oa ob xs md ng w b ⟨2048 * n.val + r.val, by omega⟩ e) (fun o h r e => ?_) r e
  unfold resid
  rw [store_entry, after_apply H]

theorem follow_apply (r : Fin 2048) (e : Fin 1024) :
    (sheet (F := Ideal) (e := .bf16) (nextIn x0 x1 x2 x3 x4 x5) (ix3 0 r e) : EReal)
      = Cert.Mlp.feed oa ob xs md ng w b ⟨2048 * n.val + r.val, by omega⟩ e := by
  refine sheet_apply' _ (fun r e => Cert.Mlp.feed oa ob xs md ng w b ⟨2048 * n.val + r.val, by omega⟩ e) (fun o h r e => ?_) r e
  unfold nextIn
  rw [next_entry, norm_entry, md4_apply, md3_apply, ng2_apply, H.mods, H.mods, H.gains]
  simp only [after_apply H]
  rfl

end Tile

end Cert.Kernel4Ideal.Out

end
-- ==== Proof.Out.Array.lean ====
/- What the region finds in the arrays its windows stage, the windows' blocks entry by entry of the arguments, and the two result
   arrays of the output projection. -/
module

public import proofs.«01_k».proof.Proof.Out.Tile
public import Idealize.ShloMosaic.Lib.IdealHost

@[expose] public section

set_option maxRecDepth 16384

noncomputable section

namespace Cert.Kernel4Ideal.Out

open Cert.Kernel4Ideal Cert.Kernel4Ideal.Gen
open Idealize.ShloMosaic Idealize.ShloMosaic.TcCoe Idealize.ShloMosaic.Tactic
open Idealize.ShloMosaic.Pointwise

variable (m : (ℓ : Loc nD τ sig) → Buf (Elt Ideal) ℓ) (c : Dev nD)

/-- The arguments. -/
abbrev aA : Vec Ideal S2x16384x512 .f32 := m ((c.tc : Thread nD τ).loc main_arg0)
abbrev aB : Vec Ideal S2x16384x512 .f32 := m ((c.tc : Thread nD τ).loc main_arg1)
abbrev aX : Vec Ideal S2x16384x1024 .f32 := m ((c.tc : Thread nD τ).loc main_arg2)
abbrev aMd : Vec Ideal S2x6144 .f32 := m ((c.tc : Thread nD τ).loc main_arg3)
abbrev aNg : Vec Ideal S4x1024 .f32 := m ((c.tc : Thread nD τ).loc main_arg4)
abbrev aW : Vec Ideal S1024x1024 .f32 := m ((c.tc : Thread nD τ).loc main_arg5)

theorem V_left : V m c main_v0 = truncf (F := Ideal) .bf16 (aA m c) bitsLt_bf16_f32 := by
  unfold V; after_results <;> rfl
theorem V_right : V m c main_v1 = truncf (F := Ideal) .bf16 (aB m c) bitsLt_bf16_f32 := by
  unfold V; after_results <;> rfl
theorem V_matrix : V m c main_v2 = truncf (F := Ideal) .bf16 (aW m c) bitsLt_bf16_f32 := by
  unfold V; after_results <;> rfl
theorem V_mod : V m c main_v5 = shapeCast S8x6x1024 (concatenate S8x6144 0 [⟨S2x6144, aMd m c⟩,
    ⟨S6x6144, broadcastInDim S6x6144 ![] bcast_S_S6x6144 (constant (F := Ideal) S_ .f32 0x00000000#32)⟩]
    concatenates_S2x6144_S6x6144_S8x6144_d0) shapeCasts_S8x6144_S8x6x1024 := by
  unfold V; after_results <;> rfl

theorem V_left_apply (b : Fin 2) (l : Fin 16384) (k : Fin 512) :
    (V m c main_v0 : Vec Ideal S2x16384x512 .bf16) (ix3 b l k) = aA m c (ix3 b l k) := by rw [V_left]; rfl
theorem V_right_apply (b : Fin 2) (l : Fin 16384) (k : Fin 512) :
    (V m c main_v1 : Vec Ideal S2x16384x512 .bf16) (ix3 b l k) = aB m c (ix3 b l k) := by rw [V_right]; rfl
theorem V_matrix_apply (k e : Fin 1024) :
    (V m c main_v2 : Vec Ideal S1024x1024 .bf16) (ix2 k e) = aW m c (ix2 k e) := by rw [V_matrix]; rfl
theorem V_mod_apply (b : Fin 2) (j : Fin 6) (k : Fin 1024) :
    (V m c main_v5 : Vec Ideal S8x6x1024 .f32) (ix3 ⟨b.val, by omega⟩ j k) = aMd m c (ix2 b ⟨1024 * j.val + k.val, by omega⟩) := by
  rw [V_mod]
  generalize aMd m c = q
  pointwise []
  simp only [Nat.mul_comm]

theorem index0 : ∀ t : Fin grid0.N, win0_0.index t = ![t.val / 8, t.val % 8, 0] := by decide +kernel
theorem index1 : ∀ t : Fin grid0.N, win0_1.index t = ![t.val / 8, t.val % 8, 0] := by decide +kernel
theorem index2 : ∀ t : Fin grid0.N, win0_2.index t = ![0, 0] := by decide +kernel
theorem index3 : ∀ t : Fin grid0.N, win0_3.index t = ![t.val / 8, t.val % 8, 0] := by decide +kernel
theorem index4 : ∀ t : Fin grid0.N, win0_4.index t = ![t.val / 8, 0, 0] := by decide +kernel
theorem index5 : ∀ t : Fin grid0.N, win0_5.index t = ![0, 0] := by decide +kernel
theorem index6 : ∀ t : Fin grid0.N, win0_6.index t = ![t.val / 8, t.val % 8, 0] := by decide +kernel
theorem index7 : ∀ t : Fin grid0.N, win0_7.index t = ![t.val / 8, t.val % 8, 0] := by decide +kernel

theorem lt_N (t : Fin cfg0.N) : t.val < 16 := lt_of_lt_of_eq t.isLt N_0

/-- The place of grid point `t`: batch entry and tile. -/
abbrev bt (t : Fin cfg0.N) : Fin 2 := ⟨t.val / 8, by have := lt_N t; omega⟩
abbrev nt (t : Fin cfg0.N) : Fin 8 := ⟨t.val % 8, by omega⟩

theorem iblk0_apply (t : Fin cfg0.N) (r : Fin 2048) (k : Fin 512) :
    (iblk m c 0 t : Vec Ideal S1x2048x512 .bf16) (ix3 0 r k) = (V m c main_v0 : Vec Ideal S2x16384x512 .bf16) (ix3 (bt t) ⟨2048 * (t.val % 8) + r.val, by omega⟩ k) := by
  show (V m c main_v0 : Vec Ideal S2x16384x512 .bf16) ((win0_0.rect t).emb (ix3 0 r k)) = _
  refine congrArg _ (funext fun a => Fin.ext ((win0_0.rect_emb_val t _ a).trans ?_))
  rw [index0]
  match a with
  | ⟨0, _⟩ => show t.val / 8 * 1 + 0 = t.val / 8; omega
  | ⟨1, _⟩ => show t.val % 8 * 2048 + r.val = 2048 * (t.val % 8) + r.val; omega
  | ⟨2, _⟩ => show 0 * 512 + k.val = k.val; omega

theorem iblk1_apply (t : Fin cfg0.N) (r : Fin 2048) (k : Fin 512) :
    (iblk m c 1 t : Vec Ideal S1x2048x512 .bf16) (ix3 0 r k) = (V m c main_v1 : Vec Ideal S2x16384x512 .bf16) (ix3 (bt t) ⟨2048 * (t.val % 8) + r.val, by omega⟩ k) := by
  show (V m c main_v1 : Vec Ideal S2x16384x512 .bf16) ((win0_1.rect t).emb (ix3 0 r k)) = _
  refine congrArg _ (funext fun a => Fin.ext ((win0_1.rect_emb_val t _ a).trans ?_))
  rw [index1]
  match a with
  | ⟨0, _⟩ => show t.val / 8 * 1 + 0 = t.val / 8; omega
  | ⟨1, _⟩ => show t.val % 8 * 2048 + r.val = 2048 * (t.val % 8) + r.val; omega
  | ⟨2, _⟩ => show 0 * 512 + k.val = k.val; omega

theorem iblk2_apply (t : Fin cfg0.N) (j : Fin 1024) (k : Fin 1024) :
    (iblk m c 2 t : Vec Ideal S1024x1024 .bf16) (ix2 j k) = (V m c main_v2 : Vec Ideal S1024x1024 .bf16) (ix2 j k) := by
  show (V m c main_v2 : Vec Ideal S1024x1024 .bf16) ((win0_2.rect t).emb (ix2 j k)) = _
  refine congrArg _ (funext fun a => Fin.ext ((win0_2.rect_emb_val t _ a).trans ?_))
  rw [index2]
  match a with
  | ⟨0, _⟩ => show 0 * 1024 + j.val = j.val; omega
  | ⟨1, _⟩ => show 0 * 1024 + k.val = k.val; omega

theorem iblk3_apply (t : Fin cfg0.N) (r : Fin 2048) (k : Fin 1024) :
    (iblk m c 3 t : Vec Ideal S1x2048x1024 .f32) (ix3 0 r k) = (V m c main_arg2 : Vec Ideal S2x16384x1024 .f32) (ix3 (bt t) ⟨2048 * (t.val % 8) + r.val, by omega⟩ k) := by
  show (V m c main_arg2 : Vec Ideal S2x16384x1024 .f32) ((win0_3.rect t).emb (ix3 0 r k)) = _
  refine congrArg _ (funext fun a => Fin.ext ((win0_3.rect_emb_val t _ a).trans ?_))
  rw [index3]
  match a with
  | ⟨0, _⟩ => show t.val / 8 * 1 + 0 = t.val / 8; omega
  | ⟨1, _⟩ => show t.val % 8 * 2048 + r.val = 2048 * (t.val % 8) + r.val; omega
  | ⟨2, _⟩ => show 0 * 1024 + k.val = k.val; omega

theorem iblk4_apply (t : Fin cfg0.N) (j : Fin 6) (k : Fin 1024) :
    (iblk m c 4 t : Vec Ideal S1x6x1024 .f32) (ix3 0 j k) = (V m c main_v5 : Vec Ideal S8x6x1024 .f32) (ix3 ⟨(bt t).val, by omega⟩ j k) := by
  show (V m c main_v5 : Vec Ideal S8x6x1024 .f32) ((win0_4.rect t).emb (ix3 0 j k)) = _
  refine congrArg _ (funext fun a => Fin.ext ((win0_4.rect_emb_val t _ a).trans ?_))
  rw [index4]
  match a with
  | ⟨0, _⟩ => show t.val / 8 * 1 + 0 = t.val / 8; omega
  | ⟨1, _⟩ => show 0 * 6 + j.val = j.val; omega
  | ⟨2, _⟩ => show 0 * 1024 + k.val = k.val; omega

theorem iblk5_apply (t : Fin cfg0.N) (j : Fin 4) (k : Fin 1024) :
    (iblk m c 5 t : Vec Ideal S4x1024 .f32) (ix2 j k) = (V m c main_arg4 : Vec Ideal S4x1024 .f32) (ix2 j k) := by
  show (V m c main_arg4 : Vec Ideal S4x1024 .f32) ((win0_5.rect t).emb (ix2 j k)) = _
  refine congrArg _ (funext fun a => Fin.ext ((win0_5.rect_emb_val t _ a).trans ?_))
  rw [index5]
  match a with
  | ⟨0, _⟩ => show 0 * 4 + j.val = j.val; omega
  | ⟨1, _⟩ => show 0 * 1024 + k.val = k.val; omega

/-- The argument functions. -/
abbrev fA : Fin 2 → Fin 16384 → Fin 512 → EReal := fun b l k => aA m c (ix3 b l k)
abbrev fB : Fin 2 → Fin 16384 → Fin 512 → EReal := fun b l k => aB m c (ix3 b l k)
abbrev fX : Fin 2 → Fin 16384 → Fin 1024 → EReal := fun b l k => aX m c (ix3 b l k)
abbrev fMd : Fin 2 → Fin 6144 → EReal := fun b k => aMd m c (ix2 b k)
abbrev fNg : Fin 4 → Fin 1024 → EReal := fun n k => aNg m c (ix2 n k)
abbrev fW : Fin 1024 → Fin 1024 → EReal := fun k e => aW m c (ix2 k e)

theorem holds (t : Fin cfg0.N) : Holds (fA m c) (fB m c) (fX m c) (fMd m c) (fNg m c) (fW m c) (bt t) (nt t)
    (iblk m c 0 t) (iblk m c 1 t) (iblk m c 2 t) (iblk m c 3 t) (iblk m c 4 t) (iblk m c 5 t) where
  left r k := by rw [iblk0_apply, V_left_apply]
  right r k := by rw [iblk1_apply, V_right_apply]
  matrix k e := by rw [iblk2_apply, V_matrix_apply]
  stream r k := by rw [iblk3_apply, V_main_arg2]
  mods j k := by rw [iblk4_apply, V_mod_apply]
  gains j k := by rw [iblk5_apply, V_main_arg4]

/-- The two results as arrays. -/
def G : Vec Ideal S2x16384x1024 .f32 := fun i => Cert.Mlp.after (fA m c) (fB m c) (fX m c) (fMd m c) (fNg m c) (fW m c) (i 0) (i 1) (i 2)
def G' : Vec Ideal S2x16384x1024 .bf16 := fun i => Cert.Mlp.feed (fA m c) (fB m c) (fX m c) (fMd m c) (fNg m c) (fW m c) (i 0) (i 1) (i 2)

/-- What grid point `t` stores. -/
def outAt (t : Fin cfg0.N) : Vec Ideal S1x2048x1024 .f32 :=
  sheet (F := Ideal) (e := .f32) (resid (iblk m c 0 t) (iblk m c 1 t) (iblk m c 2 t) (iblk m c 3 t) (iblk m c 4 t) (iblk m c 5 t))
def nextAt (t : Fin cfg0.N) : Vec Ideal S1x2048x1024 .bf16 :=
  sheet (F := Ideal) (e := .bf16) (nextIn (iblk m c 0 t) (iblk m c 1 t) (iblk m c 2 t) (iblk m c 3 t) (iblk m c 4 t) (iblk m c 5 t))

theorem outAt_apply (t : Fin cfg0.N) (r : Fin 2048) (e : Fin 1024) :
    (outAt m c t (ix3 0 r e) : EReal) = G m c (ix3 (bt t) ⟨2048 * (nt t).val + r.val, by omega⟩ e) :=
  block_apply (holds m c t) r e
theorem nextAt_apply (t : Fin cfg0.N) (r : Fin 2048) (e : Fin 1024) :
    (nextAt m c t (ix3 0 r e) : EReal) = G' m c (ix3 (bt t) ⟨2048 * (nt t).val + r.val, by omega⟩ e) :=
  follow_apply (holds m c t) r e

theorem outs_eq (t : Fin cfg0.N) : out0_6 (iblk m c 0 t) (iblk m c 1 t) (iblk m c 2 t) (iblk m c 3 t) (iblk m c 4 t) (iblk m c 5 t) = outAt m c t :=
  out_eq ..
theorem nexts_eq (t : Fin cfg0.N) : out0_7 (iblk m c 0 t) (iblk m c 1 t) (iblk m c 2 t) (iblk m c 3 t) (iblk m c 4 t) (iblk m c 5 t) = nextAt m c t :=
  next_eq ..

theorem ix3_eta (x : S1x2048x1024.Idx) : ∃ (r : Fin 2048) (e : Fin 1024), x = ix3 0 r e := by
  refine ⟨x 1, x 2, funext fun a => ?_⟩
  match a with
  | ⟨0, _⟩ => exact Fin.ext (by have h0 : (x 0).val < 1 := (x 0).isLt; show (x 0).val = 0; omega)
  | ⟨1, _⟩ => rfl
  | ⟨2, _⟩ => rfl

/-- Where grid point `t`'s block lies in the array. -/
theorem emb6 (t : Fin cfg0.N) (r : Fin 2048) (e : Fin 1024) :
    ((win0_6.rect t).emb (ix3 0 r e) : S2x16384x1024.Idx) = ix3 (bt t) ⟨2048 * (nt t).val + r.val, by omega⟩ e := by
  refine funext fun a => Fin.ext ((win0_6.rect_emb_val t _ a).trans ?_)
  rw [index6]
  match a with
  | ⟨0, _⟩ => show t.val / 8 * 1 + 0 = t.val / 8; omega
  | ⟨1, _⟩ => show t.val % 8 * 2048 + r.val = 2048 * (t.val % 8) + r.val; omega
  | ⟨2, _⟩ => show 0 * 1024 + e.val = e.val; omega

theorem outAt_G (t : Fin cfg0.N) (x : S1x2048x1024.Idx) (i : S2x16384x1024.Idx) (hi : (win0_6.rect t).emb x = i) :
    (outAt m c t x : EReal) = G m c i := by
  obtain ⟨r, e, rfl⟩ := ix3_eta x
  rw [emb6] at hi
  rw [outAt_apply m c, ← hi]

theorem read6 (t : Fin cfg0.N) (X : Vec Ideal S2x16384x1024 .f32) (x : S1x2048x1024.Idx) :
    ((cfg0.win 6).blk t).view.read (Elt Ideal) X x = X ((win0_6.rect t).emb x) := rfl

theorem flushed_eq (t : Fin cfg0.N) : (dats m 0 c).flushed 6 t = ((cfg0.win 6).blk t).view.read (Elt Ideal) (G m c) := by
  rw [Value.flushed6, outs_eq]
  have h1 : ∀ x : S1x2048x1024.Idx, (cfg0.win 6).cut (grid0.coords t) (outAt m c t) x = outAt m c t x := fun x => rfl
  refine funext fun (x : S1x2048x1024.Idx) => ?_
  exact (h1 x).trans ((outAt_G m c t x _ rfl).trans (read6 t (G m c) x).symm)

theorem cover (i : S2x16384x1024.Idx) : ∃ t : Fin cfg0.N, (cfg0.win 6).flush t = true ∧ i ∈ ((cfg0.win 6).blk t).view.set := by
  have h0 : (i 0).val < 2 := (i 0).isLt
  have h1 : (i 1).val < 16384 := (i 1).isLt
  have h2 : (i 2).val < 1024 := (i 2).isLt
  have hN : cfg0.N = 16 := N_0
  obtain ⟨t, ht⟩ : ∃ t : Fin cfg0.N, t.val = 8 * (i 0).val + (i 1).val / 2048 := ⟨⟨_, by omega⟩, rfl⟩
  refine ⟨t, flush0_6 _, ?_⟩
  have e : ((win0_6.rect t).emb (ix3 0 ⟨(i 1).val % 2048, by omega⟩ ⟨(i 2).val, h2⟩) : S2x16384x1024.Idx) = i := by
    rw [emb6]
    refine funext fun a => ?_
    match a with
    | ⟨0, _⟩ => exact Fin.ext (by show t.val / 8 = (i 0).val; omega)
    | ⟨1, _⟩ => exact Fin.ext (by show 2048 * (t.val % 8) + (i 1).val % 2048 = (i 1).val; omega)
    | ⟨2, _⟩ => rfl
  rw [← e]
  exact ((cfg0.win 6).blk t).view.emb_mem_set (ix3 0 ⟨(i 1).val % 2048, by omega⟩ ⟨(i 2).val, h2⟩ : S1x2048x1024.Idx)

/-- The first result array after the run. -/
theorem arr_eq : (dats m 0 c).arrAt 6 cfg0.N = G m c :=
  (dats m 0 c).arrAt_eq_of_cover 6 (G m c) (fun t _ => flushed_eq m c t) cover

/-- Where grid point `t`'s second block lies in the array. -/
theorem emb7 (t : Fin cfg0.N) (r : Fin 2048) (e : Fin 1024) :
    ((win0_7.rect t).emb (ix3 0 r e) : S2x16384x1024.Idx) = ix3 (bt t) ⟨2048 * (nt t).val + r.val, by omega⟩ e := by
  refine funext fun a => Fin.ext ((win0_7.rect_emb_val t _ a).trans ?_)
  rw [index7]
  match a with
  | ⟨0, _⟩ => show t.val / 8 * 1 + 0 = t.val / 8; omega
  | ⟨1, _⟩ => show t.val % 8 * 2048 + r.val = 2048 * (t.val % 8) + r.val; omega
  | ⟨2, _⟩ => show 0 * 1024 + e.val = e.val; omega

theorem nextAt_image (t : Fin cfg0.N) (x : S1x2048x1024.Idx) (i : S2x16384x1024.Idx) (hi : (win0_7.rect t).emb x = i) :
    (nextAt m c t x : EReal) = G' m c i := by
  obtain ⟨r, e, rfl⟩ := ix3_eta x
  rw [emb7] at hi
  rw [nextAt_apply m c, ← hi]

theorem read7 (t : Fin cfg0.N) (X : Vec Ideal S2x16384x1024 .bf16) (x : S1x2048x1024.Idx) :
    ((cfg0.win 7).blk t).view.read (Elt Ideal) X x = X ((win0_7.rect t).emb x) := rfl

theorem flushed_eq' (t : Fin cfg0.N) : (dats m 0 c).flushed 7 t = ((cfg0.win 7).blk t).view.read (Elt Ideal) (G' m c) := by
  rw [Value.flushed7, nexts_eq]
  have h1 : ∀ x : S1x2048x1024.Idx, (cfg0.win 7).cut (grid0.coords t) (nextAt m c t) x = nextAt m c t x := fun x => rfl
  refine funext fun (x : S1x2048x1024.Idx) => ?_
  exact (h1 x).trans ((nextAt_image m c t x _ rfl).trans (read7 t (G' m c) x).symm)

theorem cover' (i : S2x16384x1024.Idx) : ∃ t : Fin cfg0.N, (cfg0.win 7).flush t = true ∧ i ∈ ((cfg0.win 7).blk t).view.set := by
  have h0 : (i 0).val < 2 := (i 0).isLt
  have h1 : (i 1).val < 16384 := (i 1).isLt
  have h2 : (i 2).val < 1024 := (i 2).isLt
  have hN : cfg0.N = 16 := N_0
  obtain ⟨t, ht⟩ : ∃ t : Fin cfg0.N, t.val = 8 * (i 0).val + (i 1).val / 2048 := ⟨⟨_, by omega⟩, rfl⟩
  refine ⟨t, flush0_7 _, ?_⟩
  have e : ((win0_7.rect t).emb (ix3 0 ⟨(i 1).val % 2048, by omega⟩ ⟨(i 2).val, h2⟩) : S2x16384x1024.Idx) = i := by
    rw [emb7]
    refine funext fun a => ?_
    match a with
    | ⟨0, _⟩ => exact Fin.ext (by show t.val / 8 = (i 0).val; omega)
    | ⟨1, _⟩ => exact Fin.ext (by show 2048 * (t.val % 8) + (i 1).val % 2048 = (i 1).val; omega)
    | ⟨2, _⟩ => rfl
  rw [← e]
  exact ((cfg0.win 7).blk t).view.emb_mem_set (ix3 0 ⟨(i 1).val % 2048, by omega⟩ ⟨(i 2).val, h2⟩ : S1x2048x1024.Idx)

/-- The second result array after the run. -/
theorem arr_eq' : (dats m 0 c).arrAt 7 cfg0.N = G' m c :=
  (dats m 0 c).arrAt_eq_of_cover 7 (G' m c) (fun t _ => flushed_eq' m c t) cover'

end Cert.Kernel4Ideal.Out

end
-- ==== Proof.Out.Ref.lean ====
/- The reference of the output projection, entry by entry. -/
module

public import proofs.«01_k».proof.Proof.Gen.Reference4Ideal.Run
public import proofs.«01_k».proof.Proof.Mlp.Ref
public import proofs.«01_k».proof.Proof.Out.Spec

@[expose] public section

set_option maxRecDepth 16384

noncomputable section

namespace Cert.Reference4Ideal.Out

open Cert.Reference4Ideal Cert.Reference4Ideal.Gen
open Cert.Reference2Ideal.Mlp (rms rms_apply)
open Idealize.ShloMosaic Idealize.ShloMosaic.TcCoe Idealize.ShloMosaic.Pointwise
open Cert.Mlp (rinv hid fin cnt eps one)

/-- The products of both groups of heads, side by side, with the matrix. -/
def prods (oa ob : Vec Ideal S2x16384x512 .f32) (w : Vec Ideal S1024x1024 .f32) : FVec Ideal S2x16384x1024 .f32 :=
  Host.dotGeneral (F := Ideal) (φ₁ := .f32) (φ₂ := .f32) dot_S2x16384x1024_S1024x1024_S2x16384x1024_2_0_01_1_n_n none
    (concatenate S2x16384x1024 2 [⟨S2x16384x512, oa⟩, ⟨S2x16384x512, ob⟩] concatenates_S2x16384x512_S2x16384x512_S2x16384x1024_d2) w

/-- The first result, from the products and their reciprocal root mean squares. -/
def sums (xs ys : FVec Ideal S2x16384x1024 .f32) (r : FVec Ideal S2x16384x1 .f32) (ng : Vec Ideal S4x1024 .f32) (md : Vec Ideal S2x6144 .f32) :
    FVec Ideal S2x16384x1024 .f32 :=
  addf xs (mulf (broadcastInDim S2x16384x1024 ![0, 1, 2] bcast_S2x1x1024_S2x16384x1024_0_1_2
      (extractStridedSlice S2x1x1024 ![0, 0, 2048] (broadcastInDim S2x1x6144 ![0, 2] bcast_S2x6144_S2x1x6144_0_2 md) slices_S2x1x6144_S2x1x1024_0_0_2048))
    (mulf (mulf ys (broadcastInDim S2x16384x1024 ![0, 1, 2] bcast_S2x16384x1_S2x16384x1024_0_1_2 r))
      (broadcastInDim S2x16384x1024 ![0, 1, 2] bcast_S1x1x1024_S2x16384x1024_0_1_2 (broadcastInDim S1x1x1024 ![2] bcast_S1024_S1x1x1024_2
        (shapeCast S1024 (extractStridedSlice S1x1024 ![1, 0] ng slices_S4x1024_S1x1024_1_0) shapeCasts_S1x1024_S1024)))))

/-- The second result, from the first. -/
def nexts (xs : FVec Ideal S2x16384x1024 .f32) (r : FVec Ideal S2x16384x1 .f32) (ng : Vec Ideal S4x1024 .f32) (md : Vec Ideal S2x6144 .f32) :
    FVec Ideal S2x16384x1024 .bf16 :=
  truncf .bf16 (addf (mulf (mulf (mulf xs (broadcastInDim S2x16384x1024 ![0, 1, 2] bcast_S2x16384x1_S2x16384x1024_0_1_2 r))
    (broadcastInDim S2x16384x1024 ![0, 1, 2] bcast_S1x1x1024_S2x16384x1024_0_1_2 (broadcastInDim S1x1x1024 ![2] bcast_S1024_S1x1x1024_2
      (shapeCast S1024 (extractStridedSlice S1x1024 ![2, 0] ng slices_S4x1024_S1x1024_2_0) shapeCasts_S1x1024_S1024))))
    (broadcastInDim S2x16384x1024 ![0, 1, 2] bcast_S2x1x1024_S2x16384x1024_0_1_2
      (addf (broadcastInDim S2x1x1024 ![] bcast_S_S2x1x1024 (constant S_ .f32 0x3F800000#32))
        (extractStridedSlice S2x1x1024 ![0, 0, 4096] (broadcastInDim S2x1x6144 ![0, 2] bcast_S2x6144_S2x1x6144_0_2 md) slices_S2x1x6144_S2x1x1024_0_0_4096))))
    (broadcastInDim S2x16384x1024 ![0, 1, 2] bcast_S2x1x1024_S2x16384x1024_0_1_2
      (extractStridedSlice S2x1x1024 ![0, 0, 3072] (broadcastInDim S2x1x6144 ![0, 2] bcast_S2x6144_S2x1x6144_0_2 md) slices_S2x1x6144_S2x1x1024_0_0_3072))) bitsLt_bf16_f32

variable (oa ob : Vec Ideal S2x16384x512 .f32) (xs ys : FVec Ideal S2x16384x1024 .f32) (r : FVec Ideal S2x16384x1 .f32) (md : Vec Ideal S2x6144 .f32)
  (ng : Vec Ideal S4x1024 .f32) (w : Vec Ideal S1024x1024 .f32) (b : Fin 2) (l : Fin 16384)

theorem prods_apply (e : Fin 1024) : (prods oa ob w (ix3 b l e) : EReal)
    = Cert.Mlp.proj (fun b l k => oa (ix3 b l k)) (fun b l k => ob (ix3 b l k)) (fun k e => w (ix2 k e)) b l e := by
  pointwise [prods, Cert.Mlp.proj]

theorem sums_apply (e : Fin 1024) : (sums xs ys r ng md (ix3 b l e) : EReal)
    = xs (ix3 b l e) + md (ix2 b ⟨2048 + e.val, by omega⟩) * (ys (ix3 b l e) * r (ix3 b l 0) * ng (ix2 1 e)) := by
  pointwise [sums]

theorem nexts_apply (e : Fin 1024) : (nexts xs r ng md (ix3 b l e) : EReal)
    = xs (ix3 b l e) * r (ix3 b l 0) * ng (ix2 2 e) * (one + md (ix2 b ⟨4096 + e.val, by omega⟩)) + md (ix2 b ⟨3072 + e.val, by omega⟩) := by
  pointwise [nexts]

/-- The first result, from the arguments' arrays. -/
def first : FVec Ideal S2x16384x1024 .f32 := sums xs (prods oa ob w) (rms (prods oa ob w)) ng md

theorem first_apply (e : Fin 1024) : (first oa ob xs md ng w (ix3 b l e) : EReal)
    = Cert.Mlp.after (fun b l k => oa (ix3 b l k)) (fun b l k => ob (ix3 b l k)) (fun b l k => xs (ix3 b l k)) (fun b k => md (ix2 b k))
        (fun n k => ng (ix2 n k)) (fun k e => w (ix2 k e)) b l e := by
  have hP := prods_apply oa ob w b l
  unfold first
  generalize prods oa ob w = y at hP ⊢
  rw [sums_apply, rms_apply]
  simp only [hP]
  rfl

theorem second_apply (e : Fin 1024) :
    (nexts (first oa ob xs md ng w) (rms (first oa ob xs md ng w)) ng md (ix3 b l e) : EReal)
    = Cert.Mlp.feed (fun b l k => oa (ix3 b l k)) (fun b l k => ob (ix3 b l k)) (fun b l k => xs (ix3 b l k)) (fun b k => md (ix2 b k))
        (fun n k => ng (ix2 n k)) (fun k e => w (ix2 k e)) b l e := by
  have hF := first_apply oa ob xs md ng w b l
  generalize first oa ob xs md ng w = y at hF ⊢
  rw [nexts_apply, rms_apply]
  simp only [hF]
  rfl

variable (m : (ℓ : Loc nD τ sig) → Buf (Elt Ideal) ℓ) (c : Dev nD)

/-- The arguments. -/
abbrev aA : Vec Ideal S2x16384x512 .f32 := m ((c.tc : Thread nD τ).loc main_arg0)
abbrev aB : Vec Ideal S2x16384x512 .f32 := m ((c.tc : Thread nD τ).loc main_arg1)
abbrev aX : Vec Ideal S2x16384x1024 .f32 := m ((c.tc : Thread nD τ).loc main_arg2)
abbrev aMd : Vec Ideal S2x6144 .f32 := m ((c.tc : Thread nD τ).loc main_arg3)
abbrev aNg : Vec Ideal S4x1024 .f32 := m ((c.tc : Thread nD τ).loc main_arg4)
abbrev aW : Vec Ideal S1024x1024 .f32 := m ((c.tc : Thread nD τ).loc main_arg5)

/-- The results, from the arguments. -/
abbrev firstOf : FVec Ideal S2x16384x1024 .f32 := first (aA m c) (aB m c) (aX m c) (aMd m c) (aNg m c) (aW m c)
abbrev secondOf : FVec Ideal S2x16384x1024 .bf16 :=
  nexts (first (aA m c) (aB m c) (aX m c) (aMd m c) (aNg m c) (aW m c)) (rms (first (aA m c) (aB m c) (aX m c) (aMd m c) (aNg m c) (aW m c))) (aNg m c) (aMd m c)

theorem second_eq : (Value.res_main_v48 m c : FVec Ideal S2x16384x1024 .bf16) = secondOf m c := by
  unfold Value.res_main_v48 secondOf nexts first sums rms prods
  rfl

end Cert.Reference4Ideal.Out

end
-- ==== Proof.Mods.Spec.lean ====
/- The adaptive modulation's parameters as plain mathematics: each row of conditions, its entries weighted by their own sigmoid,
   times the layer's matrix, plus its bias. -/
module

public import proofs.«01_k».proof.Proof.Mlp.Spec

@[expose] public section

noncomputable section

namespace Cert.Mlp

open Idealize.ShloMosaic

/-- An entry weighted by its sigmoid. -/
def weigh (x : EReal) : EReal := Ideal.div x (one + Ideal.exp (-x))

theorem weigh_eq (x : EReal) : x * Ideal.div one (one + Ideal.exp (-x)) = weigh x := by
  have h := gate_eq x 1
  rwa [gate, mul_one, mul_one] at h

/-- The parameters: of layer `l`, row `r` and column `e`. -/
def parms (cs : Fin 8 → Fin 1024 → EReal) (w : Fin 2 → Fin 1024 → Fin 6144 → EReal) (bs : Fin 2 → Fin 6144 → EReal)
    (l : Fin 2) (r : Fin 8) (e : Fin 6144) : EReal := ∑ k, weigh (cs r k) * w l k e + bs l e

end Cert.Mlp

end
-- ==== Proof.Mods.Array.lean ====
/- The modulation's call: the stored block entry by entry of the staged ones, these of the arguments, and the result array. -/
module

public import proofs.«01_k».proof.Proof.Gen.Kernel5Ideal.Frame
public import proofs.«01_k».proof.Proof.Gen.Kernel5Ideal.Value
public import proofs.«01_k».proof.Proof.Mods.Spec
public import Idealize.ShloMosaic.Lib.Pipeline.ValueKit
public import Idealize.ShloMosaic.Lib.Pointwise
public import Idealize.ShloMosaic.Lib.IdealHost

@[expose] public section

set_option maxRecDepth 16384

noncomputable section

namespace Cert.Kernel5Ideal.Mods

open Cert.Kernel5Ideal Cert.Kernel5Ideal.Gen
open Idealize.ShloMosaic Idealize.ShloMosaic.TcCoe Idealize.ShloMosaic.Tactic
open Idealize.ShloMosaic.Pointwise
open Cert.Mlp (weigh one parms)

/-! ## The block -/

section Block

variable (x0 : Vec Ideal S8x1024 .f32) (x1 : Vec Ideal S1x1024x1536 .f32) (x2 : Vec Ideal S1x1x1536 .f32) (r : Fin 8) (e : Fin 1536)

theorem pay_apply : (k0_pay1 x0 x1 x2 (ix3 0 r e) : EReal) = ∑ k : Fin 1024, weigh (x0 (ix2 r k)) * x1 (ix3 0 k e) + x2 (ix3 0 0 e) := by
  pointwise [k0_pay1, weigh]
  simp only [zero_sub]

theorem ix3_eta (x : S1x8x1536.Idx) : ∃ (r : Fin 8) (e : Fin 1536), x = ix3 0 r e := by
  refine ⟨x 1, x 2, funext fun a => ?_⟩
  match a with
  | ⟨0, _⟩ => exact Fin.ext (by have h0 : (x 0).val < 1 := (x 0).isLt; show (x 0).val = 0; omega)
  | ⟨1, _⟩ => rfl
  | ⟨2, _⟩ => rfl

theorem emb_whole : (r0_3.emb (ix3 0 r e) : S1x8x1536.Idx) = ix3 (n0 := 1) (n1 := 8) (n2 := 1536) 0 r e :=
  funext fun a => Fin.ext ((Rect.idx_unit_val (s := S1x8x1536) ![0, 0, 0] S1x8x1536.size inb_S1x8x1536_S1x8x1536_0_0_0 _ a).trans (match a with
    | ⟨0, _⟩ => rfl
    | ⟨1, _⟩ => Nat.zero_add _
    | ⟨2, _⟩ => Nat.zero_add _))

theorem ld0_apply (k : Fin 1024) : View.ld (Val := Elt Ideal) (e' := .f32) x0 r0_0 (ix2 r k) = x0 (ix2 r k) :=
  View.ld_unit_apply_of _ _ _ _ _ (ix2 r k) fun a => match a with | ⟨0, _⟩ => (Nat.zero_add _).symm | ⟨1, _⟩ => (Nat.zero_add _).symm
theorem ld1_apply (k : Fin 1024) : View.ld (Val := Elt Ideal) (e' := .f32) x1 r0_1 (ix3 0 k e) = x1 (ix3 0 k e) :=
  View.ld_unit_apply_of _ _ _ _ _ (ix3 0 k e) fun a => match a with | ⟨0, _⟩ => rfl | ⟨1, _⟩ => (Nat.zero_add _).symm | ⟨2, _⟩ => (Nat.zero_add _).symm
theorem ld2_apply : View.ld (Val := Elt Ideal) (e' := .f32) x2 r0_2 (ix3 0 0 e) = x2 (ix3 0 0 e) :=
  View.ld_unit_apply_of _ _ _ _ _ (ix3 0 0 e) fun a => match a with | ⟨0, _⟩ => rfl | ⟨1, _⟩ => rfl | ⟨2, _⟩ => (Nat.zero_add _).symm

/-- The stored block, entry by entry. -/
theorem out_apply : (out0_3 x0 x1 x2 (ix3 0 r e) : EReal) = ∑ k : Fin 1024, weigh (x0 (ix2 r k)) * x1 (ix3 0 k e) + x2 (ix3 0 0 e) := by
  refine View.canon_apply_of_pieces (Val := Elt Ideal)
    (fun y : S1x8x1536.Idx => ∑ k : Fin 1024, weigh (x0 (ix2 (y 1) k)) * x1 (ix3 0 k (y 2)) + x2 (ix3 0 0 (y 2))) _ ?_ (ix3 0 r e) (cover0_3 _ _)
  intro q hq
  obtain rfl := List.mem_singleton.1 hq
  intro j
  obtain ⟨r, e, rfl⟩ := ix3_eta j
  rw [emb_whole]
  refine (pay_apply _ _ _ r e).trans ?_
  exact congrArg₂ (· + ·) (Finset.sum_congr rfl fun k _ => congrArg₂ (· * ·) (congrArg weigh (ld0_apply x0 r k)) (ld1_apply x1 e k)) (ld2_apply x2 e)

end Block

/-! ## The staged arrays -/

variable (m : (ℓ : Loc nD τ sig) → Buf (Elt Ideal) ℓ) (c : Dev nD)

/-- The arguments. -/
abbrev aC : Vec Ideal S8x1024 .f32 := m ((c.tc : Thread nD τ).loc main_arg0)
abbrev aW : Vec Ideal S2x1024x6144 .f32 := m ((c.tc : Thread nD τ).loc main_arg1)
abbrev aB : Vec Ideal S2x6144 .f32 := m ((c.tc : Thread nD τ).loc main_arg2)

theorem V_bias : V m c main_v0 = shapeCast S2x1x6144 (aB m c) shapeCasts_S2x6144_S2x1x6144 := by
  unfold V; after_results <;> rfl

theorem V_bias_apply (l : Fin 2) (e : Fin 6144) :
    (V m c main_v0 : Vec Ideal S2x1x6144 .f32) (ix3 l 0 e) = aB m c (ix2 l e) := by
  rw [V_bias]
  generalize aB m c = q
  pointwise []

theorem index0 : ∀ t : Fin grid0.N, win0_0.index t = ![0, 0] := by decide +kernel
theorem index1 : ∀ t : Fin grid0.N, win0_1.index t = ![t.val / 4, 0, t.val % 4] := by decide +kernel
theorem index2 : ∀ t : Fin grid0.N, win0_2.index t = ![t.val / 4, 0, t.val % 4] := by decide +kernel
theorem index3 : ∀ t : Fin grid0.N, win0_3.index t = ![t.val / 4, 0, t.val % 4] := by decide +kernel

theorem lt_N (t : Fin cfg0.N) : t.val < 8 := lt_of_lt_of_eq t.isLt N_0

/-- The place of grid point `t`: the layer, and where its columns lie. -/
abbrev lt (t : Fin cfg0.N) : Fin 2 := ⟨t.val / 4, by have := lt_N t; omega⟩
abbrev col (t : Fin cfg0.N) (e : Fin 1536) : Fin 6144 := ⟨1536 * (t.val % 4) + e.val, by omega⟩

theorem iblk0_apply (t : Fin cfg0.N) (r : Fin 8) (k : Fin 1024) :
    (iblk m c 0 t : Vec Ideal S8x1024 .f32) (ix2 r k) = aC m c (ix2 r k) := by
  unfold aC; rw [← V_main_arg0 m c]
  show (V m c main_arg0 : Vec Ideal S8x1024 .f32) ((win0_0.rect t).emb (ix2 r k)) = _
  refine congrArg _ (funext fun a => Fin.ext ((win0_0.rect_emb_val t _ a).trans ?_))
  rw [index0]
  match a with
  | ⟨0, _⟩ => show 0 * 8 + r.val = r.val; omega
  | ⟨1, _⟩ => show 0 * 1024 + k.val = k.val; omega

theorem iblk1_apply (t : Fin cfg0.N) (k : Fin 1024) (e : Fin 1536) :
    (iblk m c 1 t : Vec Ideal S1x1024x1536 .f32) (ix3 0 k e) = aW m c (ix3 (lt t) k (col t e)) := by
  unfold aW; rw [← V_main_arg1 m c]
  show (V m c main_arg1 : Vec Ideal S2x1024x6144 .f32) ((win0_1.rect t).emb (ix3 0 k e)) = _
  refine congrArg _ (funext fun a => Fin.ext ((win0_1.rect_emb_val t _ a).trans ?_))
  rw [index1]
  match a with
  | ⟨0, _⟩ => show t.val / 4 * 1 + 0 = t.val / 4; omega
  | ⟨1, _⟩ => show 0 * 1024 + k.val = k.val; omega
  | ⟨2, _⟩ => show t.val % 4 * 1536 + e.val = 1536 * (t.val % 4) + e.val; omega

theorem iblk2_apply (t : Fin cfg0.N) (e : Fin 1536) :
    (iblk m c 2 t : Vec Ideal S1x1x1536 .f32) (ix3 0 0 e) = aB m c (ix2 (lt t) (col t e)) := by
  rw [← V_bias_apply m c]
  show (V m c main_v0 : Vec Ideal S2x1x6144 .f32) ((win0_2.rect t).emb (ix3 0 0 e)) = _
  refine congrArg _ (funext fun a => Fin.ext ((win0_2.rect_emb_val t _ a).trans ?_))
  rw [index2]
  match a with
  | ⟨0, _⟩ => show t.val / 4 * 1 + 0 = t.val / 4; omega
  | ⟨1, _⟩ => rfl
  | ⟨2, _⟩ => show t.val % 4 * 1536 + e.val = 1536 * (t.val % 4) + e.val; omega

/-- The argument functions. -/
abbrev fC : Fin 8 → Fin 1024 → EReal := fun r k => aC m c (ix2 r k)
abbrev fW : Fin 2 → Fin 1024 → Fin 6144 → EReal := fun l k e => aW m c (ix3 l k e)
abbrev fB : Fin 2 → Fin 6144 → EReal := fun l e => aB m c (ix2 l e)

/-- The result as an array. -/
def G : Vec Ideal S2x8x6144 .f32 := fun i => parms (fC m c) (fW m c) (fB m c) (i 0) (i 1) (i 2)

/-- What grid point `t` stores. -/
def outAt (t : Fin cfg0.N) : Vec Ideal S1x8x1536 .f32 := out0_3 (iblk m c 0 t) (iblk m c 1 t) (iblk m c 2 t)

theorem outAt_apply (t : Fin cfg0.N) (r : Fin 8) (e : Fin 1536) :
    (outAt m c t (ix3 0 r e) : EReal) = G m c (ix3 (lt t) r (col t e)) := by
  refine (out_apply _ _ _ r e).trans ?_
  exact congrArg₂ (· + ·) (Finset.sum_congr rfl fun k _ => congrArg₂ (· * ·) (congrArg weigh (iblk0_apply m c t r k)) (iblk1_apply m c t k e)) (iblk2_apply m c t e)

/-! ## The result array -/

/-- Where grid point `t`'s block lies in the array. -/
theorem emb3 (t : Fin cfg0.N) (r : Fin 8) (e : Fin 1536) :
    ((win0_3.rect t).emb (ix3 0 r e) : S2x8x6144.Idx) = ix3 (lt t) r (col t e) := by
  refine funext fun a => Fin.ext ((win0_3.rect_emb_val t _ a).trans ?_)
  rw [index3]
  match a with
  | ⟨0, _⟩ => show t.val / 4 * 1 + 0 = t.val / 4; omega
  | ⟨1, _⟩ => show 0 * 8 + r.val = r.val; omega
  | ⟨2, _⟩ => show t.val % 4 * 1536 + e.val = 1536 * (t.val % 4) + e.val; omega

theorem outAt_G (t : Fin cfg0.N) (x : S1x8x1536.Idx) (i : S2x8x6144.Idx) (hi : (win0_3.rect t).emb x = i) :
    (outAt m c t x : EReal) = G m c i := by
  obtain ⟨r, e, rfl⟩ := ix3_eta x
  rw [emb3] at hi
  rw [outAt_apply m c, ← hi]

theorem read3 (t : Fin cfg0.N) (X : Vec Ideal S2x8x6144 .f32) (x : S1x8x1536.Idx) :
    ((cfg0.win 3).blk t).view.read (Elt Ideal) X x = X ((win0_3.rect t).emb x) := rfl

theorem flushed_eq (t : Fin cfg0.N) : (dats m 0 c).flushed 3 t = ((cfg0.win 3).blk t).view.read (Elt Ideal) (G m c) := by
  rw [Value.flushed3]
  have h1 : ∀ x : S1x8x1536.Idx, (cfg0.win 3).cut (grid0.coords t) (outAt m c t) x = outAt m c t x := fun x => rfl
  refine funext fun (x : S1x8x1536.Idx) => ?_
  exact (h1 x).trans ((outAt_G m c t x _ rfl).trans (read3 t (G m c) x).symm)

theorem cover (i : S2x8x6144.Idx) : ∃ t : Fin cfg0.N, (cfg0.win 3).flush t = true ∧ i ∈ ((cfg0.win 3).blk t).view.set := by
  have h0 : (i 0).val < 2 := (i 0).isLt
  have h1 : (i 1).val < 8 := (i 1).isLt
  have h2 : (i 2).val < 6144 := (i 2).isLt
  have hN : cfg0.N = 8 := N_0
  obtain ⟨t, ht⟩ : ∃ t : Fin cfg0.N, t.val = 4 * (i 0).val + (i 2).val / 1536 := ⟨⟨_, by omega⟩, rfl⟩
  refine ⟨t, flush0_3 _, ?_⟩
  have e : ((win0_3.rect t).emb (ix3 0 ⟨(i 1).val, h1⟩ ⟨(i 2).val % 1536, by omega⟩) : S2x8x6144.Idx) = i := by
    rw [emb3]
    refine funext fun a => ?_
    match a with
    | ⟨0, _⟩ => exact Fin.ext (by show t.val / 4 = (i 0).val; omega)
    | ⟨1, _⟩ => rfl
    | ⟨2, _⟩ => exact Fin.ext (by show 1536 * (t.val % 4) + (i 2).val % 1536 = (i 2).val; omega)
  rw [← e]
  exact ((cfg0.win 3).blk t).view.emb_mem_set (ix3 0 ⟨(i 1).val, h1⟩ ⟨(i 2).val % 1536, by omega⟩ : S1x8x1536.Idx)

/-- The result array after the run. -/
theorem arr_eq : (dats m 0 c).arrAt 3 cfg0.N = G m c :=
  (dats m 0 c).arrAt_eq_of_cover 3 (G m c) (fun t _ => flushed_eq m c t) cover

end Cert.Kernel5Ideal.Mods

end
-- ==== Proof.Mods.Ref.lean ====
/- The reference of the adaptive modulation's parameters, entry by entry. -/
module

public import proofs.«01_k».proof.Proof.Gen.Reference5Ideal.Run
public import proofs.«01_k».proof.Proof.Mods.Spec

@[expose] public section

set_option maxRecDepth 16384

noncomputable section

namespace Cert.Reference5Ideal.Mods

open Cert.Reference5Ideal Cert.Reference5Ideal.Gen
open Idealize.ShloMosaic Idealize.ShloMosaic.TcCoe Idealize.ShloMosaic.Pointwise
open Cert.Mlp (weigh weigh_eq one parms)

/-- The conditions, weighted by their sigmoids. -/
def acts (cs : Vec Ideal S8x1024 .f32) : FVec Ideal S8x1024 .f32 :=
  mulf cs (Host.divf (broadcastInDim S8x1024 ![] bcast_S_S8x1024 (constant S_ .f32 0x3F800000#32))
    (addf (broadcastInDim S8x1024 ![] bcast_S_S8x1024 (constant S_ .f32 0x3F800000#32)) (Host.exp (Host.negf cs))))

/-- A layer's parameters, from its matrix and its bias. -/
def layer (a : FVec Ideal S8x1024 .f32) (w : FVec Ideal S1x1024x6144 .f32) (bs : FVec Ideal S1x6144 .f32) : FVec Ideal S1x8x6144 .f32 :=
  broadcastInDim S1x8x6144 ![1, 2] bcast_S8x6144_S1x8x6144_1_2
    (addf (Host.dotGeneral (F := Ideal) (φ₁ := .f32) (φ₂ := .f32) dot_S8x1024_S1024x6144_S8x6144_1_0_0_1_n_n none a
        (shapeCast S1024x6144 w shapeCasts_S1x1024x6144_S1024x6144))
      (broadcastInDim S8x6144 ![0, 1] bcast_S1x6144_S8x6144_0_1 (broadcastInDim S1x6144 ![1] bcast_S6144_S1x6144_1
        (shapeCast S6144 bs shapeCasts_S1x6144_S6144))))

/-- Both layers' parameters. -/
def both (cs : Vec Ideal S8x1024 .f32) (w : Vec Ideal S2x1024x6144 .f32) (bs : Vec Ideal S2x6144 .f32) : FVec Ideal S2x8x6144 .f32 :=
  concatenate S2x8x6144 0 [
    ⟨S1x8x6144, layer (acts cs) (extractStridedSlice S1x1024x6144 ![0, 0, 0] w slices_S2x1024x6144_S1x1024x6144_0_0_0)
      (extractStridedSlice S1x6144 ![0, 0] bs slices_S2x6144_S1x6144_0_0)⟩,
    ⟨S1x8x6144, layer (acts cs) (extractStridedSlice S1x1024x6144 ![1, 0, 0] w slices_S2x1024x6144_S1x1024x6144_1_0_0)
      (extractStridedSlice S1x6144 ![1, 0] bs slices_S2x6144_S1x6144_1_0)⟩]
    concatenates_S1x8x6144_S1x8x6144_S2x8x6144_d0

variable (cs : Vec Ideal S8x1024 .f32) (w : Vec Ideal S2x1024x6144 .f32) (bs : Vec Ideal S2x6144 .f32)

theorem acts_apply (r : Fin 8) (k : Fin 1024) : (acts cs (ix2 r k) : EReal) = weigh (cs (ix2 r k)) := by
  have h : (acts cs (ix2 r k) : EReal) = cs (ix2 r k) * Ideal.div one (one + Ideal.exp (-(cs (ix2 r k)))) := by
    pointwise [acts]
  rw [h, weigh_eq]

theorem layer_apply (a : FVec Ideal S8x1024 .f32) (u : FVec Ideal S1x1024x6144 .f32) (v : FVec Ideal S1x6144 .f32) (r : Fin 8) (e : Fin 6144) :
    (layer a u v (ix3 0 r e) : EReal) = ∑ k : Fin 1024, a (ix2 r k) * u (ix3 0 k e) + v (ix2 0 e) := by
  pointwise [layer]

theorem join_zero (p q : FVec Ideal S1x8x6144 .f32) (r : Fin 8) (e : Fin 6144) :
    (concatenate S2x8x6144 0 [⟨S1x8x6144, p⟩, ⟨S1x8x6144, q⟩] concatenates_S1x8x6144_S1x8x6144_S2x8x6144_d0 (ix3 0 r e) : EReal) = p (ix3 0 r e) := by
  pointwise []
theorem join_one (p q : FVec Ideal S1x8x6144 .f32) (r : Fin 8) (e : Fin 6144) :
    (concatenate S2x8x6144 0 [⟨S1x8x6144, p⟩, ⟨S1x8x6144, q⟩] concatenates_S1x8x6144_S1x8x6144_S2x8x6144_d0 (ix3 1 r e) : EReal) = q (ix3 0 r e) := by
  pointwise []

theorem mat_zero (k : Fin 1024) (e : Fin 6144) :
    (extractStridedSlice S1x1024x6144 ![0, 0, 0] w slices_S2x1024x6144_S1x1024x6144_0_0_0 (ix3 0 k e) : EReal) = w (ix3 0 k e) := by
  pointwise []
theorem mat_one (k : Fin 1024) (e : Fin 6144) :
    (extractStridedSlice S1x1024x6144 ![1, 0, 0] w slices_S2x1024x6144_S1x1024x6144_1_0_0 (ix3 0 k e) : EReal) = w (ix3 1 k e) := by
  pointwise []
theorem bias_zero (e : Fin 6144) :
    (extractStridedSlice S1x6144 ![0, 0] bs slices_S2x6144_S1x6144_0_0 (ix2 0 e) : EReal) = bs (ix2 0 e) := by
  pointwise []
theorem bias_one (e : Fin 6144) :
    (extractStridedSlice S1x6144 ![1, 0] bs slices_S2x6144_S1x6144_1_0 (ix2 0 e) : EReal) = bs (ix2 1 e) := by
  pointwise []

theorem both_apply (l : Fin 2) (r : Fin 8) (e : Fin 6144) : (both cs w bs (ix3 l r e) : EReal)
    = parms (fun r k => cs (ix2 r k)) (fun l k e => w (ix3 l k e)) (fun l e => bs (ix2 l e)) l r e := by
  unfold both parms
  match l with
  | ⟨0, _⟩ =>
    refine (join_zero _ _ r e).trans ((layer_apply _ _ _ r e).trans ?_)
    simp only [acts_apply, mat_zero, bias_zero]
    rfl
  | ⟨1, _⟩ =>
    refine (join_one _ _ r e).trans ((layer_apply _ _ _ r e).trans ?_)
    simp only [acts_apply, mat_one, bias_one]
    rfl

variable (m : (ℓ : Loc nD τ sig) → Buf (Elt Ideal) ℓ) (c : Dev nD)

/-- The arguments. -/
abbrev aC : Vec Ideal S8x1024 .f32 := m ((c.tc : Thread nD τ).loc main_arg0)
abbrev aW : Vec Ideal S2x1024x6144 .f32 := m ((c.tc : Thread nD τ).loc main_arg1)
abbrev aB : Vec Ideal S2x6144 .f32 := m ((c.tc : Thread nD τ).loc main_arg2)

/-- The result, from the arguments. -/
abbrev res : FVec Ideal S2x8x6144 .f32 := both (aC m c) (aW m c) (aB m c)

end Cert.Reference5Ideal.Mods

end
-- ==== Proof.Mix.Run.lean ====
/- The body of the Fourier mixing's second half: from its seven input blocks to the block it stores, as a term over the named operations.

   The body takes sixteen inner frequencies, two at a time. Its operations are written out once per pair; each pair's operations are the
   same, so they are all stated here by those of the first. -/
module

public import proofs.«01_k».proof.Proof.Gen.Kernel6Ideal.Frame
public import proofs.«01_k».proof.Proof.Gen.Kernel6Ideal.Value
public import Idealize.ShloMosaic.Lib.Pipeline.ValueKit

@[expose] public section

set_option maxRecDepth 16384

noncomputable section

namespace Cert.Kernel6Ideal.Mix

open Cert.Kernel6Ideal Cert.Kernel6Ideal.Gen
open Idealize.ShloMosaic Idealize.ShloMosaic.TcCoe Idealize.ShloMosaic.Tactic

variable {F : FTy → Type} [FloatOps F]

theorem inbZ (o : ℕ) (h : o ≤ 15) : ∀ a, (![0, o, 0, 0] : Fin 4 → ℕ) a + S1x1x128x1024.size a ≤ S1x16x128x1024.size a := fun a =>
  match a with
  | ⟨0, _⟩ => by show 0 + 1 ≤ 1; omega
  | ⟨1, _⟩ => by show o + 1 ≤ 16; omega
  | ⟨2, _⟩ => by show 0 + 128 ≤ 128; omega
  | ⟨3, _⟩ => by show 0 + 1024 ≤ 1024; omega

theorem inbS (l : ℕ) (h : l ≤ 15360) : ∀ a, (![0, 0, l] : Fin 3 → ℕ) a + S1x128x1024.size a ≤ S1x128x16384.size a := fun a =>
  match a with
  | ⟨0, _⟩ => by show 0 + 1 ≤ 1; omega
  | ⟨1, _⟩ => by show 0 + 128 ≤ 128; omega
  | ⟨2, _⟩ => by show l + 1024 ≤ 16384; omega

/-- The partial transforms at inner frequency `o` of the block. -/
def zrow (x : Vec F S1x16x128x1024 .bf16) (o : ℕ) (h : o ≤ 15) : Vec F S1x1x128x1024 .bf16 :=
  View.ld (Val := Elt F) (e' := .bf16) x (Rect.unit (s := S1x16x128x1024) ![0, o, 0, 0] S1x1x128x1024.size (inbZ o h))

/-- A table, the matrix, a row of the modulation and of the gains. -/
def tab (x : Vec F S128x128 .bf16) : Vec F S128x128 .bf16 := View.ld (Val := Elt F) (e' := .bf16) x (Rect.unit (s := S128x128) ![0, 0] S128x128.size inb_S128x128_S128x128_0_0)
def mat (x : Vec F S1024x1024 .bf16) : Vec F S1024x1024 .bf16 := View.ld (Val := Elt F) (e' := .bf16) x (Rect.unit (s := S1024x1024) ![0, 0] S1024x1024.size inb_S1024x1024_S1024x1024_0_0)
def md2 (x : Vec F S1x6x1024 .f32) : Vec F S1x1x1024 .f32 := View.ld (Val := Elt F) (e' := .f32) x (Rect.unit (s := S1x6x1024) ![0, 2, 0] S1x1x1024.size inb_S1x6x1024_S1x1x1024_0_2_0)
def ng1 (x : Vec F S4x1024 .f32) : Vec F S1x1024 .f32 := View.ld (Val := Elt F) (e' := .f32) x (Rect.unit (s := S4x1024) ![1, 0] S1x1024.size inb_S4x1024_S1x1024_1_0)

/-- A block stored in sixteen groups of 1024 columns: of each pair of inner frequencies the first's, then the second's. -/
def sheetL (lo hi : (o : ℕ) → o ≤ 14 → Vec F S1x128x1024 .bf16) : List (View.Piece (Elt F) S1x128x16384 .bf16) :=
  [⟨Rect.unit ![0, 0, 15360] S1x128x1024.size (inbS 15360 (by omega)), hi 14 (by omega)⟩,
   ⟨Rect.unit ![0, 0, 14336] S1x128x1024.size (inbS 14336 (by omega)), lo 14 (by omega)⟩,
   ⟨Rect.unit ![0, 0, 13312] S1x128x1024.size (inbS 13312 (by omega)), hi 12 (by omega)⟩,
   ⟨Rect.unit ![0, 0, 12288] S1x128x1024.size (inbS 12288 (by omega)), lo 12 (by omega)⟩,
   ⟨Rect.unit ![0, 0, 11264] S1x128x1024.size (inbS 11264 (by omega)), hi 10 (by omega)⟩,
   ⟨Rect.unit ![0, 0, 10240] S1x128x1024.size (inbS 10240 (by omega)), lo 10 (by omega)⟩,
   ⟨Rect.unit ![0, 0, 9216] S1x128x1024.size (inbS 9216 (by omega)), hi 8 (by omega)⟩,
   ⟨Rect.unit ![0, 0, 8192] S1x128x1024.size (inbS 8192 (by omega)), lo 8 (by omega)⟩,
   ⟨Rect.unit ![0, 0, 7168] S1x128x1024.size (inbS 7168 (by omega)), hi 6 (by omega)⟩,
   ⟨Rect.unit ![0, 0, 6144] S1x128x1024.size (inbS 6144 (by omega)), lo 6 (by omega)⟩,
   ⟨Rect.unit ![0, 0, 5120] S1x128x1024.size (inbS 5120 (by omega)), hi 4 (by omega)⟩,
   ⟨Rect.unit ![0, 0, 4096] S1x128x1024.size (inbS 4096 (by omega)), lo 4 (by omega)⟩,
   ⟨Rect.unit ![0, 0, 3072] S1x128x1024.size (inbS 3072 (by omega)), hi 2 (by omega)⟩,
   ⟨Rect.unit ![0, 0, 2048] S1x128x1024.size (inbS 2048 (by omega)), lo 2 (by omega)⟩,
   ⟨Rect.unit ![0, 0, 1024] S1x128x1024.size (inbS 1024 (by omega)), hi 0 (by omega)⟩,
   ⟨Rect.unit ![0, 0, 0] S1x128x1024.size (inbS 0 (by omega)), lo 0 (by omega)⟩]
def sheet (lo hi : (o : ℕ) → o ≤ 14 → Vec F S1x128x1024 .bf16) : Vec F S1x128x16384 .bf16 := View.canon (sheetL lo hi)

theorem cover_sheet (lo hi : (o : ℕ) → o ≤ 14 → Vec F S1x128x1024 .bf16) (y : S1x128x16384.Idx) : ∃ q ∈ sheetL lo hi, y ∈ q.1.set :=
  View.cover_of_tiledL (sheetL lo hi) S1x128x1024.size (by sl_kernel_rfl) y

section Body

variable (x0 x1 : Vec F S1x16x128x1024 .bf16) (x2 x3 : Vec F S128x128 .bf16) (x4 : Vec F S1024x1024 .bf16) (x5 : Vec F S1x6x1024 .f32) (x6 : Vec F S4x1024 .f32)

/-- The transform's 128 rows at inner frequency `o`. -/
def trans (o : ℕ) (h : o ≤ 15) : FVec F S128x1024 .bf16 := k0_pay4 (tab x2) (tab x3) (zrow x0 o h) (zrow x1 o h)

/-- The products of the rows at inner frequencies `o` and `o + 1`. -/
def pair (o : ℕ) (h : o ≤ 14) : FVec F S256x1024 .f32 :=
  k0_pay26 (k0_pay25 (trans x0 x1 x2 x3 o (by omega)) (trans x0 x1 x2 x3 (o + 1) (by omega))) (mat x4)

/-- What is stored of a pair. -/
def fst (o : ℕ) (h : o ≤ 14) : Vec F S1x128x1024 .bf16 :=
  k0_pay36 (extractStridedSlice S128x1024 ![0, 0] (pair x0 x1 x2 x3 x4 o h) slices_S256x1024_o0_0_S128x1024) (k0_pay35 (md2 x5)) (ng1 x6)
def snd (o : ℕ) (h : o ≤ 14) : Vec F S1x128x1024 .bf16 :=
  k0_pay36 (extractStridedSlice S128x1024 ![128, 0] (pair x0 x1 x2 x3 x4 o h) slices_S256x1024_o128_0_S128x1024) (k0_pay35 (md2 x5)) (ng1 x6)

theorem out_eq : out0_7 x0 x1 x2 x3 x4 x5 x6 = sheet (F := F) (fst x0 x1 x2 x3 x4 x5 x6) (snd x0 x1 x2 x3 x4 x5 x6) := rfl

end Body

end Cert.Kernel6Ideal.Mix

end
-- ==== Proof.Mix.Spec.lean ====
/- The second half of the Fourier mixing as plain mathematics: the transform over the outer position index, the linear map, and the
   gated, normalized branch. -/
module

public import proofs.«01_k».proof.Proof.Mlp.Spec

@[expose] public section

noncomputable section

namespace Cert.Mlp

variable (zr zi : Fin 2 → Fin 128 → Fin 128 → Fin 1024 → EReal) (c2 s2 : Fin 128 → Fin 128 → EReal) (w : Fin 1024 → Fin 1024 → EReal)
  (md : Fin 2 → Fin 6144 → EReal) (ng : Fin 4 → Fin 1024 → EReal)

/-- The real part of the transform at frequency `128 * i + k`, from the partial transforms at inner frequency `k`. -/
def fourier (b : Fin 2) (i k : Fin 128) (d : Fin 1024) : EReal := ∑ j, c2 i j * zr b k j d + ∑ j, s2 i j * zi b k j d

/-- Its products with the matrix. -/
def mixed (b : Fin 2) (i k : Fin 128) (e : Fin 1024) : EReal := ∑ d, fourier zr zi c2 s2 b i k d * w d e

/-- A normalized row, scaled by its gains and gated. -/
def gated (y g s : Fin 1024 → EReal) (e : Fin 1024) : EReal := s e * (y e * rinv y * g e)

/-- The mixer's branch. -/
def branch (b : Fin 2) (i k : Fin 128) (e : Fin 1024) : EReal :=
  gated (mixed zr zi c2 s2 w b i k) (ng 1) (fun e => md b ⟨2048 + e.val, by omega⟩) e

end Cert.Mlp

end
-- ==== Proof.Mix.Tile.lean ====
/- One tile of the Fourier mixing's second half: the body's operations entry by entry, and, if its seven blocks hold the inner
   frequencies' group `n` of the arguments, what the block it stores holds. -/
module

public import proofs.«01_k».proof.Proof.Mix.Run
public import proofs.«01_k».proof.Proof.Mix.Spec
public import Idealize.ShloMosaic.Lib.Pointwise
public import Idealize.ShloMosaic.Lib.IdealHost

@[expose] public section

set_option maxRecDepth 16384

noncomputable section

namespace Cert.Kernel6Ideal.Mix

open Cert.Kernel6Ideal Cert.Kernel6Ideal.Gen
open Idealize.ShloMosaic Idealize.ShloMosaic.TcCoe Idealize.ShloMosaic.Pointwise
open Cert.Mlp (rinv cnt eps one gated)

/-! ## The operations -/

section Ops

variable (r : Fin 128) (e : Fin 1024)

theorem trans_entry (u v : Vec Ideal S128x128 .bf16) (a b : Vec Ideal S1x1x128x1024 .bf16) :
    (k0_pay4 u v a b (ix2 r e) : EReal) = ∑ j : Fin 128, u (ix2 r j) * a (ix4 0 0 j e) + ∑ j : Fin 128, v (ix2 r j) * b (ix4 0 0 j e) := by
  pointwise [k0_pay4, k0_pay2, k0_pay3]

theorem prods_entry (p : FVec Ideal S256x1024 .bf16) (w : Vec Ideal S1024x1024 .bf16) (q : Fin 256) :
    (k0_pay26 p w (ix2 q e) : EReal) = ∑ d : Fin 1024, p (ix2 q d) * w (ix2 d e) := by
  pointwise [k0_pay26]

theorem upper_entry (a b : FVec Ideal S128x1024 .bf16) : (k0_pay25 a b (ix2 ⟨r.val, by omega⟩ e) : EReal) = a (ix2 r e) := by
  pointwise [k0_pay25]

theorem lower_entry (a b : FVec Ideal S128x1024 .bf16) : (k0_pay25 a b (ix2 ⟨128 + r.val, by omega⟩ e) : EReal) = b (ix2 r e) := by
  pointwise [k0_pay25]

theorem gated_entry (y : FVec Ideal S128x1024 .f32) (s : Vec Ideal S1x1x1024 .f32) (g : Vec Ideal S1x1024 .f32) :
    (k0_pay36 y (k0_pay35 s) g (ix3 0 r e) : EReal) = gated (fun e => y (ix2 r e)) (fun k => g (ix2 0 k)) (fun k => s (ix3 0 0 k)) e := by
  pointwise [k0_pay36, k0_pay35, gated, rinv]

theorem slice_up (y : FVec Ideal S256x1024 .f32) :
    (extractStridedSlice S128x1024 ![0, 0] y slices_S256x1024_o0_0_S128x1024 (ix2 r e) : EReal) = y (ix2 ⟨r.val, by omega⟩ e) := by
  pointwise []

theorem slice_dn (y : FVec Ideal S256x1024 .f32) :
    (extractStridedSlice S128x1024 ![128, 0] y slices_S256x1024_o128_0_S128x1024 (ix2 r e) : EReal) = y (ix2 ⟨128 + r.val, by omega⟩ e) := by
  pointwise []

end Ops

/-! ## Loads of parts of the blocks -/

section Loads

variable (xz : Vec Ideal S1x16x128x1024 .bf16) (xt : Vec Ideal S128x128 .bf16) (xw : Vec Ideal S1024x1024 .bf16) (xm : Vec Ideal S1x6x1024 .f32)
  (xg : Vec Ideal S4x1024 .f32)

theorem md2_apply (k : Fin 1024) : md2 xm (ix3 0 0 k) = xm (ix3 0 2 k) :=
  View.ld_unit_apply_of _ _ _ _ _ (ix3 0 2 k) fun a => match a with | ⟨0, _⟩ => rfl | ⟨1, _⟩ => rfl | ⟨2, _⟩ => (Nat.zero_add _).symm
theorem ng1_apply (k : Fin 1024) : ng1 xg (ix2 0 k) = xg (ix2 1 k) :=
  View.ld_unit_apply_of _ _ _ _ _ (ix2 1 k) fun a => match a with | ⟨0, _⟩ => rfl | ⟨1, _⟩ => (Nat.zero_add _).symm
theorem tab_apply (i j : Fin 128) : tab xt (ix2 i j) = xt (ix2 i j) :=
  View.ld_unit_apply_of _ _ _ _ _ (ix2 i j) fun a => match a with | ⟨0, _⟩ => (Nat.zero_add _).symm | ⟨1, _⟩ => (Nat.zero_add _).symm
theorem mat_apply (k e : Fin 1024) : mat xw (ix2 k e) = xw (ix2 k e) :=
  View.ld_unit_apply_of _ _ _ _ _ (ix2 k e) fun a => match a with | ⟨0, _⟩ => (Nat.zero_add _).symm | ⟨1, _⟩ => (Nat.zero_add _).symm

theorem zrow_apply (o : ℕ) (h : o ≤ 15) (j : Fin 128) (d : Fin 1024) : zrow xz o h (ix4 0 0 j d) = xz (ix4 0 ⟨o, by omega⟩ j d) :=
  View.ld_unit_apply_of _ _ _ _ _ (ix4 0 ⟨o, by omega⟩ j d) fun a => match a with
    | ⟨0, _⟩ => rfl | ⟨1, _⟩ => rfl | ⟨2, _⟩ => (Nat.zero_add _).symm | ⟨3, _⟩ => (Nat.zero_add _).symm

end Loads

/-! ## The stored block -/

theorem ix3_part (j : S1x128x1024.Idx) : ∃ (r : Fin 128) (e : Fin 1024), j = ix3 0 r e := by
  refine ⟨j 1, j 2, funext fun a => ?_⟩
  match a with
  | ⟨0, _⟩ => exact Fin.ext (by have h0 : (j 0).val < 1 := (j 0).isLt; show (j 0).val = 0; omega)
  | ⟨1, _⟩ => rfl
  | ⟨2, _⟩ => rfl

theorem emb_part (l : ℕ) (h : l ≤ 15360) (r : Fin 128) (e : Fin 1024) :
    ((Rect.unit (s := S1x128x16384) ![0, 0, l] S1x128x1024.size (inbS l h)).emb (ix3 0 r e) : S1x128x16384.Idx)
      = ix3 (n0 := 1) (n1 := 128) (n2 := 16384) 0 r ⟨l + e.val, by omega⟩ :=
  funext fun a => Fin.ext ((Rect.idx_unit_val (s := S1x128x16384) ![0, 0, l] S1x128x1024.size (inbS l h) _ a).trans (match a with
    | ⟨0, _⟩ => rfl
    | ⟨1, _⟩ => Nat.zero_add _
    | ⟨2, _⟩ => rfl))

/-- The stored block holds `G`, of row, inner frequency and column, if every part stored holds its part of `G`. -/
theorem sheet_apply (lo hi : (o : ℕ) → o ≤ 14 → Vec Ideal S1x128x1024 .bf16) (G : Fin 128 → Fin 16384 → EReal)
    (hlo : ∀ (o : ℕ) (h : o ≤ 14) (r : Fin 128) (e : Fin 1024), (lo o h (ix3 0 r e) : EReal) = G r ⟨1024 * o + e.val, by omega⟩)
    (hhi : ∀ (o : ℕ) (h : o ≤ 14) (r : Fin 128) (e : Fin 1024), (hi o h (ix3 0 r e) : EReal) = G r ⟨1024 * (o + 1) + e.val, by omega⟩)
    (r : Fin 128) (y : Fin 16384) : (sheet lo hi (ix3 0 r y) : EReal) = G r y := by
  refine View.canon_apply_of_pieces (Val := Elt Ideal) (fun y : S1x128x16384.Idx => G (y 1) (y 2)) (sheetL lo hi) ?_ (ix3 0 r y) (cover_sheet lo hi _)
  have keyl : ∀ (o l : ℕ) (h : o ≤ 14) (hl : l ≤ 15360) (_ : l = 1024 * o) (j : S1x128x1024.Idx), (lo o h j : EReal)
      = (fun y : S1x128x16384.Idx => G (y 1) (y 2)) ((Rect.unit (s := S1x128x16384) ![0, 0, l] S1x128x1024.size (inbS l hl)).emb j) := by
    intro o l h hl hol j
    subst hol
    obtain ⟨r, e, rfl⟩ := ix3_part j
    rw [emb_part _ hl]
    exact hlo o h r e
  have keyh : ∀ (o l : ℕ) (h : o ≤ 14) (hl : l ≤ 15360) (_ : l = 1024 * (o + 1)) (j : S1x128x1024.Idx), (hi o h j : EReal)
      = (fun y : S1x128x16384.Idx => G (y 1) (y 2)) ((Rect.unit (s := S1x128x16384) ![0, 0, l] S1x128x1024.size (inbS l hl)).emb j) := by
    intro o l h hl hol j
    subst hol
    obtain ⟨r, e, rfl⟩ := ix3_part j
    rw [emb_part _ hl]
    exact hhi o h r e
  intro q hq
  simp only [sheetL, List.mem_cons, List.not_mem_nil, or_false] at hq
  rcases hq with rfl | rfl | rfl | rfl | rfl | rfl | rfl | rfl | rfl | rfl | rfl | rfl | rfl | rfl | rfl | rfl
  · exact keyh 14 15360 (by omega) (by omega) rfl
  · exact keyl 14 14336 (by omega) (by omega) rfl
  · exact keyh 12 13312 (by omega) (by omega) rfl
  · exact keyl 12 12288 (by omega) (by omega) rfl
  · exact keyh 10 11264 (by omega) (by omega) rfl
  · exact keyl 10 10240 (by omega) (by omega) rfl
  · exact keyh 8 9216 (by omega) (by omega) rfl
  · exact keyl 8 8192 (by omega) (by omega) rfl
  · exact keyh 6 7168 (by omega) (by omega) rfl
  · exact keyl 6 6144 (by omega) (by omega) rfl
  · exact keyh 4 5120 (by omega) (by omega) rfl
  · exact keyl 4 4096 (by omega) (by omega) rfl
  · exact keyh 2 3072 (by omega) (by omega) rfl
  · exact keyl 2 2048 (by omega) (by omega) rfl
  · exact keyh 0 1024 (by omega) (by omega) rfl
  · exact keyl 0 0 (by omega) (by omega) rfl

/-! ## The tile -/

/-- What the blocks of group `n` of batch entry `b` hold. -/
structure Holds (zr zi : Fin 2 → Fin 128 → Fin 128 → Fin 1024 → EReal) (c2 s2 : Fin 128 → Fin 128 → EReal) (w : Fin 1024 → Fin 1024 → EReal)
    (md : Fin 2 → Fin 6144 → EReal) (ng : Fin 4 → Fin 1024 → EReal) (b : Fin 2) (n : Fin 8)
    (x0 x1 : Vec Ideal S1x16x128x1024 .bf16) (x2 x3 : Vec Ideal S128x128 .bf16) (x4 : Vec Ideal S1024x1024 .bf16)
    (x5 : Vec Ideal S1x6x1024 .f32) (x6 : Vec Ideal S4x1024 .f32) : Prop where
  re : ∀ (k : Fin 16) (j : Fin 128) (d : Fin 1024), (x0 (ix4 0 k j d) : EReal) = zr b ⟨16 * n.val + k.val, by omega⟩ j d
  im : ∀ (k : Fin 16) (j : Fin 128) (d : Fin 1024), (x1 (ix4 0 k j d) : EReal) = zi b ⟨16 * n.val + k.val, by omega⟩ j d
  cos : ∀ i j : Fin 128, (x2 (ix2 i j) : EReal) = c2 i j
  sin : ∀ i j : Fin 128, (x3 (ix2 i j) : EReal) = s2 i j
  matrix : ∀ k e : Fin 1024, (x4 (ix2 k e) : EReal) = w k e
  mods : ∀ (j : Fin 6) (k : Fin 1024), (x5 (ix3 0 j k) : EReal) = md b ⟨1024 * j.val + k.val, by omega⟩
  gains : ∀ (j : Fin 4) (k : Fin 1024), (x6 (ix2 j k) : EReal) = ng j k

section Tile

variable {zr zi : Fin 2 → Fin 128 → Fin 128 → Fin 1024 → EReal} {c2 s2 : Fin 128 → Fin 128 → EReal} {w : Fin 1024 → Fin 1024 → EReal}
  {md : Fin 2 → Fin 6144 → EReal} {ng : Fin 4 → Fin 1024 → EReal} {b : Fin 2} {n : Fin 8}
  {x0 x1 : Vec Ideal S1x16x128x1024 .bf16} {x2 x3 : Vec Ideal S128x128 .bf16} {x4 : Vec Ideal S1024x1024 .bf16}
  {x5 : Vec Ideal S1x6x1024 .f32} {x6 : Vec Ideal S4x1024 .f32}
  (H : Holds zr zi c2 s2 w md ng b n x0 x1 x2 x3 x4 x5 x6)
include H

theorem gain1 : (fun k : Fin 1024 => (ng1 x6 (ix2 0 k) : EReal)) = ng 1 := funext fun k => (ng1_apply x6 k).trans (H.gains 1 k)
theorem scale2 : (fun k : Fin 1024 => (md2 x5 (ix3 0 0 k) : EReal)) = fun k => md b ⟨2048 + k.val, by omega⟩ :=
  funext fun k => (md2_apply x5 k).trans (H.mods 2 k)

theorem trans_apply (o : ℕ) (h : o ≤ 15) (r : Fin 128) (d : Fin 1024) :
    (trans x0 x1 x2 x3 o h (ix2 r d) : EReal) = Cert.Mlp.fourier zr zi c2 s2 b r ⟨16 * n.val + o, by omega⟩ d := by
  unfold trans
  rw [trans_entry]
  simp only [zrow_apply, tab_apply, H.re, H.im, H.cos, H.sin]
  rfl

theorem pair_up (o : ℕ) (h : o ≤ 14) (r : Fin 128) (e : Fin 1024) :
    (pair x0 x1 x2 x3 x4 o h (ix2 ⟨r.val, by omega⟩ e) : EReal) = Cert.Mlp.mixed zr zi c2 s2 w b r ⟨16 * n.val + o, by omega⟩ e := by
  unfold pair
  rw [prods_entry]
  exact Finset.sum_congr rfl fun d _ => congrArg₂ (· * ·) ((upper_entry r d _ _).trans (trans_apply H o _ r d))
    ((mat_apply x4 d e).trans (H.matrix d e))

theorem pair_dn (o : ℕ) (h : o ≤ 14) (r : Fin 128) (e : Fin 1024) :
    (pair x0 x1 x2 x3 x4 o h (ix2 ⟨128 + r.val, by omega⟩ e) : EReal) = Cert.Mlp.mixed zr zi c2 s2 w b r ⟨16 * n.val + (o + 1), by omega⟩ e := by
  unfold pair
  rw [prods_entry]
  exact Finset.sum_congr rfl fun d _ => congrArg₂ (· * ·) ((lower_entry r d _ _).trans (trans_apply H (o + 1) _ r d))
    ((mat_apply x4 d e).trans (H.matrix d e))

/-- The branch at column `y` of the tile. -/
def tileOf (zr zi : Fin 2 → Fin 128 → Fin 128 → Fin 1024 → EReal) (c2 s2 : Fin 128 → Fin 128 → EReal) (w : Fin 1024 → Fin 1024 → EReal)
    (md : Fin 2 → Fin 6144 → EReal) (ng : Fin 4 → Fin 1024 → EReal) (b : Fin 2) (n : Fin 8) (r : Fin 128) (y : Fin 16384) : EReal :=
  Cert.Mlp.branch zr zi c2 s2 w md ng b r ⟨16 * n.val + y.val / 1024, by omega⟩ ⟨y.val % 1024, by omega⟩

omit H in
theorem tileOf_at (o : ℕ) (h : o ≤ 15) (r : Fin 128) (e : Fin 1024) :
    tileOf zr zi c2 s2 w md ng b n r ⟨1024 * o + e.val, by omega⟩ = Cert.Mlp.branch zr zi c2 s2 w md ng b r ⟨16 * n.val + o, by omega⟩ e :=
  congrArg₂ (Cert.Mlp.branch zr zi c2 s2 w md ng b r)
    (Fin.ext (by show 16 * n.val + (1024 * o + e.val) / 1024 = 16 * n.val + o; omega))
    (Fin.ext (by show (1024 * o + e.val) % 1024 = e.val; omega))

theorem block_apply (r : Fin 128) (y : Fin 16384) :
    (sheet (F := Ideal) (fst x0 x1 x2 x3 x4 x5 x6) (snd x0 x1 x2 x3 x4 x5 x6) (ix3 0 r y) : EReal) = tileOf zr zi c2 s2 w md ng b n r y := by
  refine sheet_apply _ _ (tileOf zr zi c2 s2 w md ng b n) (fun o h r e => ?_) (fun o h r e => ?_) r y
  · unfold fst
    rw [gated_entry, gain1 H, scale2 H, tileOf_at o (by omega)]
    exact congrArg (fun y => gated y _ _ e) (funext fun e => (slice_up r e _).trans (pair_up H o h r e))
  · unfold snd
    rw [gated_entry, gain1 H, scale2 H, tileOf_at (o + 1) (by omega)]
    exact congrArg (fun y => gated y _ _ e) (funext fun e => (slice_dn r e _).trans (pair_dn H o h r e))

end Tile

end Cert.Kernel6Ideal.Mix

end
-- ==== Proof.Mix.Array.lean ====
/- What the region finds in the arrays its windows stage, the windows' blocks entry by entry of the arguments, and the result array of
   the Fourier mixing's second half. -/
module

public import proofs.«01_k».proof.Proof.Mix.Tile
public import Idealize.ShloMosaic.Lib.IdealHost

@[expose] public section

set_option maxRecDepth 16384

noncomputable section

namespace Cert.Kernel6Ideal.Mix

open Cert.Kernel6Ideal Cert.Kernel6Ideal.Gen
open Idealize.ShloMosaic Idealize.ShloMosaic.TcCoe Idealize.ShloMosaic.Tactic
open Idealize.ShloMosaic.Pointwise

variable (m : (ℓ : Loc nD τ sig) → Buf (Elt Ideal) ℓ) (c : Dev nD)

/-- The arguments. -/
abbrev aR : Vec Ideal S2x128x131072 .f32 := m ((c.tc : Thread nD τ).loc main_arg0)
abbrev aI : Vec Ideal S2x128x131072 .f32 := m ((c.tc : Thread nD τ).loc main_arg1)
abbrev aC : Vec Ideal S128x128 .f32 := m ((c.tc : Thread nD τ).loc main_arg2)
abbrev aS : Vec Ideal S128x128 .f32 := m ((c.tc : Thread nD τ).loc main_arg3)
abbrev aW : Vec Ideal S1024x1024 .f32 := m ((c.tc : Thread nD τ).loc main_arg4)
abbrev aMd : Vec Ideal S2x6144 .f32 := m ((c.tc : Thread nD τ).loc main_arg5)
abbrev aNg : Vec Ideal S4x1024 .f32 := m ((c.tc : Thread nD τ).loc main_arg6)

theorem V_re : V m c main_v8 = shapeCast S2x128x128x1024 (truncf (F := Ideal) .bf16 (aR m c) bitsLt_bf16_f32) shapeCasts_S2x128x131072_S2x128x128x1024 := by
  unfold V; after_results <;> rfl
theorem V_im : V m c main_v9 = shapeCast S2x128x128x1024 (truncf (F := Ideal) .bf16 (aI m c) bitsLt_bf16_f32) shapeCasts_S2x128x131072_S2x128x128x1024 := by
  unfold V; after_results <;> rfl
theorem V_cos : V m c main_v2 = truncf (F := Ideal) .bf16 (aC m c) bitsLt_bf16_f32 := by
  unfold V; after_results <;> rfl
theorem V_sin : V m c main_v3 = truncf (F := Ideal) .bf16 (aS m c) bitsLt_bf16_f32 := by
  unfold V; after_results <;> rfl
theorem V_matrix : V m c main_v4 = truncf (F := Ideal) .bf16 (aW m c) bitsLt_bf16_f32 := by
  unfold V; after_results <;> rfl
theorem V_mod : V m c main_v7 = shapeCast S8x6x1024 (concatenate S8x6144 0 [⟨S2x6144, aMd m c⟩,
    ⟨S6x6144, broadcastInDim S6x6144 ![] bcast_S_S6x6144 (constant (F := Ideal) S_ .f32 0x00000000#32)⟩]
    concatenates_S2x6144_S6x6144_S8x6144_d0) shapeCasts_S8x6144_S8x6x1024 := by
  unfold V; after_results <;> rfl

theorem V_re_apply (b : Fin 2) (k j : Fin 128) (d : Fin 1024) :
    (V m c main_v8 : Vec Ideal S2x128x128x1024 .bf16) (ix4 b k j d) = aR m c (ix3 b k ⟨1024 * j.val + d.val, by omega⟩) := by
  rw [V_re]
  generalize aR m c = q
  pointwise []
  simp only [Nat.mul_comm]
theorem V_im_apply (b : Fin 2) (k j : Fin 128) (d : Fin 1024) :
    (V m c main_v9 : Vec Ideal S2x128x128x1024 .bf16) (ix4 b k j d) = aI m c (ix3 b k ⟨1024 * j.val + d.val, by omega⟩) := by
  rw [V_im]
  generalize aI m c = q
  pointwise []
  simp only [Nat.mul_comm]
theorem V_cos_apply (i j : Fin 128) : (V m c main_v2 : Vec Ideal S128x128 .bf16) (ix2 i j) = aC m c (ix2 i j) := by rw [V_cos]; rfl
theorem V_sin_apply (i j : Fin 128) : (V m c main_v3 : Vec Ideal S128x128 .bf16) (ix2 i j) = aS m c (ix2 i j) := by rw [V_sin]; rfl
theorem V_matrix_apply (k e : Fin 1024) :
    (V m c main_v4 : Vec Ideal S1024x1024 .bf16) (ix2 k e) = aW m c (ix2 k e) := by rw [V_matrix]; rfl
theorem V_mod_apply (b : Fin 2) (j : Fin 6) (k : Fin 1024) :
    (V m c main_v7 : Vec Ideal S8x6x1024 .f32) (ix3 ⟨b.val, by omega⟩ j k) = aMd m c (ix2 b ⟨1024 * j.val + k.val, by omega⟩) := by
  rw [V_mod]
  generalize aMd m c = q
  pointwise []
  simp only [Nat.mul_comm]

theorem index0 : ∀ t : Fin grid0.N, win0_0.index t = ![t.val / 8, t.val % 8, 0, 0] := by decide +kernel
theorem index1 : ∀ t : Fin grid0.N, win0_1.index t = ![t.val / 8, t.val % 8, 0, 0] := by decide +kernel
theorem index2 : ∀ t : Fin grid0.N, win0_2.index t = ![0, 0] := by decide +kernel
theorem index3 : ∀ t : Fin grid0.N, win0_3.index t = ![0, 0] := by decide +kernel
theorem index4 : ∀ t : Fin grid0.N, win0_4.index t = ![0, 0] := by decide +kernel
theorem index5 : ∀ t : Fin grid0.N, win0_5.index t = ![t.val / 8, 0, 0] := by decide +kernel
theorem index6 : ∀ t : Fin grid0.N, win0_6.index t = ![0, 0] := by decide +kernel
theorem index7 : ∀ t : Fin grid0.N, win0_7.index t = ![t.val / 8, 0, t.val % 8] := by decide +kernel

theorem lt_N (t : Fin cfg0.N) : t.val < 16 := lt_of_lt_of_eq t.isLt N_0

/-- The place of grid point `t`: batch entry and group of inner frequencies. -/
abbrev bt (t : Fin cfg0.N) : Fin 2 := ⟨t.val / 8, by have := lt_N t; omega⟩
abbrev nt (t : Fin cfg0.N) : Fin 8 := ⟨t.val % 8, by omega⟩

theorem iblk0_apply (t : Fin cfg0.N) (k : Fin 16) (j : Fin 128) (d : Fin 1024) :
    (iblk m c 0 t : Vec Ideal S1x16x128x1024 .bf16) (ix4 0 k j d)
      = (V m c main_v8 : Vec Ideal S2x128x128x1024 .bf16) (ix4 (bt t) ⟨16 * (t.val % 8) + k.val, by omega⟩ j d) := by
  show (V m c main_v8 : Vec Ideal S2x128x128x1024 .bf16) ((win0_0.rect t).emb (ix4 0 k j d)) = _
  refine congrArg _ (funext fun a => Fin.ext ((win0_0.rect_emb_val t _ a).trans ?_))
  rw [index0]
  match a with
  | ⟨0, _⟩ => show t.val / 8 * 1 + 0 = t.val / 8; omega
  | ⟨1, _⟩ => show t.val % 8 * 16 + k.val = 16 * (t.val % 8) + k.val; omega
  | ⟨2, _⟩ => show 0 * 128 + j.val = j.val; omega
  | ⟨3, _⟩ => show 0 * 1024 + d.val = d.val; omega

theorem iblk1_apply (t : Fin cfg0.N) (k : Fin 16) (j : Fin 128) (d : Fin 1024) :
    (iblk m c 1 t : Vec Ideal S1x16x128x1024 .bf16) (ix4 0 k j d)
      = (V m c main_v9 : Vec Ideal S2x128x128x1024 .bf16) (ix4 (bt t) ⟨16 * (t.val % 8) + k.val, by omega⟩ j d) := by
  show (V m c main_v9 : Vec Ideal S2x128x128x1024 .bf16) ((win0_1.rect t).emb (ix4 0 k j d)) = _
  refine congrArg _ (funext fun a => Fin.ext ((win0_1.rect_emb_val t _ a).trans ?_))
  rw [index1]
  match a with
  | ⟨0, _⟩ => show t.val / 8 * 1 + 0 = t.val / 8; omega
  | ⟨1, _⟩ => show t.val % 8 * 16 + k.val = 16 * (t.val % 8) + k.val; omega
  | ⟨2, _⟩ => show 0 * 128 + j.val = j.val; omega
  | ⟨3, _⟩ => show 0 * 1024 + d.val = d.val; omega

theorem iblk2_apply (t : Fin cfg0.N) (j : Fin 128) (k : Fin 128) :
    (iblk m c 2 t : Vec Ideal S128x128 .bf16) (ix2 j k) = (V m c main_v2 : Vec Ideal S128x128 .bf16) (ix2 j k) := by
  show (V m c main_v2 : Vec Ideal S128x128 .bf16) ((win0_2.rect t).emb (ix2 j k)) = _
  refine congrArg _ (funext fun a => Fin.ext ((win0_2.rect_emb_val t _ a).trans ?_))
  rw [index2]
  match a with
  | ⟨0, _⟩ => show 0 * 128 + j.val = j.val; omega
  | ⟨1, _⟩ => show 0 * 128 + k.val = k.val; omega

theorem iblk3_apply (t : Fin cfg0.N) (j : Fin 128) (k : Fin 128) :
    (iblk m c 3 t : Vec Ideal S128x128 .bf16) (ix2 j k) = (V m c main_v3 : Vec Ideal S128x128 .bf16) (ix2 j k) := by
  show (V m c main_v3 : Vec Ideal S128x128 .bf16) ((win0_3.rect t).emb (ix2 j k)) = _
  refine congrArg _ (funext fun a => Fin.ext ((win0_3.rect_emb_val t _ a).trans ?_))
  rw [index3]
  match a with
  | ⟨0, _⟩ => show 0 * 128 + j.val = j.val; omega
  | ⟨1, _⟩ => show 0 * 128 + k.val = k.val; omega

theorem iblk4_apply (t : Fin cfg0.N) (j : Fin 1024) (k : Fin 1024) :
    (iblk m c 4 t : Vec Ideal S1024x1024 .bf16) (ix2 j k) = (V m c main_v4 : Vec Ideal S1024x1024 .bf16) (ix2 j k) := by
  show (V m c main_v4 : Vec Ideal S1024x1024 .bf16) ((win0_4.rect t).emb (ix2 j k)) = _
  refine congrArg _ (funext fun a => Fin.ext ((win0_4.rect_emb_val t _ a).trans ?_))
  rw [index4]
  match a with
  | ⟨0, _⟩ => show 0 * 1024 + j.val = j.val; omega
  | ⟨1, _⟩ => show 0 * 1024 + k.val = k.val; omega

theorem iblk6_apply (t : Fin cfg0.N) (j : Fin 4) (k : Fin 1024) :
    (iblk m c 6 t : Vec Ideal S4x1024 .f32) (ix2 j k) = (V m c main_arg6 : Vec Ideal S4x1024 .f32) (ix2 j k) := by
  show (V m c main_arg6 : Vec Ideal S4x1024 .f32) ((win0_6.rect t).emb (ix2 j k)) = _
  refine congrArg _ (funext fun a => Fin.ext ((win0_6.rect_emb_val t _ a).trans ?_))
  rw [index6]
  match a with
  | ⟨0, _⟩ => show 0 * 4 + j.val = j.val; omega
  | ⟨1, _⟩ => show 0 * 1024 + k.val = k.val; omega

theorem iblk5_apply (t : Fin cfg0.N) (j : Fin 6) (k : Fin 1024) :
    (iblk m c 5 t : Vec Ideal S1x6x1024 .f32) (ix3 0 j k) = (V m c main_v7 : Vec Ideal S8x6x1024 .f32) (ix3 ⟨(bt t).val, by omega⟩ j k) := by
  show (V m c main_v7 : Vec Ideal S8x6x1024 .f32) ((win0_5.rect t).emb (ix3 0 j k)) = _
  refine congrArg _ (funext fun a => Fin.ext ((win0_5.rect_emb_val t _ a).trans ?_))
  rw [index5]
  match a with
  | ⟨0, _⟩ => show t.val / 8 * 1 + 0 = t.val / 8; omega
  | ⟨1, _⟩ => show 0 * 6 + j.val = j.val; omega
  | ⟨2, _⟩ => show 0 * 1024 + k.val = k.val; omega

/-- The argument functions. -/
abbrev fR : Fin 2 → Fin 128 → Fin 128 → Fin 1024 → EReal := fun b k j d => aR m c (ix3 b k ⟨1024 * j.val + d.val, by omega⟩)
abbrev fI : Fin 2 → Fin 128 → Fin 128 → Fin 1024 → EReal := fun b k j d => aI m c (ix3 b k ⟨1024 * j.val + d.val, by omega⟩)
abbrev fC : Fin 128 → Fin 128 → EReal := fun i j => aC m c (ix2 i j)
abbrev fS : Fin 128 → Fin 128 → EReal := fun i j => aS m c (ix2 i j)
abbrev fW : Fin 1024 → Fin 1024 → EReal := fun k e => aW m c (ix2 k e)
abbrev fMd : Fin 2 → Fin 6144 → EReal := fun b k => aMd m c (ix2 b k)
abbrev fNg : Fin 4 → Fin 1024 → EReal := fun n k => aNg m c (ix2 n k)

theorem holds (t : Fin cfg0.N) : Holds (fR m c) (fI m c) (fC m c) (fS m c) (fW m c) (fMd m c) (fNg m c) (bt t) (nt t)
    (iblk m c 0 t) (iblk m c 1 t) (iblk m c 2 t) (iblk m c 3 t) (iblk m c 4 t) (iblk m c 5 t) (iblk m c 6 t) where
  re k j d := by rw [iblk0_apply, V_re_apply]
  im k j d := by rw [iblk1_apply, V_im_apply]
  cos i j := by rw [iblk2_apply, V_cos_apply]
  sin i j := by rw [iblk3_apply, V_sin_apply]
  matrix k e := by rw [iblk4_apply, V_matrix_apply]
  mods j k := by rw [iblk5_apply, V_mod_apply]
  gains j k := by rw [iblk6_apply, V_main_arg6]

/-- The result as an array. -/
def G : Vec Ideal S2x128x131072 .bf16 := fun i =>
  Cert.Mlp.branch (fR m c) (fI m c) (fC m c) (fS m c) (fW m c) (fMd m c) (fNg m c) (i 0) (i 1)
    ⟨(i 2).val / 1024, by have h2 : (i 2).val < 131072 := (i 2).isLt; omega⟩ ⟨(i 2).val % 1024, by omega⟩

/-- What grid point `t` stores. -/
def outAt (t : Fin cfg0.N) : Vec Ideal S1x128x16384 .bf16 :=
  sheet (F := Ideal) (fst (iblk m c 0 t) (iblk m c 1 t) (iblk m c 2 t) (iblk m c 3 t) (iblk m c 4 t) (iblk m c 5 t) (iblk m c 6 t))
    (snd (iblk m c 0 t) (iblk m c 1 t) (iblk m c 2 t) (iblk m c 3 t) (iblk m c 4 t) (iblk m c 5 t) (iblk m c 6 t))

theorem outAt_apply (t : Fin cfg0.N) (r : Fin 128) (y : Fin 16384) :
    (outAt m c t (ix3 0 r y) : EReal) = G m c (ix3 (bt t) r ⟨16384 * (nt t).val + y.val, by omega⟩) :=
  (block_apply (holds m c t) r y).trans (congrArg₂ (Cert.Mlp.branch _ _ _ _ _ _ _ _ r)
    (Fin.ext (by show 16 * (t.val % 8) + y.val / 1024 = (16384 * (t.val % 8) + y.val) / 1024; omega))
    (Fin.ext (by show y.val % 1024 = (16384 * (t.val % 8) + y.val) % 1024; omega)))

theorem outs_eq (t : Fin cfg0.N) : out0_7 (iblk m c 0 t) (iblk m c 1 t) (iblk m c 2 t) (iblk m c 3 t) (iblk m c 4 t) (iblk m c 5 t) (iblk m c 6 t)
    = outAt m c t :=
  out_eq ..

theorem ix3_eta (x : S1x128x16384.Idx) : ∃ (r : Fin 128) (y : Fin 16384), x = ix3 0 r y := by
  refine ⟨x 1, x 2, funext fun a => ?_⟩
  match a with
  | ⟨0, _⟩ => exact Fin.ext (by have h0 : (x 0).val < 1 := (x 0).isLt; show (x 0).val = 0; omega)
  | ⟨1, _⟩ => rfl
  | ⟨2, _⟩ => rfl

/-- Where grid point `t`'s block lies in the array. -/
theorem emb7 (t : Fin cfg0.N) (r : Fin 128) (y : Fin 16384) :
    ((win0_7.rect t).emb (ix3 0 r y) : S2x128x131072.Idx) = ix3 (bt t) r ⟨16384 * (nt t).val + y.val, by omega⟩ := by
  refine funext fun a => Fin.ext ((win0_7.rect_emb_val t _ a).trans ?_)
  rw [index7]
  match a with
  | ⟨0, _⟩ => show t.val / 8 * 1 + 0 = t.val / 8; omega
  | ⟨1, _⟩ => show 0 * 128 + r.val = r.val; omega
  | ⟨2, _⟩ => show t.val % 8 * 16384 + y.val = 16384 * (t.val % 8) + y.val; omega

theorem outAt_G (t : Fin cfg0.N) (x : S1x128x16384.Idx) (i : S2x128x131072.Idx) (hi : (win0_7.rect t).emb x = i) :
    (outAt m c t x : EReal) = G m c i := by
  obtain ⟨r, y, rfl⟩ := ix3_eta x
  rw [emb7] at hi
  rw [outAt_apply m c, ← hi]

theorem read7 (t : Fin cfg0.N) (X : Vec Ideal S2x128x131072 .bf16) (x : S1x128x16384.Idx) :
    ((cfg0.win 7).blk t).view.read (Elt Ideal) X x = X ((win0_7.rect t).emb x) := rfl

theorem flushed_eq (t : Fin cfg0.N) : (dats m 0 c).flushed 7 t = ((cfg0.win 7).blk t).view.read (Elt Ideal) (G m c) := by
  rw [Value.flushed7, outs_eq]
  have h1 : ∀ x : S1x128x16384.Idx, (cfg0.win 7).cut (grid0.coords t) (outAt m c t) x = outAt m c t x := fun x => rfl
  refine funext fun (x : S1x128x16384.Idx) => ?_
  exact (h1 x).trans ((outAt_G m c t x _ rfl).trans (read7 t (G m c) x).symm)

theorem cover (i : S2x128x131072.Idx) : ∃ t : Fin cfg0.N, (cfg0.win 7).flush t = true ∧ i ∈ ((cfg0.win 7).blk t).view.set := by
  have h0 : (i 0).val < 2 := (i 0).isLt
  have h1 : (i 1).val < 128 := (i 1).isLt
  have h2 : (i 2).val < 131072 := (i 2).isLt
  have hN : cfg0.N = 16 := N_0
  obtain ⟨t, ht⟩ : ∃ t : Fin cfg0.N, t.val = 8 * (i 0).val + (i 2).val / 16384 := ⟨⟨_, by omega⟩, rfl⟩
  refine ⟨t, flush0_7 _, ?_⟩
  have e : ((win0_7.rect t).emb (ix3 0 ⟨(i 1).val, h1⟩ ⟨(i 2).val % 16384, by omega⟩) : S2x128x131072.Idx) = i := by
    rw [emb7]
    refine funext fun a => ?_
    match a with
    | ⟨0, _⟩ => exact Fin.ext (by show t.val / 8 = (i 0).val; omega)
    | ⟨1, _⟩ => rfl
    | ⟨2, _⟩ => exact Fin.ext (by show 16384 * (t.val % 8) + (i 2).val % 16384 = (i 2).val; omega)
  rw [← e]
  exact ((cfg0.win 7).blk t).view.emb_mem_set (ix3 0 ⟨(i 1).val, h1⟩ ⟨(i 2).val % 16384, by omega⟩ : S1x128x16384.Idx)

/-- The result array after the run. -/
theorem arr_eq : (dats m 0 c).arrAt 7 cfg0.N = G m c :=
  (dats m 0 c).arrAt_eq_of_cover 7 (G m c) (fun t _ => flushed_eq m c t) cover

end Cert.Kernel6Ideal.Mix

end
-- ==== Proof.Mix.Ref.lean ====
/- The reference of the Fourier mixing's second half, entry by entry. -/
module

public import proofs.«01_k».proof.Proof.Gen.Reference6Ideal.Run
public import proofs.«01_k».proof.Proof.Mlp.Ref
public import proofs.«01_k».proof.Proof.Mix.Spec

@[expose] public section

set_option maxRecDepth 16384

noncomputable section

namespace Cert.Reference6Ideal.Mix

open Cert.Reference6Ideal Cert.Reference6Ideal.Gen
open Cert.Reference2Ideal.Mlp (rms rms_apply)
open Idealize.ShloMosaic Idealize.ShloMosaic.TcCoe Idealize.ShloMosaic.Pointwise
open Cert.Mlp (rinv cnt eps one gated)

/-- One half of the transform: the products of the partial transforms with a table over the outer position index. -/
def half (z : Vec Ideal S2x128x131072 .f32) (u : Vec Ideal S128x128 .f32) : FVec Ideal S2x128x128x1024 .f32 :=
  transpose S2x128x128x1024 [0, 3, 1, 2] (Host.dotGeneral (F := Ideal) (φ₁ := .f32) (φ₂ := .f32) dot_S2x128x128x1024_S128x128_S2x128x1024x128_2_1_013_0_n_n none
    (shapeCast S2x128x128x1024 z shapeCasts_S2x128x131072_S2x128x128x1024) u) transposes_S2x128x1024x128_S2x128x128x1024_0_3_1_2

/-- The products of the transform's rows with the matrix. -/
def prods (f g : FVec Ideal S2x128x128x1024 .f32) (w : Vec Ideal S1024x1024 .f32) : FVec Ideal S2x16384x1024 .f32 :=
  Host.dotGeneral (F := Ideal) (φ₁ := .f32) (φ₂ := .f32) dot_S2x16384x1024_S1024x1024_S2x16384x1024_2_0_01_1_n_n none
    (shapeCast S2x16384x1024 (addf f g) shapeCasts_S2x128x128x1024_S2x16384x1024) w

/-- The result, from the products and their reciprocal root mean squares. -/
def branchOf (ys : FVec Ideal S2x16384x1024 .f32) (r : FVec Ideal S2x16384x1 .f32) (ng : Vec Ideal S4x1024 .f32) (md : Vec Ideal S2x6144 .f32) :
    FVec Ideal S2x128x131072 .bf16 :=
  shapeCast S2x128x131072 (truncf .bf16 (mulf (broadcastInDim S2x16384x1024 ![0, 1, 2] bcast_S2x1x1024_S2x16384x1024_0_1_2
      (extractStridedSlice S2x1x1024 ![0, 0, 2048] (broadcastInDim S2x1x6144 ![0, 2] bcast_S2x6144_S2x1x6144_0_2 md) slices_S2x1x6144_S2x1x1024_0_0_2048))
    (mulf (mulf ys (broadcastInDim S2x16384x1024 ![0, 1, 2] bcast_S2x16384x1_S2x16384x1024_0_1_2 r))
      (broadcastInDim S2x16384x1024 ![0, 1, 2] bcast_S1x1x1024_S2x16384x1024_0_1_2 (broadcastInDim S1x1x1024 ![2] bcast_S1024_S1x1x1024_2
        (shapeCast S1024 (extractStridedSlice S1x1024 ![1, 0] ng slices_S4x1024_S1x1024_1_0) shapeCasts_S1x1024_S1024))))) bitsLt_bf16_f32)
    shapeCasts_S2x16384x1024_S2x128x131072

variable (zr zi : Vec Ideal S2x128x131072 .f32) (c2 s2 : Vec Ideal S128x128 .f32) (w : Vec Ideal S1024x1024 .f32) (md : Vec Ideal S2x6144 .f32)
  (ng : Vec Ideal S4x1024 .f32) (f g : FVec Ideal S2x128x128x1024 .f32) (ys : FVec Ideal S2x16384x1024 .f32) (r : FVec Ideal S2x16384x1 .f32)
  (b : Fin 2) (i k : Fin 128)

theorem half_apply (d : Fin 1024) : (half zr c2 (ix4 b i k d) : EReal)
    = ∑ j : Fin 128, c2 (ix2 i j) * zr (ix3 b k ⟨1024 * j.val + d.val, by omega⟩) := by
  have h : (half zr c2 (ix4 b i k d) : EReal) = ∑ j : Fin 128, zr (ix3 b k ⟨1024 * j.val + d.val, by omega⟩) * c2 (ix2 i j) := by
    pointwise [half]
    simp only [Nat.mul_comm]
  rw [h]
  exact Finset.sum_congr rfl fun j _ => mul_comm _ _

theorem prods_apply (e : Fin 1024) : (prods f g w (ix3 b ⟨128 * i.val + k.val, by omega⟩ e) : EReal)
    = ∑ d : Fin 1024, (f (ix4 b i k d) + g (ix4 b i k d)) * w (ix2 d e) := by
  pointwise [prods]

theorem branchOf_apply (y : Fin 131072) : (branchOf ys r ng md (ix3 b i y) : EReal)
    = md (ix2 b ⟨2048 + y.val % 1024, by omega⟩) * (ys (ix3 b ⟨128 * i.val + y.val / 1024, by omega⟩ ⟨y.val % 1024, by omega⟩)
        * r (ix3 b ⟨128 * i.val + y.val / 1024, by omega⟩ 0) * ng (ix2 1 ⟨y.val % 1024, by omega⟩)) := by
  pointwise [branchOf]
  simp only [Nat.mul_comm]

/-- The result, from the arguments' arrays. -/
def result : FVec Ideal S2x128x131072 .bf16 :=
  branchOf (prods (half zr c2) (half zi s2) w) (rms (prods (half zr c2) (half zi s2) w)) ng md

theorem result_apply (y : Fin 131072) : (result zr zi c2 s2 w md ng (ix3 b i y) : EReal)
    = Cert.Mlp.branch (fun b k j d => zr (ix3 b k ⟨1024 * j.val + d.val, by omega⟩)) (fun b k j d => zi (ix3 b k ⟨1024 * j.val + d.val, by omega⟩))
        (fun i j => c2 (ix2 i j)) (fun i j => s2 (ix2 i j)) (fun k e => w (ix2 k e)) (fun b k => md (ix2 b k)) (fun n k => ng (ix2 n k)) b i
        ⟨y.val / 1024, by omega⟩ ⟨y.val % 1024, by omega⟩ := by
  have hP : ∀ e : Fin 1024, (prods (half zr c2) (half zi s2) w (ix3 b ⟨128 * i.val + y.val / 1024, by omega⟩ e) : EReal)
      = Cert.Mlp.mixed (fun b k j d => zr (ix3 b k ⟨1024 * j.val + d.val, by omega⟩)) (fun b k j d => zi (ix3 b k ⟨1024 * j.val + d.val, by omega⟩))
        (fun i j => c2 (ix2 i j)) (fun i j => s2 (ix2 i j)) (fun k e => w (ix2 k e)) b i ⟨y.val / 1024, by omega⟩ e := fun e =>
    (prods_apply w _ _ b i ⟨y.val / 1024, by omega⟩ e).trans (Finset.sum_congr rfl fun d _ => congrArg₂ (· * ·)
      (congrArg₂ (· + ·) (half_apply zr c2 b i _ d) (half_apply zi s2 b i _ d)) rfl)
  unfold result
  generalize prods (half zr c2) (half zi s2) w = q at hP ⊢
  rw [branchOf_apply, rms_apply]
  simp only [hP]
  rfl

variable (m : (ℓ : Loc nD τ sig) → Buf (Elt Ideal) ℓ) (c : Dev nD)

/-- The arguments. -/
abbrev aR : Vec Ideal S2x128x131072 .f32 := m ((c.tc : Thread nD τ).loc main_arg0)
abbrev aI : Vec Ideal S2x128x131072 .f32 := m ((c.tc : Thread nD τ).loc main_arg1)
abbrev aC : Vec Ideal S128x128 .f32 := m ((c.tc : Thread nD τ).loc main_arg2)
abbrev aS : Vec Ideal S128x128 .f32 := m ((c.tc : Thread nD τ).loc main_arg3)
abbrev aW : Vec Ideal S1024x1024 .f32 := m ((c.tc : Thread nD τ).loc main_arg4)
abbrev aMd : Vec Ideal S2x6144 .f32 := m ((c.tc : Thread nD τ).loc main_arg5)
abbrev aNg : Vec Ideal S4x1024 .f32 := m ((c.tc : Thread nD τ).loc main_arg6)

/-- The result, from the arguments. -/
def res : FVec Ideal S2x128x131072 .bf16 := result (aR m c) (aI m c) (aC m c) (aS m c) (aW m c) (aMd m c) (aNg m c)

end Cert.Reference6Ideal.Mix

end
-- ==== Proof.lean ====
module

public import proofs.«01_k».proof.Defs
public import proofs.«01_k».proof.Proof.Kernel.Whole
public import proofs.«01_k».proof.Proof.KernelIdeal.Array
public import proofs.«01_k».proof.Proof.RefValue
public import proofs.«01_k».proof.Proof.Finite
public import proofs.«01_k».proof.Proof.Mlp.Array
public import proofs.«01_k».proof.Proof.Mlp.Ref
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Ffn.Array
public import proofs.«01_k».proof.Proof.Ffn.Ref
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Out.Array
public import proofs.«01_k».proof.Proof.Out.Ref
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Mods.Array
public import proofs.«01_k».proof.Proof.Mods.Ref
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Mix.Array
public import proofs.«01_k».proof.Proof.Mix.Ref
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import Idealize.ShloMosaic.Lib.Quiescent

@[expose] public section

noncomputable section

namespace Cert.Proof

open Idealize.ShloMosaic Idealize.ShloMosaic.TcCoe Idealize.ShloMosaic.Pointwise Idealize.SL.Sem

theorem frame_ReferenceIdeal (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal))) ⟨m, fun _ => 0, g⟩
      (fun r => (∀ c : Dev ReferenceIdeal.nD,
        r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1)
        ∧ r.2.mem ((c.tc : Thread ReferenceIdeal.nD ReferenceIdeal.τ).loc ReferenceIdeal.main_arg2) = m ((c.tc : Thread ReferenceIdeal.nD ReferenceIdeal.τ).loc ReferenceIdeal.main_arg2)
        ∧ r.2.mem ((c.tc : Thread ReferenceIdeal.nD ReferenceIdeal.τ).loc ReferenceIdeal.main_arg3) = m ((c.tc : Thread ReferenceIdeal.nD ReferenceIdeal.τ).loc ReferenceIdeal.main_arg3)
        ∧ r.2.mem ((c.tc : Thread ReferenceIdeal.nD ReferenceIdeal.τ).loc ReferenceIdeal.main_arg4) = m ((c.tc : Thread ReferenceIdeal.nD ReferenceIdeal.τ).loc ReferenceIdeal.main_arg4))
        ∧ r.2.sem = fun _ => 0) :=
  (θ_run _ _ _).mono (fun r h => ⟨fun c => (h c).2, sem_eq_zero_of_no_sems (by decide) r.2⟩) (ReferenceIdeal.Value.run m g)

/-- An index of the result: batch entry, query, head `2 h + g`, entry `d`. -/
theorem index_eq (i : KernelIdeal.S2x16384x512.Idx) : ∃ (b : Fin 2) (l : Fin 16384) (h g : Fin 2) (d : Fin 128),
    i = ix3 b l ⟨256 * h.val + (128 * g.val + d.val), by omega⟩ := by
  have hi : (i 2).val < 512 := (i 2).isLt
  refine ⟨i 0, i 1, ⟨(i 2).val / 256, by omega⟩, ⟨(i 2).val / 128 % 2, by omega⟩, ⟨(i 2).val % 128, by omega⟩, funext fun a => ?_⟩
  match a with
  | ⟨0, _⟩ => rfl
  | ⟨1, _⟩ => rfl
  | ⟨2, _⟩ => exact Fin.ext (by show (i 2).val = 256 * ((i 2).val / 256) + (128 * ((i 2).val / 128 % 2) + (i 2).val % 128); omega)

/-- The reference's result is the kernel's, from the same arguments. -/
theorem value_eq (m : (ℓ : Loc KernelIdeal.nD KernelIdeal.τ KernelIdeal.sig) → Buf (Elt Ideal) ℓ) (c : Dev KernelIdeal.nD)
    (m' : (ℓ : Loc ReferenceIdeal.nD ReferenceIdeal.τ ReferenceIdeal.sig) → Buf (Elt Ideal) ℓ)
    (h0 : ReferenceIdeal.Att.aQ m' c = KernelIdeal.Att.aQ m c) (h1 : ReferenceIdeal.Att.aK m' c = KernelIdeal.Att.aK m c)
    (h2 : ReferenceIdeal.Att.aV m' c = KernelIdeal.Att.aV m c) (h3 : ReferenceIdeal.Att.aKc m' c = KernelIdeal.Att.aKc m c)
    (h4 : ReferenceIdeal.Att.aVc m' c = KernelIdeal.Att.aVc m c)
    (hq : Spec.Real' (KernelIdeal.Att.aQ m c)) (hk : Spec.Real' (KernelIdeal.Att.aK m c)) (hkc : Spec.Real' (KernelIdeal.Att.aKc m c)) :
    (ReferenceIdeal.Value.res_main_v22 m' c : Vec Ideal KernelIdeal.S2x16384x512 .bf16) = KernelIdeal.Att.G m c := by
  refine (ReferenceIdeal.Att.res_eq m' c).trans ?_
  rw [h0, h1, h2, h3, h4]
  refine funext fun (i : KernelIdeal.S2x16384x512.Idx) => ?_
  obtain ⟨b, l, h, g, d, rfl⟩ := index_eq i
  exact (ReferenceIdeal.Att.outs_all _ _ _ _ _ hq hk hkc b l h g d).trans (KernelIdeal.Att.G_apply m c b l h g d).symm

theorem algebraic : algebraic_KernelIdeal_ReferenceIdeal_pre_finite := by
  intro m g m' g' hpre hargs
  have hfin := fun c => Pre_finite.real _ _ _ _ _ (hpre c)
  refine ⟨fun c => KernelIdeal.Att.G m c, ?_, ?_⟩
  · refine (θ_run _ _ _).mono (fun r h c => ⟨(h.1.1 c).trans (KernelIdeal.Att.arr_eq m c (hfin c).1 (hfin c).2.1 (hfin c).2.2), h.1.2 c⟩)
      (KernelIdeal.Att.run_result m g)
  · refine (θ_run _ _ _).mono (fun r h c => ⟨(h c).1.trans ?_, (h c).2⟩) (ReferenceIdeal.Value.run m' g')
    obtain ⟨h0, h1, h2, h3, h4⟩ := hargs c
    exact value_eq m c m' h0 h1 h2 h3 h4 (hfin c).1 (hfin c).2.1 (hfin c).2.2

theorem frame_Reference2Ideal (m : (ℓ : Loc Reference2Ideal.nD Reference2Ideal.τ Reference2Ideal.sig) → Buf (Elt Ideal) ℓ)
    (g : Dev Reference2Ideal.nD → PrngReg) :
    θ_run (Reference2Ideal.defs (F := Ideal)) (onTc (τ := Reference2Ideal.τ) (Reference2Ideal.main (F := Ideal))) ⟨m, fun _ => 0, g⟩
      (fun r => (∀ c : Dev Reference2Ideal.nD,
        r.2.mem ((c.tc : Thread Reference2Ideal.nD Reference2Ideal.τ).loc Reference2Ideal.main_arg0) = m ((c.tc : Thread Reference2Ideal.nD Reference2Ideal.τ).loc Reference2Ideal.main_arg0)
        ∧ r.2.mem ((c.tc : Thread Reference2Ideal.nD Reference2Ideal.τ).loc Reference2Ideal.main_arg1) = m ((c.tc : Thread Reference2Ideal.nD Reference2Ideal.τ).loc Reference2Ideal.main_arg1)
        ∧ r.2.mem ((c.tc : Thread Reference2Ideal.nD Reference2Ideal.τ).loc Reference2Ideal.main_arg2) = m ((c.tc : Thread Reference2Ideal.nD Reference2Ideal.τ).loc Reference2Ideal.main_arg2)
        ∧ r.2.mem ((c.tc : Thread Reference2Ideal.nD Reference2Ideal.τ).loc Reference2Ideal.main_arg3) = m ((c.tc : Thread Reference2Ideal.nD Reference2Ideal.τ).loc Reference2Ideal.main_arg3)
        ∧ r.2.mem ((c.tc : Thread Reference2Ideal.nD Reference2Ideal.τ).loc Reference2Ideal.main_arg4) = m ((c.tc : Thread Reference2Ideal.nD Reference2Ideal.τ).loc Reference2Ideal.main_arg4)
        ∧ r.2.mem ((c.tc : Thread Reference2Ideal.nD Reference2Ideal.τ).loc Reference2Ideal.main_arg5) = m ((c.tc : Thread Reference2Ideal.nD Reference2Ideal.τ).loc Reference2Ideal.main_arg5)
        ∧ r.2.mem ((c.tc : Thread Reference2Ideal.nD Reference2Ideal.τ).loc Reference2Ideal.main_arg6) = m ((c.tc : Thread Reference2Ideal.nD Reference2Ideal.τ).loc Reference2Ideal.main_arg6)
        ∧ r.2.mem ((c.tc : Thread Reference2Ideal.nD Reference2Ideal.τ).loc Reference2Ideal.main_arg7) = m ((c.tc : Thread Reference2Ideal.nD Reference2Ideal.τ).loc Reference2Ideal.main_arg7))
        ∧ r.2.sem = fun _ => 0) :=
  (θ_run _ _ _).mono (fun r h => ⟨fun c => (h c).2, sem_eq_zero_of_no_sems (by decide) r.2⟩) (Reference2Ideal.Value.run m g)

/-- An index of the gated layer's result. -/
theorem index2_eq (i : Kernel2Ideal.S2x16384x1024.Idx) : ∃ (b : Fin 2) (l : Fin 16384) (e : Fin 1024), i = ix3 b l e := by
  refine ⟨i 0, i 1, i 2, funext fun a => ?_⟩
  match a with
  | ⟨0, _⟩ => rfl
  | ⟨1, _⟩ => rfl
  | ⟨2, _⟩ => rfl

/-- The reference's result of the gated layer is the kernel's, from the same arguments. -/
theorem value2_eq (m : (ℓ : Loc Kernel2Ideal.nD Kernel2Ideal.τ Kernel2Ideal.sig) → Buf (Elt Ideal) ℓ) (c : Dev Kernel2Ideal.nD)
    (m' : (ℓ : Loc Reference2Ideal.nD Reference2Ideal.τ Reference2Ideal.sig) → Buf (Elt Ideal) ℓ)
    (h0 : Reference2Ideal.Mlp.aX m' c = Kernel2Ideal.Mlp.aX m c) (h1 : Reference2Ideal.Mlp.aR m' c = Kernel2Ideal.Mlp.aR m c)
    (h2 : Reference2Ideal.Mlp.aMd m' c = Kernel2Ideal.Mlp.aMd m c) (h3 : Reference2Ideal.Mlp.aNg m' c = Kernel2Ideal.Mlp.aNg m c)
    (h4 : Reference2Ideal.Mlp.aWu m' c = Kernel2Ideal.Mlp.aWu m c) (h5 : Reference2Ideal.Mlp.aCw m' c = Kernel2Ideal.Mlp.aCw m c)
    (h6 : Reference2Ideal.Mlp.aCb m' c = Kernel2Ideal.Mlp.aCb m c) (h7 : Reference2Ideal.Mlp.aWd m' c = Kernel2Ideal.Mlp.aWd m c) :
    (Reference2Ideal.Value.res_main_v76 m' c : Vec Ideal Kernel2Ideal.S2x16384x1024 .f32) = Kernel2Ideal.Mlp.G m c := by
  refine (Reference2Ideal.Mlp.res_eq m' c).trans ?_
  rw [h0, h1, h2, h3, h4, h5, h6, h7]
  refine funext fun (i : Kernel2Ideal.S2x16384x1024.Idx) => ?_
  obtain ⟨b, l, e, rfl⟩ := index2_eq i
  exact Reference2Ideal.Mlp.layer_apply ..

theorem algebraic2 : algebraic_Kernel2Ideal_Reference2Ideal := by
  intro m g m' g' _ hargs
  refine ⟨fun c => Kernel2Ideal.Mlp.G m c, ?_, ?_⟩
  · exact (θ_run _ _ _).mono (fun r h c => ⟨(h c).1.trans (Kernel2Ideal.Mlp.arr_eq m c), (h c).2⟩) (Kernel2Ideal.Value.run_blocks m g)
  · refine (θ_run _ _ _).mono (fun r h c => ⟨(h c).1.trans ?_, (h c).2⟩) (Reference2Ideal.Value.run m' g')
    obtain ⟨h0, h1, h2, h3, h4, h5, h6, h7⟩ := hargs c
    exact value2_eq m c m' h0 h1 h2 h3 h4 h5 h6 h7

theorem frame_Reference3Ideal (m : (ℓ : Loc Reference3Ideal.nD Reference3Ideal.τ Reference3Ideal.sig) → Buf (Elt Ideal) ℓ)
    (g : Dev Reference3Ideal.nD → PrngReg) :
    θ_run (Reference3Ideal.defs (F := Ideal)) (onTc (τ := Reference3Ideal.τ) (Reference3Ideal.main (F := Ideal))) ⟨m, fun _ => 0, g⟩
      (fun r => (∀ c : Dev Reference3Ideal.nD,
        r.2.mem ((c.tc : Thread Reference3Ideal.nD Reference3Ideal.τ).loc Reference3Ideal.main_arg0) = m ((c.tc : Thread Reference3Ideal.nD Reference3Ideal.τ).loc Reference3Ideal.main_arg0)
        ∧ r.2.mem ((c.tc : Thread Reference3Ideal.nD Reference3Ideal.τ).loc Reference3Ideal.main_arg1) = m ((c.tc : Thread Reference3Ideal.nD Reference3Ideal.τ).loc Reference3Ideal.main_arg1)
        ∧ r.2.mem ((c.tc : Thread Reference3Ideal.nD Reference3Ideal.τ).loc Reference3Ideal.main_arg2) = m ((c.tc : Thread Reference3Ideal.nD Reference3Ideal.τ).loc Reference3Ideal.main_arg2)
        ∧ r.2.mem ((c.tc : Thread Reference3Ideal.nD Reference3Ideal.τ).loc Reference3Ideal.main_arg3) = m ((c.tc : Thread Reference3Ideal.nD Reference3Ideal.τ).loc Reference3Ideal.main_arg3)
        ∧ r.2.mem ((c.tc : Thread Reference3Ideal.nD Reference3Ideal.τ).loc Reference3Ideal.main_arg4) = m ((c.tc : Thread Reference3Ideal.nD Reference3Ideal.τ).loc Reference3Ideal.main_arg4)
        ∧ r.2.mem ((c.tc : Thread Reference3Ideal.nD Reference3Ideal.τ).loc Reference3Ideal.main_arg5) = m ((c.tc : Thread Reference3Ideal.nD Reference3Ideal.τ).loc Reference3Ideal.main_arg5)
        ∧ r.2.mem ((c.tc : Thread Reference3Ideal.nD Reference3Ideal.τ).loc Reference3Ideal.main_arg6) = m ((c.tc : Thread Reference3Ideal.nD Reference3Ideal.τ).loc Reference3Ideal.main_arg6)
        ∧ r.2.mem ((c.tc : Thread Reference3Ideal.nD Reference3Ideal.τ).loc Reference3Ideal.main_arg7) = m ((c.tc : Thread Reference3Ideal.nD Reference3Ideal.τ).loc Reference3Ideal.main_arg7))
        ∧ r.2.sem = fun _ => 0) :=
  (θ_run _ _ _).mono (fun r h => ⟨fun c => (h c).2.2, sem_eq_zero_of_no_sems (by decide) r.2⟩) (Reference3Ideal.Value.run m g)

section Ffn

variable (m : (ℓ : Loc Kernel3Ideal.nD Kernel3Ideal.τ Kernel3Ideal.sig) → Buf (Elt Ideal) ℓ) (c : Dev Kernel3Ideal.nD)
    (m' : (ℓ : Loc Reference3Ideal.nD Reference3Ideal.τ Reference3Ideal.sig) → Buf (Elt Ideal) ℓ)
    (h0 : Reference3Ideal.Ffn.aX m' c = Kernel3Ideal.Ffn.aX m c)
    (h1 : Reference3Ideal.Ffn.aH m' c = Kernel3Ideal.Ffn.aH m c)
    (h2 : Reference3Ideal.Ffn.aMd m' c = Kernel3Ideal.Ffn.aMd m c)
    (h3 : Reference3Ideal.Ffn.aNg m' c = Kernel3Ideal.Ffn.aNg m c)
    (h4 : Reference3Ideal.Ffn.aWu m' c = Kernel3Ideal.Ffn.aWu m c)
    (h5 : Reference3Ideal.Ffn.aCw m' c = Kernel3Ideal.Ffn.aCw m c)
    (h6 : Reference3Ideal.Ffn.aCb m' c = Kernel3Ideal.Ffn.aCb m c)
    (h7 : Reference3Ideal.Ffn.aWd m' c = Kernel3Ideal.Ffn.aWd m c)
include h0 h1 h2 h3 h4 h5 h6 h7

/-- The reference's results of the first layer's gated branch are the kernel's, from the same arguments. -/
theorem first3_eq : (Reference3Ideal.Value.res_main_v75 (StableHlo.launchContents m' c) : Vec Ideal Kernel3Ideal.S2x16384x1024 .f32) = Kernel3Ideal.Ffn.G m c := by
  refine (Reference3Ideal.Ffn.first_eq m' c).trans ?_
  unfold Reference3Ideal.Ffn.firstOf
  rw [h0, h1, h2, h3, h4, h5, h6, h7]
  refine funext fun (i : Kernel3Ideal.S2x16384x1024.Idx) => ?_
  obtain ⟨b, l, e, rfl⟩ := index2_eq i
  exact Reference3Ideal.Ffn.first_apply ..

theorem second3_eq : (Reference3Ideal.Ffn.secondOf m' c : Vec Ideal Kernel3Ideal.S2x16384x1024 .bf16) = Kernel3Ideal.Ffn.G' m c := by
  unfold Reference3Ideal.Ffn.secondOf
  rw [h0, h1, h2, h3, h4, h5, h6, h7]
  refine funext fun (i : Kernel3Ideal.S2x16384x1024.Idx) => ?_
  obtain ⟨b, l, e, rfl⟩ := index2_eq i
  exact Reference3Ideal.Ffn.second_apply ..

end Ffn

theorem algebraic3 : algebraic_Kernel3Ideal_Reference3Ideal := by
  intro m g m' g' _ hargs
  refine ⟨fun c => Kernel3Ideal.Ffn.G m c, fun c => Kernel3Ideal.Ffn.G' m c, ?_, ?_⟩
  · exact (θ_run _ _ _).mono (fun r h c => ⟨(h c).1.trans (Kernel3Ideal.Ffn.arr_eq m c), (h c).2.1.trans (Kernel3Ideal.Ffn.arr_eq' m c), (h c).2.2⟩)
      (Kernel3Ideal.Value.run_blocks m g)
  · refine (θ_run _ _ _).mono (fun r h c => ?_) (Reference3Ideal.Value.run m' g')
    obtain ⟨h0, h1, h2, h3, h4, h5, h6, h7⟩ := hargs c
    refine ⟨(h c).1.trans (first3_eq m c m' h0 h1 h2 h3 h4 h5 h6 h7), (h c).2.1.trans ?_, (h c).2.2⟩
    refine (Reference3Ideal.Ffn.second_eq m' c).trans ?_
    exact second3_eq m c m' h0 h1 h2 h3 h4 h5 h6 h7

theorem frame_Reference4Ideal (m : (ℓ : Loc Reference4Ideal.nD Reference4Ideal.τ Reference4Ideal.sig) → Buf (Elt Ideal) ℓ)
    (g : Dev Reference4Ideal.nD → PrngReg) :
    θ_run (Reference4Ideal.defs (F := Ideal)) (onTc (τ := Reference4Ideal.τ) (Reference4Ideal.main (F := Ideal))) ⟨m, fun _ => 0, g⟩
      (fun r => (∀ c : Dev Reference4Ideal.nD,
        r.2.mem ((c.tc : Thread Reference4Ideal.nD Reference4Ideal.τ).loc Reference4Ideal.main_arg0) = m ((c.tc : Thread Reference4Ideal.nD Reference4Ideal.τ).loc Reference4Ideal.main_arg0)
        ∧ r.2.mem ((c.tc : Thread Reference4Ideal.nD Reference4Ideal.τ).loc Reference4Ideal.main_arg1) = m ((c.tc : Thread Reference4Ideal.nD Reference4Ideal.τ).loc Reference4Ideal.main_arg1)
        ∧ r.2.mem ((c.tc : Thread Reference4Ideal.nD Reference4Ideal.τ).loc Reference4Ideal.main_arg2) = m ((c.tc : Thread Reference4Ideal.nD Reference4Ideal.τ).loc Reference4Ideal.main_arg2)
        ∧ r.2.mem ((c.tc : Thread Reference4Ideal.nD Reference4Ideal.τ).loc Reference4Ideal.main_arg3) = m ((c.tc : Thread Reference4Ideal.nD Reference4Ideal.τ).loc Reference4Ideal.main_arg3)
        ∧ r.2.mem ((c.tc : Thread Reference4Ideal.nD Reference4Ideal.τ).loc Reference4Ideal.main_arg4) = m ((c.tc : Thread Reference4Ideal.nD Reference4Ideal.τ).loc Reference4Ideal.main_arg4)
        ∧ r.2.mem ((c.tc : Thread Reference4Ideal.nD Reference4Ideal.τ).loc Reference4Ideal.main_arg5) = m ((c.tc : Thread Reference4Ideal.nD Reference4Ideal.τ).loc Reference4Ideal.main_arg5))
        ∧ r.2.sem = fun _ => 0) :=
  (θ_run _ _ _).mono (fun r h => ⟨fun c => (h c).2.2, sem_eq_zero_of_no_sems (by decide) r.2⟩) (Reference4Ideal.Value.run m g)

section Out

variable (m : (ℓ : Loc Kernel4Ideal.nD Kernel4Ideal.τ Kernel4Ideal.sig) → Buf (Elt Ideal) ℓ) (c : Dev Kernel4Ideal.nD)
    (m' : (ℓ : Loc Reference4Ideal.nD Reference4Ideal.τ Reference4Ideal.sig) → Buf (Elt Ideal) ℓ)
    (h0 : Reference4Ideal.Out.aA m' c = Kernel4Ideal.Out.aA m c)
    (h1 : Reference4Ideal.Out.aB m' c = Kernel4Ideal.Out.aB m c)
    (h2 : Reference4Ideal.Out.aX m' c = Kernel4Ideal.Out.aX m c)
    (h3 : Reference4Ideal.Out.aMd m' c = Kernel4Ideal.Out.aMd m c)
    (h4 : Reference4Ideal.Out.aNg m' c = Kernel4Ideal.Out.aNg m c)
    (h5 : Reference4Ideal.Out.aW m' c = Kernel4Ideal.Out.aW m c)
include h0 h1 h2 h3 h4 h5

/-- The reference's results of the attention's output projection are the kernel's, from the same arguments. -/
theorem first4_eq : (Reference4Ideal.Out.firstOf m' c : Vec Ideal Kernel4Ideal.S2x16384x1024 .f32) = Kernel4Ideal.Out.G m c := by
  unfold Reference4Ideal.Out.firstOf
  rw [h0, h1, h2, h3, h4, h5]
  refine funext fun (i : Kernel4Ideal.S2x16384x1024.Idx) => ?_
  obtain ⟨b, l, e, rfl⟩ := index2_eq i
  exact Reference4Ideal.Out.first_apply ..

theorem second4_eq : (Reference4Ideal.Out.secondOf m' c : Vec Ideal Kernel4Ideal.S2x16384x1024 .bf16) = Kernel4Ideal.Out.G' m c := by
  unfold Reference4Ideal.Out.secondOf
  rw [h0, h1, h2, h3, h4, h5]
  refine funext fun (i : Kernel4Ideal.S2x16384x1024.Idx) => ?_
  obtain ⟨b, l, e, rfl⟩ := index2_eq i
  exact Reference4Ideal.Out.second_apply ..

end Out

theorem algebraic4 : algebraic_Kernel4Ideal_Reference4Ideal := by
  intro m g m' g' _ hargs
  refine ⟨fun c => Kernel4Ideal.Out.G m c, fun c => Kernel4Ideal.Out.G' m c, ?_, ?_⟩
  · exact (θ_run _ _ _).mono (fun r h c => ⟨(h c).1.trans (Kernel4Ideal.Out.arr_eq m c), (h c).2.1.trans (Kernel4Ideal.Out.arr_eq' m c), (h c).2.2⟩)
      (Kernel4Ideal.Value.run_blocks m g)
  · refine (θ_run _ _ _).mono (fun r h c => ?_) (Reference4Ideal.Value.run m' g')
    obtain ⟨h0, h1, h2, h3, h4, h5⟩ := hargs c
    refine ⟨(h c).1.trans (first4_eq m c m' h0 h1 h2 h3 h4 h5), (h c).2.1.trans ?_, (h c).2.2⟩
    refine (Reference4Ideal.Out.second_eq m' c).trans ?_
    exact second4_eq m c m' h0 h1 h2 h3 h4 h5

theorem frame_Reference5Ideal (m : (ℓ : Loc Reference5Ideal.nD Reference5Ideal.τ Reference5Ideal.sig) → Buf (Elt Ideal) ℓ)
    (g : Dev Reference5Ideal.nD → PrngReg) :
    θ_run (Reference5Ideal.defs (F := Ideal)) (onTc (τ := Reference5Ideal.τ) (Reference5Ideal.main (F := Ideal))) ⟨m, fun _ => 0, g⟩
      (fun r => (∀ c : Dev Reference5Ideal.nD,
        r.2.mem ((c.tc : Thread Reference5Ideal.nD Reference5Ideal.τ).loc Reference5Ideal.main_arg0) = m ((c.tc : Thread Reference5Ideal.nD Reference5Ideal.τ).loc Reference5Ideal.main_arg0)
        ∧ r.2.mem ((c.tc : Thread Reference5Ideal.nD Reference5Ideal.τ).loc Reference5Ideal.main_arg1) = m ((c.tc : Thread Reference5Ideal.nD Reference5Ideal.τ).loc Reference5Ideal.main_arg1)
        ∧ r.2.mem ((c.tc : Thread Reference5Ideal.nD Reference5Ideal.τ).loc Reference5Ideal.main_arg2) = m ((c.tc : Thread Reference5Ideal.nD Reference5Ideal.τ).loc Reference5Ideal.main_arg2))
        ∧ r.2.sem = fun _ => 0) :=
  (θ_run _ _ _).mono (fun r h => ⟨fun c => (h c).2, sem_eq_zero_of_no_sems (by decide) r.2⟩) (Reference5Ideal.Value.run m g)

/-- An index of the modulation's parameters. -/
theorem index5_eq (i : Kernel5Ideal.S2x8x6144.Idx) : ∃ (l : Fin 2) (r : Fin 8) (e : Fin 6144), i = ix3 l r e := by
  refine ⟨i 0, i 1, i 2, funext fun a => ?_⟩
  match a with
  | ⟨0, _⟩ => rfl
  | ⟨1, _⟩ => rfl
  | ⟨2, _⟩ => rfl

/-- The reference's parameters of the modulation are the kernel's, from the same arguments. -/
theorem value5_eq (m : (ℓ : Loc Kernel5Ideal.nD Kernel5Ideal.τ Kernel5Ideal.sig) → Buf (Elt Ideal) ℓ) (c : Dev Kernel5Ideal.nD)
    (m' : (ℓ : Loc Reference5Ideal.nD Reference5Ideal.τ Reference5Ideal.sig) → Buf (Elt Ideal) ℓ)
    (h0 : Reference5Ideal.Mods.aC m' c = Kernel5Ideal.Mods.aC m c) (h1 : Reference5Ideal.Mods.aW m' c = Kernel5Ideal.Mods.aW m c)
    (h2 : Reference5Ideal.Mods.aB m' c = Kernel5Ideal.Mods.aB m c) :
    (Reference5Ideal.Mods.res m' c : Vec Ideal Kernel5Ideal.S2x8x6144 .f32) = Kernel5Ideal.Mods.G m c := by
  unfold Reference5Ideal.Mods.res
  rw [h0, h1, h2]
  refine funext fun (i : Kernel5Ideal.S2x8x6144.Idx) => ?_
  obtain ⟨l, r, e, rfl⟩ := index5_eq i
  exact Reference5Ideal.Mods.both_apply ..

theorem algebraic5 : algebraic_Kernel5Ideal_Reference5Ideal := by
  intro m g m' g' _ hargs
  refine ⟨fun c => Kernel5Ideal.Mods.G m c, ?_, ?_⟩
  · exact (θ_run _ _ _).mono (fun r h c => ⟨(h c).1.trans (Kernel5Ideal.Mods.arr_eq m c), (h c).2⟩) (Kernel5Ideal.Value.run_blocks m g)
  · refine (θ_run _ _ _).mono (fun r h c => ⟨(h c).1.trans ?_, (h c).2⟩) (Reference5Ideal.Value.run m' g')
    obtain ⟨h0, h1, h2⟩ := hargs c
    exact value5_eq m c m' h0 h1 h2

theorem frame_Reference6Ideal (m : (ℓ : Loc Reference6Ideal.nD Reference6Ideal.τ Reference6Ideal.sig) → Buf (Elt Ideal) ℓ)
    (g : Dev Reference6Ideal.nD → PrngReg) :
    θ_run (Reference6Ideal.defs (F := Ideal)) (onTc (τ := Reference6Ideal.τ) (Reference6Ideal.main (F := Ideal))) ⟨m, fun _ => 0, g⟩
      (fun r => (∀ c : Dev Reference6Ideal.nD,
        r.2.mem ((c.tc : Thread Reference6Ideal.nD Reference6Ideal.τ).loc Reference6Ideal.main_arg0) = m ((c.tc : Thread Reference6Ideal.nD Reference6Ideal.τ).loc Reference6Ideal.main_arg0)
        ∧ r.2.mem ((c.tc : Thread Reference6Ideal.nD Reference6Ideal.τ).loc Reference6Ideal.main_arg1) = m ((c.tc : Thread Reference6Ideal.nD Reference6Ideal.τ).loc Reference6Ideal.main_arg1)
        ∧ r.2.mem ((c.tc : Thread Reference6Ideal.nD Reference6Ideal.τ).loc Reference6Ideal.main_arg2) = m ((c.tc : Thread Reference6Ideal.nD Reference6Ideal.τ).loc Reference6Ideal.main_arg2)
        ∧ r.2.mem ((c.tc : Thread Reference6Ideal.nD Reference6Ideal.τ).loc Reference6Ideal.main_arg3) = m ((c.tc : Thread Reference6Ideal.nD Reference6Ideal.τ).loc Reference6Ideal.main_arg3)
        ∧ r.2.mem ((c.tc : Thread Reference6Ideal.nD Reference6Ideal.τ).loc Reference6Ideal.main_arg4) = m ((c.tc : Thread Reference6Ideal.nD Reference6Ideal.τ).loc Reference6Ideal.main_arg4)
        ∧ r.2.mem ((c.tc : Thread Reference6Ideal.nD Reference6Ideal.τ).loc Reference6Ideal.main_arg5) = m ((c.tc : Thread Reference6Ideal.nD Reference6Ideal.τ).loc Reference6Ideal.main_arg5)
        ∧ r.2.mem ((c.tc : Thread Reference6Ideal.nD Reference6Ideal.τ).loc Reference6Ideal.main_arg6) = m ((c.tc : Thread Reference6Ideal.nD Reference6Ideal.τ).loc Reference6Ideal.main_arg6))
        ∧ r.2.sem = fun _ => 0) :=
  (θ_run _ _ _).mono (fun r h => ⟨fun c => (h c).2, sem_eq_zero_of_no_sems (by decide) r.2⟩) (Reference6Ideal.Value.run m g)

/-- An index of the Fourier mixing's result. -/
theorem index6_eq (i : Kernel6Ideal.S2x128x131072.Idx) : ∃ (b : Fin 2) (r : Fin 128) (y : Fin 131072), i = ix3 b r y := by
  refine ⟨i 0, i 1, i 2, funext fun a => ?_⟩
  match a with
  | ⟨0, _⟩ => rfl
  | ⟨1, _⟩ => rfl
  | ⟨2, _⟩ => rfl

/-- The reference's branch of the mixer is the kernel's, from the same arguments. -/
theorem value6_eq (m : (ℓ : Loc Kernel6Ideal.nD Kernel6Ideal.τ Kernel6Ideal.sig) → Buf (Elt Ideal) ℓ) (c : Dev Kernel6Ideal.nD)
    (m' : (ℓ : Loc Reference6Ideal.nD Reference6Ideal.τ Reference6Ideal.sig) → Buf (Elt Ideal) ℓ)
    (h0 : Reference6Ideal.Mix.aR m' c = Kernel6Ideal.Mix.aR m c)
    (h1 : Reference6Ideal.Mix.aI m' c = Kernel6Ideal.Mix.aI m c)
    (h2 : Reference6Ideal.Mix.aC m' c = Kernel6Ideal.Mix.aC m c)
    (h3 : Reference6Ideal.Mix.aS m' c = Kernel6Ideal.Mix.aS m c)
    (h4 : Reference6Ideal.Mix.aW m' c = Kernel6Ideal.Mix.aW m c)
    (h5 : Reference6Ideal.Mix.aMd m' c = Kernel6Ideal.Mix.aMd m c)
    (h6 : Reference6Ideal.Mix.aNg m' c = Kernel6Ideal.Mix.aNg m c) :
    (Reference6Ideal.Mix.res m' c : Vec Ideal Kernel6Ideal.S2x128x131072 .bf16) = Kernel6Ideal.Mix.G m c := by
  unfold Reference6Ideal.Mix.res
  rw [h0, h1, h2, h3, h4, h5, h6]
  refine funext fun (i : Kernel6Ideal.S2x128x131072.Idx) => ?_
  obtain ⟨b, r, y, rfl⟩ := index6_eq i
  exact Reference6Ideal.Mix.result_apply ..

theorem algebraic6 : algebraic_Kernel6Ideal_Reference6Ideal := by
  intro m g m' g' _ hargs
  refine ⟨fun c => Kernel6Ideal.Mix.G m c, ?_, ?_⟩
  · exact (θ_run _ _ _).mono (fun r h c => ⟨(h c).1.trans (Kernel6Ideal.Mix.arr_eq m c), (h c).2⟩) (Kernel6Ideal.Value.run_blocks m g)
  · refine (θ_run _ _ _).mono (fun r h c => ⟨(h c).1.trans ?_, (h c).2⟩) (Reference6Ideal.Value.run m' g')
    obtain ⟨h0, h1, h2, h3, h4, h5, h6⟩ := hargs c
    exact value6_eq m c m' h0 h1 h2 h3 h4 h5 h6

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Pre_finite.Gen.facts,
    fun m g _ => Kernel.Att.frame m g, fun m g _ => KernelIdeal.Att.frame m g, fun m g _ => KernelIdeal.Att.frame m g,
    fun m g _ => frame_ReferenceIdeal m g, fun m g _ => frame_ReferenceIdeal m g,
    fun m g _ => Kernel2.Gen.frame m g, fun m g _ => Kernel2Ideal.Gen.frame m g, fun m g _ => frame_Reference2Ideal m g,
    fun m g _ => Kernel3.Gen.frame m g, fun m g _ => Kernel3Ideal.Gen.frame m g, fun m g _ => frame_Reference3Ideal m g,
    fun m g _ => Kernel4.Gen.frame m g, fun m g _ => Kernel4Ideal.Gen.frame m g, fun m g _ => frame_Reference4Ideal m g,
    fun m g _ => Kernel5.Gen.frame m g, fun m g _ => Kernel5Ideal.Gen.frame m g, fun m g _ => frame_Reference5Ideal m g,
    fun m g _ => Kernel6.Gen.frame m g, fun m g _ => Kernel6Ideal.Gen.frame m g, fun m g _ => frame_Reference6Ideal m g,
    trivial, algebraic, trivial, algebraic2, trivial, algebraic3, trivial, algebraic4,
    trivial, algebraic5, trivial, algebraic6⟩

end Cert.Proof

end
